-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8))
      ∧ r.2.sem = fun _ => 0)

def preserves_Kernel_KernelIdeal : Prop :=
  IdealRules.named_const.Statement Cert.KernelIdeal.κ "gelu_c0c1" .f32 0x3D122279#32 (((6693141 / 8388608) * (12003091 / 268435456) : ℝ) : EReal)
  ∧ IdealRules.named_const.Statement Cert.KernelIdeal.κ "gelu_c0" .f32 0x3F4C422A#32 ((6693141 / 8388608 : ℝ) : EReal)
  ∧ IdealRules.named_const.Statement Cert.KernelIdeal.κ "gelu_3c0c1" .f32 0x3DDB33B6#32 (((3 * (6693141 / 8388608)) * (12003091 / 268435456) : ℝ) : EReal)

def algebraic_KernelIdeal_ReferenceIdeal_on_gate_and_short_conv [hKernelIdeal : Cert.KernelIdeal.Facts] [hReferenceIdeal : Cert.ReferenceIdeal.Facts] [hOn_gate_and_short_conv : Cert.On_gate_and_short_conv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 3584]⟩ : Shape).Idx, (Cert.On_gate_and_short_conv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v36_0) i = v0 c i)
          ∧ (∀ i : (⟨2, ![16, 1024]⟩ : Shape).Idx, (Cert.On_gate_and_short_conv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v36_1) i = v1 c i)
          ∧ (∀ i : (⟨3, ![8, 256, 256]⟩ : Shape).Idx, (Cert.On_gate_and_short_conv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 i = 1#1 → r.2.mem ((c.tc : Thread Cert.KernelIdeal.nD Cert.KernelIdeal.τ).loc Cert.KernelIdeal.main_v36_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 3584]⟩ : Shape).Idx, (Cert.On_gate_and_short_conv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.ReferenceIdeal.nD Cert.ReferenceIdeal.τ).loc Cert.ReferenceIdeal.main_v111) i = v0 c i)
          ∧ (∀ i : (⟨2, ![16, 1024]⟩ : Shape).Idx, (Cert.On_gate_and_short_conv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.ReferenceIdeal.nD Cert.ReferenceIdeal.τ).loc Cert.ReferenceIdeal.main_v112) i = v1 c i)
          ∧ (∀ i : (⟨3, ![8, 256, 256]⟩ : Shape).Idx, (Cert.On_gate_and_short_conv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 i = 1#1 → r.2.mem ((c.tc : Thread Cert.ReferenceIdeal.nD Cert.ReferenceIdeal.τ).loc Cert.ReferenceIdeal.main_v113) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_v49) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v55) = v0 c
          ∧ r.2.mem ((c.tc : Thread Cert.Reference7Ideal.nD Cert.Reference7Ideal.τ).loc Cert.Reference7Ideal.main_v56) = v1 c
          ∧ r.2.mem ((c.tc : Thread Cert.Reference7Ideal.nD Cert.Reference7Ideal.τ).loc Cert.Reference7Ideal.main_v58) = v2 c
          ∧ r.2.mem ((c.tc : Thread Cert.Reference7Ideal.nD Cert.Reference7Ideal.τ).loc Cert.Reference7Ideal.main_v59) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v16) = v0 c
          ∧ r.2.mem ((c.tc : Thread Cert.Reference12Ideal.nD Cert.Reference12Ideal.τ).loc Cert.Reference12Ideal.main_v17) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v41) = v0 c
          ∧ r.2.mem ((c.tc : Thread Cert.Reference14Ideal.nD Cert.Reference14Ideal.τ).loc Cert.Reference14Ideal.main_v42) = v1 c
          ∧ r.2.mem ((c.tc : Thread Cert.Reference14Ideal.nD Cert.Reference14Ideal.τ).loc Cert.Reference14Ideal.main_v44) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  IdealRules.named_const.Statement Cert.Kernel16Ideal.κ "adam_c1" .f32 0x3FC48605#32 ((8388608 / 5463681 : ℝ) : EReal)
  ∧ IdealRules.named_const.Statement Cert.Kernel16Ideal.κ "adam_c2" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)) (v3 : (c : Dev Cert.Kernel16Ideal.nD) → Buf (Elt Ideal) ((c.tc : Thread Cert.Kernel16Ideal.nD Cert.Kernel16Ideal.τ).loc Cert.Kernel16Ideal.main_v4_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_v4_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v27) = v0 c
          ∧ r.2.mem ((c.tc : Thread Cert.Reference16Ideal.nD Cert.Reference16Ideal.τ).loc Cert.Reference16Ideal.main_v8) = v1 c
          ∧ r.2.mem ((c.tc : Thread Cert.Reference16Ideal.nD Cert.Reference16Ideal.τ).loc Cert.Reference16Ideal.main_v14) = v2 c
          ∧ r.2.mem ((c.tc : Thread Cert.Reference16Ideal.nD Cert.Reference16Ideal.τ).loc Cert.Reference16Ideal.main_v28) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  IdealRules.named_const.Statement Cert.Kernel17Ideal.κ "adam_c1" .f32 0x3FC48605#32 ((8388608 / 5463681 : ℝ) : EReal)
  ∧ IdealRules.named_const.Statement Cert.Kernel17Ideal.κ "adam_c2" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)) (v3 : (c : Dev Cert.Kernel17Ideal.nD) → Buf (Elt Ideal) ((c.tc : Thread Cert.Kernel17Ideal.nD Cert.Kernel17Ideal.τ).loc Cert.Kernel17Ideal.main_v4_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_v4_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v27) = v0 c
          ∧ r.2.mem ((c.tc : Thread Cert.Reference17Ideal.nD Cert.Reference17Ideal.τ).loc Cert.Reference17Ideal.main_v8) = v1 c
          ∧ r.2.mem ((c.tc : Thread Cert.Reference17Ideal.nD Cert.Reference17Ideal.τ).loc Cert.Reference17Ideal.main_v14) = v2 c
          ∧ r.2.mem ((c.tc : Thread Cert.Reference17Ideal.nD Cert.Reference17Ideal.τ).loc Cert.Reference17Ideal.main_v28) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "adam_c1" .f32 0x3FC48605#32 ((8388608 / 5463681 : ℝ) : EReal)
  ∧ IdealRules.named_const.Statement Cert.Kernel18Ideal.κ "adam_c2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)) (v3 : (c : Dev Cert.Kernel18Ideal.nD) → Buf (Elt Ideal) ((c.tc : Thread Cert.Kernel18Ideal.nD Cert.Kernel18Ideal.τ).loc Cert.Kernel18Ideal.main_v4_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_v4_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v27) = v0 c
          ∧ r.2.mem ((c.tc : Thread Cert.Reference18Ideal.nD Cert.Reference18Ideal.τ).loc Cert.Reference18Ideal.main_v8) = v1 c
          ∧ r.2.mem ((c.tc : Thread Cert.Reference18Ideal.nD Cert.Reference18Ideal.τ).loc Cert.Reference18Ideal.main_v14) = v2 c
          ∧ r.2.mem ((c.tc : Thread Cert.Reference18Ideal.nD Cert.Reference18Ideal.τ).loc Cert.Reference18Ideal.main_v28) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "adam_c1" .f32 0x3FC48605#32 ((8388608 / 5463681 : ℝ) : EReal)
  ∧ IdealRules.named_const.Statement Cert.Kernel19Ideal.κ "adam_c2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)) (v3 : (c : Dev Cert.Kernel19Ideal.nD) → Buf (Elt Ideal) ((c.tc : Thread Cert.Kernel19Ideal.nD Cert.Kernel19Ideal.τ).loc Cert.Kernel19Ideal.main_v4_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_v4_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v27) = v0 c
          ∧ r.2.mem ((c.tc : Thread Cert.Reference19Ideal.nD Cert.Reference19Ideal.τ).loc Cert.Reference19Ideal.main_v8) = v1 c
          ∧ r.2.mem ((c.tc : Thread Cert.Reference19Ideal.nD Cert.Reference19Ideal.τ).loc Cert.Reference19Ideal.main_v14) = v2 c
          ∧ r.2.mem ((c.tc : Thread Cert.Reference19Ideal.nD Cert.Reference19Ideal.τ).loc Cert.Reference19Ideal.main_v28) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "adam_c1" .f32 0x3FC48605#32 ((8388608 / 5463681 : ℝ) : EReal)
  ∧ IdealRules.named_const.Statement Cert.Kernel20Ideal.κ "adam_c2" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  IdealRules.named_const.Statement Cert.Kernel21Ideal.κ "adam_c1" .f32 0x3FC48605#32 ((8388608 / 5463681 : ℝ) : EReal)
  ∧ IdealRules.named_const.Statement Cert.Kernel21Ideal.κ "adam_c2" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  IdealRules.named_const.Statement Cert.Kernel22Ideal.κ "gelu_c0c1" .f32 0x3D122279#32 (((6693141 / 8388608) * (12003091 / 268435456) : ℝ) : EReal)
  ∧ IdealRules.named_const.Statement Cert.Kernel22Ideal.κ "gelu_c0" .f32 0x3F4C422A#32 ((6693141 / 8388608 : ℝ) : EReal)
  ∧ IdealRules.named_const.Statement Cert.Kernel22Ideal.κ "gelu_3c0c1" .f32 0x3DDB33B6#32 (((3 * (6693141 / 8388608)) * (12003091 / 268435456) : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)) (v2 : (c : Dev Cert.Kernel22Ideal.nD) → Buf (Elt Ideal) ((c.tc : Thread Cert.Kernel22Ideal.nD Cert.Kernel22Ideal.τ).loc Cert.Kernel22Ideal.main_v3_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_v3_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v70) = v0 c
          ∧ r.2.mem ((c.tc : Thread Cert.Reference22Ideal.nD Cert.Reference22Ideal.τ).loc Cert.Reference22Ideal.main_v73) = v1 c
          ∧ r.2.mem ((c.tc : Thread Cert.Reference22Ideal.nD Cert.Reference22Ideal.τ).loc Cert.Reference22Ideal.main_v75) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  IdealRules.named_const.Statement Cert.Kernel23Ideal.κ "gelu_c0c1" .f32 0x3D122279#32 (((6693141 / 8388608) * (12003091 / 268435456) : ℝ) : EReal)
  ∧ IdealRules.named_const.Statement Cert.Kernel23Ideal.κ "gelu_c0" .f32 0x3F4C422A#32 ((6693141 / 8388608 : ℝ) : EReal)

def algebraic_Kernel23Ideal_Reference23Ideal_on_short_conv [hKernel23Ideal : Cert.Kernel23Ideal.Facts] [hReference23Ideal : Cert.Reference23Ideal.Facts] [hOn_short_conv : Cert.On_short_conv.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)) →
    ∃ (v0 : (c : Dev Cert.Kernel23Ideal.nD) → Buf (Elt Ideal) ((c.tc : Thread Cert.Kernel23Ideal.nD Cert.Kernel23Ideal.τ).loc Cert.Kernel23Ideal.main_v36_0)) (v1 : (c : Dev Cert.Kernel23Ideal.nD) → Buf (Elt Ideal) ((c.tc : Thread Cert.Kernel23Ideal.nD Cert.Kernel23Ideal.τ).loc Cert.Kernel23Ideal.main_v36_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          (∀ i : (⟨2, ![4096, 1536]⟩ : Shape).Idx, (Cert.On_short_conv.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5)) (m ((c.tc : Thread Cert.Kernel23Ideal.nD Cert.Kernel23Ideal.τ).loc Cert.Kernel23Ideal.main_arg6)) (m ((c.tc : Thread Cert.Kernel23Ideal.nD Cert.Kernel23Ideal.τ).loc Cert.Kernel23Ideal.main_arg7)) (m ((c.tc : Thread Cert.Kernel23Ideal.nD Cert.Kernel23Ideal.τ).loc Cert.Kernel23Ideal.main_arg8))).1 i = 1#1 → r.2.mem ((c.tc : Thread Cert.Kernel23Ideal.nD Cert.Kernel23Ideal.τ).loc Cert.Kernel23Ideal.main_v36_0) i = v0 c i)
          ∧ (∀ i : (⟨2, ![4096, 1024]⟩ : Shape).Idx, (Cert.On_short_conv.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5)) (m ((c.tc : Thread Cert.Kernel23Ideal.nD Cert.Kernel23Ideal.τ).loc Cert.Kernel23Ideal.main_arg6)) (m ((c.tc : Thread Cert.Kernel23Ideal.nD Cert.Kernel23Ideal.τ).loc Cert.Kernel23Ideal.main_arg7)) (m ((c.tc : Thread Cert.Kernel23Ideal.nD Cert.Kernel23Ideal.τ).loc Cert.Kernel23Ideal.main_arg8))).2 i = 1#1 → r.2.mem ((c.tc : Thread Cert.Kernel23Ideal.nD Cert.Kernel23Ideal.τ).loc Cert.Kernel23Ideal.main_v36_1) i = v1 c i)
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          (∀ i : (⟨2, ![4096, 1536]⟩ : Shape).Idx, (Cert.On_short_conv.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5)) (m ((c.tc : Thread Cert.Kernel23Ideal.nD Cert.Kernel23Ideal.τ).loc Cert.Kernel23Ideal.main_arg6)) (m ((c.tc : Thread Cert.Kernel23Ideal.nD Cert.Kernel23Ideal.τ).loc Cert.Kernel23Ideal.main_arg7)) (m ((c.tc : Thread Cert.Kernel23Ideal.nD Cert.Kernel23Ideal.τ).loc Cert.Kernel23Ideal.main_arg8))).1 i = 1#1 → r.2.mem ((c.tc : Thread Cert.Reference23Ideal.nD Cert.Reference23Ideal.τ).loc Cert.Reference23Ideal.main_v48) i = v0 c i)
          ∧ (∀ i : (⟨2, ![4096, 1024]⟩ : Shape).Idx, (Cert.On_short_conv.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5)) (m ((c.tc : Thread Cert.Kernel23Ideal.nD Cert.Kernel23Ideal.τ).loc Cert.Kernel23Ideal.main_arg6)) (m ((c.tc : Thread Cert.Kernel23Ideal.nD Cert.Kernel23Ideal.τ).loc Cert.Kernel23Ideal.main_arg7)) (m ((c.tc : Thread Cert.Kernel23Ideal.nD Cert.Kernel23Ideal.τ).loc Cert.Kernel23Ideal.main_arg8))).2 i = 1#1 → r.2.mem ((c.tc : Thread Cert.Reference23Ideal.nD Cert.Reference23Ideal.τ).loc Cert.Reference23Ideal.main_v0) i = v1 c i)
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hOn_gate_and_short_conv : Cert.On_gate_and_short_conv.Facts) (hOn_short_conv : Cert.On_short_conv.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_on_gate_and_short_conv (hKernelIdeal := hKernelIdeal) (hReferenceIdeal := hReferenceIdeal) (hOn_gate_and_short_conv := hOn_gate_and_short_conv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_on_short_conv (hKernel23Ideal := hKernel23Ideal) (hReference23Ideal := hReference23Ideal) (hOn_short_conv := hOn_short_conv)
-- ==== On_gate_and_short_conv.lean ====
abbrev S4096x3584 : Shape := ⟨2, ![4096, 3584]⟩
abbrev S4096x1024 : Shape := ⟨2, ![4096, 1024]⟩
abbrev S4096x1536 : Shape := ⟨2, ![4096, 1536]⟩
abbrev S2x4x1024 : Shape := ⟨3, ![2, 4, 1024]⟩
abbrev S2x1024 : Shape := ⟨2, ![2, 1024]⟩
abbrev S2x3x512 : Shape := ⟨3, ![2, 3, 512]⟩
abbrev S2x16x64x64 : Shape := ⟨4, ![2, 16, 64, 64]⟩
abbrev S_ : Shape := ⟨0, ![]⟩
abbrev S16x1024 : Shape := ⟨2, ![16, 1024]⟩
abbrev S8x256x256 : Shape := ⟨3, ![8, 256, 256]⟩

class Facts : Prop where
  slices_S4096x3584_S4096x1024_0_1024 : S4096x3584.Slices ![0, 1024] S4096x1024
  bitsLt_bf16_f32 : FTy.bits .bf16 < FTy.bits .f32
  bcast_S_S4096x1024 : S_.BroadcastsInDim S4096x1024 (![] : Fin 0 → Fin S4096x1024.rank)
  slices_S4096x1536_S4096x1024_0_0 : S4096x1536.Slices ![0, 0] S4096x1024
  bcast_S_S4096x1536 : S_.BroadcastsInDim S4096x1536 (![] : Fin 0 → Fin S4096x1536.rank)
  concatenates_S4096x1024_S4096x1024_S4096x1536_S4096x3584_d1 : Shape.Concatenates [S4096x1024, S4096x1024, S4096x1536] S4096x3584 1
  bcast_S_S16x1024 : S_.BroadcastsInDim S16x1024 (![] : Fin 0 → Fin S16x1024.rank)
  bcast_S_S8x256x256 : S_.BroadcastsInDim S8x256x256 (![] : Fin 0 → Fin S8x256x256.rank)

variable [Facts]

def fn_part1 {F : FTy → Type} [FloatOps F] (main_v17 : IVec S4096x3584 1) (main_v18 : IVec S16x1024 32) : IVec S4096x3584 1 × IVec S16x1024 1 × IVec S8x256x256 1 :=
  let main_v19 : IVec S16x1024 32 := iotaInDim S16x1024 32 1
  let main_c_3 : IVec S_ 32 := constantI S_ 32 8#32
  let main_v20 : IVec S16x1024 32 := broadcastInDim S16x1024 ![] bcast_S_S16x1024 main_c_3
  let main_v21 : IVec S16x1024 1 := cmpi .sge main_v18 main_v20
  let main_c_4 : IVec S_ 32 := constantI S_ 32 11#32
  let main_v22 : IVec S16x1024 32 := broadcastInDim S16x1024 ![] bcast_S_S16x1024 main_c_4
  let main_v23 : IVec S16x1024 1 := cmpi .slt main_v18 main_v22
  let main_v24 : IVec S16x1024 1 := andi main_v21 main_v23
  let main_c_5 : IVec S_ 32 := constantI S_ 32 512#32
  let main_v25 : IVec S16x1024 32 := broadcastInDim S16x1024 ![] bcast_S_S16x1024 main_c_5
  let main_v26 : IVec S16x1024 1 := cmpi .slt main_v19 main_v25
  let main_v27 : IVec S16x1024 1 := andi main_v24 main_v26
  let main_c_6 : IVec S_ 1 := constantI S_ 1 0#1
  let main_v28 : IVec S8x256x256 1 := broadcastInDim S8x256x256 ![] bcast_S_S8x256x256 main_c_6
  (main_v17, main_v27, main_v28)

def fn {F : FTy → Type} [FloatOps F] (main_arg0 : FVec F S4096x3584 .bf16) (main_arg1 : FVec F S4096x1024 .f32) (main_arg2 : FVec F S4096x1536 .bf16) (main_arg3 : FVec F S2x4x1024 .f32) (main_arg4 : FVec F S2x1024 .f32) (main_arg5 : FVec F S2x1024 .f32) (main_arg6 : FVec F S2x1024 .f32) (main_arg7 : FVec F S2x1024 .f32) (main_arg8 : FVec F S2x3x512 .f32) (main_arg9 : FVec F S2x16x64x64 .f32) (main_arg10 : FVec F S2x16x64x64 .f32) : IVec S4096x3584 1 × IVec S16x1024 1 × IVec S8x256x256 1 :=
  let main_v0 : FVec F S4096x1024 .bf16 := (extractStridedSlice S4096x1024 ![0, 1024] · slices_S4096x3584_S4096x1024_0_1024) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : IVec S4096x1024 1 := andi main_v4 main_v7
  let main_v9 : FVec F S4096x1024 .bf16 := (extractStridedSlice S4096x1024 ![0, 0] · slices_S4096x1536_S4096x1024_0_0) main_arg2
  let main_v10 : FVec F S4096x1024 .f32 := (extf .f32 · bitsLt_bf16_f32) main_v9
  let main_v11 : FVec F S4096x1024 .f32 := Host.absf main_v10
  let main_cst_1 : FVec F S_ .f32 := constant S_ .f32 0x7F800000#32
  let main_v12 : FVec F S4096x1024 .f32 := broadcastInDim S4096x1024 ![] bcast_S_S4096x1024 main_cst_1
  let main_v13 : IVec S4096x1024 1 := cmpf .olt main_v11 main_v12
  let main_v14 : IVec S4096x1024 1 := andi main_v8 main_v13
  let main_c : IVec S_ 1 := constantI S_ 1 0#1
  let main_v15 : IVec S4096x1024 1 := broadcastInDim S4096x1024 ![] bcast_S_S4096x1024 main_c
  let main_c_2 : IVec S_ 1 := constantI S_ 1 1#1
  let main_v16 : IVec S4096x1536 1 := broadcastInDim S4096x1536 ![] bcast_S_S4096x1536 main_c_2
  let main_v17 : IVec S4096x3584 1 := concatenate S4096x3584 1 [⟨S4096x1024, main_v15⟩, ⟨S4096x1024, main_v14⟩, ⟨S4096x1536, main_v16⟩] concatenates_S4096x1024_S4096x1024_S4096x1536_S4096x3584_d1
  let main_v18 : IVec S16x1024 32 := iotaInDim S16x1024 32 0
  fn_part1 (F := F) main_v17 main_v18
-- ==== On_short_conv.lean ====
abbrev S4096x3584 : Shape := ⟨2, ![4096, 3584]⟩
abbrev S2x4x1024 : Shape := ⟨3, ![2, 4, 1024]⟩
abbrev S2x1024 : Shape := ⟨2, ![2, 1024]⟩
abbrev S2x3x512 : Shape := ⟨3, ![2, 3, 512]⟩
abbrev S2x16x64x64 : Shape := ⟨4, ![2, 16, 64, 64]⟩
abbrev S4096x1536 : Shape := ⟨2, ![4096, 1536]⟩
abbrev S_ : Shape := ⟨0, ![]⟩
abbrev S4096x1024 : Shape := ⟨2, ![4096, 1024]⟩

class Facts : Prop where
  bcast_S_S4096x1536 : S_.BroadcastsInDim S4096x1536 (![] : Fin 0 → Fin S4096x1536.rank)
  bcast_S_S4096x1024 : S_.BroadcastsInDim S4096x1024 (![] : Fin 0 → Fin S4096x1024.rank)

variable [Facts]

def fn {F : FTy → Type} [FloatOps F] (main_arg0 : FVec F S4096x3584 .bf16) (main_arg1 : FVec F S2x4x1024 .f32) (main_arg2 : FVec F S2x1024 .f32) (main_arg3 : FVec F S2x1024 .f32) (main_arg4 : FVec F S2x1024 .f32) (main_arg5 : FVec F S2x1024 .f32) (main_arg6 : FVec F S2x3x512 .f32) (main_arg7 : FVec F S2x16x64x64 .f32) (main_arg8 : FVec F S2x16x64x64 .f32) : IVec S4096x1536 1 × IVec S4096x1024 1 :=
  let main_v0 : IVec S4096x1536 32 := iotaInDim S4096x1536 32 1
  let main_c : IVec S_ 32 := constantI S_ 32 1024#32
  let main_v1 : IVec S4096x1536 32 := broadcastInDim S4096x1536 ![] bcast_S_S4096x1536 main_c
  let main_v2 : IVec S4096x1536 1 := cmpi .sge main_v0 main_v1
  let main_c_0 : IVec S_ 1 := constantI S_ 1 0#1
  let main_v3 : IVec S4096x1024 1 := broadcastInDim S4096x1024 ![] bcast_S_S4096x1024 main_c_0
  (main_v2, main_v3)
-- ==== Kernel.lean ====
abbrev S4096x3584 : Shape := ⟨2, ![4096, 3584]⟩
abbrev S4096x1024 : Shape := ⟨2, ![4096, 1024]⟩
abbrev S4096x1536 : Shape := ⟨2, ![4096, 1536]⟩
abbrev S2x4x1024 : Shape := ⟨3, ![2, 4, 1024]⟩
abbrev S2x1024 : Shape := ⟨2, ![2, 1024]⟩
abbrev S2x3x512 : Shape := ⟨3, ![2, 3, 512]⟩
abbrev S2x16x64x64 : Shape := ⟨4, ![2, 16, 64, 64]⟩
abbrev S2x1x1024 : Shape := ⟨3, ![2, 1, 1024]⟩
abbrev S_ : Shape := ⟨0, ![]⟩
abbrev S2x3x1024 : Shape := ⟨3, ![2, 3, 1024]⟩
abbrev S2x5x1024 : Shape := ⟨3, ![2, 5, 1024]⟩
abbrev S2x16x1024 : Shape := ⟨3, ![2, 16, 1024]⟩
abbrev S2x4x4x64x64 : Shape := ⟨5, ![2, 4, 4, 64, 64]⟩
abbrev S4x4 : Shape := ⟨2, ![4, 4]⟩
abbrev S1x1x4x1x4x1 : Shape := ⟨6, ![1, 1, 4, 1, 4, 1]⟩
abbrev S2x4x4x64x1x64 : Shape := ⟨6, ![2, 4, 4, 64, 1, 64]⟩
abbrev S2x4x4x64x4x64 : Shape := ⟨6, ![2, 4, 4, 64, 4, 64]⟩
abbrev S2x4x256x256 : Shape := ⟨4, ![2, 4, 256, 256]⟩
abbrev S2x8x256x256 : Shape := ⟨4, ![2, 8, 256, 256]⟩
abbrev S16x1024 : Shape := ⟨2, ![16, 1024]⟩
abbrev S8x256x256 : Shape := ⟨3, ![8, 256, 256]⟩
abbrev S256x3584 : Shape := ⟨2, ![256, 3584]⟩
abbrev S16x3584 : Shape := ⟨2, ![16, 3584]⟩
abbrev S256x1024 : Shape := ⟨2, ![256, 1024]⟩
abbrev S8x1024 : Shape := ⟨2, ![8, 1024]⟩
abbrev S256x1536 : Shape := ⟨2, ![256, 1536]⟩
abbrev S1x16x1024 : Shape := ⟨3, ![1, 16, 1024]⟩
abbrev S1x8x256x256 : Shape := ⟨4, ![1, 8, 256, 256]⟩
abbrev S264x1024 : Shape := ⟨2, ![264, 1024]⟩
abbrev S3x8x1024 : Shape := ⟨3, ![3, 8, 1024]⟩
abbrev S8x512 : Shape := ⟨2, ![8, 512]⟩
abbrev S4x1024 : Shape := ⟨2, ![4, 1024]⟩
abbrev S3x512 : Shape := ⟨2, ![3, 512]⟩
abbrev S1x1024 : Shape := ⟨2, ![1, 1024]⟩
abbrev S1x512 : Shape := ⟨2, ![1, 512]⟩
abbrev S8x3584 : Shape := ⟨2, ![8, 3584]⟩
abbrev S256x256 : Shape := ⟨2, ![256, 256]⟩
abbrev S1x1x256x256 : Shape := ⟨4, ![1, 1, 256, 256]⟩
abbrev S1x256 : Shape := ⟨2, ![1, 256]⟩
abbrev S1x8x1024 : Shape := ⟨3, ![1, 8, 1024]⟩
abbrev S1x256x256 : Shape := ⟨3, ![1, 256, 256]⟩
abbrev S1024 : Shape := ⟨1, ![1024]⟩
abbrev S256x512 : Shape := ⟨2, ![256, 512]⟩
abbrev S264x512 : Shape := ⟨2, ![264, 512]⟩
abbrev S512 : Shape := ⟨1, ![512]⟩

abbrev nBuf : Space → Nat
  | .hbm => 55
  | .vmem => 27
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .f32⟩
  | .hbm, ⟨2, _⟩ => ⟨S4096x1536, .bf16⟩
  | .hbm, ⟨3, _⟩ => ⟨S2x4x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x3x512, .f32⟩
  | .hbm, ⟨9, _⟩ => ⟨S2x16x64x64, .f32⟩
  | .hbm, ⟨10, _⟩ => ⟨S2x16x64x64, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x4x1024, .f32⟩
  | .hbm, ⟨16, _⟩ => ⟨S_, .i32⟩
  | .hbm, ⟨17, _⟩ => ⟨S_, .f32⟩
  | .hbm, ⟨18, _⟩ => ⟨S2x3x1024, .f32⟩
  | .hbm, ⟨19, _⟩ => ⟨S_, .f32⟩
  | .hbm, ⟨20, _⟩ => ⟨S2x5x1024, .f32⟩
  | .hbm, ⟨21, _⟩ => ⟨S2x16x1024, .f32⟩
  | .hbm, ⟨22, _⟩ => ⟨S2x4x4x64x64, .f32⟩
  | .hbm, ⟨23, _⟩ => ⟨S4x4, .i32⟩
  | .hbm, ⟨24, _⟩ => ⟨S4x4, .i32⟩
  | .hbm, ⟨25, _⟩ => ⟨S_, .i32⟩
  | .hbm, ⟨26, _⟩ => ⟨S4x4, .i32⟩
  | .hbm, ⟨27, _⟩ => ⟨S4x4, .i32⟩
  | .hbm, ⟨28, _⟩ => ⟨S4x4, .i1⟩
  | .hbm, ⟨29, _⟩ => ⟨S4x4, .f32⟩
  | .hbm, ⟨30, _⟩ => ⟨S1x1x4x1x4x1, .f32⟩
  | .hbm, ⟨31, _⟩ => ⟨S2x4x4x64x1x64, .f32⟩
  | .hbm, ⟨32, _⟩ => ⟨S2x4x4x64x4x64, .f32⟩
  | .hbm, ⟨33, _⟩ => ⟨S2x4x4x64x4x64, .f32⟩
  | .hbm, ⟨34, _⟩ => ⟨S2x4x4x64x4x64, .f32⟩
  | .hbm, ⟨35, _⟩ => ⟨S2x4x256x256, .f32⟩
  | .hbm, ⟨36, _⟩ => ⟨S2x4x4x64x64, .f32⟩
  | .hbm, ⟨37, _⟩ => ⟨S4x4, .i32⟩
  | .hbm, ⟨38, _⟩ => ⟨S4x4, .i32⟩
  | .hbm, ⟨39, _⟩ => ⟨S_, .i32⟩
  | .hbm, ⟨40, _⟩ => ⟨S4x4, .i32⟩
  | .hbm, ⟨41, _⟩ => ⟨S4x4, .i32⟩
  | .hbm, ⟨42, _⟩ => ⟨S4x4, .i1⟩
  | .hbm, ⟨43, _⟩ => ⟨S4x4, .f32⟩
  | .hbm, ⟨44, _⟩ => ⟨S1x1x4x1x4x1, .f32⟩
  | .hbm, ⟨45, _⟩ => ⟨S2x4x4x64x1x64, .f32⟩
  | .hbm, ⟨46, _⟩ => ⟨S2x4x4x64x4x64, .f32⟩
  | .hbm, ⟨47, _⟩ => ⟨S2x4x4x64x4x64, .f32⟩
  | .hbm, ⟨48, _⟩ => ⟨S2x4x4x64x4x64, .f32⟩
  | .hbm, ⟨49, _⟩ => ⟨S2x4x256x256, .f32⟩
  | .hbm, ⟨50, _⟩ => ⟨S2x8x256x256, .f32⟩
  | .hbm, ⟨51, _⟩ => ⟨S2x8x256x256, .bf16⟩
  | .hbm, ⟨52, _⟩ => ⟨S4096x3584, .bf16⟩
  | .hbm, ⟨53, _⟩ => ⟨S16x1024, .f32⟩
  | .hbm, ⟨54, _⟩ => ⟨S8x256x256, .f32⟩
  | .local _ .vmem, ⟨0, _⟩ => ⟨S256x3584, .bf16⟩
  | .local _ .vmem, ⟨1, _⟩ => ⟨S256x3584, .bf16⟩
  | .local _ .vmem, ⟨2, _⟩ => ⟨S16x3584, .bf16⟩
  | .local _ .vmem, ⟨3, _⟩ => ⟨S16x3584, .bf16⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S256x1536, .bf16⟩
  | .local _ .vmem, ⟨9, _⟩ => ⟨S256x1536, .bf16⟩
  | .local _ .vmem, ⟨10, _⟩ => ⟨S1x16x1024, .f32⟩
  | .local _ .vmem, ⟨11, _⟩ => ⟨S1x8x256x256, .bf16⟩
  | .local _ .vmem, ⟨12, _⟩ => ⟨S256x3584, .bf16⟩
  | .local _ .vmem, ⟨13, _⟩ => ⟨S256x3584, .bf16⟩
  | .local _ .vmem, ⟨14, _⟩ => ⟨S16x1024, .f32⟩
  | .local _ .vmem, ⟨15, _⟩ => ⟨S8x256x256, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S264x1024, .f32⟩
  | .local _ .vmem, ⟨22, _⟩ => ⟨S264x1024, .f32⟩
  | .local _ .vmem, ⟨23, _⟩ => ⟨S3x8x1024, .f32⟩
  | .local _ .vmem, ⟨24, _⟩ => ⟨S8x1024, .f32⟩
  | .local _ .vmem, ⟨25, _⟩ => ⟨S8x1024, .f32⟩
  | .local _ .vmem, ⟨26, _⟩ => ⟨S8x512, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36_0 : Ref sig .tc := ⟨.hbm, 52, rfl⟩
abbrev main_v36_1 : Ref sig .tc := ⟨.hbm, 53, rfl⟩
abbrev main_v36_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_74 : BitVec 32 := 0#32
  let c16_i32 : BitVec 32 := 16#32
  let v168 : BitVec 32 := Scalar.addi c0_i32_74 c16_i32
  let c1_i32_75 : BitVec 32 := 1#32
  ⟨c0_i32_74, v168, c1_i32_75⟩
def k0_mult1 (k0_t1 : Fin k0_t1_loop.trips) : BitVec 32 :=
  let c15_i32_265 : BitVec 32 := 15#32
  let c0_i32_74 : BitVec 32 := 0#32
  let c1_i32_75 : BitVec 32 := 1#32
  let arg22 : BitVec 32 := Scf.iv c0_i32_74 c1_i32_75 k0_t1
  let v454 : BitVec 32 := Scalar.subi c15_i32_265 arg22
  let c16_i32_266 : BitVec 32 := 16#32
  let v455 : BitVec 32 := Scalar.muli v454 c16_i32_266
  v455
def k0_off1 (k0_t1 : Fin k0_t1_loop.trips) : Fin 2 → Nat :=
  let c15_i32_265 : BitVec 32 := 15#32
  let c0_i32_74 : BitVec 32 := 0#32
  let c1_i32_75 : BitVec 32 := 1#32
  let arg22 : BitVec 32 := Scf.iv c0_i32_74 c1_i32_75 k0_t1
  let v454 : BitVec 32 := Scalar.subi c15_i32_265 arg22
  let c16_i32_266 : BitVec 32 := 16#32
  let v455 : BitVec 32 := Scalar.muli v454 c16_i32_266
  let v456 : BitVec 32 := v455
  let v457 : Index := Scalar.indexCast v456
  let c1024_267 : Index := 1024#32
  ![v457.toNat, 1024]
def k0_off2 (k0_t1 : Fin k0_t1_loop.trips) : Fin 2 → Nat :=
  let c15_i32_265 : BitVec 32 := 15#32
  let c0_i32_74 : BitVec 32 := 0#32
  let c1_i32_75 : BitVec 32 := 1#32
  let arg22 : BitVec 32 := Scf.iv c0_i32_74 c1_i32_75 k0_t1
  let v454 : BitVec 32 := Scalar.subi c15_i32_265 arg22
  let c16_i32_266 : BitVec 32 := 16#32
  let v455 : BitVec 32 := Scalar.muli v454 c16_i32_266
  let v456 : BitVec 32 := v455
  let v460 : Index := Scalar.indexCast v456
  let c0_268 : Index := 0#32
  ![v460.toNat, 0]
def k0_mult2 (k0_t1 : Fin k0_t1_loop.trips) : BitVec 32 :=
  let c15_i32_265 : BitVec 32 := 15#32
  let c0_i32_74 : BitVec 32 := 0#32
  let c1_i32_75 : BitVec 32 := 1#32
  let arg22 : BitVec 32 := Scf.iv c0_i32_74 c1_i32_75 k0_t1
  let v454 : BitVec 32 := Scalar.subi c15_i32_265 arg22
  let c16_i32_266 : BitVec 32 := 16#32
  let v455 : BitVec 32 := Scalar.muli v454 c16_i32_266
  let v456 : BitVec 32 := v455
  let c8_i32 : BitVec 32 := 8#32
  let v463 : BitVec 32 := Scalar.addi v456 c8_i32
  v463
def k0_off3 (k0_t1 : Fin k0_t1_loop.trips) (c8_i32 : BitVec 32) : Fin 2 → Nat :=
  let c15_i32_265 : BitVec 32 := 15#32
  let c0_i32_74 : BitVec 32 := 0#32
  let c1_i32_75 : BitVec 32 := 1#32
  let arg22 : BitVec 32 := Scf.iv c0_i32_74 c1_i32_75 k0_t1
  let v454 : BitVec 32 := Scalar.subi c15_i32_265 arg22
  let c16_i32_266 : BitVec 32 := 16#32
  let v455 : BitVec 32 := Scalar.muli v454 c16_i32_266
  let v456 : BitVec 32 := v455
  let v463 : BitVec 32 := Scalar.addi v456 c8_i32
  let v464 : BitVec 32 := v463
  let v465 : Index := Scalar.indexCast v464
  let c0_269 : Index := 0#32
  ![v465.toNat, 0]
def k0_off4 (k0_t1 : Fin k0_t1_loop.trips) (c8_i32 : BitVec 32) : Fin 2 → Nat :=
  let c15_i32_265 : BitVec 32 := 15#32
  let c0_i32_74 : BitVec 32 := 0#32
  let c1_i32_75 : BitVec 32 := 1#32
  let arg22 : BitVec 32 := Scf.iv c0_i32_74 c1_i32_75 k0_t1
  let v454 : BitVec 32 := Scalar.subi c15_i32_265 arg22
  let c16_i32_266 : BitVec 32 := 16#32
  let v455 : BitVec 32 := Scalar.muli v454 c16_i32_266
  let v456 : BitVec 32 := v455
  let v463 : BitVec 32 := Scalar.addi v456 c8_i32
  let v464 : BitVec 32 := v463
  let v512 : Index := Scalar.indexCast v464
  let c0_287 : Index := 0#32
  ![v512.toNat, 0]
def k0_off5 (k0_t1 : Fin k0_t1_loop.trips) (c8_i32 : BitVec 32) : Fin 2 → Nat :=
  let c15_i32_265 : BitVec 32 := 15#32
  let c0_i32_74 : BitVec 32 := 0#32
  let c1_i32_75 : BitVec 32 := 1#32
  let arg22 : BitVec 32 := Scf.iv c0_i32_74 c1_i32_75 k0_t1
  let v454 : BitVec 32 := Scalar.subi c15_i32_265 arg22
  let c16_i32_266 : BitVec 32 := 16#32
  let v455 : BitVec 32 := Scalar.muli v454 c16_i32_266
  let v456 : BitVec 32 := v455
  let v463 : BitVec 32 := Scalar.addi v456 c8_i32
  let v464 : BitVec 32 := v463
  let v594 : Index := Scalar.indexCast v464
  let c0_311 : Index := 0#32
  ![v594.toNat, 0]
def k0_mult3 (k0_t1 : Fin k0_t1_loop.trips) : BitVec 32 :=
  let c15_i32_265 : BitVec 32 := 15#32
  let c0_i32_74 : BitVec 32 := 0#32
  let c1_i32_75 : BitVec 32 := 1#32
  let arg22 : BitVec 32 := Scf.iv c0_i32_74 c1_i32_75 k0_t1
  let v454 : BitVec 32 := Scalar.subi c15_i32_265 arg22
  let c16_i32_266 : BitVec 32 := 16#32
  let v455 : BitVec 32 := Scalar.muli v454 c16_i32_266
  let v456 : BitVec 32 := v455
  let c0_i32_332 : BitVec 32 := 0#32
  let v634 : BitVec 32 := Scalar.addi v456 c0_i32_332
  v634
def k0_off6 (k0_t1 : Fin k0_t1_loop.trips) : Fin 2 → Nat :=
  let c15_i32_265 : BitVec 32 := 15#32
  let c0_i32_74 : BitVec 32 := 0#32
  let c1_i32_75 : BitVec 32 := 1#32
  let arg22 : BitVec 32 := Scf.iv c0_i32_74 c1_i32_75 k0_t1
  let v454 : BitVec 32 := Scalar.subi c15_i32_265 arg22
  let c16_i32_266 : BitVec 32 := 16#32
  let v455 : BitVec 32 := Scalar.muli v454 c16_i32_266
  let v456 : BitVec 32 := v455
  let v811 : Index := Scalar.indexCast v456
  let c0_400 : Index := 0#32
  ![v811.toNat, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "gelu_3c0c1" => some (((3 * (6693141 / 8388608)) * (12003091 / 268435456) : ℝ) : EReal)
  | "gelu_c0" => some ((6693141 / 8388608 : ℝ) : EReal)
  | "gelu_c0c1" => some (((6693141 / 8388608) * (12003091 / 268435456) : ℝ) : EReal)
  | _ => none
-- ==== ReferenceIdeal.lean ====
abbrev S4096x3584 : Shape := ⟨2, ![4096, 3584]⟩
abbrev S4096x1024 : Shape := ⟨2, ![4096, 1024]⟩
abbrev S4096x1536 : Shape := ⟨2, ![4096, 1536]⟩
abbrev S2x4x1024 : Shape := ⟨3, ![2, 4, 1024]⟩
abbrev S2x1024 : Shape := ⟨2, ![2, 1024]⟩
abbrev S2x3x512 : Shape := ⟨3, ![2, 3, 512]⟩
abbrev S2x16x64x64 : Shape := ⟨4, ![2, 16, 64, 64]⟩
abbrev S1x3x512 : Shape := ⟨3, ![1, 3, 512]⟩
abbrev S3x512 : Shape := ⟨2, ![3, 512]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩
abbrev S16x1024 : Shape := ⟨2, ![16, 1024]⟩
abbrev S8x256x256 : Shape := ⟨3, ![8, 256, 256]⟩

abbrev nBuf : Space → Nat
  | .hbm => 153
  | .vmem => 0
  | .smem => 0
  | _ => 0

abbrev hbmTy0_0 (i : Nat) : BufTy := match i % 128 with
  | 0 => ⟨S4096x3584, .bf16⟩
  | 1 => ⟨S4096x1024, .f32⟩
  | 2 => ⟨S4096x1536, .bf16⟩
  | 3 => ⟨S2x4x1024, .f32⟩
  | 4 => ⟨S2x1024, .f32⟩
  | 5 => ⟨S2x1024, .f32⟩
  | 6 => ⟨S2x1024, .f32⟩
  | 7 => ⟨S2x1024, .f32⟩
  | 8 => ⟨S2x3x512, .f32⟩
  | 9 => ⟨S2x16x64x64, .f32⟩
  | 10 => ⟨S2x16x64x64, .f32⟩
  | 11 => ⟨S4096x3584, .f32⟩
  | 12 => ⟨S1x3x512, .f32⟩
  | 13 => ⟨S3x512, .f32⟩
  | 14 => ⟨S4096x1024, .f32⟩
  | 15 => ⟨S4096x1024, .f32⟩
  | 16 => ⟨S4096x512, .f32⟩
  | 17 => ⟨S4096x512, .f32⟩
  | 18 => ⟨S4096x512, .f32⟩
  | 19 => ⟨S4096x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S4096x1024, .f32⟩
  | 48 => ⟨S4096x512, .f32⟩
  | 49 => ⟨S_, .f32⟩
  | 50 => ⟨S2x512, .f32⟩
  | 51 => ⟨S4098x512, .f32⟩
  | 52 => ⟨S_, .f32⟩
  | 53 => ⟨S2x512, .f32⟩
  | 54 => ⟨S4096x512, .f32⟩
  | 55 => ⟨S1x512, .f32⟩
  | 56 => ⟨S512, .f32⟩
  | 57 => ⟨S1x512, .f32⟩
  | 58 => ⟨S4096x512, .f32⟩
  | 59 => ⟨S4096x512, .f32⟩
  | 60 => ⟨S4096x512, .f32⟩
  | 61 => ⟨S1x512, .f32⟩
  | 62 => ⟨S512, .f32⟩
  | 63 => ⟨S1x512, .f32⟩
  | 64 => ⟨S4096x512, .f32⟩
  | 65 => ⟨S4096x512, .f32⟩
  | 66 => ⟨S4096x512, .f32⟩
  | 67 => ⟨S4096x512, .f32⟩
  | 68 => ⟨S1x512, .f32⟩
  | 69 => ⟨S512, .f32⟩
  | 70 => ⟨S1x512, .f32⟩
  | 71 => ⟨S4096x512, .f32⟩
  | 72 => ⟨S4096x512, .f32⟩
  | 73 => ⟨S4096x512, .f32⟩
  | 74 => ⟨S4096x512, .f32⟩
  | 75 => ⟨S4096x1536, .f32⟩
  | 76 => ⟨S4096x1536, .f32⟩
  | 77 => ⟨S4096x1024, .f32⟩
  | 78 => ⟨S4096x512, .f32⟩
  | 79 => ⟨S4096x512, .f32⟩
  | 80 => ⟨S4096x512, .f32⟩
  | 81 => ⟨S4096x512, .f32⟩
  | 82 => ⟨S_, .f32⟩
  | 83 => ⟨S512, .f32⟩
  | 84 => ⟨S1x512, .f32⟩
  | 85 => ⟨S4096x512, .f32⟩
  | 86 => ⟨S4096x512, .f32⟩
  | 87 => ⟨S_, .f32⟩
  | 88 => ⟨S512, .f32⟩
  | 89 => ⟨S1x512, .f32⟩
  | 90 => ⟨S_, .f32⟩
  | 91 => ⟨S3x512, .f32⟩
  | 92 => ⟨S_, .f32⟩
  | 93 => ⟨S4098x512, .f32⟩
  | 94 => ⟨S4096x512, .f32⟩
  | 95 => ⟨S_, .f32⟩
  | 96 => ⟨S512, .f32⟩
  | 97 => ⟨S1x512, .f32⟩
  | 98 => ⟨S4096x512, .f32⟩
  | 99 => ⟨S4096x512, .f32⟩
  | 100 => ⟨S_, .f32⟩
  | 101 => ⟨S512, .f32⟩
  | 102 => ⟨S1x512, .f32⟩
  | 103 => ⟨S_, .f32⟩
  | 104 => ⟨S3x512, .f32⟩
  | 105 => ⟨S3x512, .f32⟩
  | 106 => ⟨S_, .f32⟩
  | 107 => ⟨S4098x512, .f32⟩
  | 108 => ⟨S4098x512, .f32⟩
  | 109 => ⟨S4096x512, .f32⟩
  | 110 => ⟨S_, .f32⟩
  | 111 => ⟨S512, .f32⟩
  | 112 => ⟨S1x512, .f32⟩
  | 113 => ⟨S4096x512, .f32⟩
  | 114 => ⟨S4096x512, .f32⟩
  | 115 => ⟨S_, .f32⟩
  | 116 => ⟨S512, .f32⟩
  | 117 => ⟨S1x512, .f32⟩
  | 118 => ⟨S_, .f32⟩
  | 119 => ⟨S3x512, .f32⟩
  | 120 => ⟨S3x512, .f32⟩
  | 121 => ⟨S_, .f32⟩
  | 122 => ⟨S4098x512, .f32⟩
  | 123 => ⟨S4098x512, .f32⟩
  | 124 => ⟨S2x512, .f32⟩
  | 125 => ⟨S4096x512, .f32⟩
  | 126 => ⟨S4096x512, .f32⟩
  | 127 => ⟨S4096x512, .f32⟩
  | _ => ⟨S4096x3584, .bf16⟩

abbrev hbmTy0_1 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096x1024, .f32⟩
  | 5 => ⟨S4096x1024, .f32⟩
  | 6 => ⟨S4096x1024, .f32⟩
  | 7 => ⟨S_, .f32⟩
  | 8 => ⟨S4096x1024, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S4096x1024, .f32⟩
  | 15 => ⟨S4096x1024, .f32⟩
  | 16 => ⟨S_, .f32⟩
  | 17 => ⟨S4096x1024, .f32⟩
  | 18 => ⟨S4096x3584, .f32⟩
  | 19 => ⟨S4096x3584, .bf16⟩
  | 20 => ⟨S_, .i32⟩
  | 21 => ⟨S_, .f32⟩
  | 22 => ⟨S16x1024, .f32⟩
  | 23 => ⟨S_, .f32⟩
  | 24 => ⟨S8x256x256, .f32⟩
  | _ => ⟨S4096x3584, .bf16⟩

abbrev hbmTy (i : Nat) : BufTy := match i / 128 with
  | 0 => hbmTy0_0 i
  | 1 => hbmTy0_1 i
  | _ => ⟨S4096x3584, .bf16⟩

abbrev bufTy : (tb : Table) → Fin (tcTables nBuf tb) → BufTy
  | .hbm, ⟨i, _⟩ => hbmTy i
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_cst_11 : Ref sig .tc := ⟨.hbm, 92, rfl⟩
abbrev main_v69 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_cst_18 : Ref sig .tc := ⟨.hbm, 118, rfl⟩
abbrev main_v88 : Ref sig .tc := ⟨.hbm, 119, rfl⟩
abbrev main_v89 : Ref sig .tc := ⟨.hbm, 120, rfl⟩
abbrev main_cst_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_20 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_21 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_22 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_23 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_c : Ref sig .tc := ⟨.hbm, 148, rfl⟩
abbrev main_call0_v0 : Ref sig .tc := ⟨.hbm, 149, rfl⟩
abbrev main_v112 : Ref sig .tc := ⟨.hbm, 150, rfl⟩
abbrev main_cst_24 : Ref sig .tc := ⟨.hbm, 151, rfl⟩
abbrev main_v113 : Ref sig .tc := ⟨.hbm, 152, rfl⟩

abbrev nD : Nat := 1
abbrev τ : Topo := Topo.v7x

variable {F : FTy → Type} [FloatOps F]
-- ==== Kernel2.lean ====
abbrev S2x4096x3072 : Shape := ⟨3, ![2, 4096, 3072]⟩
abbrev S1024x6144 : Shape := ⟨2, ![1024, 6144]⟩
abbrev S4096x1024 : Shape := ⟨2, ![4096, 1024]⟩
abbrev S1x1024 : Shape := ⟨2, ![1, 1024]⟩
abbrev S8x1024 : Shape := ⟨2, ![8, 1024]⟩
abbrev S2x512x3072 : Shape := ⟨3, ![2, 512, 3072]⟩
abbrev S512x1024 : Shape := ⟨2, ![512, 1024]⟩
abbrev S1x512x3072 : Shape := ⟨3, ![1, 512, 3072]⟩
abbrev S512x3072 : Shape := ⟨2, ![512, 3072]⟩
abbrev S1024x3072 : Shape := ⟨2, ![1024, 3072]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2x4096x3072, .bf16⟩
  | .hbm, ⟨1, _⟩ => ⟨S1024x6144, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S8x1024, .f32⟩
  | .local _ .vmem, ⟨0, _⟩ => ⟨S2x512x3072, .bf16⟩
  | .local _ .vmem, ⟨1, _⟩ => ⟨S2x512x3072, .bf16⟩
  | .local _ .vmem, ⟨2, _⟩ => ⟨S1024x6144, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S2x4096x3072 : Shape := ⟨3, ![2, 4096, 3072]⟩
abbrev S1024x6144 : Shape := ⟨2, ![1024, 6144]⟩
abbrev S4096x1024 : Shape := ⟨2, ![4096, 1024]⟩
abbrev S1x1024 : Shape := ⟨2, ![1, 1024]⟩
abbrev S1x4096x3072 : Shape := ⟨3, ![1, 4096, 3072]⟩
abbrev S4096x3072 : Shape := ⟨2, ![4096, 3072]⟩
abbrev S4096x6144 : Shape := ⟨2, ![4096, 6144]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2x4096x3072, .bf16⟩
  | .hbm, ⟨1, _⟩ => ⟨S1024x6144, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x4096x3072, .bf16⟩
  | .hbm, ⟨6, _⟩ => ⟨S4096x3072, .bf16⟩
  | .hbm, ⟨7, _⟩ => ⟨S1x4096x3072, .bf16⟩
  | .hbm, ⟨8, _⟩ => ⟨S4096x3072, .bf16⟩
  | .hbm, ⟨9, _⟩ => ⟨S4096x6144, .bf16⟩
  | .hbm, ⟨10, _⟩ => ⟨S4096x6144, .f32⟩
  | .hbm, ⟨11, _⟩ => ⟨S1024, .f32⟩
  | .hbm, ⟨12, _⟩ => ⟨S1024x6144, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x6144, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | .hbm, ⟨62, _⟩ => ⟨S1x1024, .f32⟩
  | .hbm, ⟨63, _⟩ => ⟨S_, .i32⟩
  | .hbm, ⟨64, _⟩ => ⟨S_, .f32⟩
  | .hbm, ⟨65, _⟩ => ⟨S8x1024, .f32⟩
  | _, _ => ⟨S2x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c : Ref sig .tc := ⟨.hbm, 63, rfl⟩
abbrev main_call0_v0 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel3.lean ====
abbrev S4096x1024 : Shape := ⟨2, ![4096, 1024]⟩
abbrev S2x4096x3072 : Shape := ⟨3, ![2, 4096, 3072]⟩
abbrev S1024x6144 : Shape := ⟨2, ![1024, 6144]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x3072, .bf16⟩
  | .hbm, ⟨2, _⟩ => ⟨S1024x6144, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1536, .f32⟩
  | .local _ .vmem, ⟨5, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S2x4096x3072 : Shape := ⟨3, ![2, 4096, 3072]⟩
abbrev S1x4096x3072 : Shape := ⟨3, ![1, 4096, 3072]⟩
abbrev S4096x3072 : Shape := ⟨2, ![4096, 3072]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x3072, .bf16⟩
  | .hbm, ⟨2, _⟩ => ⟨S1x4096x3072, .bf16⟩
  | .hbm, ⟨3, _⟩ => ⟨S4096x3072, .bf16⟩
  | .hbm, ⟨4, _⟩ => ⟨S1x4096x3072, .bf16⟩
  | .hbm, ⟨5, _⟩ => ⟨S4096x3072, .bf16⟩
  | .hbm, ⟨6, _⟩ => ⟨S4096x6144, .bf16⟩
  | .hbm, ⟨7, _⟩ => ⟨S4096x6144, .f32⟩
  | .hbm, ⟨8, _⟩ => ⟨S_, .f32⟩
  | .hbm, ⟨9, _⟩ => ⟨S1024x6144, .f32⟩
  | .hbm, ⟨10, _⟩ => ⟨S4096x1024, .f32⟩
  | .hbm, ⟨11, _⟩ => ⟨S4096x6144, .f32⟩
  | .hbm, ⟨12, _⟩ => ⟨S6144x1024, .f32⟩
  | .hbm, ⟨13, _⟩ => ⟨S1024x6144, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x6144 : Shape := ⟨2, ![1024, 6144]⟩
abbrev S2x4096x3072 : Shape := ⟨3, ![2, 4096, 3072]⟩
abbrev S512x1024 : Shape := ⟨2, ![512, 1024]⟩
abbrev S2x512x3072 : Shape := ⟨3, ![2, 512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .bf16⟩
  | .hbm, ⟨3, _⟩ => ⟨S2x4096x3072, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S2x512x3072, .bf16⟩
  | .local _ .vmem, ⟨5, _⟩ => ⟨S2x512x3072, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4096x1024 : Shape := ⟨2, ![4096, 1024]⟩
abbrev S1x1024 : Shape := ⟨2, ![1, 1024]⟩
abbrev S1024x6144 : Shape := ⟨2, ![1024, 6144]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x6144 : Shape := ⟨2, ![4096, 6144]⟩
abbrev S4096x3072 : Shape := ⟨2, ![4096, 3072]⟩
abbrev S1x4096x3072 : Shape := ⟨3, ![1, 4096, 3072]⟩
abbrev S2x4096x3072 : Shape := ⟨3, ![2, 4096, 3072]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x6144, .f32⟩
  | .hbm, ⟨21, _⟩ => ⟨S4096x6144, .f32⟩
  | .hbm, ⟨22, _⟩ => ⟨S4096x3072, .f32⟩
  | .hbm, ⟨23, _⟩ => ⟨S4096x3072, .f32⟩
  | .hbm, ⟨24, _⟩ => ⟨S1x4096x3072, .f32⟩
  | .hbm, ⟨25, _⟩ => ⟨S1x4096x3072, .f32⟩
  | .hbm, ⟨26, _⟩ => ⟨S2x4096x3072, .f32⟩
  | .hbm, ⟨27, _⟩ => ⟨S2x4096x3072, .bf16⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel5.lean ====
abbrev S4096x1024 : Shape := ⟨2, ![4096, 1024]⟩
abbrev S3072x1024 : Shape := ⟨2, ![3072, 1024]⟩
abbrev S4096x3072 : Shape := ⟨2, ![4096, 3072]⟩
abbrev S512x1024 : Shape := ⟨2, ![512, 1024]⟩
abbrev S512x3072 : Shape := ⟨2, ![512, 3072]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S3072x1024 : Shape := ⟨2, ![3072, 1024]⟩
abbrev S_ : Shape := ⟨0, ![]⟩
abbrev S4096x3072 : Shape := ⟨2, ![4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S_, .f32⟩
  | .hbm, ⟨3, _⟩ => ⟨S4096x3072, .f32⟩
  | .hbm, ⟨4, _⟩ => ⟨S3072x1024, .f32⟩
  | .hbm, ⟨5, _⟩ => ⟨S4096x1024, .f32⟩
  | .hbm, ⟨6, _⟩ => ⟨S4096x1024, .f32⟩
  | .hbm, ⟨7, _⟩ => ⟨S4096x3072, .f32⟩
  | .hbm, ⟨8, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x3072 : Shape := ⟨2, ![4096, 3072]⟩
abbrev S4096x1024 : Shape := ⟨2, ![4096, 1024]⟩
abbrev S3072x1024 : Shape := ⟨2, ![3072, 1024]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .f32⟩
  | .local _ .vmem, ⟨5, _⟩ => ⟨S1536x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S_, .f32⟩
  | .hbm, ⟨3, _⟩ => ⟨S3072x1024, .f32⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S1024x3072, .f32⟩
  | .hbm, ⟨8, _⟩ => ⟨S3072x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S8x1024 : Shape := ⟨2, ![8, 1024]⟩
abbrev S8x128 : Shape := ⟨2, ![8, 128]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S8x1024, .f32⟩
  | .hbm, ⟨8, _⟩ => ⟨S8x128, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S8x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩
abbrev S8x128 : Shape := ⟨2, ![8, 128]⟩

abbrev nBuf : Space → Nat
  | .hbm => 84
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x3072, .f32⟩
  | .hbm, ⟨6, _⟩ => ⟨S3072x1024, .f32⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .bf16⟩
  | .hbm, ⟨79, _⟩ => ⟨S1x1024, .f32⟩
  | .hbm, ⟨80, _⟩ => ⟨S_, .i32⟩
  | .hbm, ⟨81, _⟩ => ⟨S_, .f32⟩
  | .hbm, ⟨82, _⟩ => ⟨S8x1024, .f32⟩
  | .hbm, ⟨83, _⟩ => ⟨S8x128, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c : Ref sig .tc := ⟨.hbm, 80, rfl⟩
abbrev main_call0_v0 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel8.lean ====
abbrev S4096x1536 : Shape := ⟨2, ![4096, 1536]⟩
abbrev S4096x1024 : Shape := ⟨2, ![4096, 1024]⟩
abbrev S1536x1024 : Shape := ⟨2, ![1536, 1024]⟩
abbrev S1024x1536 : Shape := ⟨2, ![1024, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S_, .f32⟩
  | .hbm, ⟨3, _⟩ => ⟨S1536x1024, .f32⟩
  | .hbm, ⟨4, _⟩ => ⟨S4096x1536, .f32⟩
  | .hbm, ⟨5, _⟩ => ⟨S4096x1024, .f32⟩
  | .hbm, ⟨6, _⟩ => ⟨S4096x1024, .f32⟩
  | .hbm, ⟨7, _⟩ => ⟨S1024x1536, .f32⟩
  | .hbm, ⟨8, _⟩ => ⟨S1536x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x1024 : Shape := ⟨2, ![4096, 1024]⟩
abbrev S1536x1024 : Shape := ⟨2, ![1536, 1024]⟩
abbrev S4096x1536 : Shape := ⟨2, ![4096, 1536]⟩
abbrev S512x1024 : Shape := ⟨2, ![512, 1024]⟩
abbrev S512x1536 : Shape := ⟨2, ![512, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .bf16⟩
  | .local _ .vmem, ⟨0, _⟩ => ⟨S512x1024, .bf16⟩
  | .local _ .vmem, ⟨1, _⟩ => ⟨S512x1024, .bf16⟩
  | .local _ .vmem, ⟨2, _⟩ => ⟨S1536x1024, .bf16⟩
  | .local _ .vmem, ⟨3, _⟩ => ⟨S512x1536, .bf16⟩
  | .local _ .vmem, ⟨4, _⟩ => ⟨S512x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4096x1024 : Shape := ⟨2, ![4096, 1024]⟩
abbrev S1536x1024 : Shape := ⟨2, ![1536, 1024]⟩
abbrev S_ : Shape := ⟨0, ![]⟩
abbrev S4096x1536 : Shape := ⟨2, ![4096, 1536]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S_, .f32⟩
  | .hbm, ⟨3, _⟩ => ⟨S4096x1536, .f32⟩
  | .hbm, ⟨4, _⟩ => ⟨S1536x1024, .f32⟩
  | .hbm, ⟨5, _⟩ => ⟨S4096x1024, .f32⟩
  | .hbm, ⟨6, _⟩ => ⟨S4096x1024, .f32⟩
  | .hbm, ⟨7, _⟩ => ⟨S4096x1536, .f32⟩
  | .hbm, ⟨8, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1536 : Shape := ⟨2, ![4096, 1536]⟩
abbrev S1536x1024 : Shape := ⟨2, ![1536, 1024]⟩
abbrev S4096x1024 : Shape := ⟨2, ![4096, 1024]⟩
abbrev S512x1536 : Shape := ⟨2, ![512, 1536]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S4096x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S4096x1536 : Shape := ⟨2, ![4096, 1536]⟩
abbrev S1536x1024 : Shape := ⟨2, ![1536, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S4096x1536, .f32⟩
  | .hbm, ⟨4, _⟩ => ⟨S1536x1024, .f32⟩
  | .hbm, ⟨5, _⟩ => ⟨S4096x1024, .f32⟩
  | .hbm, ⟨6, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S1024x3584 : Shape := ⟨2, ![1024, 3584]⟩
abbrev S4096x3584 : Shape := ⟨2, ![4096, 3584]⟩
abbrev S512x1024 : Shape := ⟨2, ![512, 1024]⟩
abbrev S512x3584 : Shape := ⟨2, ![512, 3584]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .bf16⟩
  | .hbm, ⟨3, _⟩ => ⟨S4096x3584, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S512x3584, .bf16⟩
  | .local _ .vmem, ⟨5, _⟩ => ⟨S512x3584, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S4096x1024 : Shape := ⟨2, ![4096, 1024]⟩
abbrev S1x1024 : Shape := ⟨2, ![1, 1024]⟩
abbrev S1024x3584 : Shape := ⟨2, ![1024, 3584]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3584 : Shape := ⟨2, ![4096, 3584]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x3584, .f32⟩
  | .hbm, ⟨21, _⟩ => ⟨S4096x3584, .f32⟩
  | .hbm, ⟨22, _⟩ => ⟨S4096x3584, .bf16⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel13.lean ====
abbrev S4096x1024 : Shape := ⟨2, ![4096, 1024]⟩
abbrev S4096x3584 : Shape := ⟨2, ![4096, 3584]⟩
abbrev S1024x3584 : Shape := ⟨2, ![1024, 3584]⟩
abbrev S1024x1024 : Shape := ⟨2, ![1024, 1024]⟩
abbrev S1024x1792 : Shape := ⟨2, ![1024, 1792]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3584, .bf16⟩
  | .hbm, ⟨2, _⟩ => ⟨S1024x3584, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .f32⟩
  | .local _ .vmem, ⟨5, _⟩ => ⟨S1024x1792, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S4096x3584 : Shape := ⟨2, ![4096, 3584]⟩
abbrev S_ : Shape := ⟨0, ![]⟩
abbrev S1024x3584 : Shape := ⟨2, ![1024, 3584]⟩
abbrev S3584x1024 : Shape := ⟨2, ![3584, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3584, .bf16⟩
  | .hbm, ⟨2, _⟩ => ⟨S_, .f32⟩
  | .hbm, ⟨3, _⟩ => ⟨S1024x3584, .f32⟩
  | .hbm, ⟨4, _⟩ => ⟨S4096x1024, .f32⟩
  | .hbm, ⟨5, _⟩ => ⟨S4096x3584, .f32⟩
  | .hbm, ⟨6, _⟩ => ⟨S4096x3584, .f32⟩
  | .hbm, ⟨7, _⟩ => ⟨S3584x1024, .f32⟩
  | .hbm, ⟨8, _⟩ => ⟨S1024x3584, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x3584 : Shape := ⟨2, ![4096, 3584]⟩
abbrev S1024x3584 : Shape := ⟨2, ![1024, 3584]⟩
abbrev S4096x1024 : Shape := ⟨2, ![4096, 1024]⟩
abbrev S1x1024 : Shape := ⟨2, ![1, 1024]⟩
abbrev S8x1024 : Shape := ⟨2, ![8, 1024]⟩
abbrev S512x3584 : Shape := ⟨2, ![512, 3584]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x3584, .bf16⟩
  | .hbm, ⟨1, _⟩ => ⟨S1024x3584, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S8x1024, .f32⟩
  | .local _ .vmem, ⟨0, _⟩ => ⟨S512x3584, .bf16⟩
  | .local _ .vmem, ⟨1, _⟩ => ⟨S512x3584, .bf16⟩
  | .local _ .vmem, ⟨2, _⟩ => ⟨S1024x3584, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference14Ideal.lean ====
abbrev S4096x3584 : Shape := ⟨2, ![4096, 3584]⟩
abbrev S1024x3584 : Shape := ⟨2, ![1024, 3584]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S1024x3584, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x3584, .f32⟩
  | .hbm, ⟨27, _⟩ => ⟨S4096x3584, .f32⟩
  | .hbm, ⟨28, _⟩ => ⟨S4096x3584, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S1x1024, .f32⟩
  | .hbm, ⟨58, _⟩ => ⟨S_, .i32⟩
  | .hbm, ⟨59, _⟩ => ⟨S_, .f32⟩
  | .hbm, ⟨60, _⟩ => ⟨S8x1024, .f32⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_call0_v0 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel15.lean ====
abbrev S4096x3072 : Shape := ⟨2, ![4096, 3072]⟩
abbrev S3072x1024 : Shape := ⟨2, ![3072, 1024]⟩
abbrev S4096x1024 : Shape := ⟨2, ![4096, 1024]⟩
abbrev S512x3072 : Shape := ⟨2, ![512, 3072]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S4096x3072 : Shape := ⟨2, ![4096, 3072]⟩
abbrev S3072x1024 : Shape := ⟨2, ![3072, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x3072, .f32⟩
  | .hbm, ⟨4, _⟩ => ⟨S3072x1024, .f32⟩
  | .hbm, ⟨5, _⟩ => ⟨S4096x1024, .f32⟩
  | .hbm, ⟨6, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel16Ideal.lean ====
variable {F : FTy → Type} [FloatOps F] [Named F]
def κ : String → Option EReal := fun
  | "adam_c1" => some ((8388608 / 5463681 : ℝ) : EReal)
  | "adam_c2" => some ((268435456 / 2672307 : ℝ) : EReal)
  | _ => none
-- ==== Reference16Ideal.lean ====
abbrev S2x1024x1536 : Shape := ⟨3, ![2, 1024, 1536]⟩
abbrev S2048x1536 : Shape := ⟨2, ![2048, 1536]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S_, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S2048x1536, .f32⟩
  | .hbm, ⟨23, _⟩ => ⟨S_, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | .hbm, ⟨37, _⟩ => ⟨S2048x1536, .f32⟩
  | .hbm, ⟨38, _⟩ => ⟨S_, .f32⟩
  | .hbm, ⟨39, _⟩ => ⟨S2048x1536, .f32⟩
  | .hbm, ⟨40, _⟩ => ⟨S2048x1536, .f32⟩
  | .hbm, ⟨41, _⟩ => ⟨S2048x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel17.lean ====
abbrev S2x768x1024 : Shape := ⟨3, ![2, 768, 1024]⟩
abbrev S1536x1024 : Shape := ⟨2, ![1536, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x768x1024, .f32⟩
  | .hbm, ⟨1, _⟩ => ⟨S2x768x1024, .f32⟩
  | .hbm, ⟨2, _⟩ => ⟨S2x768x1024, .f32⟩
  | .hbm, ⟨3, _⟩ => ⟨S2x768x1024, .f32⟩
  | .hbm, ⟨4, _⟩ => ⟨S1536x1024, .f32⟩
  | .hbm, ⟨5, _⟩ => ⟨S1536x1024, .f32⟩
  | .hbm, ⟨6, _⟩ => ⟨S1536x1024, .f32⟩
  | .hbm, ⟨7, _⟩ => ⟨S1536x1024, .f32⟩
  | .hbm, ⟨8, _⟩ => ⟨S1536x1024, .f32⟩
  | .hbm, ⟨9, _⟩ => ⟨S1536x1024, .f32⟩
  | .hbm, ⟨10, _⟩ => ⟨S1536x1024, .f32⟩
  | .hbm, ⟨11, _⟩ => ⟨S1536x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel17Ideal.lean ====
variable {F : FTy → Type} [FloatOps F] [Named F]
def κ : String → Option EReal := fun
  | "adam_c1" => some ((8388608 / 5463681 : ℝ) : EReal)
  | "adam_c2" => some ((268435456 / 2672307 : ℝ) : EReal)
  | _ => none
-- ==== Reference17Ideal.lean ====
abbrev S2x768x1024 : Shape := ⟨3, ![2, 768, 1024]⟩
abbrev S1536x1024 : Shape := ⟨2, ![1536, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x768x1024, .f32⟩
  | .hbm, ⟨1, _⟩ => ⟨S2x768x1024, .f32⟩
  | .hbm, ⟨2, _⟩ => ⟨S2x768x1024, .f32⟩
  | .hbm, ⟨3, _⟩ => ⟨S2x768x1024, .f32⟩
  | .hbm, ⟨4, _⟩ => ⟨S1536x1024, .f32⟩
  | .hbm, ⟨5, _⟩ => ⟨S1536x1024, .f32⟩
  | .hbm, ⟨6, _⟩ => ⟨S1536x1024, .f32⟩
  | .hbm, ⟨7, _⟩ => ⟨S1536x1024, .f32⟩
  | .hbm, ⟨8, _⟩ => ⟨S_, .f32⟩
  | .hbm, ⟨9, _⟩ => ⟨S1536x1024, .f32⟩
  | .hbm, ⟨10, _⟩ => ⟨S1536x1024, .f32⟩
  | .hbm, ⟨11, _⟩ => ⟨S_, .f32⟩
  | .hbm, ⟨12, _⟩ => ⟨S1536x1024, .f32⟩
  | .hbm, ⟨13, _⟩ => ⟨S1536x1024, .f32⟩
  | .hbm, ⟨14, _⟩ => ⟨S1536x1024, .f32⟩
  | .hbm, ⟨15, _⟩ => ⟨S_, .f32⟩
  | .hbm, ⟨16, _⟩ => ⟨S1536x1024, .f32⟩
  | .hbm, ⟨17, _⟩ => ⟨S1536x1024, .f32⟩
  | .hbm, ⟨18, _⟩ => ⟨S1536x1024, .f32⟩
  | .hbm, ⟨19, _⟩ => ⟨S_, .f32⟩
  | .hbm, ⟨20, _⟩ => ⟨S1536x1024, .f32⟩
  | .hbm, ⟨21, _⟩ => ⟨S1536x1024, .f32⟩
  | .hbm, ⟨22, _⟩ => ⟨S1536x1024, .f32⟩
  | .hbm, ⟨23, _⟩ => ⟨S_, .f32⟩
  | .hbm, ⟨24, _⟩ => ⟨S1536x1024, .f32⟩
  | .hbm, ⟨25, _⟩ => ⟨S1536x1024, .f32⟩
  | .hbm, ⟨26, _⟩ => ⟨S_, .f32⟩
  | .hbm, ⟨27, _⟩ => ⟨S1536x1024, .f32⟩
  | .hbm, ⟨28, _⟩ => ⟨S1536x1024, .f32⟩
  | .hbm, ⟨29, _⟩ => ⟨S1536x1024, .f32⟩
  | .hbm, ⟨30, _⟩ => ⟨S_, .f32⟩
  | .hbm, ⟨31, _⟩ => ⟨S1536x1024, .f32⟩
  | .hbm, ⟨32, _⟩ => ⟨S1536x1024, .f32⟩
  | .hbm, ⟨33, _⟩ => ⟨S1536x1024, .f32⟩
  | .hbm, ⟨34, _⟩ => ⟨S_, .f32⟩
  | .hbm, ⟨35, _⟩ => ⟨S1536x1024, .f32⟩
  | .hbm, ⟨36, _⟩ => ⟨S1536x1024, .f32⟩
  | .hbm, ⟨37, _⟩ => ⟨S1536x1024, .f32⟩
  | .hbm, ⟨38, _⟩ => ⟨S_, .f32⟩
  | .hbm, ⟨39, _⟩ => ⟨S1536x1024, .f32⟩
  | .hbm, ⟨40, _⟩ => ⟨S1536x1024, .f32⟩
  | .hbm, ⟨41, _⟩ => ⟨S1536x1024, .f32⟩
  | _, _ => ⟨S2x768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel18.lean ====
abbrev S2x384x1024 : Shape := ⟨3, ![2, 384, 1024]⟩
abbrev S768x1024 : Shape := ⟨2, ![768, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x384x1024, .f32⟩
  | .hbm, ⟨1, _⟩ => ⟨S2x384x1024, .f32⟩
  | .hbm, ⟨2, _⟩ => ⟨S2x384x1024, .f32⟩
  | .hbm, ⟨3, _⟩ => ⟨S2x384x1024, .f32⟩
  | .hbm, ⟨4, _⟩ => ⟨S768x1024, .f32⟩
  | .hbm, ⟨5, _⟩ => ⟨S768x1024, .f32⟩
  | .hbm, ⟨6, _⟩ => ⟨S768x1024, .f32⟩
  | .hbm, ⟨7, _⟩ => ⟨S768x1024, .f32⟩
  | .hbm, ⟨8, _⟩ => ⟨S768x1024, .f32⟩
  | .hbm, ⟨9, _⟩ => ⟨S768x1024, .f32⟩
  | .hbm, ⟨10, _⟩ => ⟨S768x1024, .f32⟩
  | .hbm, ⟨11, _⟩ => ⟨S768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel18Ideal.lean ====
variable {F : FTy → Type} [FloatOps F] [Named F]
def κ : String → Option EReal := fun
  | "adam_c1" => some ((8388608 / 5463681 : ℝ) : EReal)
  | "adam_c2" => some ((268435456 / 2672307 : ℝ) : EReal)
  | _ => none
-- ==== Reference18Ideal.lean ====
abbrev S2x384x1024 : Shape := ⟨3, ![2, 384, 1024]⟩
abbrev S768x1024 : Shape := ⟨2, ![768, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x384x1024, .f32⟩
  | .hbm, ⟨1, _⟩ => ⟨S2x384x1024, .f32⟩
  | .hbm, ⟨2, _⟩ => ⟨S2x384x1024, .f32⟩
  | .hbm, ⟨3, _⟩ => ⟨S2x384x1024, .f32⟩
  | .hbm, ⟨4, _⟩ => ⟨S768x1024, .f32⟩
  | .hbm, ⟨5, _⟩ => ⟨S768x1024, .f32⟩
  | .hbm, ⟨6, _⟩ => ⟨S768x1024, .f32⟩
  | .hbm, ⟨7, _⟩ => ⟨S768x1024, .f32⟩
  | .hbm, ⟨8, _⟩ => ⟨S_, .f32⟩
  | .hbm, ⟨9, _⟩ => ⟨S768x1024, .f32⟩
  | .hbm, ⟨10, _⟩ => ⟨S768x1024, .f32⟩
  | .hbm, ⟨11, _⟩ => ⟨S_, .f32⟩
  | .hbm, ⟨12, _⟩ => ⟨S768x1024, .f32⟩
  | .hbm, ⟨13, _⟩ => ⟨S768x1024, .f32⟩
  | .hbm, ⟨14, _⟩ => ⟨S768x1024, .f32⟩
  | .hbm, ⟨15, _⟩ => ⟨S_, .f32⟩
  | .hbm, ⟨16, _⟩ => ⟨S768x1024, .f32⟩
  | .hbm, ⟨17, _⟩ => ⟨S768x1024, .f32⟩
  | .hbm, ⟨18, _⟩ => ⟨S768x1024, .f32⟩
  | .hbm, ⟨19, _⟩ => ⟨S_, .f32⟩
  | .hbm, ⟨20, _⟩ => ⟨S768x1024, .f32⟩
  | .hbm, ⟨21, _⟩ => ⟨S768x1024, .f32⟩
  | .hbm, ⟨22, _⟩ => ⟨S768x1024, .f32⟩
  | .hbm, ⟨23, _⟩ => ⟨S_, .f32⟩
  | .hbm, ⟨24, _⟩ => ⟨S768x1024, .f32⟩
  | .hbm, ⟨25, _⟩ => ⟨S768x1024, .f32⟩
  | .hbm, ⟨26, _⟩ => ⟨S_, .f32⟩
  | .hbm, ⟨27, _⟩ => ⟨S768x1024, .f32⟩
  | .hbm, ⟨28, _⟩ => ⟨S768x1024, .f32⟩
  | .hbm, ⟨29, _⟩ => ⟨S768x1024, .f32⟩
  | .hbm, ⟨30, _⟩ => ⟨S_, .f32⟩
  | .hbm, ⟨31, _⟩ => ⟨S768x1024, .f32⟩
  | .hbm, ⟨32, _⟩ => ⟨S768x1024, .f32⟩
  | .hbm, ⟨33, _⟩ => ⟨S768x1024, .f32⟩
  | .hbm, ⟨34, _⟩ => ⟨S_, .f32⟩
  | .hbm, ⟨35, _⟩ => ⟨S768x1024, .f32⟩
  | .hbm, ⟨36, _⟩ => ⟨S768x1024, .f32⟩
  | .hbm, ⟨37, _⟩ => ⟨S768x1024, .f32⟩
  | .hbm, ⟨38, _⟩ => ⟨S_, .f32⟩
  | .hbm, ⟨39, _⟩ => ⟨S768x1024, .f32⟩
  | .hbm, ⟨40, _⟩ => ⟨S768x1024, .f32⟩
  | .hbm, ⟨41, _⟩ => ⟨S768x1024, .f32⟩
  | _, _ => ⟨S2x384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel19.lean ====
abbrev S2x1024x896 : Shape := ⟨3, ![2, 1024, 896]⟩
abbrev S2048x896 : Shape := ⟨2, ![2048, 896]⟩
abbrev S256x896 : Shape := ⟨2, ![256, 896]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x896, .f32⟩
  | .hbm, ⟨1, _⟩ => ⟨S2x1024x896, .f32⟩
  | .hbm, ⟨2, _⟩ => ⟨S2x1024x896, .f32⟩
  | .hbm, ⟨3, _⟩ => ⟨S2x1024x896, .f32⟩
  | .hbm, ⟨4, _⟩ => ⟨S2048x896, .f32⟩
  | .hbm, ⟨5, _⟩ => ⟨S2048x896, .f32⟩
  | .hbm, ⟨6, _⟩ => ⟨S2048x896, .f32⟩
  | .hbm, ⟨7, _⟩ => ⟨S2048x896, .f32⟩
  | .hbm, ⟨8, _⟩ => ⟨S2048x896, .f32⟩
  | .hbm, ⟨9, _⟩ => ⟨S2048x896, .f32⟩
  | .hbm, ⟨10, _⟩ => ⟨S2048x896, .f32⟩
  | .hbm, ⟨11, _⟩ => ⟨S2048x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | _, _ => ⟨S2x1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel19Ideal.lean ====
variable {F : FTy → Type} [FloatOps F] [Named F]
def κ : String → Option EReal := fun
  | "adam_c1" => some ((8388608 / 5463681 : ℝ) : EReal)
  | "adam_c2" => some ((268435456 / 2672307 : ℝ) : EReal)
  | _ => none
-- ==== Reference19Ideal.lean ====
abbrev S2x1024x896 : Shape := ⟨3, ![2, 1024, 896]⟩
abbrev S2048x896 : Shape := ⟨2, ![2048, 896]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x1024x896, .f32⟩
  | .hbm, ⟨1, _⟩ => ⟨S2x1024x896, .f32⟩
  | .hbm, ⟨2, _⟩ => ⟨S2x1024x896, .f32⟩
  | .hbm, ⟨3, _⟩ => ⟨S2x1024x896, .f32⟩
  | .hbm, ⟨4, _⟩ => ⟨S2048x896, .f32⟩
  | .hbm, ⟨5, _⟩ => ⟨S2048x896, .f32⟩
  | .hbm, ⟨6, _⟩ => ⟨S2048x896, .f32⟩
  | .hbm, ⟨7, _⟩ => ⟨S2048x896, .f32⟩
  | .hbm, ⟨8, _⟩ => ⟨S_, .f32⟩
  | .hbm, ⟨9, _⟩ => ⟨S2048x896, .f32⟩
  | .hbm, ⟨10, _⟩ => ⟨S2048x896, .f32⟩
  | .hbm, ⟨11, _⟩ => ⟨S_, .f32⟩
  | .hbm, ⟨12, _⟩ => ⟨S2048x896, .f32⟩
  | .hbm, ⟨13, _⟩ => ⟨S2048x896, .f32⟩
  | .hbm, ⟨14, _⟩ => ⟨S2048x896, .f32⟩
  | .hbm, ⟨15, _⟩ => ⟨S_, .f32⟩
  | .hbm, ⟨16, _⟩ => ⟨S2048x896, .f32⟩
  | .hbm, ⟨17, _⟩ => ⟨S2048x896, .f32⟩
  | .hbm, ⟨18, _⟩ => ⟨S2048x896, .f32⟩
  | .hbm, ⟨19, _⟩ => ⟨S_, .f32⟩
  | .hbm, ⟨20, _⟩ => ⟨S2048x896, .f32⟩
  | .hbm, ⟨21, _⟩ => ⟨S2048x896, .f32⟩
  | .hbm, ⟨22, _⟩ => ⟨S2048x896, .f32⟩
  | .hbm, ⟨23, _⟩ => ⟨S_, .f32⟩
  | .hbm, ⟨24, _⟩ => ⟨S2048x896, .f32⟩
  | .hbm, ⟨25, _⟩ => ⟨S2048x896, .f32⟩
  | .hbm, ⟨26, _⟩ => ⟨S_, .f32⟩
  | .hbm, ⟨27, _⟩ => ⟨S2048x896, .f32⟩
  | .hbm, ⟨28, _⟩ => ⟨S2048x896, .f32⟩
  | .hbm, ⟨29, _⟩ => ⟨S2048x896, .f32⟩
  | .hbm, ⟨30, _⟩ => ⟨S_, .f32⟩
  | .hbm, ⟨31, _⟩ => ⟨S2048x896, .f32⟩
  | .hbm, ⟨32, _⟩ => ⟨S2048x896, .f32⟩
  | .hbm, ⟨33, _⟩ => ⟨S2048x896, .f32⟩
  | .hbm, ⟨34, _⟩ => ⟨S_, .f32⟩
  | .hbm, ⟨35, _⟩ => ⟨S2048x896, .f32⟩
  | .hbm, ⟨36, _⟩ => ⟨S2048x896, .f32⟩
  | .hbm, ⟨37, _⟩ => ⟨S2048x896, .f32⟩
  | .hbm, ⟨38, _⟩ => ⟨S_, .f32⟩
  | .hbm, ⟨39, _⟩ => ⟨S2048x896, .f32⟩
  | .hbm, ⟨40, _⟩ => ⟨S2048x896, .f32⟩
  | .hbm, ⟨41, _⟩ => ⟨S2048x896, .f32⟩
  | _, _ => ⟨S2x1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel20.lean ====
abbrev S2152x128 : Shape := ⟨2, ![2152, 128]⟩

abbrev nBuf : Space → Nat
  | .hbm => 7
  | .vmem => 7
  | .smem => 0
  | _ => 0

abbrev bufTy : (tb : Table) → Fin (tcTables nBuf tb) → BufTy
  | .hbm, ⟨0, _⟩ => ⟨S2152x128, .f32⟩
  | .hbm, ⟨1, _⟩ => ⟨S2152x128, .f32⟩
  | .hbm, ⟨2, _⟩ => ⟨S2152x128, .f32⟩
  | .hbm, ⟨3, _⟩ => ⟨S2152x128, .f32⟩
  | .hbm, ⟨4, _⟩ => ⟨S2152x128, .f32⟩
  | .hbm, ⟨5, _⟩ => ⟨S2152x128, .f32⟩
  | .hbm, ⟨6, _⟩ => ⟨S2152x128, .f32⟩
  | .local _ .vmem, ⟨0, _⟩ => ⟨S2152x128, .f32⟩
  | .local _ .vmem, ⟨1, _⟩ => ⟨S2152x128, .f32⟩
  | .local _ .vmem, ⟨2, _⟩ => ⟨S2152x128, .f32⟩
  | .local _ .vmem, ⟨3, _⟩ => ⟨S2152x128, .f32⟩
  | .local _ .vmem, ⟨4, _⟩ => ⟨S2152x128, .f32⟩
  | .local _ .vmem, ⟨5, _⟩ => ⟨S2152x128, .f32⟩
  | .local _ .vmem, ⟨6, _⟩ => ⟨S2152x128, .f32⟩
  | _, _ => ⟨S2152x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2152x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2152x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2152x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2152x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2152x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2152x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel20Ideal.lean ====
variable {F : FTy → Type} [FloatOps F] [Named F]
def κ : String → Option EReal := fun
  | "adam_c1" => some ((8388608 / 5463681 : ℝ) : EReal)
  | "adam_c2" => some ((268435456 / 2672307 : ℝ) : EReal)
  | _ => none
-- ==== Reference20Ideal.lean ====
abbrev S2152x128 : Shape := ⟨2, ![2152, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2152x128, .f32⟩
  | .hbm, ⟨1, _⟩ => ⟨S2152x128, .f32⟩
  | .hbm, ⟨2, _⟩ => ⟨S2152x128, .f32⟩
  | .hbm, ⟨3, _⟩ => ⟨S2152x128, .f32⟩
  | .hbm, ⟨4, _⟩ => ⟨S_, .f32⟩
  | .hbm, ⟨5, _⟩ => ⟨S2152x128, .f32⟩
  | .hbm, ⟨6, _⟩ => ⟨S2152x128, .f32⟩
  | .hbm, ⟨7, _⟩ => ⟨S_, .f32⟩
  | .hbm, ⟨8, _⟩ => ⟨S2152x128, .f32⟩
  | .hbm, ⟨9, _⟩ => ⟨S2152x128, .f32⟩
  | .hbm, ⟨10, _⟩ => ⟨S2152x128, .f32⟩
  | .hbm, ⟨11, _⟩ => ⟨S_, .f32⟩
  | .hbm, ⟨12, _⟩ => ⟨S2152x128, .f32⟩
  | .hbm, ⟨13, _⟩ => ⟨S2152x128, .f32⟩
  | .hbm, ⟨14, _⟩ => ⟨S2152x128, .f32⟩
  | .hbm, ⟨15, _⟩ => ⟨S_, .f32⟩
  | .hbm, ⟨16, _⟩ => ⟨S2152x128, .f32⟩
  | .hbm, ⟨17, _⟩ => ⟨S2152x128, .f32⟩
  | .hbm, ⟨18, _⟩ => ⟨S2152x128, .f32⟩
  | .hbm, ⟨19, _⟩ => ⟨S_, .f32⟩
  | .hbm, ⟨20, _⟩ => ⟨S2152x128, .f32⟩
  | .hbm, ⟨21, _⟩ => ⟨S2152x128, .f32⟩
  | .hbm, ⟨22, _⟩ => ⟨S_, .f32⟩
  | .hbm, ⟨23, _⟩ => ⟨S2152x128, .f32⟩
  | .hbm, ⟨24, _⟩ => ⟨S2152x128, .f32⟩
  | .hbm, ⟨25, _⟩ => ⟨S2152x128, .f32⟩
  | .hbm, ⟨26, _⟩ => ⟨S_, .f32⟩
  | .hbm, ⟨27, _⟩ => ⟨S2152x128, .f32⟩
  | .hbm, ⟨28, _⟩ => ⟨S2152x128, .f32⟩
  | .hbm, ⟨29, _⟩ => ⟨S2152x128, .f32⟩
  | .hbm, ⟨30, _⟩ => ⟨S_, .f32⟩
  | .hbm, ⟨31, _⟩ => ⟨S2152x128, .f32⟩
  | .hbm, ⟨32, _⟩ => ⟨S2152x128, .f32⟩
  | .hbm, ⟨33, _⟩ => ⟨S2152x128, .f32⟩
  | .hbm, ⟨34, _⟩ => ⟨S_, .f32⟩
  | .hbm, ⟨35, _⟩ => ⟨S2152x128, .f32⟩
  | .hbm, ⟨36, _⟩ => ⟨S2152x128, .f32⟩
  | _, _ => ⟨S2152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S96x128 : Shape := ⟨2, ![96, 128]⟩

abbrev nBuf : Space → Nat
  | .hbm => 7
  | .vmem => 7
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S96x128, .f32⟩
  | .hbm, ⟨5, _⟩ => ⟨S96x128, .f32⟩
  | .hbm, ⟨6, _⟩ => ⟨S96x128, .f32⟩
  | .local _ .vmem, ⟨0, _⟩ => ⟨S96x128, .f32⟩
  | .local _ .vmem, ⟨1, _⟩ => ⟨S96x128, .f32⟩
  | .local _ .vmem, ⟨2, _⟩ => ⟨S96x128, .f32⟩
  | .local _ .vmem, ⟨3, _⟩ => ⟨S96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | _, _ => ⟨S96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel21Ideal.lean ====
variable {F : FTy → Type} [FloatOps F] [Named F]
def κ : String → Option EReal := fun
  | "adam_c1" => some ((8388608 / 5463681 : ℝ) : EReal)
  | "adam_c2" => some ((268435456 / 2672307 : ℝ) : EReal)
  | _ => none
-- ==== Reference21Ideal.lean ====
abbrev S96x128 : Shape := ⟨2, ![96, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S_, .f32⟩
  | .hbm, ⟨5, _⟩ => ⟨S96x128, .f32⟩
  | .hbm, ⟨6, _⟩ => ⟨S96x128, .f32⟩
  | .hbm, ⟨7, _⟩ => ⟨S_, .f32⟩
  | .hbm, ⟨8, _⟩ => ⟨S96x128, .f32⟩
  | .hbm, ⟨9, _⟩ => ⟨S96x128, .f32⟩
  | .hbm, ⟨10, _⟩ => ⟨S96x128, .f32⟩
  | .hbm, ⟨11, _⟩ => ⟨S_, .f32⟩
  | .hbm, ⟨12, _⟩ => ⟨S96x128, .f32⟩
  | .hbm, ⟨13, _⟩ => ⟨S96x128, .f32⟩
  | .hbm, ⟨14, _⟩ => ⟨S96x128, .f32⟩
  | .hbm, ⟨15, _⟩ => ⟨S_, .f32⟩
  | .hbm, ⟨16, _⟩ => ⟨S96x128, .f32⟩
  | .hbm, ⟨17, _⟩ => ⟨S96x128, .f32⟩
  | .hbm, ⟨18, _⟩ => ⟨S96x128, .f32⟩
  | .hbm, ⟨19, _⟩ => ⟨S_, .f32⟩
  | .hbm, ⟨20, _⟩ => ⟨S96x128, .f32⟩
  | .hbm, ⟨21, _⟩ => ⟨S96x128, .f32⟩
  | .hbm, ⟨22, _⟩ => ⟨S_, .f32⟩
  | .hbm, ⟨23, _⟩ => ⟨S96x128, .f32⟩
  | .hbm, ⟨24, _⟩ => ⟨S96x128, .f32⟩
  | .hbm, ⟨25, _⟩ => ⟨S96x128, .f32⟩
  | .hbm, ⟨26, _⟩ => ⟨S_, .f32⟩
  | .hbm, ⟨27, _⟩ => ⟨S96x128, .f32⟩
  | .hbm, ⟨28, _⟩ => ⟨S96x128, .f32⟩
  | .hbm, ⟨29, _⟩ => ⟨S96x128, .f32⟩
  | .hbm, ⟨30, _⟩ => ⟨S_, .f32⟩
  | .hbm, ⟨31, _⟩ => ⟨S96x128, .f32⟩
  | .hbm, ⟨32, _⟩ => ⟨S96x128, .f32⟩
  | .hbm, ⟨33, _⟩ => ⟨S96x128, .f32⟩
  | .hbm, ⟨34, _⟩ => ⟨S_, .f32⟩
  | .hbm, ⟨35, _⟩ => ⟨S96x128, .f32⟩
  | .hbm, ⟨36, _⟩ => ⟨S96x128, .f32⟩
  | _, _ => ⟨S96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2x4096x3072 : Shape := ⟨3, ![2, 4096, 3072]⟩
abbrev S2x3x6144 : Shape := ⟨3, ![2, 3, 6144]⟩
abbrev S2x3x2x3072 : Shape := ⟨4, ![2, 3, 2, 3072]⟩
abbrev S2x2x3x3072 : Shape := ⟨4, ![2, 2, 3, 3072]⟩
abbrev S_ : Shape := ⟨0, ![]⟩
abbrev S2x2x8x3072 : Shape := ⟨4, ![2, 2, 8, 3072]⟩
abbrev S4096x3072 : Shape := ⟨2, ![4096, 3072]⟩
abbrev S2x512x1536 : Shape := ⟨3, ![2, 512, 1536]⟩
abbrev S2x16x1536 : Shape := ⟨3, ![2, 16, 1536]⟩
abbrev S1x2x8x1536 : Shape := ⟨4, ![1, 2, 8, 1536]⟩
abbrev S512x1536 : Shape := ⟨2, ![512, 1536]⟩
abbrev S2x520x1536 : Shape := ⟨3, ![2, 520, 1536]⟩
abbrev S2x8x1536 : Shape := ⟨3, ![2, 8, 1536]⟩
abbrev S1x1x128 : Shape := ⟨3, ![1, 1, 128]⟩
abbrev S1x128 : Shape := ⟨2, ![1, 128]⟩
abbrev S1x136x128 : Shape := ⟨3, ![1, 136, 128]⟩
abbrev S136x128 : Shape := ⟨2, ![136, 128]⟩
abbrev S128x128 : Shape := ⟨2, ![128, 128]⟩

abbrev nBuf : Space → Nat
  | .hbm => 10
  | .vmem => 13
  | .smem => 0
  | _ => 0

abbrev bufTy : (tb : Table) → Fin (tcTables nBuf tb) → BufTy
  | .hbm, ⟨0, _⟩ => ⟨S2x4096x3072, .bf16⟩
  | .hbm, ⟨1, _⟩ => ⟨S2x3x6144, .f32⟩
  | .hbm, ⟨2, _⟩ => ⟨S2x3x2x3072, .f32⟩
  | .hbm, ⟨3, _⟩ => ⟨S2x2x3x3072, .f32⟩
  | .hbm, ⟨4, _⟩ => ⟨S_, .i32⟩
  | .hbm, ⟨5, _⟩ => ⟨S_, .f32⟩
  | .hbm, ⟨6, _⟩ => ⟨S2x2x8x3072, .f32⟩
  | .hbm, ⟨7, _⟩ => ⟨S4096x3072, .bf16⟩
  | .hbm, ⟨8, _⟩ => ⟨S4096x3072, .bf16⟩
  | .hbm, ⟨9, _⟩ => ⟨S4096x3072, .bf16⟩
  | .local _ .vmem, ⟨0, _⟩ => ⟨S2x512x1536, .bf16⟩
  | .local _ .vmem, ⟨1, _⟩ => ⟨S2x512x1536, .bf16⟩
  | .local _ .vmem, ⟨2, _⟩ => ⟨S2x16x1536, .bf16⟩
  | .local _ .vmem, ⟨3, _⟩ => ⟨S2x16x1536, .bf16⟩
  | .local _ .vmem, ⟨4, _⟩ => ⟨S1x2x8x1536, .f32⟩
  | .local _ .vmem, ⟨5, _⟩ => ⟨S1x2x8x1536, .f32⟩
  | .local _ .vmem, ⟨6, _⟩ => ⟨S512x1536, .bf16⟩
  | .local _ .vmem, ⟨7, _⟩ => ⟨S512x1536, .bf16⟩
  | .local _ .vmem, ⟨8, _⟩ => ⟨S512x1536, .bf16⟩
  | .local _ .vmem, ⟨9, _⟩ => ⟨S512x1536, .bf16⟩
  | .local _ .vmem, ⟨10, _⟩ => ⟨S512x1536, .bf16⟩
  | .local _ .vmem, ⟨11, _⟩ => ⟨S512x1536, .bf16⟩
  | .local _ .vmem, ⟨12, _⟩ => ⟨S2x520x1536, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_15 : BitVec 32 := 0#32
  let c4_i32 : BitVec 32 := 4#32
  let v29 : BitVec 32 := Scalar.addi c0_i32_15 c4_i32
  let c1_i32 : BitVec 32 := 1#32
  ⟨c0_i32_15, v29, c1_i32⟩
def k0_mult1 (k0_t1 : Fin k0_t1_loop.trips) : BitVec 32 :=
  let c0_i32_15 : BitVec 32 := 0#32
  let c1_i32 : BitVec 32 := 1#32
  let arg9 : BitVec 32 := Scf.iv c0_i32_15 c1_i32 k0_t1
  let c128_i32 : BitVec 32 := 128#32
  let v173 : BitVec 32 := Scalar.muli arg9 c128_i32
  v173
def k0_off1 (k0_t1 : Fin k0_t1_loop.trips) : Fin 3 → Nat :=
  let c0_61 : Index := 0#32
  let c0_i32_15 : BitVec 32 := 0#32
  let c1_i32 : BitVec 32 := 1#32
  let arg9 : BitVec 32 := Scf.iv c0_i32_15 c1_i32 k0_t1
  let c128_i32 : BitVec 32 := 128#32
  let v173 : BitVec 32 := Scalar.muli arg9 c128_i32
  let v174 : BitVec 32 := v173
  let v175 : Index := Scalar.indexCast v174
  let c0_62 : Index := 0#32
  ![0, v175.toNat, 0]
def k0_off2 (k0_t1 : Fin k0_t1_loop.trips) : Fin 3 → Nat :=
  let c1 : Index := 1#32
  let c0_i32_15 : BitVec 32 := 0#32
  let c1_i32 : BitVec 32 := 1#32
  let arg9 : BitVec 32 := Scf.iv c0_i32_15 c1_i32 k0_t1
  let c128_i32 : BitVec 32 := 128#32
  let v173 : BitVec 32 := Scalar.muli arg9 c128_i32
  let v174 : BitVec 32 := v173
  let v191 : Index := Scalar.indexCast v174
  let c0_64 : Index := 0#32
  ![1, v191.toNat, 0]
def k0_off3 (k0_t1 : Fin k0_t1_loop.trips) : Fin 2 → Nat :=
  let c0_i32_15 : BitVec 32 := 0#32
  let c1_i32 : BitVec 32 := 1#32
  let arg9 : BitVec 32 := Scf.iv c0_i32_15 c1_i32 k0_t1
  let c128_i32 : BitVec 32 := 128#32
  let v173 : BitVec 32 := Scalar.muli arg9 c128_i32
  let v174 : BitVec 32 := v173
  let v233 : Index := Scalar.indexCast v174
  let c0_75 : Index := 0#32
  ![v233.toNat, 0]
@[reducible] def k0_t2_loop : Scf.Loop 32 :=
  let c0_i32_17 : BitVec 32 := 0#32
  let c4_i32_18 : BitVec 32 := 4#32
  let v42 : BitVec 32 := Scalar.addi c0_i32_17 c4_i32_18
  let c1_i32_19 : BitVec 32 := 1#32
  ⟨c0_i32_17, v42, c1_i32_19⟩
def k0_mult2 (k0_t2 : Fin k0_t2_loop.trips) : BitVec 32 :=
  let c0_i32_17 : BitVec 32 := 0#32
  let c1_i32_19 : BitVec 32 := 1#32
  let arg9 : BitVec 32 := Scf.iv c0_i32_17 c1_i32_19 k0_t2
  let c128_i32 : BitVec 32 := 128#32
  let v173 : BitVec 32 := Scalar.muli arg9 c128_i32
  v173
def k0_off4 (k0_t2 : Fin k0_t2_loop.trips) : Fin 3 → Nat :=
  let c0_61 : Index := 0#32
  let c0_i32_17 : BitVec 32 := 0#32
  let c1_i32_19 : BitVec 32 := 1#32
  let arg9 : BitVec 32 := Scf.iv c0_i32_17 c1_i32_19 k0_t2
  let c128_i32 : BitVec 32 := 128#32
  let v173 : BitVec 32 := Scalar.muli arg9 c128_i32
  let v174 : BitVec 32 := v173
  let v175 : Index := Scalar.indexCast v174
  let c128 : Index := 128#32
  ![0, v175.toNat, 128]
def k0_off5 (k0_t2 : Fin k0_t2_loop.trips) : Fin 3 → Nat :=
  let c1 : Index := 1#32
  let c0_i32_17 : BitVec 32 := 0#32
  let c1_i32_19 : BitVec 32 := 1#32
  let arg9 : BitVec 32 := Scf.iv c0_i32_17 c1_i32_19 k0_t2
  let c128_i32 : BitVec 32 := 128#32
  let v173 : BitVec 32 := Scalar.muli arg9 c128_i32
  let v174 : BitVec 32 := v173
  let v191 : Index := Scalar.indexCast v174
  let c128_63 : Index := 128#32
  ![1, v191.toNat, 128]
def k0_off6 (k0_t2 : Fin k0_t2_loop.trips) : Fin 2 → Nat :=
  let c0_i32_17 : BitVec 32 := 0#32
  let c1_i32_19 : BitVec 32 := 1#32
  let arg9 : BitVec 32 := Scf.iv c0_i32_17 c1_i32_19 k0_t2
  let c128_i32 : BitVec 32 := 128#32
  let v173 : BitVec 32 := Scalar.muli arg9 c128_i32
  let v174 : BitVec 32 := v173
  let v233 : Index := Scalar.indexCast v174
  let c128_74 : Index := 128#32
  ![v233.toNat, 128]
@[reducible] def k0_t3_loop : Scf.Loop 32 :=
  let c0_i32_21 : BitVec 32 := 0#32
  let c4_i32_22 : BitVec 32 := 4#32
  let v55 : BitVec 32 := Scalar.addi c0_i32_21 c4_i32_22
  let c1_i32_23 : BitVec 32 := 1#32
  ⟨c0_i32_21, v55, c1_i32_23⟩
def k0_mult3 (k0_t3 : Fin k0_t3_loop.trips) : BitVec 32 :=
  let c0_i32_21 : BitVec 32 := 0#32
  let c1_i32_23 : BitVec 32 := 1#32
  let arg9 : BitVec 32 := Scf.iv c0_i32_21 c1_i32_23 k0_t3
  let c128_i32 : BitVec 32 := 128#32
  let v173 : BitVec 32 := Scalar.muli arg9 c128_i32
  v173
def k0_off7 (k0_t3 : Fin k0_t3_loop.trips) : Fin 3 → Nat :=
  let c0_61 : Index := 0#32
  let c0_i32_21 : BitVec 32 := 0#32
  let c1_i32_23 : BitVec 32 := 1#32
  let arg9 : BitVec 32 := Scf.iv c0_i32_21 c1_i32_23 k0_t3
  let c128_i32 : BitVec 32 := 128#32
  let v173 : BitVec 32 := Scalar.muli arg9 c128_i32
  let v174 : BitVec 32 := v173
  let v175 : Index := Scalar.indexCast v174
  let c256 : Index := 256#32
  ![0, v175.toNat, 256]
def k0_off8 (k0_t3 : Fin k0_t3_loop.trips) : Fin 3 → Nat :=
  let c1 : Index := 1#32
  let c0_i32_21 : BitVec 32 := 0#32
  let c1_i32_23 : BitVec 32 := 1#32
  let arg9 : BitVec 32 := Scf.iv c0_i32_21 c1_i32_23 k0_t3
  let c128_i32 : BitVec 32 := 128#32
  let v173 : BitVec 32 := Scalar.muli arg9 c128_i32
  let v174 : BitVec 32 := v173
  let v191 : Index := Scalar.indexCast v174
  let c256_63 : Index := 256#32
  ![1, v191.toNat, 256]
def k0_off9 (k0_t3 : Fin k0_t3_loop.trips) : Fin 2 → Nat :=
  let c0_i32_21 : BitVec 32 := 0#32
  let c1_i32_23 : BitVec 32 := 1#32
  let arg9 : BitVec 32 := Scf.iv c0_i32_21 c1_i32_23 k0_t3
  let c128_i32 : BitVec 32 := 128#32
  let v173 : BitVec 32 := Scalar.muli arg9 c128_i32
  let v174 : BitVec 32 := v173
  let v233 : Index := Scalar.indexCast v174
  let c256_74 : Index := 256#32
  ![v233.toNat, 256]
@[reducible] def k0_t4_loop : Scf.Loop 32 :=
  let c0_i32_25 : BitVec 32 := 0#32
  let c4_i32_26 : BitVec 32 := 4#32
  let v68 : BitVec 32 := Scalar.addi c0_i32_25 c4_i32_26
  let c1_i32_27 : BitVec 32 := 1#32
  ⟨c0_i32_25, v68, c1_i32_27⟩
def k0_mult4 (k0_t4 : Fin k0_t4_loop.trips) : BitVec 32 :=
  let c0_i32_25 : BitVec 32 := 0#32
  let c1_i32_27 : BitVec 32 := 1#32
  let arg9 : BitVec 32 := Scf.iv c0_i32_25 c1_i32_27 k0_t4
  let c128_i32 : BitVec 32 := 128#32
  let v173 : BitVec 32 := Scalar.muli arg9 c128_i32
  v173
def k0_off10 (k0_t4 : Fin k0_t4_loop.trips) : Fin 3 → Nat :=
  let c0_61 : Index := 0#32
  let c0_i32_25 : BitVec 32 := 0#32
  let c1_i32_27 : BitVec 32 := 1#32
  let arg9 : BitVec 32 := Scf.iv c0_i32_25 c1_i32_27 k0_t4
  let c128_i32 : BitVec 32 := 128#32
  let v173 : BitVec 32 := Scalar.muli arg9 c128_i32
  let v174 : BitVec 32 := v173
  let v175 : Index := Scalar.indexCast v174
  let c384 : Index := 384#32
  ![0, v175.toNat, 384]
def k0_off11 (k0_t4 : Fin k0_t4_loop.trips) : Fin 3 → Nat :=
  let c1 : Index := 1#32
  let c0_i32_25 : BitVec 32 := 0#32
  let c1_i32_27 : BitVec 32 := 1#32
  let arg9 : BitVec 32 := Scf.iv c0_i32_25 c1_i32_27 k0_t4
  let c128_i32 : BitVec 32 := 128#32
  let v173 : BitVec 32 := Scalar.muli arg9 c128_i32
  let v174 : BitVec 32 := v173
  let v191 : Index := Scalar.indexCast v174
  let c384_63 : Index := 384#32
  ![1, v191.toNat, 384]
def k0_off12 (k0_t4 : Fin k0_t4_loop.trips) : Fin 2 → Nat :=
  let c0_i32_25 : BitVec 32 := 0#32
  let c1_i32_27 : BitVec 32 := 1#32
  let arg9 : BitVec 32 := Scf.iv c0_i32_25 c1_i32_27 k0_t4
  let c128_i32 : BitVec 32 := 128#32
  let v173 : BitVec 32 := Scalar.muli arg9 c128_i32
  let v174 : BitVec 32 := v173
  let v233 : Index := Scalar.indexCast v174
  let c384_74 : Index := 384#32
  ![v233.toNat, 384]
@[reducible] def k0_t5_loop : Scf.Loop 32 :=
  let c0_i32_29 : BitVec 32 := 0#32
  let c4_i32_30 : BitVec 32 := 4#32
  let v81 : BitVec 32 := Scalar.addi c0_i32_29 c4_i32_30
  let c1_i32_31 : BitVec 32 := 1#32
  ⟨c0_i32_29, v81, c1_i32_31⟩
def k0_mult5 (k0_t5 : Fin k0_t5_loop.trips) : BitVec 32 :=
  let c0_i32_29 : BitVec 32 := 0#32
  let c1_i32_31 : BitVec 32 := 1#32
  let arg9 : BitVec 32 := Scf.iv c0_i32_29 c1_i32_31 k0_t5
  let c128_i32 : BitVec 32 := 128#32
  let v173 : BitVec 32 := Scalar.muli arg9 c128_i32
  v173
def k0_off13 (k0_t5 : Fin k0_t5_loop.trips) : Fin 3 → Nat :=
  let c0_61 : Index := 0#32
  let c0_i32_29 : BitVec 32 := 0#32
  let c1_i32_31 : BitVec 32 := 1#32
  let arg9 : BitVec 32 := Scf.iv c0_i32_29 c1_i32_31 k0_t5
  let c128_i32 : BitVec 32 := 128#32
  let v173 : BitVec 32 := Scalar.muli arg9 c128_i32
  let v174 : BitVec 32 := v173
  let v175 : Index := Scalar.indexCast v174
  let c512 : Index := 512#32
  ![0, v175.toNat, 512]
def k0_off14 (k0_t5 : Fin k0_t5_loop.trips) : Fin 3 → Nat :=
  let c1 : Index := 1#32
  let c0_i32_29 : BitVec 32 := 0#32
  let c1_i32_31 : BitVec 32 := 1#32
  let arg9 : BitVec 32 := Scf.iv c0_i32_29 c1_i32_31 k0_t5
  let c128_i32 : BitVec 32 := 128#32
  let v173 : BitVec 32 := Scalar.muli arg9 c128_i32
  let v174 : BitVec 32 := v173
  let v191 : Index := Scalar.indexCast v174
  let c512_63 : Index := 512#32
  ![1, v191.toNat, 512]
def k0_off15 (k0_t5 : Fin k0_t5_loop.trips) : Fin 2 → Nat :=
  let c0_i32_29 : BitVec 32 := 0#32
  let c1_i32_31 : BitVec 32 := 1#32
  let arg9 : BitVec 32 := Scf.iv c0_i32_29 c1_i32_31 k0_t5
  let c128_i32 : BitVec 32 := 128#32
  let v173 : BitVec 32 := Scalar.muli arg9 c128_i32
  let v174 : BitVec 32 := v173
  let v233 : Index := Scalar.indexCast v174
  let c512_74 : Index := 512#32
  ![v233.toNat, 512]
@[reducible] def k0_t6_loop : Scf.Loop 32 :=
  let c0_i32_33 : BitVec 32 := 0#32
  let c4_i32_34 : BitVec 32 := 4#32
  let v94 : BitVec 32 := Scalar.addi c0_i32_33 c4_i32_34
  let c1_i32_35 : BitVec 32 := 1#32
  ⟨c0_i32_33, v94, c1_i32_35⟩
def k0_mult6 (k0_t6 : Fin k0_t6_loop.trips) : BitVec 32 :=
  let c0_i32_33 : BitVec 32 := 0#32
  let c1_i32_35 : BitVec 32 := 1#32
  let arg9 : BitVec 32 := Scf.iv c0_i32_33 c1_i32_35 k0_t6
  let c128_i32 : BitVec 32 := 128#32
  let v173 : BitVec 32 := Scalar.muli arg9 c128_i32
  v173
def k0_off16 (k0_t6 : Fin k0_t6_loop.trips) : Fin 3 → Nat :=
  let c0_61 : Index := 0#32
  let c0_i32_33 : BitVec 32 := 0#32
  let c1_i32_35 : BitVec 32 := 1#32
  let arg9 : BitVec 32 := Scf.iv c0_i32_33 c1_i32_35 k0_t6
  let c128_i32 : BitVec 32 := 128#32
  let v173 : BitVec 32 := Scalar.muli arg9 c128_i32
  let v174 : BitVec 32 := v173
  let v175 : Index := Scalar.indexCast v174
  let c640 : Index := 640#32
  ![0, v175.toNat, 640]
def k0_off17 (k0_t6 : Fin k0_t6_loop.trips) : Fin 3 → Nat :=
  let c1 : Index := 1#32
  let c0_i32_33 : BitVec 32 := 0#32
  let c1_i32_35 : BitVec 32 := 1#32
  let arg9 : BitVec 32 := Scf.iv c0_i32_33 c1_i32_35 k0_t6
  let c128_i32 : BitVec 32 := 128#32
  let v173 : BitVec 32 := Scalar.muli arg9 c128_i32
  let v174 : BitVec 32 := v173
  let v191 : Index := Scalar.indexCast v174
  let c640_63 : Index := 640#32
  ![1, v191.toNat, 640]
def k0_off18 (k0_t6 : Fin k0_t6_loop.trips) : Fin 2 → Nat :=
  let c0_i32_33 : BitVec 32 := 0#32
  let c1_i32_35 : BitVec 32 := 1#32
  let arg9 : BitVec 32 := Scf.iv c0_i32_33 c1_i32_35 k0_t6
  let c128_i32 : BitVec 32 := 128#32
  let v173 : BitVec 32 := Scalar.muli arg9 c128_i32
  let v174 : BitVec 32 := v173
  let v233 : Index := Scalar.indexCast v174
  let c640_74 : Index := 640#32
  ![v233.toNat, 640]
@[reducible] def k0_t7_loop : Scf.Loop 32 :=
  let c0_i32_37 : BitVec 32 := 0#32
  let c4_i32_38 : BitVec 32 := 4#32
  let v107 : BitVec 32 := Scalar.addi c0_i32_37 c4_i32_38
  let c1_i32_39 : BitVec 32 := 1#32
  ⟨c0_i32_37, v107, c1_i32_39⟩
def k0_mult7 (k0_t7 : Fin k0_t7_loop.trips) : BitVec 32 :=
  let c0_i32_37 : BitVec 32 := 0#32
  let c1_i32_39 : BitVec 32 := 1#32
  let arg9 : BitVec 32 := Scf.iv c0_i32_37 c1_i32_39 k0_t7
  let c128_i32 : BitVec 32 := 128#32
  let v173 : BitVec 32 := Scalar.muli arg9 c128_i32
  v173
def k0_off19 (k0_t7 : Fin k0_t7_loop.trips) : Fin 3 → Nat :=
  let c0_61 : Index := 0#32
  let c0_i32_37 : BitVec 32 := 0#32
  let c1_i32_39 : BitVec 32 := 1#32
  let arg9 : BitVec 32 := Scf.iv c0_i32_37 c1_i32_39 k0_t7
  let c128_i32 : BitVec 32 := 128#32
  let v173 : BitVec 32 := Scalar.muli arg9 c128_i32
  let v174 : BitVec 32 := v173
  let v175 : Index := Scalar.indexCast v174
  let c768 : Index := 768#32
  ![0, v175.toNat, 768]
def k0_off20 (k0_t7 : Fin k0_t7_loop.trips) : Fin 3 → Nat :=
  let c1 : Index := 1#32
  let c0_i32_37 : BitVec 32 := 0#32
  let c1_i32_39 : BitVec 32 := 1#32
  let arg9 : BitVec 32 := Scf.iv c0_i32_37 c1_i32_39 k0_t7
  let c128_i32 : BitVec 32 := 128#32
  let v173 : BitVec 32 := Scalar.muli arg9 c128_i32
  let v174 : BitVec 32 := v173
  let v191 : Index := Scalar.indexCast v174
  let c768_63 : Index := 768#32
  ![1, v191.toNat, 768]
def k0_off21 (k0_t7 : Fin k0_t7_loop.trips) : Fin 2 → Nat :=
  let c0_i32_37 : BitVec 32 := 0#32
  let c1_i32_39 : BitVec 32 := 1#32
  let arg9 : BitVec 32 := Scf.iv c0_i32_37 c1_i32_39 k0_t7
  let c128_i32 : BitVec 32 := 128#32
  let v173 : BitVec 32 := Scalar.muli arg9 c128_i32
  let v174 : BitVec 32 := v173
  let v233 : Index := Scalar.indexCast v174
  let c768_74 : Index := 768#32
  ![v233.toNat, 768]
@[reducible] def k0_t8_loop : Scf.Loop 32 :=
  let c0_i32_41 : BitVec 32 := 0#32
  let c4_i32_42 : BitVec 32 := 4#32
  let v120 : BitVec 32 := Scalar.addi c0_i32_41 c4_i32_42
  let c1_i32_43 : BitVec 32 := 1#32
  ⟨c0_i32_41, v120, c1_i32_43⟩
def k0_mult8 (k0_t8 : Fin k0_t8_loop.trips) : BitVec 32 :=
  let c0_i32_41 : BitVec 32 := 0#32
  let c1_i32_43 : BitVec 32 := 1#32
  let arg9 : BitVec 32 := Scf.iv c0_i32_41 c1_i32_43 k0_t8
  let c128_i32 : BitVec 32 := 128#32
  let v173 : BitVec 32 := Scalar.muli arg9 c128_i32
  v173
def k0_off22 (k0_t8 : Fin k0_t8_loop.trips) : Fin 3 → Nat :=
  let c0_61 : Index := 0#32
  let c0_i32_41 : BitVec 32 := 0#32
  let c1_i32_43 : BitVec 32 := 1#32
  let arg9 : BitVec 32 := Scf.iv c0_i32_41 c1_i32_43 k0_t8
  let c128_i32 : BitVec 32 := 128#32
  let v173 : BitVec 32 := Scalar.muli arg9 c128_i32
  let v174 : BitVec 32 := v173
  let v175 : Index := Scalar.indexCast v174
  let c896 : Index := 896#32
  ![0, v175.toNat, 896]
def k0_off23 (k0_t8 : Fin k0_t8_loop.trips) : Fin 3 → Nat :=
  let c1 : Index := 1#32
  let c0_i32_41 : BitVec 32 := 0#32
  let c1_i32_43 : BitVec 32 := 1#32
  let arg9 : BitVec 32 := Scf.iv c0_i32_41 c1_i32_43 k0_t8
  let c128_i32 : BitVec 32 := 128#32
  let v173 : BitVec 32 := Scalar.muli arg9 c128_i32
  let v174 : BitVec 32 := v173
  let v191 : Index := Scalar.indexCast v174
  let c896_63 : Index := 896#32
  ![1, v191.toNat, 896]
def k0_off24 (k0_t8 : Fin k0_t8_loop.trips) : Fin 2 → Nat :=
  let c0_i32_41 : BitVec 32 := 0#32
  let c1_i32_43 : BitVec 32 := 1#32
  let arg9 : BitVec 32 := Scf.iv c0_i32_41 c1_i32_43 k0_t8
  let c128_i32 : BitVec 32 := 128#32
  let v173 : BitVec 32 := Scalar.muli arg9 c128_i32
  let v174 : BitVec 32 := v173
  let v233 : Index := Scalar.indexCast v174
  let c896_74 : Index := 896#32
  ![v233.toNat, 896]
@[reducible] def k0_t9_loop : Scf.Loop 32 :=
  let c0_i32_45 : BitVec 32 := 0#32
  let c4_i32_46 : BitVec 32 := 4#32
  let v133 : BitVec 32 := Scalar.addi c0_i32_45 c4_i32_46
  let c1_i32_47 : BitVec 32 := 1#32
  ⟨c0_i32_45, v133, c1_i32_47⟩
def k0_mult9 (k0_t9 : Fin k0_t9_loop.trips) : BitVec 32 :=
  let c0_i32_45 : BitVec 32 := 0#32
  let c1_i32_47 : BitVec 32 := 1#32
  let arg9 : BitVec 32 := Scf.iv c0_i32_45 c1_i32_47 k0_t9
  let c128_i32 : BitVec 32 := 128#32
  let v173 : BitVec 32 := Scalar.muli arg9 c128_i32
  v173
def k0_off25 (k0_t9 : Fin k0_t9_loop.trips) : Fin 3 → Nat :=
  let c0_61 : Index := 0#32
  let c0_i32_45 : BitVec 32 := 0#32
  let c1_i32_47 : BitVec 32 := 1#32
  let arg9 : BitVec 32 := Scf.iv c0_i32_45 c1_i32_47 k0_t9
  let c128_i32 : BitVec 32 := 128#32
  let v173 : BitVec 32 := Scalar.muli arg9 c128_i32
  let v174 : BitVec 32 := v173
  let v175 : Index := Scalar.indexCast v174
  let c1024 : Index := 1024#32
  ![0, v175.toNat, 1024]
def k0_off26 (k0_t9 : Fin k0_t9_loop.trips) : Fin 3 → Nat :=
  let c1 : Index := 1#32
  let c0_i32_45 : BitVec 32 := 0#32
  let c1_i32_47 : BitVec 32 := 1#32
  let arg9 : BitVec 32 := Scf.iv c0_i32_45 c1_i32_47 k0_t9
  let c128_i32 : BitVec 32 := 128#32
  let v173 : BitVec 32 := Scalar.muli arg9 c128_i32
  let v174 : BitVec 32 := v173
  let v191 : Index := Scalar.indexCast v174
  let c1024_63 : Index := 1024#32
  ![1, v191.toNat, 1024]
def k0_off27 (k0_t9 : Fin k0_t9_loop.trips) : Fin 2 → Nat :=
  let c0_i32_45 : BitVec 32 := 0#32
  let c1_i32_47 : BitVec 32 := 1#32
  let arg9 : BitVec 32 := Scf.iv c0_i32_45 c1_i32_47 k0_t9
  let c128_i32 : BitVec 32 := 128#32
  let v173 : BitVec 32 := Scalar.muli arg9 c128_i32
  let v174 : BitVec 32 := v173
  let v233 : Index := Scalar.indexCast v174
  let c1024_74 : Index := 1024#32
  ![v233.toNat, 1024]
@[reducible] def k0_t10_loop : Scf.Loop 32 :=
  let c0_i32_49 : BitVec 32 := 0#32
  let c4_i32_50 : BitVec 32 := 4#32
  let v146 : BitVec 32 := Scalar.addi c0_i32_49 c4_i32_50
  let c1_i32_51 : BitVec 32 := 1#32
  ⟨c0_i32_49, v146, c1_i32_51⟩
def k0_mult10 (k0_t10 : Fin k0_t10_loop.trips) : BitVec 32 :=
  let c0_i32_49 : BitVec 32 := 0#32
  let c1_i32_51 : BitVec 32 := 1#32
  let arg9 : BitVec 32 := Scf.iv c0_i32_49 c1_i32_51 k0_t10
  let c128_i32 : BitVec 32 := 128#32
  let v173 : BitVec 32 := Scalar.muli arg9 c128_i32
  v173
def k0_off28 (k0_t10 : Fin k0_t10_loop.trips) : Fin 3 → Nat :=
  let c0_61 : Index := 0#32
  let c0_i32_49 : BitVec 32 := 0#32
  let c1_i32_51 : BitVec 32 := 1#32
  let arg9 : BitVec 32 := Scf.iv c0_i32_49 c1_i32_51 k0_t10
  let c128_i32 : BitVec 32 := 128#32
  let v173 : BitVec 32 := Scalar.muli arg9 c128_i32
  let v174 : BitVec 32 := v173
  let v175 : Index := Scalar.indexCast v174
  let c1152 : Index := 1152#32
  ![0, v175.toNat, 1152]
def k0_off29 (k0_t10 : Fin k0_t10_loop.trips) : Fin 3 → Nat :=
  let c1 : Index := 1#32
  let c0_i32_49 : BitVec 32 := 0#32
  let c1_i32_51 : BitVec 32 := 1#32
  let arg9 : BitVec 32 := Scf.iv c0_i32_49 c1_i32_51 k0_t10
  let c128_i32 : BitVec 32 := 128#32
  let v173 : BitVec 32 := Scalar.muli arg9 c128_i32
  let v174 : BitVec 32 := v173
  let v191 : Index := Scalar.indexCast v174
  let c1152_63 : Index := 1152#32
  ![1, v191.toNat, 1152]
def k0_off30 (k0_t10 : Fin k0_t10_loop.trips) : Fin 2 → Nat :=
  let c0_i32_49 : BitVec 32 := 0#32
  let c1_i32_51 : BitVec 32 := 1#32
  let arg9 : BitVec 32 := Scf.iv c0_i32_49 c1_i32_51 k0_t10
  let c128_i32 : BitVec 32 := 128#32
  let v173 : BitVec 32 := Scalar.muli arg9 c128_i32
  let v174 : BitVec 32 := v173
  let v233 : Index := Scalar.indexCast v174
  let c1152_74 : Index := 1152#32
  ![v233.toNat, 1152]
@[reducible] def k0_t11_loop : Scf.Loop 32 :=
  let c0_i32_53 : BitVec 32 := 0#32
  let c4_i32_54 : BitVec 32 := 4#32
  let v159 : BitVec 32 := Scalar.addi c0_i32_53 c4_i32_54
  let c1_i32_55 : BitVec 32 := 1#32
  ⟨c0_i32_53, v159, c1_i32_55⟩
def k0_mult11 (k0_t11 : Fin k0_t11_loop.trips) : BitVec 32 :=
  let c0_i32_53 : BitVec 32 := 0#32
  let c1_i32_55 : BitVec 32 := 1#32
  let arg9 : BitVec 32 := Scf.iv c0_i32_53 c1_i32_55 k0_t11
  let c128_i32 : BitVec 32 := 128#32
  let v173 : BitVec 32 := Scalar.muli arg9 c128_i32
  v173
def k0_off31 (k0_t11 : Fin k0_t11_loop.trips) : Fin 3 → Nat :=
  let c0_61 : Index := 0#32
  let c0_i32_53 : BitVec 32 := 0#32
  let c1_i32_55 : BitVec 32 := 1#32
  let arg9 : BitVec 32 := Scf.iv c0_i32_53 c1_i32_55 k0_t11
  let c128_i32 : BitVec 32 := 128#32
  let v173 : BitVec 32 := Scalar.muli arg9 c128_i32
  let v174 : BitVec 32 := v173
  let v175 : Index := Scalar.indexCast v174
  let c1280 : Index := 1280#32
  ![0, v175.toNat, 1280]
def k0_off32 (k0_t11 : Fin k0_t11_loop.trips) : Fin 3 → Nat :=
  let c1 : Index := 1#32
  let c0_i32_53 : BitVec 32 := 0#32
  let c1_i32_55 : BitVec 32 := 1#32
  let arg9 : BitVec 32 := Scf.iv c0_i32_53 c1_i32_55 k0_t11
  let c128_i32 : BitVec 32 := 128#32
  let v173 : BitVec 32 := Scalar.muli arg9 c128_i32
  let v174 : BitVec 32 := v173
  let v191 : Index := Scalar.indexCast v174
  let c1280_63 : Index := 1280#32
  ![1, v191.toNat, 1280]
def k0_off33 (k0_t11 : Fin k0_t11_loop.trips) : Fin 2 → Nat :=
  let c0_i32_53 : BitVec 32 := 0#32
  let c1_i32_55 : BitVec 32 := 1#32
  let arg9 : BitVec 32 := Scf.iv c0_i32_53 c1_i32_55 k0_t11
  let c128_i32 : BitVec 32 := 128#32
  let v173 : BitVec 32 := Scalar.muli arg9 c128_i32
  let v174 : BitVec 32 := v173
  let v233 : Index := Scalar.indexCast v174
  let c1280_74 : Index := 1280#32
  ![v233.toNat, 1280]
@[reducible] def k0_t12_loop : Scf.Loop 32 :=
  let c0_i32_57 : BitVec 32 := 0#32
  let c4_i32_58 : BitVec 32 := 4#32
  let v172 : BitVec 32 := Scalar.addi c0_i32_57 c4_i32_58
  let c1_i32_59 : BitVec 32 := 1#32
  ⟨c0_i32_57, v172, c1_i32_59⟩
def k0_mult12 (k0_t12 : Fin k0_t12_loop.trips) : BitVec 32 :=
  let c0_i32_57 : BitVec 32 := 0#32
  let c1_i32_59 : BitVec 32 := 1#32
  let arg9 : BitVec 32 := Scf.iv c0_i32_57 c1_i32_59 k0_t12
  let c128_i32 : BitVec 32 := 128#32
  let v173 : BitVec 32 := Scalar.muli arg9 c128_i32
  v173
def k0_off34 (k0_t12 : Fin k0_t12_loop.trips) : Fin 3 → Nat :=
  let c0_61 : Index := 0#32
  let c0_i32_57 : BitVec 32 := 0#32
  let c1_i32_59 : BitVec 32 := 1#32
  let arg9 : BitVec 32 := Scf.iv c0_i32_57 c1_i32_59 k0_t12
  let c128_i32 : BitVec 32 := 128#32
  let v173 : BitVec 32 := Scalar.muli arg9 c128_i32
  let v174 : BitVec 32 := v173
  let v175 : Index := Scalar.indexCast v174
  let c1408 : Index := 1408#32
  ![0, v175.toNat, 1408]
def k0_off35 (k0_t12 : Fin k0_t12_loop.trips) : Fin 3 → Nat :=
  let c1 : Index := 1#32
  let c0_i32_57 : BitVec 32 := 0#32
  let c1_i32_59 : BitVec 32 := 1#32
  let arg9 : BitVec 32 := Scf.iv c0_i32_57 c1_i32_59 k0_t12
  let c128_i32 : BitVec 32 := 128#32
  let v173 : BitVec 32 := Scalar.muli arg9 c128_i32
  let v174 : BitVec 32 := v173
  let v191 : Index := Scalar.indexCast v174
  let c1408_63 : Index := 1408#32
  ![1, v191.toNat, 1408]
def k0_off36 (k0_t12 : Fin k0_t12_loop.trips) : Fin 2 → Nat :=
  let c0_i32_57 : BitVec 32 := 0#32
  let c1_i32_59 : BitVec 32 := 1#32
  let arg9 : BitVec 32 := Scf.iv c0_i32_57 c1_i32_59 k0_t12
  let c128_i32 : BitVec 32 := 128#32
  let v173 : BitVec 32 := Scalar.muli arg9 c128_i32
  let v174 : BitVec 32 := v173
  let v233 : Index := Scalar.indexCast v174
  let c1408_74 : Index := 1408#32
  ![v233.toNat, 1408]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel22Ideal.lean ====
variable {F : FTy → Type} [FloatOps F] [Named F]
def κ : String → Option EReal := fun
  | "gelu_3c0c1" => some (((3 * (6693141 / 8388608)) * (12003091 / 268435456) : ℝ) : EReal)
  | "gelu_c0" => some ((6693141 / 8388608 : ℝ) : EReal)
  | "gelu_c0c1" => some (((6693141 / 8388608) * (12003091 / 268435456) : ℝ) : EReal)
  | _ => none
-- ==== Reference22Ideal.lean ====
abbrev S2x4096x3072 : Shape := ⟨3, ![2, 4096, 3072]⟩
abbrev S2x3x6144 : Shape := ⟨3, ![2, 3, 6144]⟩
abbrev S1x4096x3072 : Shape := ⟨3, ![1, 4096, 3072]⟩
abbrev S1x1x3072 : Shape := ⟨3, ![1, 1, 3072]⟩
abbrev S_ : Shape := ⟨0, ![]⟩
abbrev S1x4098x3072 : Shape := ⟨3, ![1, 4098, 3072]⟩
abbrev S4096x3072 : Shape := ⟨2, ![4096, 3072]⟩

abbrev nBuf : Space → Nat
  | .hbm => 93
  | .vmem => 0
  | .smem => 0
  | _ => 0

abbrev bufTy : (tb : Table) → Fin (tcTables nBuf tb) → BufTy
  | .hbm, ⟨0, _⟩ => ⟨S2x4096x3072, .bf16⟩
  | .hbm, ⟨1, _⟩ => ⟨S2x3x6144, .f32⟩
  | .hbm, ⟨2, _⟩ => ⟨S1x4096x3072, .bf16⟩
  | .hbm, ⟨3, _⟩ => ⟨S1x4096x3072, .f32⟩
  | .hbm, ⟨4, _⟩ => ⟨S1x1x3072, .f32⟩
  | .hbm, ⟨5, _⟩ => ⟨S1x1x3072, .f32⟩
  | .hbm, ⟨6, _⟩ => ⟨S1x1x3072, .f32⟩
  | .hbm, ⟨7, _⟩ => ⟨S_, .i32⟩
  | .hbm, ⟨8, _⟩ => ⟨S_, .f32⟩
  | .hbm, ⟨9, _⟩ => ⟨S1x4098x3072, .f32⟩
  | .hbm, ⟨10, _⟩ => ⟨S1x4096x3072, .f32⟩
  | .hbm, ⟨11, _⟩ => ⟨S1x4096x3072, .f32⟩
  | .hbm, ⟨12, _⟩ => ⟨S1x4096x3072, .f32⟩
  | .hbm, ⟨13, _⟩ => ⟨S1x4096x3072, .f32⟩
  | .hbm, ⟨14, _⟩ => ⟨S1x4096x3072, .f32⟩
  | .hbm, ⟨15, _⟩ => ⟨S1x4096x3072, .f32⟩
  | .hbm, ⟨16, _⟩ => ⟨S1x4096x3072, .f32⟩
  | .hbm, ⟨17, _⟩ => ⟨S1x4096x3072, .f32⟩
  | .hbm, ⟨18, _⟩ => ⟨S1x4096x3072, .f32⟩
  | .hbm, ⟨19, _⟩ => ⟨S1x4096x3072, .f32⟩
  | .hbm, ⟨20, _⟩ => ⟨S1x4096x3072, .f32⟩
  | .hbm, ⟨21, _⟩ => ⟨S1x4096x3072, .bf16⟩
  | .hbm, ⟨22, _⟩ => ⟨S1x4096x3072, .f32⟩
  | .hbm, ⟨23, _⟩ => ⟨S1x1x3072, .f32⟩
  | .hbm, ⟨24, _⟩ => ⟨S1x1x3072, .f32⟩
  | .hbm, ⟨25, _⟩ => ⟨S1x1x3072, .f32⟩
  | .hbm, ⟨26, _⟩ => ⟨S_, .i32⟩
  | .hbm, ⟨27, _⟩ => ⟨S_, .f32⟩
  | .hbm, ⟨28, _⟩ => ⟨S1x4098x3072, .f32⟩
  | .hbm, ⟨29, _⟩ => ⟨S1x4096x3072, .f32⟩
  | .hbm, ⟨30, _⟩ => ⟨S1x4096x3072, .f32⟩
  | .hbm, ⟨31, _⟩ => ⟨S1x4096x3072, .f32⟩
  | .hbm, ⟨32, _⟩ => ⟨S1x4096x3072, .f32⟩
  | .hbm, ⟨33, _⟩ => ⟨S1x4096x3072, .f32⟩
  | .hbm, ⟨34, _⟩ => ⟨S1x4096x3072, .f32⟩
  | .hbm, ⟨35, _⟩ => ⟨S1x4096x3072, .f32⟩
  | .hbm, ⟨36, _⟩ => ⟨S1x4096x3072, .f32⟩
  | .hbm, ⟨37, _⟩ => ⟨S1x4096x3072, .f32⟩
  | .hbm, ⟨38, _⟩ => ⟨S1x4096x3072, .f32⟩
  | .hbm, ⟨39, _⟩ => ⟨S1x4096x3072, .f32⟩
  | .hbm, ⟨40, _⟩ => ⟨S_, .f32⟩
  | .hbm, ⟨41, _⟩ => ⟨S1x4096x3072, .f32⟩
  | .hbm, ⟨42, _⟩ => ⟨S1x4096x3072, .f32⟩
  | .hbm, ⟨43, _⟩ => ⟨S1x4096x3072, .f32⟩
  | .hbm, ⟨44, _⟩ => ⟨S1x4096x3072, .f32⟩
  | .hbm, ⟨45, _⟩ => ⟨S_, .f32⟩
  | .hbm, ⟨46, _⟩ => ⟨S1x4096x3072, .f32⟩
  | .hbm, ⟨47, _⟩ => ⟨S1x4096x3072, .f32⟩
  | .hbm, ⟨48, _⟩ => ⟨S1x4096x3072, .f32⟩
  | .hbm, ⟨49, _⟩ => ⟨S_, .f32⟩
  | .hbm, ⟨50, _⟩ => ⟨S1x4096x3072, .f32⟩
  | .hbm, ⟨51, _⟩ => ⟨S1x4096x3072, .f32⟩
  | .hbm, ⟨52, _⟩ => ⟨S_, .f32⟩
  | .hbm, ⟨53, _⟩ => ⟨S1x4096x3072, .f32⟩
  | .hbm, ⟨54, _⟩ => ⟨S1x4096x3072, .f32⟩
  | .hbm, ⟨55, _⟩ => ⟨S1x4096x3072, .f32⟩
  | .hbm, ⟨56, _⟩ => ⟨S1x4096x3072, .f32⟩
  | .hbm, ⟨57, _⟩ => ⟨S_, .f32⟩
  | .hbm, ⟨58, _⟩ => ⟨S1x4096x3072, .f32⟩
  | .hbm, ⟨59, _⟩ => ⟨S1x4096x3072, .f32⟩
  | .hbm, ⟨60, _⟩ => ⟨S_, .f32⟩
  | .hbm, ⟨61, _⟩ => ⟨S1x4096x3072, .f32⟩
  | .hbm, ⟨62, _⟩ => ⟨S1x4096x3072, .f32⟩
  | .hbm, ⟨63, _⟩ => ⟨S1x4096x3072, .f32⟩
  | .hbm, ⟨64, _⟩ => ⟨S_, .f32⟩
  | .hbm, ⟨65, _⟩ => ⟨S1x4096x3072, .f32⟩
  | .hbm, ⟨66, _⟩ => ⟨S1x4096x3072, .f32⟩
  | .hbm, ⟨67, _⟩ => ⟨S_, .f32⟩
  | .hbm, ⟨68, _⟩ => ⟨S1x4096x3072, .f32⟩
  | .hbm, ⟨69, _⟩ => ⟨S1x4096x3072, .f32⟩
  | .hbm, ⟨70, _⟩ => ⟨S1x4096x3072, .f32⟩
  | .hbm, ⟨71, _⟩ => ⟨S1x4096x3072, .f32⟩
  | .hbm, ⟨72, _⟩ => ⟨S_, .f32⟩
  | .hbm, ⟨73, _⟩ => ⟨S1x4096x3072, .f32⟩
  | .hbm, ⟨74, _⟩ => ⟨S1x4096x3072, .f32⟩
  | .hbm, ⟨75, _⟩ => ⟨S_, .f32⟩
  | .hbm, ⟨76, _⟩ => ⟨S1x4096x3072, .f32⟩
  | .hbm, ⟨77, _⟩ => ⟨S1x4096x3072, .f32⟩
  | .hbm, ⟨78, _⟩ => ⟨S_, .f32⟩
  | .hbm, ⟨79, _⟩ => ⟨S1x4096x3072, .f32⟩
  | .hbm, ⟨80, _⟩ => ⟨S1x4096x3072, .f32⟩
  | .hbm, ⟨81, _⟩ => ⟨S1x4096x3072, .f32⟩
  | .hbm, ⟨82, _⟩ => ⟨S1x4096x3072, .f32⟩
  | .hbm, ⟨83, _⟩ => ⟨S1x4096x3072, .f32⟩
  | .hbm, ⟨84, _⟩ => ⟨S1x4096x3072, .f32⟩
  | .hbm, ⟨85, _⟩ => ⟨S1x4096x3072, .f32⟩
  | .hbm, ⟨86, _⟩ => ⟨S1x4096x3072, .bf16⟩
  | .hbm, ⟨87, _⟩ => ⟨S4096x3072, .bf16⟩
  | .hbm, ⟨88, _⟩ => ⟨S1x4096x3072, .f32⟩
  | .hbm, ⟨89, _⟩ => ⟨S1x4096x3072, .bf16⟩
  | .hbm, ⟨90, _⟩ => ⟨S4096x3072, .bf16⟩
  | .hbm, ⟨91, _⟩ => ⟨S1x4096x3072, .bf16⟩
  | .hbm, ⟨92, _⟩ => ⟨S4096x3072, .bf16⟩
  | _, _ => ⟨S2x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_call1_v0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_1 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== Kernel23.lean ====
abbrev S4096x3584 : Shape := ⟨2, ![4096, 3584]⟩
abbrev S2x4x1024 : Shape := ⟨3, ![2, 4, 1024]⟩
abbrev S2x1024 : Shape := ⟨2, ![2, 1024]⟩
abbrev S2x3x512 : Shape := ⟨3, ![2, 3, 512]⟩
abbrev S2x16x64x64 : Shape := ⟨4, ![2, 16, 64, 64]⟩
abbrev S2x1x1024 : Shape := ⟨3, ![2, 1, 1024]⟩
abbrev S_ : Shape := ⟨0, ![]⟩
abbrev S2x3x1024 : Shape := ⟨3, ![2, 3, 1024]⟩
abbrev S2x5x1024 : Shape := ⟨3, ![2, 5, 1024]⟩
abbrev S2x16x1024 : Shape := ⟨3, ![2, 16, 1024]⟩
abbrev S2x4x4x64x64 : Shape := ⟨5, ![2, 4, 4, 64, 64]⟩
abbrev S4x4 : Shape := ⟨2, ![4, 4]⟩
abbrev S1x1x4x1x4x1 : Shape := ⟨6, ![1, 1, 4, 1, 4, 1]⟩
abbrev S2x4x4x64x1x64 : Shape := ⟨6, ![2, 4, 4, 64, 1, 64]⟩
abbrev S2x4x4x64x4x64 : Shape := ⟨6, ![2, 4, 4, 64, 4, 64]⟩
abbrev S2x4x256x256 : Shape := ⟨4, ![2, 4, 256, 256]⟩
abbrev S2x8x256x256 : Shape := ⟨4, ![2, 8, 256, 256]⟩
abbrev S4096x1536 : Shape := ⟨2, ![4096, 1536]⟩
abbrev S4096x1024 : Shape := ⟨2, ![4096, 1024]⟩
abbrev S256x3584 : Shape := ⟨2, ![256, 3584]⟩
abbrev S1x16x1024 : Shape := ⟨3, ![1, 16, 1024]⟩
abbrev S1x8x256x256 : Shape := ⟨4, ![1, 8, 256, 256]⟩
abbrev S256x1536 : Shape := ⟨2, ![256, 1536]⟩
abbrev S256x1024 : Shape := ⟨2, ![256, 1024]⟩
abbrev S8x1024 : Shape := ⟨2, ![8, 1024]⟩
abbrev S8x512 : Shape := ⟨2, ![8, 512]⟩
abbrev S16x1024 : Shape := ⟨2, ![16, 1024]⟩
abbrev S4x1024 : Shape := ⟨2, ![4, 1024]⟩
abbrev S264x1024 : Shape := ⟨2, ![264, 1024]⟩
abbrev S1x1024 : Shape := ⟨2, ![1, 1024]⟩
abbrev S256x256 : Shape := ⟨2, ![256, 256]⟩
abbrev S1x1x256x256 : Shape := ⟨4, ![1, 1, 256, 256]⟩
abbrev S1x256 : Shape := ⟨2, ![1, 256]⟩
abbrev S3x512 : Shape := ⟨2, ![3, 512]⟩
abbrev S256x512 : Shape := ⟨2, ![256, 512]⟩
abbrev S264x512 : Shape := ⟨2, ![264, 512]⟩
abbrev S1x512 : Shape := ⟨2, ![1, 512]⟩

abbrev nBuf : Space → Nat
  | .hbm => 52
  | .vmem => 14
  | .smem => 0
  | _ => 0

abbrev bufTy : (tb : Table) → Fin (tcTables nBuf tb) → BufTy
  | .hbm, ⟨0, _⟩ => ⟨S4096x3584, .bf16⟩
  | .hbm, ⟨1, _⟩ => ⟨S2x4x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x3x512, .f32⟩
  | .hbm, ⟨7, _⟩ => ⟨S2x16x64x64, .f32⟩
  | .hbm, ⟨8, _⟩ => ⟨S2x16x64x64, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x4x1024, .f32⟩
  | .hbm, ⟨14, _⟩ => ⟨S_, .i32⟩
  | .hbm, ⟨15, _⟩ => ⟨S_, .f32⟩
  | .hbm, ⟨16, _⟩ => ⟨S2x3x1024, .f32⟩
  | .hbm, ⟨17, _⟩ => ⟨S_, .f32⟩
  | .hbm, ⟨18, _⟩ => ⟨S2x5x1024, .f32⟩
  | .hbm, ⟨19, _⟩ => ⟨S2x16x1024, .f32⟩
  | .hbm, ⟨20, _⟩ => ⟨S2x4x4x64x64, .f32⟩
  | .hbm, ⟨21, _⟩ => ⟨S4x4, .i32⟩
  | .hbm, ⟨22, _⟩ => ⟨S4x4, .i32⟩
  | .hbm, ⟨23, _⟩ => ⟨S_, .i32⟩
  | .hbm, ⟨24, _⟩ => ⟨S4x4, .i32⟩
  | .hbm, ⟨25, _⟩ => ⟨S4x4, .i32⟩
  | .hbm, ⟨26, _⟩ => ⟨S4x4, .i1⟩
  | .hbm, ⟨27, _⟩ => ⟨S4x4, .f32⟩
  | .hbm, ⟨28, _⟩ => ⟨S1x1x4x1x4x1, .f32⟩
  | .hbm, ⟨29, _⟩ => ⟨S2x4x4x64x1x64, .f32⟩
  | .hbm, ⟨30, _⟩ => ⟨S2x4x4x64x4x64, .f32⟩
  | .hbm, ⟨31, _⟩ => ⟨S2x4x4x64x4x64, .f32⟩
  | .hbm, ⟨32, _⟩ => ⟨S2x4x4x64x4x64, .f32⟩
  | .hbm, ⟨33, _⟩ => ⟨S2x4x256x256, .f32⟩
  | .hbm, ⟨34, _⟩ => ⟨S2x4x4x64x64, .f32⟩
  | .hbm, ⟨35, _⟩ => ⟨S4x4, .i32⟩
  | .hbm, ⟨36, _⟩ => ⟨S4x4, .i32⟩
  | .hbm, ⟨37, _⟩ => ⟨S_, .i32⟩
  | .hbm, ⟨38, _⟩ => ⟨S4x4, .i32⟩
  | .hbm, ⟨39, _⟩ => ⟨S4x4, .i32⟩
  | .hbm, ⟨40, _⟩ => ⟨S4x4, .i1⟩
  | .hbm, ⟨41, _⟩ => ⟨S4x4, .f32⟩
  | .hbm, ⟨42, _⟩ => ⟨S1x1x4x1x4x1, .f32⟩
  | .hbm, ⟨43, _⟩ => ⟨S2x4x4x64x1x64, .f32⟩
  | .hbm, ⟨44, _⟩ => ⟨S2x4x4x64x4x64, .f32⟩
  | .hbm, ⟨45, _⟩ => ⟨S2x4x4x64x4x64, .f32⟩
  | .hbm, ⟨46, _⟩ => ⟨S2x4x4x64x4x64, .f32⟩
  | .hbm, ⟨47, _⟩ => ⟨S2x4x256x256, .f32⟩
  | .hbm, ⟨48, _⟩ => ⟨S2x8x256x256, .f32⟩
  | .hbm, ⟨49, _⟩ => ⟨S2x8x256x256, .bf16⟩
  | .hbm, ⟨50, _⟩ => ⟨S4096x1536, .bf16⟩
  | .hbm, ⟨51, _⟩ => ⟨S4096x1024, .f32⟩
  | .local _ .vmem, ⟨0, _⟩ => ⟨S256x3584, .bf16⟩
  | .local _ .vmem, ⟨1, _⟩ => ⟨S256x3584, .bf16⟩
  | .local _ .vmem, ⟨2, _⟩ => ⟨S1x16x1024, .f32⟩
  | .local _ .vmem, ⟨3, _⟩ => ⟨S1x8x256x256, .bf16⟩
  | .local _ .vmem, ⟨4, _⟩ => ⟨S256x1536, .bf16⟩
  | .local _ .vmem, ⟨5, _⟩ => ⟨S256x1536, .bf16⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S8x512, .f32⟩
  | .local _ .vmem, ⟨10, _⟩ => ⟨S8x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_65 : BitVec 32 := 0#32
  let c16_i32 : BitVec 32 := 16#32
  let v150 : BitVec 32 := Scalar.addi c0_i32_65 c16_i32
  let c1_i32_66 : BitVec 32 := 1#32
  ⟨c0_i32_65, v150, c1_i32_66⟩
def k0_mult1 (k0_t1 : Fin k0_t1_loop.trips) : BitVec 32 :=
  let c0_i32_65 : BitVec 32 := 0#32
  let c1_i32_66 : BitVec 32 := 1#32
  let arg12 : BitVec 32 := Scf.iv c0_i32_65 c1_i32_66 k0_t1
  let c16_i32_80 : BitVec 32 := 16#32
  let v188 : BitVec 32 := Scalar.muli arg12 c16_i32_80
  v188
def k0_off1 (k0_t1 : Fin k0_t1_loop.trips) : Fin 2 → Nat :=
  let c0_i32_65 : BitVec 32 := 0#32
  let c1_i32_66 : BitVec 32 := 1#32
  let arg12 : BitVec 32 := Scf.iv c0_i32_65 c1_i32_66 k0_t1
  let c16_i32_80 : BitVec 32 := 16#32
  let v188 : BitVec 32 := Scalar.muli arg12 c16_i32_80
  let v189 : BitVec 32 := v188
  let v190 : Index := Scalar.indexCast v189
  let c1024_81 : Index := 1024#32
  ![v190.toNat, 1024]
def k0_mult2 (k0_t1 : Fin k0_t1_loop.trips) : BitVec 32 :=
  let c0_i32_65 : BitVec 32 := 0#32
  let c1_i32_66 : BitVec 32 := 1#32
  let arg12 : BitVec 32 := Scf.iv c0_i32_65 c1_i32_66 k0_t1
  let c16_i32_80 : BitVec 32 := 16#32
  let v188 : BitVec 32 := Scalar.muli arg12 c16_i32_80
  let v189 : BitVec 32 := v188
  let c0_i32_82 : BitVec 32 := 0#32
  let v193 : BitVec 32 := Scalar.addi v189 c0_i32_82
  v193
def k0_off2 (k0_t1 : Fin k0_t1_loop.trips) (c0_i32_82 : BitVec 32) : Fin 2 → Nat :=
  let c0_i32_65 : BitVec 32 := 0#32
  let c1_i32_66 : BitVec 32 := 1#32
  let arg12 : BitVec 32 := Scf.iv c0_i32_65 c1_i32_66 k0_t1
  let c16_i32_80 : BitVec 32 := 16#32
  let v188 : BitVec 32 := Scalar.muli arg12 c16_i32_80
  let v189 : BitVec 32 := v188
  let v193 : BitVec 32 := Scalar.addi v189 c0_i32_82
  let v194 : BitVec 32 := v193
  let v195 : Index := Scalar.indexCast v194
  let c0_83 : Index := 0#32
  ![v195.toNat, 0]
def k0_mult3 (k0_t1 : Fin k0_t1_loop.trips) : BitVec 32 :=
  let c0_i32_65 : BitVec 32 := 0#32
  let c1_i32_66 : BitVec 32 := 1#32
  let arg12 : BitVec 32 := Scf.iv c0_i32_65 c1_i32_66 k0_t1
  let c16_i32_80 : BitVec 32 := 16#32
  let v188 : BitVec 32 := Scalar.muli arg12 c16_i32_80
  let v189 : BitVec 32 := v188
  let c8_i32 : BitVec 32 := 8#32
  let v298 : BitVec 32 := Scalar.addi v189 c8_i32
  v298
def k0_off3 (k0_t1 : Fin k0_t1_loop.trips) : Fin 2 → Nat :=
  let c0_i32_65 : BitVec 32 := 0#32
  let c1_i32_66 : BitVec 32 := 1#32
  let arg12 : BitVec 32 := Scf.iv c0_i32_65 c1_i32_66 k0_t1
  let c16_i32_80 : BitVec 32 := 16#32
  let v188 : BitVec 32 := Scalar.muli arg12 c16_i32_80
  let v189 : BitVec 32 := v188
  let v405 : Index := Scalar.indexCast v189
  let c0_158 : Index := 0#32
  ![v405.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel23Ideal.lean ====
variable {F : FTy → Type} [FloatOps F] [Named F]
def κ : String → Option EReal := fun
  | "gelu_3c0c1" => some (((3 * (6693141 / 8388608)) * (12003091 / 268435456) : ℝ) : EReal)
  | "gelu_c0" => some ((6693141 / 8388608 : ℝ) : EReal)
  | "gelu_c0c1" => some (((6693141 / 8388608) * (12003091 / 268435456) : ℝ) : EReal)
  | _ => none
-- ==== Reference23Ideal.lean ====
abbrev S4096x3584 : Shape := ⟨2, ![4096, 3584]⟩
abbrev S2x4x1024 : Shape := ⟨3, ![2, 4, 1024]⟩
abbrev S2x1024 : Shape := ⟨2, ![2, 1024]⟩
abbrev S2x3x512 : Shape := ⟨3, ![2, 3, 512]⟩
abbrev S2x16x64x64 : Shape := ⟨4, ![2, 16, 64, 64]⟩
abbrev S_ : Shape := ⟨0, ![]⟩
abbrev S4096x1024 : Shape := ⟨2, ![4096, 1024]⟩
abbrev S1x3x512 : Shape := ⟨3, ![1, 3, 512]⟩
abbrev S3x512 : Shape := ⟨2, ![3, 512]⟩
abbrev S4096x512 : Shape := ⟨2, ![4096, 512]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩
abbrev S4096x1536 : Shape := ⟨2, ![4096, 1536]⟩

abbrev nBuf : Space → Nat
  | .hbm => 64
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S2x4x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x3x512, .f32⟩
  | .hbm, ⟨7, _⟩ => ⟨S2x16x64x64, .f32⟩
  | .hbm, ⟨8, _⟩ => ⟨S2x16x64x64, .f32⟩
  | .hbm, ⟨9, _⟩ => ⟨S_, .f32⟩
  | .hbm, ⟨10, _⟩ => ⟨S4096x1024, .f32⟩
  | .hbm, ⟨11, _⟩ => ⟨S4096x3584, .f32⟩
  | .hbm, ⟨12, _⟩ => ⟨S1x3x512, .f32⟩
  | .hbm, ⟨13, _⟩ => ⟨S3x512, .f32⟩
  | .hbm, ⟨14, _⟩ => ⟨S4096x1024, .f32⟩
  | .hbm, ⟨15, _⟩ => ⟨S4096x1024, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x512, .f32⟩
  | .hbm, ⟨38, _⟩ => ⟨S_, .f32⟩
  | .hbm, ⟨39, _⟩ => ⟨S2x512, .f32⟩
  | .hbm, ⟨40, _⟩ => ⟨S4098x512, .f32⟩
  | .hbm, ⟨41, _⟩ => ⟨S4096x512, .f32⟩
  | .hbm, ⟨42, _⟩ => ⟨S1x512, .f32⟩
  | .hbm, ⟨43, _⟩ => ⟨S512, .f32⟩
  | .hbm, ⟨44, _⟩ => ⟨S1x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S1x512, .f32⟩
  | .hbm, ⟨49, _⟩ => ⟨S512, .f32⟩
  | .hbm, ⟨50, _⟩ => ⟨S1x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S1x512, .f32⟩
  | .hbm, ⟨56, _⟩ => ⟨S512, .f32⟩
  | .hbm, ⟨57, _⟩ => ⟨S1x512, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x1536, .f32⟩
  | .hbm, ⟨63, _⟩ => ⟨S4096x1536, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Proof.NormMath.lean ====
/-
  The algebra of the RMS norm's gradient over the extended reals: the kernel's one-line form of the gradient of
  `x · rsqrt(mean(x²) + ε)` and the product-rule form that differentiation gives are the same value, whatever the inputs.
-/
module

public import Idealize.ShloMosaic.Lib.Pointwise
public import Idealize.ShloMosaic.PureOps.Ideal.Laws

@[expose] public section

noncomputable section

namespace Cert.Proof.NormMath

open Idealize.ShloMosaic

/-- The mean's divisor, the norm's `ε` and the factor `-1/2` of the derivative of `rsqrt`, as the programs' words denote them. -/
abbrev c1024 : EReal := Ideal.ofBits .f32 0x44800000#32
abbrev cEps : EReal := Ideal.ofBits .f32 0x358637BD#32
abbrev cNegHalf : EReal := Ideal.ofBits .f32 0xBF000000#32

theorem c1024_eq : c1024 = ((1024 : ℝ) : EReal) := by
  simp [c1024, Ideal.ofBits, Ideal.ieee, -EReal.coe_mul]; norm_num

theorem cNegHalf_eq : cNegHalf = ((-(1 / 2) : ℝ) : EReal) := by
  simp [cNegHalf, Ideal.ofBits, Ideal.ieee, -EReal.coe_mul]; norm_num

/-- `ε` is a positive real. -/
theorem cEps_pos : ∃ e : ℝ, 0 < e ∧ cEps = (e : EReal) := by
  refine ⟨8796093 * (2 : ℝ) ^ (-43 : ℤ), by positivity, ?_⟩
  simp [cEps, Ideal.ofBits, Ideal.ieee]

/-- Division by the mean's divisor is multiplication by the real `1/1024`. -/
theorem div_c1024 (a : EReal) : Ideal.div a c1024 = a * ((1 / 1024 : ℝ) : EReal) := by
  rw [c1024_eq, Ideal.div, if_neg (by norm_num), ← EReal.coe_inv]; norm_num

/-- The sum of reals, read as an extended real, is the sum of the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, ← ih, EReal.coe_add]

/-- A nonnegative real factor moves into a sum of extended reals. -/
theorem sum_mul_coe {ι : Type*} (s : Finset ι) {r : ℝ} (hr : 0 ≤ r) (f : ι → EReal) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- An extended real added to itself is its double. -/
theorem add_self (a : EReal) : a + a = a * ((2 : ℝ) : EReal) := by
  induction a with
  | bot => rw [EReal.bot_mul_coe_of_pos (by norm_num)]; rfl
  | top => rw [EReal.top_mul_coe_of_pos (by norm_num)]; rfl
  | coe a => rw [← EReal.coe_add, ← EReal.coe_mul]; congr 1; ring

/-- The gradient of a row's norm, one lane: with `c` the cotangent's product with the weights, lane by lane, the kernel's
    form `res + r · (c − x̂ · mean(c · x̂))` is the product rule's
    `res + c · r + x · T + T · x`, `T = mean-part`, at all extended reals. -/
theorem dnorm_eq (x c : Fin 1024 → EReal) (res : EReal) (j : Fin 1024) (v r : EReal)
    (hv : v = Ideal.div (∑ k, x k * x k) c1024 + cEps) (hr : r = Ideal.rsqrt v) :
    res + r * (c j - x j * r * Ideal.div (∑ k, c k * (x k * r)) c1024)
      = res + c j * r
        + x j * Ideal.div ((∑ k, x k * c k) * (cNegHalf * Ideal.div r v)) c1024
        + Ideal.div ((∑ k, x k * c k) * (cNegHalf * Ideal.div r v)) c1024 * x j := by
  obtain ⟨e, he, hce⟩ := cEps_pos
  have hsq : ∀ k, 0 ≤ x k * x k := fun k => by
    rcases le_total 0 (x k) with h | h
    · exact mul_nonneg h h
    · exact EReal.mul_nonneg_iff.mpr (.inr ⟨h, h⟩)
  rw [div_c1024, hce] at hv
  rw [div_c1024, div_c1024]
  by_cases htop : ∑ k, x k * x k = ⊤
  · -- the row holds an infinity: the reciprocal root is zero, and only the residual is left
    have hvt : v = ⊤ := by
      rw [hv, htop, EReal.top_mul_coe_of_pos (by norm_num)]; rfl
    have hr0 : r = 0 := by rw [hr, hvt, Ideal.rsqrt_top]
    have hd : Ideal.div r v = 0 := by
      rw [hr0, hvt, Ideal.div, if_neg (by simp)]; simp
    rw [hd, hr0]; simp
  · -- every entry is finite
    have hx : ∀ k, ∃ y : ℝ, x k = (y : EReal) := fun k => by
      have hle : x k * x k ≤ ∑ k, x k * x k :=
        Finset.single_le_sum (f := fun k => x k * x k) (fun i _ => hsq i) (Finset.mem_univ k)
      have hne : x k * x k ≠ ⊤ := fun h => htop (top_le_iff.mp (h ▸ hle))
      induction hxk : x k with
      | bot => exact absurd (by rw [hxk]; rfl) hne
      | top => exact absurd (by rw [hxk]; rfl) hne
      | coe y => exact ⟨y, rfl⟩
    choose y hy using hx
    have hs : ∑ k, x k * x k = ((∑ k, y k * y k : ℝ) : EReal) := by
      rw [coe_sum]
      exact Finset.sum_congr rfl fun k _ => by rw [hy k, EReal.coe_mul]
    have hs0 : 0 ≤ ∑ k, y k * y k := Finset.sum_nonneg fun k _ => mul_self_nonneg _
    set s : ℝ := ∑ k, y k * y k
    have hvr : v = ((s * (1 / 1024) + e : ℝ) : EReal) := by rw [hv, hs]; push_cast; rfl
    set w : ℝ := s * (1 / 1024) + e
    have hw : 0 < w := by positivity
    have hrr : r = (((Real.sqrt w)⁻¹ : ℝ) : EReal) := by
      rw [hr, hvr, Ideal.rsqrt_coe, if_neg (not_lt.mpr hw.le), if_neg hw.ne']
    set q : ℝ := (Real.sqrt w)⁻¹
    have hq : 0 ≤ q := by positivity
    have hqw : q * w⁻¹ = q * (q * q) := by
      have : Real.sqrt w * Real.sqrt w = w := Real.mul_self_sqrt hw.le
      show q * w⁻¹ = q * ((Real.sqrt w)⁻¹ * (Real.sqrt w)⁻¹)
      have h2 : w⁻¹ = (Real.sqrt w)⁻¹ * (Real.sqrt w)⁻¹ := by rw [← mul_inv, this]
      rw [h2]
    have hd : Ideal.div r v = ((q * (q * q) : ℝ) : EReal) := by
      rw [hrr, hvr, Ideal.div, if_neg (by exact_mod_cast hw.ne'), ← EReal.coe_inv, ← EReal.coe_mul, hqw]
    have hS : ∑ k, c k * (x k * r) = (∑ k, x k * c k) * (q : EReal) := by
      rw [sum_mul_coe _ hq]
      exact Finset.sum_congr rfl fun k _ => by rw [hrr, mul_comm (x k) (c k), mul_assoc]
    rw [hS, hd, cNegHalf_eq, hrr, hy j]
    generalize ∑ k, x k * c k = S
    generalize c j = C
    generalize y j = u
    have e1 : (u : EReal) * (S * (((-(1 / 2) : ℝ) : EReal) * ((q * (q * q) : ℝ) : EReal)) * ((1 / 1024 : ℝ) : EReal))
        = S * ((u * (-(1 / 2)) * (q * (q * q)) * (1 / 1024) : ℝ) : EReal) := by
      push_cast; ac_rfl
    have e2 : S * (((-(1 / 2) : ℝ) : EReal) * ((q * (q * q) : ℝ) : EReal)) * ((1 / 1024 : ℝ) : EReal) * (u : EReal)
        = S * ((u * (-(1 / 2)) * (q * (q * q)) * (1 / 1024) : ℝ) : EReal) := by
      push_cast; ac_rfl
    have e3 : (q : EReal) * (C - (u : EReal) * (q : EReal) * (S * (q : EReal) * ((1 / 1024 : ℝ) : EReal)))
        = C * q + S * ((-(u * (q * (q * q)) * (1 / 1024)) : ℝ) : EReal) := by
      rw [sub_eq_add_neg, mul_comm (q : EReal),
        EReal.right_distrib_of_nonneg_of_ne_top (by exact_mod_cast hq) (EReal.coe_ne_top q)]
      congr 1
      rw [EReal.coe_neg, mul_neg, EReal.neg_mul]
      congr 1
      push_cast; ac_rfl
    have e4 : -(u * (q * (q * q)) * (1 / 1024)) = u * (-(1 / 2)) * (q * (q * q)) * (1 / 1024) * 2 := by ring
    rw [e1, e2, e3, e4, add_assoc, add_assoc, add_self, EReal.coe_mul _ 2, mul_assoc S]

end Cert.Proof.NormMath

end
-- ==== Proof.NormKernel.lean ====
/-
  What the input-gradient call of the feed-forward's first product leaves, element by element, at the extended reals:
  the gradient through the product and the RMS norm, its half-width copy, and the gradient of the norm's weights.
-/
module

public import proofs.«01_k».proof.Proof.Gen.Kernel2Ideal.Value
public import Idealize.ShloMosaic.Lib.Pipeline.ValueKit
public import Idealize.ShloMosaic.Lib.Pipeline.ReadBack
public import Idealize.ShloMosaic.Lib.WritesUnit
public import proofs.«01_k».proof.Proof.NormMath

@[expose] public section

set_option maxRecDepth 16384

noncomputable section

namespace Cert.Proof.NormKernel

open Cert.Kernel2Ideal Cert.Kernel2Ideal.Gen Idealize.ShloMosaic Idealize.ShloMosaic.TcCoe Idealize.SL.Sem
open Idealize.ShloMosaic.Pipeline (Dat)
open Cert.Proof.NormMath

/-- The gradient at the norm's output, token `s`, lane `j`: the cotangent's two planes times the transposed weights. -/
def dh (a0 : FVec Ideal S2x4096x3072 .bf16) (a1 : FVec Ideal S1024x6144 .bf16) (s : Fin 4096) (j : Fin 1024) : EReal :=
  (∑ k : Fin 3072, a0 (ix3 0 s k) * a1 (ix2 j ⟨k.val, by omega⟩))
    + ∑ k : Fin 3072, a0 (ix3 1 s k) * a1 (ix2 j ⟨3072 + k.val, by omega⟩)

/-- The reciprocal root mean square of token `s`. -/
def rr (a2 : FVec Ideal S4096x1024 .f32) (s : Fin 4096) : EReal :=
  Ideal.rsqrt (Ideal.div (∑ k : Fin 1024, a2 (ix2 s k) * a2 (ix2 s k)) c1024 + cEps)

/-- The input gradient at token `s`, lane `j`. -/
def dx (a0 : FVec Ideal S2x4096x3072 .bf16) (a1 : FVec Ideal S1024x6144 .bf16) (a2 : FVec Ideal S4096x1024 .f32)
    (a3 : FVec Ideal S1x1024 .f32) (a4 : FVec Ideal S4096x1024 .f32) (s : Fin 4096) (j : Fin 1024) : EReal :=
  a4 (ix2 s j) + rr a2 s * (dh a0 a1 s j * a3 (ix2 0 j)
    - a2 (ix2 s j) * rr a2 s
      * Ideal.div (∑ k : Fin 1024, dh a0 a1 s k * a3 (ix2 0 k) * (a2 (ix2 s k) * rr a2 s)) c1024)

/-- One token's part of the gradient of the norm's weight `j`. -/
def dgTerm (a0 : FVec Ideal S2x4096x3072 .bf16) (a1 : FVec Ideal S1024x6144 .bf16) (a2 : FVec Ideal S4096x1024 .f32)
    (s : Fin 4096) (j : Fin 1024) : EReal := dh a0 a1 s j * (a2 (ix2 s j) * rr a2 s)

variable (m : (ℓ : Loc nD τ sig) → Buf (Elt Ideal) ℓ)

/-- The windows' block indices: the token tile for the token arrays, the whole array for the weights. -/
theorem idx : ∀ t : Fin cfg0.N, win0_0.index t = ![0, t.val, 0] ∧ win0_1.index t = ![0, 0] ∧ win0_2.index t = ![t.val, 0]
    ∧ win0_3.index t = ![0, 0] ∧ win0_4.index t = ![t.val, 0] ∧ win0_5.index t = ![t.val, 0]
    ∧ win0_6.index t = ![t.val, 0] ∧ win0_7.index t = ![0, 0] :=
  (by decide +kernel : ∀ t : Fin grid0.N, _)

/-- Token `q` of tile `t`. -/
def tok (t : Fin cfg0.N) (q : Fin 512) : Fin 4096 := ⟨t.val * 512 + q.val, by
  have : t.val < 8 := lt_of_lt_of_eq t.isLt (show cfg0.N = 8 from N_0)
  omega⟩

/-- The cotangent at the norm's output, as the point's payload computes it. -/
theorem pay5_apply (c : Dev nD) (t : Fin cfg0.N) (q : Fin 512) (j : Fin 1024) :
    k0_pay5 (F := Ideal) (View.ld (iblk m c 0 t) (Rect.unit ![0, 0, 0] ![1, 512, 3072] inb_S2x512x3072_S1x512x3072_0_0_0))
        (View.ld (iblk m c 1 t) (Rect.unit ![0, 0] ![1024, 3072] inb_S1024x6144_S1024x3072_0_0))
        (View.ld (iblk m c 0 t) (Rect.unit ![1, 0, 0] ![1, 512, 3072] inb_S2x512x3072_S1x512x3072_1_0_0))
        (View.ld (iblk m c 1 t) (Rect.unit ![0, 3072] ![1024, 3072] inb_S1024x6144_S1024x3072_0_3072)) (ix2 q j)
      = dh (m ((c : Thread nD τ).loc main_arg0)) (m ((c : Thread nD τ).loc main_arg1)) (tok t q) j := by
  unfold dh
  pointwise [k0_pay5]
  blk_point [iblk, V, idx t, tok]

/-- The reciprocal root mean square, as the point's payload computes it. -/
theorem pay6_apply (c : Dev nD) (t : Fin cfg0.N) (q : Fin 512) :
    k0_pay6 (F := Ideal) (iblk m c 2 t) (ix2 q 0) = rr (m ((c : Thread nD τ).loc main_arg2)) (tok t q) := by
  unfold rr
  pointwise [k0_pay6]
  blk_point [iblk, V, idx t, tok]

theorem iblk2_apply (c : Dev nD) (t : Fin cfg0.N) (q : Fin 512) (j : Fin 1024) :
    iblk m c 2 t (ix2 q j) = m ((c : Thread nD τ).loc main_arg2) (ix2 (tok t q) j) := by
  blk_ext [iblk, V, idx t, tok]

theorem iblk3_apply (c : Dev nD) (t : Fin cfg0.N) (j : Fin 1024) :
    iblk m c 3 t (ix2 0 j) = m ((c : Thread nD τ).loc main_arg3) (ix2 0 j) := by
  blk_ext [iblk, V, idx t, tok]

theorem iblk4_apply (c : Dev nD) (t : Fin cfg0.N) (q : Fin 512) (j : Fin 1024) :
    iblk m c 4 t (ix2 q j) = m ((c : Thread nD τ).loc main_arg4) (ix2 (tok t q) j) := by
  blk_ext [iblk, V, idx t, tok]

/-- What a point stores of the input gradient. -/
theorem point5 (c : Dev nD) (t : Fin cfg0.N) (q : Fin 512) (j : Fin 1024) :
    k0_pay1 (F := Ideal) (k0_pay6 (iblk m c 2 t)) (k0_pay7 (iblk m c 2 t))
      (k0_pay8 (View.ld (iblk m c 0 t) (Rect.unit ![0, 0, 0] ![1, 512, 3072] inb_S2x512x3072_S1x512x3072_0_0_0))
        (View.ld (iblk m c 1 t) (Rect.unit ![0, 0] ![1024, 3072] inb_S1024x6144_S1024x3072_0_0))
        (View.ld (iblk m c 0 t) (Rect.unit ![1, 0, 0] ![1, 512, 3072] inb_S2x512x3072_S1x512x3072_1_0_0))
        (View.ld (iblk m c 1 t) (Rect.unit ![0, 3072] ![1024, 3072] inb_S1024x6144_S1024x3072_0_3072)) (iblk m c 3 t))
      (iblk m c 4 t)
      (k0_pay9 (View.ld (iblk m c 0 t) (Rect.unit ![0, 0, 0] ![1, 512, 3072] inb_S2x512x3072_S1x512x3072_0_0_0))
        (View.ld (iblk m c 1 t) (Rect.unit ![0, 0] ![1024, 3072] inb_S1024x6144_S1024x3072_0_0))
        (View.ld (iblk m c 0 t) (Rect.unit ![1, 0, 0] ![1, 512, 3072] inb_S2x512x3072_S1x512x3072_1_0_0))
        (View.ld (iblk m c 1 t) (Rect.unit ![0, 3072] ![1024, 3072] inb_S1024x6144_S1024x3072_0_3072)) (iblk m c 2 t)
        (iblk m c 3 t)) (ix2 q j)
      = dx (m ((c : Thread nD τ).loc main_arg0)) (m ((c : Thread nD τ).loc main_arg1))
        (m ((c : Thread nD τ).loc main_arg2)) (m ((c : Thread nD τ).loc main_arg3)) (m ((c : Thread nD τ).loc main_arg4))
        (tok t q) j := by
  unfold dx
  pointwise [k0_pay1, k0_pay7, k0_pay8, k0_pay9]
  simp only [pay5_apply, pay6_apply, iblk2_apply, iblk3_apply, iblk4_apply]

/-- One tile's part of the gradient of the norm's weights, in the array's first row. -/
def term7 (c : Dev nD) (t : Fin cfg0.N) (j : S8x1024.Idx) : EReal :=
  if (j 0).val = 0 then ∑ q : Fin 512, dgTerm (m ((c : Thread nD τ).loc main_arg0)) (m ((c : Thread nD τ).loc main_arg1))
    (m ((c : Thread nD τ).loc main_arg2)) (tok t q) (j 1) else 0

/-- What a point adds to the row of weight gradients. -/
theorem pay3_apply (c : Dev nD) (t : Fin cfg0.N) (x : FVec Ideal S1x1024 .f32) (j : Fin 1024) :
    k0_pay3 (F := Ideal) (k0_pay5 (View.ld (iblk m c 0 t) (Rect.unit ![0, 0, 0] ![1, 512, 3072] inb_S2x512x3072_S1x512x3072_0_0_0))
        (View.ld (iblk m c 1 t) (Rect.unit ![0, 0] ![1024, 3072] inb_S1024x6144_S1024x3072_0_0))
        (View.ld (iblk m c 0 t) (Rect.unit ![1, 0, 0] ![1, 512, 3072] inb_S2x512x3072_S1x512x3072_1_0_0))
        (View.ld (iblk m c 1 t) (Rect.unit ![0, 3072] ![1024, 3072] inb_S1024x6144_S1024x3072_0_3072)))
      (k0_pay7 (iblk m c 2 t)) x (ix2 0 j)
      = x (ix2 0 j) + ∑ q : Fin 512, dgTerm (m ((c : Thread nD τ).loc main_arg0)) (m ((c : Thread nD τ).loc main_arg1))
          (m ((c : Thread nD τ).loc main_arg2)) (tok t q) j := by
  unfold dgTerm
  pointwise [k0_pay3, k0_pay7]
  simp only [pay5_apply, pay6_apply, iblk2_apply]

theorem step7 (c : Dev nD) (t : Fin cfg0.N) (h0 : ¬t.val % 8 = 0) (j : S8x1024.Idx) :
    (outsAt0 m c t.val t.isLt).2.2 j
      = (outsAt0 m c (t.val - 1) (Nat.lt_of_le_of_lt (Nat.sub_le _ _) t.isLt)).2.2 j + term7 m c t j := by
  rw [outsAt0_B m c t h0]
  frame_out
  idx_vars j
  by_cases hj : j0.val = 0
  · have hj0 : j0 = 0 := Fin.ext hj
    subst hj0
    rw [View.read_writes_cons_unit_of_mem _ _ inb_S8x1024_S1x1024_0_0 _ _ _ (ix2 0 j1) rfl
      (fun a => by fin_cases a <;> simp)]
    refine (pay3_apply m c t _ j1).trans ?_
    unfold term7
    pointwise
  · rw [View.read_writes_cons_unit_of_not_mem _ _ inb_S8x1024_S1x1024_0_0 _ _ _ rfl 0 (.inr (by
      show 0 + 1 ≤ j0.val
      omega)), View.writes_nil, Memref.IsWhole.read_unread]
    unfold term7
    simp [hj]

theorem init7 (c : Dev nD) (t : Fin cfg0.N) (h0 : t.val % 8 = 0) (j : S8x1024.Idx) :
    (outsAt0 m c t.val t.isLt).2.2 j = 0 + term7 m c t j := by
  rw [outsAt0_A m c t h0]
  frame_out
  idx_vars j
  rw [View.readCov_fill _ _ _ _ _ (by decide)]
  by_cases hj : j0.val = 0
  · have hj0 : j0 = 0 := Fin.ext hj
    subst hj0
    have he : (ix2 0 j1 : S8x1024.Idx) = (Rect.unit (s := S8x1024) ![0, 0] ![1, 1024] inb_S8x1024_S1x1024_0_0).emb (ix2 0 j1) := by
      blk_ext
    rw [he, View.canon_cons_emb, ← he]
    refine (pay3_apply m c t _ j1).trans ?_
    unfold term7
    pointwise [k0_pay4]
  · rw [View.canon_cons_of_not_mem _ _ (by
      rw [Rect.mem_set_unit]
      intro h
      have h1 : j0.val < 0 + 1 := (h 0).2
      omega), View.canon_cons_unit_lit _ _ _ (by decide)]
    unfold term7
    pointwise [k0_pay4]
    simp [hj]

theorem final5 (c : Dev nD) : (dats m 0 c).arrAt 5 (cfgs 0).N
    = fun i => dx (m ((c : Thread nD τ).loc main_arg0)) (m ((c : Thread nD τ).loc main_arg1))
        (m ((c : Thread nD τ).loc main_arg2)) (m ((c : Thread nD τ).loc main_arg3)) (m ((c : Thread nD τ).loc main_arg4))
        (i 0) (i 1) := by
  refine (dats m 0 c).arrAt_eq_of_covers 5 _ (by decide +kernel) fun t _ y => ?_
  idx_vars y
  have he : ((cfg0.win 5).blk t).view.emb (ix2 y0 y1) = ix2 (tok t y0) y1 := by
    blk_ext [idx t, tok]
  rw [he]
  blk_simp
  rw [after0_5]
  by_cases h0 : t.val % 8 = 0
  · rw [outsAt0_A m c t h0]
    frame_out
    exact point5 m c t y0 y1
  · rw [outsAt0_B m c t h0]
    frame_out
    exact point5 m c t y0 y1

theorem final6 (c : Dev nD) : (dats m 0 c).arrAt 6 (cfgs 0).N
    = fun i => dx (m ((c : Thread nD τ).loc main_arg0)) (m ((c : Thread nD τ).loc main_arg1))
        (m ((c : Thread nD τ).loc main_arg2)) (m ((c : Thread nD τ).loc main_arg3)) (m ((c : Thread nD τ).loc main_arg4))
        (i 0) (i 1) := by
  refine (dats m 0 c).arrAt_eq_of_covers 6 _ (by decide +kernel) fun t _ y => ?_
  idx_vars y
  have he : ((cfg0.win 6).blk t).view.emb (ix2 y0 y1) = ix2 (tok t y0) y1 := by
    blk_ext [idx t, tok]
  rw [he]
  blk_simp
  rw [after0_6]
  by_cases h0 : t.val % 8 = 0
  · rw [outsAt0_A m c t h0]
    frame_out
    unfold k0_pay2
    pointwise
    exact point5 m c t y0 y1
  · rw [outsAt0_B m c t h0]
    frame_out
    unfold k0_pay2
    pointwise
    exact point5 m c t y0 y1

/-- The third result: its first row is the gradient of the norm's weights, summed over the 4096 tokens; its other rows are
    zero. -/
theorem final7 (c : Dev nD) : (dats m 0 c).arrAt 7 (cfgs 0).N
    = fun i => if (i 0).val = 0 then ∑ s : Fin 4096, dgTerm (m ((c : Thread nD τ).loc main_arg0))
        (m ((c : Thread nD τ).loc main_arg1)) (m ((c : Thread nD τ).loc main_arg2)) s (i 1) else 0 := by
  refine (dats m 0 c).arrAt_eq_of_after_last 7 t0_7 (by decide +kernel) _ fun j => ?_
  change S8x1024.Idx at j
  show (dats m 0 c).after 7 t0_7 j = if (j 0).val = 0 then ∑ s : Fin 4096, dgTerm (m ((c : Thread nD τ).loc main_arg0))
        (m ((c : Thread nD τ).loc main_arg1)) (m ((c : Thread nD τ).loc main_arg2)) s (j 1) else 0
  rw [after0_7]
  refine (Pipeline.eq_sum_fin_of_reset_step_apply_last (fun n h => (outsAt0 m c n h).2.2) 8 (fun _ => 0) (term7 m c)
    (init7 m c) (step7 m c) (le_of_eq N_0) t0_7 rfl j).trans ?_
  rw [zero_add]
  unfold term7
  by_cases hj : (j 0).val = 0
  · simp only [if_pos hj]
    have h := Fin.sum_mul_add_fin 8 512 (fun s : Fin 4096 => dgTerm (m ((c : Thread nD τ).loc main_arg0))
        (m ((c : Thread nD τ).loc main_arg1)) (m ((c : Thread nD τ).loc main_arg2)) s (j 1)) rfl
    exact h
  · simp only [if_neg hj, Finset.sum_const_zero]

end Cert.Proof.NormKernel

end
-- ==== Proof.NormRef.lean ====
/-
  What the plain gradient of the norm and the feed-forward's first product is, element by element, at the extended reals,
  in the terms that the kernel's results are stated in.
-/
module

public import proofs.«01_k».proof.Proof.Gen.Reference2Ideal.Read
public import Idealize.ShloMosaic.Lib.Pipeline.ValueKit
public import proofs.«01_k».proof.Proof.NormKernel

@[expose] public section

set_option maxRecDepth 16384

noncomputable section

namespace Cert.Proof.NormRef

open Idealize.ShloMosaic Cert.Reference2Ideal Cert.Reference2Ideal.Value Cert.Reference2Ideal.Read Cert.Proof.NormMath

variable (a0 : (⟨S2x4096x3072, .bf16⟩ : BufTy).Contents (Elt Ideal)) (a1 : (⟨S1024x6144, .bf16⟩ : BufTy).Contents (Elt Ideal))
  (a2 : (⟨S4096x1024, .f32⟩ : BufTy).Contents (Elt Ideal)) (a3 : (⟨S1x1024, .f32⟩ : BufTy).Contents (Elt Ideal))
  (a4 : (⟨S4096x1024, .f32⟩ : BufTy).Contents (Elt Ideal))

/-- The mean square plus epsilon of a row. -/
theorem v14_eq (s : Fin 4096) : val_main_v14 (F := Ideal) a2 (ix2 s 0)
    = Ideal.div (∑ k : Fin 1024, a2 (ix2 s k) * a2 (ix2 s k)) c1024 + cEps := by
  pointwise [val_main_v14, val_main_v13, val_main_v12, val_main_v11, val_main_v10, val_main_v9, val_main_v8, val_main_cst,
    val_main_cst_0, val_main_cst_1]

theorem v15_eq (s : Fin 4096) : val_main_v15 (F := Ideal) a2 (ix2 s 0) = NormKernel.rr a2 s := by
  unfold NormKernel.rr
  pointwise [val_main_v15]
  rw [v14_eq]

/-- The cotangent at the norm's output: one product over the two halves side by side is the sum of two. -/
theorem v25_eq (s : Fin 4096) (j : Fin 1024) : val_main_v25 (F := Ideal) a0 a1 (ix2 s j) = NormKernel.dh a0 a1 s j := by
  unfold NormKernel.dh
  pointwise [val_main_v25, val_main_v5, val_main_v7, val_main_v4, val_main_v3, val_main_v2, val_main_v1, val_main_v0]

theorem v30_eq (s : Fin 4096) (j : Fin 1024) :
    val_main_v30 (F := Ideal) a0 a1 a3 (ix2 s j) = NormKernel.dh a0 a1 s j * a3 (ix2 0 j) := by
  pointwise [val_main_v30, val_main_v29, val_main_v21, val_main_v6]
  rw [v25_eq]

theorem v42_eq (s : Fin 4096) (j : Fin 1024) : val_main_v42 (F := Ideal) a0 a1 a2 a3 (ix2 s j)
    = Ideal.div ((∑ k : Fin 1024, a2 (ix2 s k) * (NormKernel.dh a0 a1 s k * a3 (ix2 0 k)))
        * (cNegHalf * Ideal.div (NormKernel.rr a2 s) (Ideal.div (∑ k : Fin 1024, a2 (ix2 s k) * a2 (ix2 s k)) c1024 + cEps)))
        c1024 := by
  pointwise [val_main_v42, val_main_v41, val_main_v40, val_main_v39, val_main_v38, val_main_v34, val_main_v33, val_main_v32,
    val_main_v18, val_main_v17, val_main_v16, val_main_cst_2, val_main_cst_5, val_main_cst_6, val_main_cst_7]
  simp only [v30_eq, Finset.univ_unique, Finset.sum_singleton]
  rw [show (default : Fin 1) = 0 from rfl, v15_eq, v14_eq]

theorem v46_eq (s : Fin 4096) (j : Fin 1024) :
    val_main_v46 (F := Ideal) a0 a1 a2 a3 a4 (ix2 s j) = NormKernel.dx a0 a1 a2 a3 a4 s j := by
  unfold NormKernel.dx
  pointwise [val_main_v46, val_main_v45, val_main_v44, val_main_v43, val_main_v37, val_main_v36, val_main_v35]
  rw [v42_eq, v15_eq, v30_eq]
  exact (dnorm_eq (fun k => a2 (ix2 s k)) (fun k => NormKernel.dh a0 a1 s k * a3 (ix2 0 k)) _ j _ _ rfl rfl).symm

theorem v49_eq (i : S8x1024.Idx) : val_main_v49 (F := Ideal) a0 a1 a2 i
    = if (i 0).val = 0 then ∑ s : Fin 4096, NormKernel.dgTerm a0 a1 a2 s (i 1) else 0 := by
  idx_vars i
  unfold val_main_v49
  rw [pad_apply]
  by_cases h : i0.val = 0
  · rw [dif_pos (by
      intro a
      fin_cases a
      · simp [h]
      · simp [Nat.mod_one])]
    pointwise [val_main_v48, val_main_v31, val_main_v28, val_main_v27, val_main_v26, val_main_v20, val_main_v19, val_main_cst_3,
      val_main_cst_4]
    simp only [v15_eq, v25_eq]
    unfold NormKernel.dgTerm
    refine Eq.trans ?_ (if_pos h).symm
    simp only [Finset.univ_unique, Finset.sum_singleton]
    exact Finset.sum_congr rfl fun s _ => mul_comm _ _
  · rw [dif_neg (by
      intro hin
      have h1 : (i0.val - 0) / (0 + 1) < 1 := (hin 0).2.2
      omega)]
    pointwise [val_main_call0_v0, val_main_c]
    simp [h, FloatOps.sitofp]

end Cert.Proof.NormRef

end
-- ==== Proof.NormClaims.lean ====
/-
  The claims about the input-gradient call of the feed-forward's first product: the two programs' frames, the plain
  gradient's frame, and the equality of the three results at the extended reals.
-/
module

public import proofs.«01_k».proof.Defs
public import proofs.«01_k».proof.Proof.NormKernel
public import proofs.«01_k».proof.Proof.NormRef
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read

@[expose] public section

noncomputable section

namespace Cert.Proof.NormClaims

open Idealize.ShloMosaic Idealize.SL.Sem

/-- The plain gradient's run keeps its arguments and ends with every counter at zero. -/
theorem frame_ref : Cert.quiescent_Reference2Ideal := fun m ρ _ =>
  (θ_run Cert.Reference2Ideal.defs _ _).mono (fun r h => ⟨fun c => (h c).2.2.2,
      Idealize.ShloMosaic.sem_eq_zero_of_no_sems (by decide) r.2⟩) (Cert.Reference2Ideal.Value.run (F := Ideal) m ρ)

/-- The kernel and the plain gradient leave the same three arrays at the extended reals: the input gradient, its
    half-width copy, and the gradient of the norm's weights in the first of eight rows. -/
theorem algebraic : Cert.algebraic_Kernel2Ideal_Reference2Ideal := fun m ρ m' ρ' _ hm => by
  refine ⟨_, _, _, Cert.Kernel2Ideal.Value.run_blocks m ρ, (θ_run _ _ _).mono (fun r h c => ?_) (Cert.Reference2Ideal.Value.run m' ρ')⟩
  obtain ⟨h0, h1, h2, hargs⟩ := h c
  obtain ⟨e0, e1, e2, e3, e4⟩ := hm c
  refine ⟨h0.trans ?_, h1.trans ?_, h2.trans ?_, hargs⟩
  · rw [Cert.Reference2Ideal.Read.val_main_v46_eq, NormKernel.final5 m c, e0, e1, e2, e3, e4]
    funext i
    idx_vars i
    exact NormRef.v46_eq _ _ _ _ _ i0 i1
  · rw [Cert.Reference2Ideal.Read.val_main_v47_eq, NormKernel.final6 m c, e0, e1, e2, e3, e4]
    funext i
    idx_vars i
    exact NormRef.v46_eq _ _ _ _ _ i0 i1
  · rw [Cert.Reference2Ideal.Read.val_main_v49_eq, NormKernel.final7 m c, e0, e1, e2]
    funext i
    exact NormRef.v49_eq _ _ _ i

end Cert.Proof.NormClaims

end
-- ==== Proof.MixRunA.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.WordCmp

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The body's first condition: the first grid point. -/
abbrev cond0_0 (i : grid0.Coords) : Prop := (Scalar.cmpi .ne (Scalar.extui (Scalar.cmpi .eq (BitVec.ofNat 32 (i 0).val) 0#32)) 0#32) = 1#1
/-- The body's second condition: the last grid point. -/
abbrev cond0_1 (i : grid0.Coords) : Prop := (Scalar.cmpi .ne (Scalar.extui (Scalar.cmpi .eq (BitVec.ofNat 32 (i 0).val) 15#32)) 0#32) = 1#1

set_option maxHeartbeats 40000000 in
/-- Case A. -/
theorem run_A (c : Dev nD) (i : grid0.Coords) (arg1 : Memref sig .tc .vmem S256x3584 .bf16) (harg1 : arg1.IsWhole) (arg2 : Memref sig .tc .vmem S16x3584 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S256x1536 .bf16) (harg5 : arg5.IsWhole) (arg6 : Memref sig .tc .vmem S1x16x1024 .f32) (harg6 : arg6.IsWhole) (arg7 : Memref sig .tc .vmem S1x8x256x256 .bf16) (harg7 : arg7.IsWhole) (arg8 : Memref sig .tc .vmem S256x3584 .bf16) (harg8 : arg8.IsWhole) (arg9 : Memref sig .tc .vmem S16x1024 .f32) (harg9 : arg9.IsWhole) (arg10 : Memref sig .tc .vmem S8x256x256 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S264x1024 .f32) (harg16 : arg16.IsWhole) (arg17 : Memref sig .tc .vmem S264x1024 .f32) (harg17 : arg17.IsWhole) (arg18 : Memref sig .tc .vmem S3x8x1024 .f32) (harg18 : arg18.IsWhole) (arg19 : Memref sig .tc .vmem S8x1024 .f32) (harg19 : arg19.IsWhole) (arg20 : Memref sig .tc .vmem S8x1024 .f32) (harg20 : arg20.IsWhole) (arg21 : Memref sig .tc .vmem S8x512 .f32) (harg21 : arg21.IsWhole) (hc0 : cond0_0 i) (hc1 : ¬cond0_1 i) (x1 : Vec F S256x3584 .bf16) (x2 : Vec F S16x3584 .bf16) (x3 : Vec F S256x1024 .f32) (x4 : Vec F S8x1024 .f32) (x5 : Vec F S256x1536 .bf16) (x6 : Vec F S1x16x1024 .f32) (x7 : Vec F S1x8x256x256 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
      ⊢ wp frame (wpE (defs₀ (F := F)) Variants.none c none) E (cc0_bwd_mixer_1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_bwd_mixer_1_eq_skeleton]; unfold cc0_bwd_mixer_1_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  isplitl [H20]
  · iexists _; iexact H20
  iexists _; iexact H21

end Cert.KernelIdeal.Mix

end
-- ==== Proof.MixRunB.lean ====
module

public import proofs.«01_k».proof.Proof.Gen.KernelIdeal.Frame
public import proofs.«01_k».proof.Proof.Gen.KernelIdeal.Loops
public import proofs.«01_k».proof.Proof.MixRunA
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.WordCmp

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 40000000 in
/-- Case B. -/
theorem run_B (c : Dev nD) (i : grid0.Coords) (arg1 : Memref sig .tc .vmem S256x3584 .bf16) (harg1 : arg1.IsWhole) (arg2 : Memref sig .tc .vmem S16x3584 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S256x1536 .bf16) (harg5 : arg5.IsWhole) (arg6 : Memref sig .tc .vmem S1x16x1024 .f32) (harg6 : arg6.IsWhole) (arg7 : Memref sig .tc .vmem S1x8x256x256 .bf16) (harg7 : arg7.IsWhole) (arg8 : Memref sig .tc .vmem S256x3584 .bf16) (harg8 : arg8.IsWhole) (arg9 : Memref sig .tc .vmem S16x1024 .f32) (harg9 : arg9.IsWhole) (arg10 : Memref sig .tc .vmem S8x256x256 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S264x1024 .f32) (harg16 : arg16.IsWhole) (arg17 : Memref sig .tc .vmem S264x1024 .f32) (harg17 : arg17.IsWhole) (arg18 : Memref sig .tc .vmem S3x8x1024 .f32) (harg18 : arg18.IsWhole) (arg19 : Memref sig .tc .vmem S8x1024 .f32) (harg19 : arg19.IsWhole) (arg20 : Memref sig .tc .vmem S8x1024 .f32) (harg20 : arg20.IsWhole) (arg21 : Memref sig .tc .vmem S8x512 .f32) (harg21 : arg21.IsWhole) (hc0 : ¬cond0_0 i) (hc1 : ¬cond0_1 i) (x1 : Vec F S256x3584 .bf16) (x2 : Vec F S16x3584 .bf16) (x3 : Vec F S256x1024 .f32) (x4 : Vec F S8x1024 .f32) (x5 : Vec F S256x1536 .bf16) (x6 : Vec F S1x16x1024 .f32) (x7 : Vec F S1x8x256x256 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
      ⊢ wp frame (wpE (defs₀ (F := F)) Variants.none c none) E (cc0_bwd_mixer_1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_bwd_mixer_1_eq_skeleton]; unfold cc0_bwd_mixer_1_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  isplitl [H20]
  · iexists _; iexact H20
  iexists _; iexact H21

end Cert.KernelIdeal.Mix

end
-- ==== Proof.MixRunC.lean ====
module

public import proofs.«01_k».proof.Proof.Gen.KernelIdeal.Frame
public import proofs.«01_k».proof.Proof.Gen.KernelIdeal.Loops
public import proofs.«01_k».proof.Proof.MixRunB
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.WordCmp

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 40000000 in
/-- Case C. -/
theorem run_C (c : Dev nD) (i : grid0.Coords) (arg1 : Memref sig .tc .vmem S256x3584 .bf16) (harg1 : arg1.IsWhole) (arg2 : Memref sig .tc .vmem S16x3584 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S256x1536 .bf16) (harg5 : arg5.IsWhole) (arg6 : Memref sig .tc .vmem S1x16x1024 .f32) (harg6 : arg6.IsWhole) (arg7 : Memref sig .tc .vmem S1x8x256x256 .bf16) (harg7 : arg7.IsWhole) (arg8 : Memref sig .tc .vmem S256x3584 .bf16) (harg8 : arg8.IsWhole) (arg9 : Memref sig .tc .vmem S16x1024 .f32) (harg9 : arg9.IsWhole) (arg10 : Memref sig .tc .vmem S8x256x256 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S264x1024 .f32) (harg16 : arg16.IsWhole) (arg17 : Memref sig .tc .vmem S264x1024 .f32) (harg17 : arg17.IsWhole) (arg18 : Memref sig .tc .vmem S3x8x1024 .f32) (harg18 : arg18.IsWhole) (arg19 : Memref sig .tc .vmem S8x1024 .f32) (harg19 : arg19.IsWhole) (arg20 : Memref sig .tc .vmem S8x1024 .f32) (harg20 : arg20.IsWhole) (arg21 : Memref sig .tc .vmem S8x512 .f32) (harg21 : arg21.IsWhole) (hc0 : ¬cond0_0 i) (hc1 : cond0_1 i) (x1 : Vec F S256x3584 .bf16) (x2 : Vec F S16x3584 .bf16) (x3 : Vec F S256x1024 .f32) (x4 : Vec F S8x1024 .f32) (x5 : Vec F S256x1536 .bf16) (x6 : Vec F S1x16x1024 .f32) (x7 : Vec F S1x8x256x256 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
      ⊢ wp frame (wpE (defs₀ (F := F)) Variants.none c none) E (cc0_bwd_mixer_1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_bwd_mixer_1_eq_skeleton]; unfold cc0_bwd_mixer_1_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  isplitl [H20]
  · iexists _; iexact H20
  iexists _; iexact H21

end Cert.KernelIdeal.Mix

end
-- ==== Proof.MixFrame.lean ====
module

public import proofs.«01_k».proof.Proof.Gen.KernelIdeal.Frame
public import proofs.«01_k».proof.Proof.Gen.KernelIdeal.Loops
public import proofs.«01_k».proof.Proof.MixRunA
public import proofs.«01_k».proof.Proof.MixRunB
public import proofs.«01_k».proof.Proof.MixRunC
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.WordCmp

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first condition holds at the first grid point only. -/
theorem hcond0_0 : ∀ t : Fin cfg0.N, cond0_0 (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val = 0)

/-- The second condition holds at the last grid point only. -/
theorem hcond0_1 : ∀ t : Fin cfg0.N, cond0_1 (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    simp only [cond0_1, e0]
    word_cmp
   : ∀ t : Fin grid0.N, cond0_1 (grid0.coords t) ↔ t.val = 15)

/-- Window 0's current staging memref at point `t`. -/
abbrev ms0_0 (t : Fin cfg0.N) : Memref sig .tc .vmem S256x3584 .bf16 := win0_0.stage (cfg0.slots t 0)
/-- Window 1's current staging memref at point `t`. -/
abbrev ms0_1 (t : Fin cfg0.N) : Memref sig .tc .vmem S16x3584 .bf16 := win0_1.stage (cfg0.slots t 1)
/-- Window 2's current staging memref at point `t`. -/
abbrev ms0_2 (t : Fin cfg0.N) : Memref sig .tc .vmem S256x1024 .f32 := win0_2.stage (cfg0.slots t 2)
/-- Window 3's current staging memref at point `t`. -/
abbrev ms0_3 (t : Fin cfg0.N) : Memref sig .tc .vmem S8x1024 .f32 := win0_3.stage (cfg0.slots t 3)
/-- Window 4's current staging memref at point `t`. -/
abbrev ms0_4 (t : Fin cfg0.N) : Memref sig .tc .vmem S256x1536 .bf16 := win0_4.stage (cfg0.slots t 4)
/-- Window 5's current staging memref at point `t`. -/
abbrev ms0_5 (t : Fin cfg0.N) : Memref sig .tc .vmem S1x16x1024 .f32 := win0_5.stage (cfg0.slots t 5)
/-- Window 6's current staging memref at point `t`. -/
abbrev ms0_6 (t : Fin cfg0.N) : Memref sig .tc .vmem S1x8x256x256 .bf16 := win0_6.stage (cfg0.slots t 6)
/-- Window 7's current staging memref at point `t`. -/
abbrev ms0_7 (t : Fin cfg0.N) : Memref sig .tc .vmem S256x3584 .bf16 := win0_7.stage (cfg0.slots t 7)
/-- Window 8's current staging memref at point `t`. -/
abbrev ms0_8 (t : Fin cfg0.N) : Memref sig .tc .vmem S16x1024 .f32 := win0_8.stage (cfg0.slots t 8)
/-- Window 9's current staging memref at point `t`. -/
abbrev ms0_9 (t : Fin cfg0.N) : Memref sig .tc .vmem S8x256x256 .f32 := win0_9.stage (cfg0.slots t 9)

/-- The proof data: every input window holds its block, nothing is said of what the outputs hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Dat.unnamed (cfg := cfg0) 7 t
    | ⟨8, _⟩ => Dat.unnamed (cfg := cfg0) 8 t
    | ⟨9, _⟩ => Dat.unnamed (cfg := cfg0) 9 t
  Φ _ := Pipeline.ΦA spec0 c
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 := iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ X, owns (c : Thread nD τ) (ms0_7 t) fullShare X) ∗ (∃ X, owns (c : Thread nD τ) (ms0_8 t) fullShare X) ∗ (∃ X, owns (c : Thread nD τ) (ms0_9 t) fullShare X))
/-- and what it returns. -/
def bodyPost (c : Dev nD) (t : Fin cfg0.N) : sProp 𝕄 := iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ (∃ X, owns (c : Thread nD τ) (ms0_7 t) fullShare X) ∗ (∃ X, owns (c : Thread nD τ) (ms0_8 t) fullShare X) ∗ (∃ X, owns (c : Thread nD τ) (ms0_9 t) fullShare X))

/-- The windows of which nothing is said: the three outputs. -/
abbrev fgt (w : Fin cfg0.W) : Bool := decide (7 ≤ w.val)

set_option maxHeartbeats 4000000 in
/-- The body at any point, by the run of the case that the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, after0_0, after0_1, after0_2, after0_3, after0_4, after0_5, after0_6]
  unfold Pipeline.ΦA
  rw [scopedRest0_eq]
  by_cases h0 : t.val = 0
  · have R := fun K : PUnit → sProp 𝕄 => run_A (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) ((hcond0_0 t).mpr h0) (fun h => by have := (hcond0_1 t).mp h; omega) (iblk m c 0 t) (iblk m c 1 t) (iblk m c 2 t) (iblk m c 3 t) (iblk m c 4 t) (iblk m c 5 t) (iblk m c 6 t) Set.univ K
    simp only [Memref.view_whole, View.set_whole] at R
    iintro ⟨⟨⟨S0, S1, S2, S3, S4, S5, S6, S7, S8, S9, S10⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (R _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; icases H7 with ⟨%f7, -, H7⟩; iexists _; iexact H7
    isplitl [H8]
    · unfold owns; icases H8 with ⟨%f8, -, H8⟩; iexists _; iexact H8
    isplitl [H9]
    · unfold owns; icases H9 with ⟨%f9, -, H9⟩; iexists _; iexact H9
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iintro ⟨H0, H1, H2, H3, H4, H5, H6, ⟨%e7, H7⟩, ⟨%e8, H8⟩, ⟨%e9, H9⟩, S0, S1, S2, S3, S4, S5, S6, S7, S8, S9, S10⟩
    isplitl [S0 S1 S2 S3 S4 S5 S6 S7 S8 S9 S10 Hr]
    · isplitr [Hr]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        iexact S10
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; iexists _; isplitr
      swap; · iexact H7
      ipureintro; rfl
    isplitl [H8]
    · unfold owns; iexists _; iexists _; isplitr
      swap; · iexact H8
      ipureintro; rfl
    unfold owns; iexists _; iexists _; isplitr
    swap; · iexact H9
    ipureintro; rfl
  · by_cases h1 : t.val = 15
    · have R := fun K : PUnit → sProp 𝕄 => run_C (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) Set.univ K
      simp only [Memref.view_whole, View.set_whole] at R
      iintro ⟨⟨⟨S0, S1, S2, S3, S4, S5, S6, S7, S8, S9, S10⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (R _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; icases H7 with ⟨%f7, -, H7⟩; iexists _; iexact H7
      isplitl [H8]
      · unfold owns; icases H8 with ⟨%f8, -, H8⟩; iexists _; iexact H8
      isplitl [H9]
      · unfold owns; icases H9 with ⟨%f9, -, H9⟩; iexists _; iexact H9
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iintro ⟨H0, H1, H2, H3, H4, H5, H6, ⟨%e7, H7⟩, ⟨%e8, H8⟩, ⟨%e9, H9⟩, S0, S1, S2, S3, S4, S5, S6, S7, S8, S9, S10⟩
      isplitl [S0 S1 S2 S3 S4 S5 S6 S7 S8 S9 S10 Hr]
      · isplitr [Hr]
        · isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          iexact S10
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; iexists _; isplitr
        swap; · iexact H7
        ipureintro; rfl
      isplitl [H8]
      · unfold owns; iexists _; iexists _; isplitr
        swap; · iexact H8
        ipureintro; rfl
      unfold owns; iexists _; iexists _; isplitr
      swap; · iexact H9
      ipureintro; rfl
    · have R := fun K : PUnit → sProp 𝕄 => run_B (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) Set.univ K
      simp only [Memref.view_whole, View.set_whole] at R
      iintro ⟨⟨⟨S0, S1, S2, S3, S4, S5, S6, S7, S8, S9, S10⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (R _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; icases H7 with ⟨%f7, -, H7⟩; iexists _; iexact H7
      isplitl [H8]
      · unfold owns; icases H8 with ⟨%f8, -, H8⟩; iexists _; iexact H8
      isplitl [H9]
      · unfold owns; icases H9 with ⟨%f9, -, H9⟩; iexists _; iexact H9
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iintro ⟨H0, H1, H2, H3, H4, H5, H6, ⟨%e7, H7⟩, ⟨%e8, H8⟩, ⟨%e9, H9⟩, S0, S1, S2, S3, S4, S5, S6, S7, S8, S9, S10⟩
      isplitl [S0 S1 S2 S3 S4 S5 S6 S7 S8 S9 S10 Hr]
      · isplitr [Hr]
        · isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          iexact S10
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; iexists _; isplitr
        swap; · iexact H7
        ipureintro; rfl
      isplitl [H8]
      · unfold owns; iexists _; iexists _; isplitr
        swap; · iexact H8
        ipureintro; rfl
      unfold owns; iexists _; iexists _; isplitr
      swap; · iexact H9
      ipureintro; rfl

/-- The pipeline's body at point `t` is the printed body on its staging memrefs. -/
theorem defs₀_row (t : Fin cfg0.N) :
    defs₀ (F := F) .tc cfg0.body (cfg0.bodyArgs t (cfg0.slots t)) = bodyAt0 t := by
  unfold defs₀; rw [Defs.onTc_tc]

/-- The body obligation, the outputs' contents forgotten. -/
theorem body_obligation (c : Dev nD) :
    Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: every array ends at some contents that it may hold, every other buffer as the region found it, the counters at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => body_obligation m c) (hq := fun _ _ _ => rfl)
    (howed := fun _ _ => rfl) (V := V m) (hmain := hmain m Variants.none) (hA := A_eq m) (hΦ := fun _ _ => rfl)

/-- The frame: every execution ends, the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨(Pipeline.RDat.FramePost.arr_in h.1 c 1 rfl).trans ((A_eq m c 1).trans (V_main_arg0 m c)),
      (Pipeline.RDat.FramePost.arr_in h.1 c 3 rfl).trans ((A_eq m c 3).trans (V_main_arg1 m c)),
      (Pipeline.RDat.FramePost.arr_in h.1 c 4 rfl).trans ((A_eq m c 4).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (run_main_quiescent m ρ)

end Cert.KernelIdeal.Mix

end
-- ==== Proof.MixGate.lean ====
/-
  The gate's share of the mixer's gradient block: what one trip of the row loop stores, and what the loop as a whole
  leaves in the gate's columns, element by element, at the extended reals.
-/
module

public import proofs.«01_k».proof.Proof.Gen.KernelIdeal.Frame
public import proofs.«01_k».proof.Proof.Gen.KernelIdeal.Loops
public import Idealize.ShloMosaic.Lib.Pipeline.FrameBody
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof.MixGate

open Cert.KernelIdeal Cert.KernelIdeal.Gen Idealize.ShloMosaic Idealize.ShloMosaic.TcCoe Idealize.SL.Sem

/-- The three constants of the tanh form of gelu, as the kernel names them. -/
def c0 : EReal := (Named.named κ "gelu_c0" 0x3F4C422A#32 : Ideal .f32)
def c01 : EReal := (Named.named κ "gelu_c0c1" 0x3D122279#32 : Ideal .f32)
def c301 : EReal := (Named.named κ "gelu_3c0c1" 0x3DDB33B6#32 : Ideal .f32)
/-- One half and one, as the kernel writes them. -/
def cHalf : EReal := (Scalar.ofBits .f32 0x3F000000#32 : Ideal .f32)
def cOne : EReal := (Scalar.ofBits .f32 0x3F800000#32 : Ideal .f32)

/-- The tanh inside gelu at `z`. -/
def th (z : EReal) : EReal := Ideal.tanh (z * (c0 + c01 * (z * z)))

/-- The derivative of gelu at `z`. -/
def dgelu (z : EReal) : EReal :=
  (cHalf + cHalf * th z) + cHalf * z * (cOne - th z * th z) * (c0 + c301 * (z * z))

/-- The gate's gradient from the pre-activation `z`, the cotangent `d` and the state `h`. -/
def gate (z d h : EReal) : EReal := d * h * dgelu z

/-- A trip's upper eight rows. -/
theorem upper (z d : Vec Ideal S16x1024 .bf16) (h : Vec Ideal S16x1024 .f32) (p : Fin 8) (j : Fin 1024) :
    k0_pay27 (k0_pay15 h) (k0_pay24 (k0_pay20 (k0_pay5 z)) (k0_pay22 (k0_pay5 z)) (k0_pay23 (k0_pay5 z)))
        (k0_pay25 (k0_pay6 d)) (ix2 p j)
      = gate (z (ix2 ⟨8 + p.val, by omega⟩ j)) (d (ix2 ⟨8 + p.val, by omega⟩ j)) (h (ix2 ⟨8 + p.val, by omega⟩ j)) := by
  pointwise [k0_pay27, k0_pay15, k0_pay24, k0_pay20, k0_pay22, k0_pay23, k0_pay25, k0_pay6, k0_pay5, k0_pay17, k0_pay18,
    k0_pay19, gate, dgelu, th, c0, c01, c301, cHalf, cOne]

/-- A trip's lower eight rows. -/
theorem lower (z d : Vec Ideal S16x1024 .bf16) (h : Vec Ideal S16x1024 .f32) (p : Fin 8) (j : Fin 1024) :
    k0_pay64 (k0_pay44 h) (k0_pay53 (k0_pay49 (k0_pay5 z)) (k0_pay51 (k0_pay5 z)) (k0_pay52 (k0_pay5 z))
        (Named.named κ "gelu_c0" 0x3F4C422A#32)) (k0_pay54 (k0_pay6 d)) (ix2 p j)
      = gate (z (ix2 ⟨p.val, by omega⟩ j)) (d (ix2 ⟨p.val, by omega⟩ j)) (h (ix2 ⟨8 + p.val, by omega⟩ j)) := by
  pointwise [k0_pay64, k0_pay44, k0_pay53, k0_pay49, k0_pay51, k0_pay52, k0_pay54, k0_pay6, k0_pay5, k0_pay46, k0_pay47,
    k0_pay48, gate, dgelu, th, c0, c01, c301, cHalf, cOne]

/-- What one trip stores, from the rows of the gate's pre-activation, of the cotangent and of the two overlapping row
groups of the state. -/
def tripPay (z d : Vec Ideal S16x1024 .bf16) (h1 h0 : Vec Ideal S16x1024 .f32) : FVec Ideal S16x1024 .bf16 :=
  k0_pay118
    (k0_pay27 (k0_pay15 h1) (k0_pay24 (k0_pay20 (k0_pay5 z)) (k0_pay22 (k0_pay5 z)) (k0_pay23 (k0_pay5 z)))
      (k0_pay25 (k0_pay6 d)))
    (k0_pay64 (k0_pay44 h0) (k0_pay53 (k0_pay49 (k0_pay5 z)) (k0_pay51 (k0_pay5 z)) (k0_pay52 (k0_pay5 z))
      (Named.named κ "gelu_c0" 0x3F4C422A#32)) (k0_pay54 (k0_pay6 d)))

theorem tripPay_point (z d : Vec Ideal S16x1024 .bf16) (h1 h0 : Vec Ideal S16x1024 .f32) (p : Fin 16) (j : Fin 1024)
    (h : EReal) (hl : ∀ q : Fin 8, q.val = p.val → h0 (ix2 ⟨8 + q.val, by omega⟩ j) = h)
    (hu : ∀ q : Fin 8, 8 + q.val = p.val → h1 (ix2 ⟨8 + q.val, by omega⟩ j) = h) :
    tripPay z d h1 h0 (ix2 p j) = gate (z (ix2 p j)) (d (ix2 p j)) h := by
  unfold tripPay
  obtain ⟨p, hpl⟩ := p
  by_cases hp : p < 8
  · rw [← hl ⟨p, hp⟩ rfl]
    refine Eq.trans ?_ (lower z d h0 ⟨p, hp⟩ j)
    pointwise [k0_pay118]
    exact dif_pos hp
  · obtain ⟨q, rfl⟩ : ∃ q, p = 8 + q := ⟨p - 8, by omega⟩
    rw [← hu ⟨q, by omega⟩ rfl]
    refine Eq.trans ?_ (upper z d h1 ⟨q, by omega⟩ j)
    pointwise [k0_pay118]

/-- One trip's store into the gradient block: a single rectangle of sixteen rows. -/
theorem trip_list (𝒱 : Variants) (c : Dev nD) (bd : Option 𝒱.V) (i : grid0.Coords) (arg1 : Memref sig .tc .vmem S256x3584 .bf16) (harg1 : arg1.IsWhole) (arg2 : Memref sig .tc .vmem S16x3584 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S256x1536 .bf16) (harg5 : arg5.IsWhole) (arg6 : Memref sig .tc .vmem S1x16x1024 .f32) (harg6 : arg6.IsWhole) (arg7 : Memref sig .tc .vmem S1x8x256x256 .bf16) (harg7 : arg7.IsWhole) (arg8 : Memref sig .tc .vmem S256x3584 .bf16) (harg8 : arg8.IsWhole) (arg9 : Memref sig .tc .vmem S16x1024 .f32) (harg9 : arg9.IsWhole) (arg10 : Memref sig .tc .vmem S8x256x256 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S264x1024 .f32) (harg16 : arg16.IsWhole) (arg17 : Memref sig .tc .vmem S264x1024 .f32) (harg17 : arg17.IsWhole) (arg18 : Memref sig .tc .vmem S3x8x1024 .f32) (harg18 : arg18.IsWhole) (arg19 : Memref sig .tc .vmem S8x1024 .f32) (harg19 : arg19.IsWhole) (arg20 : Memref sig .tc .vmem S8x1024 .f32) (harg20 : arg20.IsWhole) (arg21 : Memref sig .tc .vmem S8x512 .f32) (harg21 : arg21.IsWhole) (v143 : FVec Ideal S1x1024 .f32) (v144 : FVec Ideal S1x1024 .f32) (v165 : IVec S8x1024 32) (X_arg1 : BufTy.Contents (Elt Ideal) arg1.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg17 : BufTy.Contents (Elt Ideal) arg17.view.ty) (k : Fin k0_t1_loop.trips) (acc : Vec Ideal S8x1024 .f32 × Vec Ideal S8x1024 .f32) (f_arg8 : BufTy.Contents (Elt Ideal) arg8.view.ty) (f_arg14 : BufTy.Contents (Elt Ideal) arg14.view.ty) (f_arg15 : BufTy.Contents (Elt Ideal) arg15.view.ty) (f_arg16 : BufTy.Contents (Elt Ideal) arg16.view.ty) (f_arg18 : BufTy.Contents (Elt Ideal) arg18.view.ty) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v143 v144 v165 X_arg1 X_arg5 X_arg11 X_arg12 X_arg13 X_arg17 k).2.1 acc f_arg8 f_arg14 f_arg15 f_arg16 f_arg18
      = [⟨Rect.unit (k0_off1 k) S16x1024.size (k0_off1_inb k),
          tripPay (arg1.view.readAt (Elt Ideal) (Rect.unit (s := S256x3584) (k0_off1 k) S16x1024.size (k0_off1_inb k)).toLoadRect X_arg1)
            (arg5.view.readAt (Elt Ideal) (Rect.unit (s := S256x1536) (k0_off2 k) S16x1024.size (k0_off2_inb k)).toLoadRect X_arg5)
            (arg17.view.readAt (Elt Ideal) (Rect.unit (s := S264x1024) (k0_off4 k 8#32) S16x1024.size (k0_off4_inb k 1)).toLoadRect X_arg17)
            (arg17.view.readAt (Elt Ideal) (Rect.unit (s := S264x1024) (k0_off4 k 0#32) S16x1024.size (k0_off4_inb k 0)).toLoadRect X_arg17)⟩] := by
  unfold trip_k0_t1
  rfl

/-- A load through a whole rectangle of unit strides reads the contents at the shifted index. -/
theorem load_at {r c r' c' : ℕ} {e : EltTy} (v : View sig .tc .vmem ⟨2, ![r, c]⟩ e) (f : v.ty.Contents (Elt Ideal))
    {off : Fin 2 → ℕ} (inb : ∀ a, off a + (⟨2, ![r', c']⟩ : Shape).size a ≤ (⟨2, ![r, c]⟩ : Shape).size a)
    (p : Fin r') (j : Fin c') (P : Fin r) (J : Fin c) (hP : off 0 + p.val = P.val) (hJ : off 1 + j.val = J.val) :
    v.readAt (Elt Ideal) (Rect.unit (s := ⟨2, ![r, c]⟩) off (⟨2, ![r', c']⟩ : Shape).size inb).toLoadRect f (ix2 p j)
      = v.read (Elt Ideal) f (ix2 P J) := by
  show v.read (Elt Ideal) f ((Rect.unit (s := ⟨2, ![r, c]⟩) off (⟨2, ![r', c']⟩ : Shape).size inb).emb (ix2 p j)) = _
  congr 1
  funext a
  apply Fin.ext
  fin_cases a
  · simpa using hP
  · simpa using hJ

theorem trips_eq : k0_t1_loop.trips = 16 := by decide +kernel

set_option maxHeartbeats 1000000 in
/-- The loop's state in the gate's columns: after `n` trips the last `16 n` rows hold the gate's gradient. -/
theorem st_gate {𝒱 : Variants} {c : Dev nD} {bd : Option 𝒱.V} {i : grid0.Coords} {arg1 : Memref sig .tc .vmem S256x3584 .bf16} {harg1 : arg1.IsWhole} {arg2 : Memref sig .tc .vmem S16x3584 .bf16} {harg2 : arg2.IsWhole} {arg3 : Memref sig .tc .vmem S256x1024 .f32} {harg3 : arg3.IsWhole} {arg4 : Memref sig .tc .vmem S8x1024 .f32} {harg4 : arg4.IsWhole} {arg5 : Memref sig .tc .vmem S256x1536 .bf16} {harg5 : arg5.IsWhole} {arg6 : Memref sig .tc .vmem S1x16x1024 .f32} {harg6 : arg6.IsWhole} {arg7 : Memref sig .tc .vmem S1x8x256x256 .bf16} {harg7 : arg7.IsWhole} {arg8 : Memref sig .tc .vmem S256x3584 .bf16} {harg8 : arg8.IsWhole} {arg9 : Memref sig .tc .vmem S16x1024 .f32} {harg9 : arg9.IsWhole} {arg10 : Memref sig .tc .vmem S8x256x256 .f32} {harg10 : arg10.IsWhole} {arg11 : Memref sig .tc .vmem S256x1024 .f32} {harg11 : arg11.IsWhole} {arg12 : Memref sig .tc .vmem S256x1024 .f32} {harg12 : arg12.IsWhole} {arg13 : Memref sig .tc .vmem S256x1024 .f32} {harg13 : arg13.IsWhole} {arg14 : Memref sig .tc .vmem S256x1024 .bf16} {harg14 : arg14.IsWhole} {arg15 : Memref sig .tc .vmem S256x1024 .bf16} {harg15 : arg15.IsWhole} {arg16 : Memref sig .tc .vmem S264x1024 .f32} {harg16 : arg16.IsWhole} {arg17 : Memref sig .tc .vmem S264x1024 .f32} {harg17 : arg17.IsWhole} {arg18 : Memref sig .tc .vmem S3x8x1024 .f32} {harg18 : arg18.IsWhole} {arg19 : Memref sig .tc .vmem S8x1024 .f32} {harg19 : arg19.IsWhole} {arg20 : Memref sig .tc .vmem S8x1024 .f32} {harg20 : arg20.IsWhole} {arg21 : Memref sig .tc .vmem S8x512 .f32} {harg21 : arg21.IsWhole} {v143 : FVec Ideal S1x1024 .f32} {v144 : FVec Ideal S1x1024 .f32} {v165 : IVec S8x1024 32} {X_arg1 : BufTy.Contents (Elt Ideal) arg1.view.ty} {X_arg5 : BufTy.Contents (Elt Ideal) arg5.view.ty} {X_arg11 : BufTy.Contents (Elt Ideal) arg11.view.ty} {X_arg12 : BufTy.Contents (Elt Ideal) arg12.view.ty} {X_arg13 : BufTy.Contents (Elt Ideal) arg13.view.ty} {X_arg17 : BufTy.Contents (Elt Ideal) arg17.view.ty} {G_arg8 : BufTy.Contents (Elt Ideal) arg8.view.ty} {G_arg14 : BufTy.Contents (Elt Ideal) arg14.view.ty} {G_arg15 : BufTy.Contents (Elt Ideal) arg15.view.ty} {G_arg16 : BufTy.Contents (Elt Ideal) arg16.view.ty} {G_arg18 : BufTy.Contents (Elt Ideal) arg18.view.ty} {init : Vec Ideal S8x1024 .f32 × Vec Ideal S8x1024 .f32} (n : ℕ) (hn : n ≤ 16) (g : BufTy.Contents (Elt Ideal) arg8.view.ty) (r : Fin 256) (j : Fin 1024)
    (hr : 256 - 16 * n ≤ r.val) :
    arg8.view.read (Elt Ideal) (arg8.view.writes (Elt Ideal) g (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v143 v144 v165 X_arg1 X_arg5 X_arg11 X_arg12 X_arg13 X_arg17 G_arg8 G_arg14 G_arg15 G_arg16 G_arg18 init n).2.1)
        (ix2 r ⟨1024 + j.val, by omega⟩)
      = gate (arg1.view.read (Elt Ideal) X_arg1 (ix2 r ⟨1024 + j.val, by omega⟩))
          (arg5.view.read (Elt Ideal) X_arg5 (ix2 r ⟨j.val, by omega⟩))
          (arg17.view.read (Elt Ideal) X_arg17 (ix2 ⟨8 + r.val, by omega⟩ j)) := by
  induction n with
  | zero => omega
  | succ n ih =>
    have hk : n < k0_t1_loop.trips := by rw [trips_eq]; omega
    have hs := congrArg (fun s => s.2.1) (st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v143 v144 v165 X_arg1 X_arg5 X_arg11 X_arg12 X_arg13 X_arg17 G_arg8 G_arg14 G_arg15 G_arg16 G_arg18 init ⟨n, hk⟩)
    simp only [trip_list] at hs
    have h1 : k0_off1 ⟨n, hk⟩ = ![240 - 16 * n, 1024] := k0_off1_eq ⟨n, hk⟩
    have h2 : k0_off2 ⟨n, hk⟩ = ![240 - 16 * n, 0] := k0_off2_eq ⟨n, hk⟩
    have h40 : k0_off4 ⟨n, hk⟩ 0#32 = ![(8 * 0 + 240) - 16 * n, 0] := k0_off4_eq ⟨n, hk⟩ 0
    have h41 : k0_off4 ⟨n, hk⟩ 8#32 = ![(8 * 1 + 240) - 16 * n, 0] := k0_off4_eq ⟨n, hk⟩ 1
    refine (congrArg (fun L => arg8.view.read (Elt Ideal) (arg8.view.writes (Elt Ideal) g L) _) hs).trans ?_
    clear hs
    by_cases hr' : 256 - 16 * n ≤ r.val
    · refine (View.read_writes_cons_unit_of_not_mem _ _ _ _ _ _ h1 0 (.inr ?_)).trans (ih (by omega) hr')
      show 240 - 16 * n + 16 ≤ r.val; omega
    · have hp : r.val - (240 - 16 * n) < 16 := by omega
      refine (View.read_writes_cons_unit_of_mem _ _ _ _ _ _ (ix2 ⟨r.val - (240 - 16 * n), hp⟩ j) h1 ?_).trans ?_
      · intro a
        fin_cases a
        · show r.val = 240 - 16 * n + (r.val - (240 - 16 * n)); omega
        · rfl
      · refine (tripPay_point _ _ _ _ _ _ (arg17.view.read (Elt Ideal) X_arg17 (ix2 ⟨8 + r.val, by omega⟩ j)) ?_ ?_).trans ?_
        · intro q hq
          refine load_at _ _ _ _ _ _ _ ?_ ?_
          · rw [h40]; show (8 * 0 + 240) - 16 * n + (8 + q.val) = 8 + r.val; simp only at hq; omega
          · rw [h40]; show 0 + j.val = j.val; omega
        · intro q hq
          refine load_at _ _ _ _ _ _ _ ?_ ?_
          · rw [h41]; show (8 * 1 + 240) - 16 * n + (8 + q.val) = 8 + r.val; simp only at hq; omega
          · rw [h41]; show 0 + j.val = j.val; omega
        · congr 1
          · refine load_at _ _ _ _ _ _ _ ?_ ?_
            · rw [h1]; show 240 - 16 * n + (r.val - (240 - 16 * n)) = r.val; omega
            · rw [h1]; rfl
          · refine load_at _ _ _ _ _ _ _ ?_ ?_
            · rw [h2]; show 240 - 16 * n + (r.val - (240 - 16 * n)) = r.val; omega
            · rw [h2]; show 0 + j.val = j.val; omega

end Cert.Proof.MixGate

end
-- ==== Proof.MixConv.lean ====
/-
  The short convolution's share of the mixer's gradient, one block of rows: the payloads the body stores, element by
  element, from the rows it loads.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof.MixConv

open Cert.KernelIdeal Cert.KernelIdeal.Gen Idealize.ShloMosaic Idealize.ShloMosaic.TcCoe Idealize.SL.Sem

/-- The products feeding the convolution, with the eight rows before the block in front: row `e` of 264. -/
def pe (zh : FVec Ideal S8x3584 .f32) (b c : Vec Ideal S256x512 .bf16) (e : ℕ) (he : e < 264) (j : Fin 512) : EReal :=
  if h : e < 8 then zh (ix2 ⟨e, h⟩ ⟨2560 + j.val, by omega⟩) * zh (ix2 ⟨e, h⟩ ⟨3072 + j.val, by omega⟩)
  else b (ix2 ⟨e - 8, by omega⟩ j) * c (ix2 ⟨e - 8, by omega⟩ j)

/-- The gradient at the convolution's output, with the eight rows after the block behind: row `e` of 264. -/
def dqe (a d : Vec Ideal S256x512 .bf16) (n : Vec Ideal S8x512 .f32) (e : ℕ) (he : e < 264) (j : Fin 512) : EReal :=
  if h : e < 256 then d (ix2 ⟨e, h⟩ j) * a (ix2 ⟨e, h⟩ j) else n (ix2 ⟨e - 256, by omega⟩ j)

theorem back2 (r : Fin 256) : (8 + r.val + 264 - 2) % 264 = 6 + r.val := by omega
theorem back1 (r : Fin 256) : (8 + r.val + 264 - 1) % 264 = 7 + r.val := by omega
theorem ahead2 (r : Fin 256) : (r.val + 264 - 262) % 264 = r.val + 2 := by omega
theorem ahead1 (r : Fin 256) : (r.val + 264 - 263) % 264 = r.val + 1 := by omega

theorem dq_point (a d : Vec Ideal S256x512 .bf16) (r : Fin 256) (j : Fin 512) :
    k0_pay156 a d (ix2 r j) = d (ix2 r j) * a (ix2 r j) := by
  pointwise [k0_pay156, k0_pay155]

theorem pext_point (zh : FVec Ideal S8x3584 .f32) (b c : Vec Ideal S256x512 .bf16) (e : Fin 264) (j : Fin 512) :
    k0_pay153 zh b c (ix2 e j) = pe zh b c e.val e.isLt j := by
  pointwise [k0_pay153, k0_pay152, k0_pay150, k0_pay151, pe]

theorem q_point (w0 w1 w2 : FVec Ideal S1x512 .f32) (zh : FVec Ideal S8x3584 .f32) (b c : Vec Ideal S256x512 .bf16)
    (r : Fin 256) (j : Fin 512) :
    k0_pay154 w0 w1 w2 zh b c (ix2 r j)
      = w2 (ix2 0 j) * pe zh b c (8 + r.val) (by omega) j + w0 (ix2 0 j) * pe zh b c (6 + r.val) (by omega) j
        + w1 (ix2 0 j) * pe zh b c (7 + r.val) (by omega) j := by
  pointwise [k0_pay154]
  simp only [back1, back2, pext_point]

theorem dp_point (w0 w1 w2 : FVec Ideal S1x512 .f32) (a d : Vec Ideal S256x512 .bf16) (n : Vec Ideal S8x512 .f32)
    (r : Fin 256) (j : Fin 512) :
    k0_pay157 w0 w1 w2 a d n (ix2 r j)
      = w2 (ix2 0 j) * dqe a d n r.val (by omega) j + w0 (ix2 0 j) * dqe a d n (r.val + 2) (by omega) j
        + w1 (ix2 0 j) * dqe a d n (r.val + 1) (by omega) j := by
  pointwise [k0_pay157]
  simp only [ahead1, ahead2, dq_point, dqe, r.isLt, dif_pos]

theorem row10_point (a b c d : Vec Ideal S256x512 .bf16) (x : FVec Ideal S1x512 .f32) (j : Fin 512) :
    k0_pay160 x (k0_pay159 a b c d) (ix2 0 j)
      = x (ix2 0 j) + ∑ r : Fin 256, d (ix2 r j) * a (ix2 r j) * (b (ix2 r j) * c (ix2 r j)) := by
  pointwise [k0_pay160, k0_pay159, k0_pay152, k0_pay150, k0_pay151, k0_pay156, k0_pay155]

theorem row8_point (p : FVec Ideal S264x512 .f32) (dq : FVec Ideal S256x512 .f32) (x : Vec Ideal S1x512 .f32) (j : Fin 512) :
    k0_pay161 p dq x (ix2 0 j) = x (ix2 0 j) + ∑ r : Fin 256, dq (ix2 r j) * p (ix2 ⟨6 + r.val, by omega⟩ j) := by
  pointwise [k0_pay161]
  simp only [back2]

theorem row9_point (p : FVec Ideal S264x512 .f32) (dq : FVec Ideal S256x512 .f32) (x : Vec Ideal S1x512 .f32) (j : Fin 512) :
    k0_pay162 p dq x (ix2 0 j) = x (ix2 0 j) + ∑ r : Fin 256, dq (ix2 r j) * p (ix2 ⟨7 + r.val, by omega⟩ j) := by
  pointwise [k0_pay162]
  simp only [back1]

end Cert.Proof.MixConv

end
-- ==== Proof.MixBlock.lean ====
/-
  What one grid point of the mixer's backward pass leaves in the gate's and the short convolution's columns of the
  gradient block, in the rows of the convolution's weights, and in the rows it hands to the next point.
-/
module

public import proofs.«01_k».proof.Proof.MixGate
public import proofs.«01_k».proof.Proof.MixConv

@[expose] public section

set_option maxRecDepth 16384

noncomputable section

namespace Cert.Proof.MixBlock

open Cert.KernelIdeal Cert.KernelIdeal.Gen Idealize.ShloMosaic Idealize.ShloMosaic.TcCoe Idealize.SL.Sem
open Cert.Proof.MixGate Cert.Proof.MixConv

/-- The 512 columns of a block of rows from column `o` on. -/
def cols {n : ℕ} (o : ℕ) (h : o + 512 ≤ n) (x : Vec Ideal ⟨2, ![256, n]⟩ .bf16) : Vec Ideal S256x512 .bf16 :=
  fun y => x (ix2 (y 0) ⟨o + (y 1).val, by have := (y 1).isLt; simp at this; omega⟩)

theorem cols_apply {n : ℕ} (o : ℕ) (h : o + 512 ≤ n) (x : Vec Ideal ⟨2, ![256, n]⟩ .bf16) (r : Fin 256) (j : Fin 512) :
    cols o h x (ix2 r j) = x (ix2 r ⟨o + j.val, by omega⟩) := rfl

/-- The three taps of the short convolution, from the packed parameters. -/
def tap (x6 : Vec Ideal S1x16x1024 .f32) (k : Fin 3) (j : Fin 512) : EReal := x6 (ix3 0 ⟨8 + k.val, by omega⟩ ⟨j.val, by omega⟩)

theorem tap0 (x6 : Vec Ideal S1x16x1024 .f32) (j : Fin 512) : k0_pay86 x6 (ix2 0 j) = tap x6 0 j := by
  pointwise [k0_pay86, k0_pay81, k0_pay78, tap]
theorem tap1 (x6 : Vec Ideal S1x16x1024 .f32) (j : Fin 512) : k0_pay87 x6 (ix2 0 j) = tap x6 1 j := by
  pointwise [k0_pay87, k0_pay81, k0_pay78, tap]
theorem tap2 (x6 : Vec Ideal S1x16x1024 .f32) (j : Fin 512) : k0_pay88 x6 (ix2 0 j) = tap x6 2 j := by
  pointwise [k0_pay88, k0_pay81, k0_pay78, tap]

section
variable (i : grid0.Coords) (x1 : Vec Ideal S256x3584 .bf16) (x2 : Vec Ideal S16x3584 .bf16) (x3 : Vec Ideal S256x1024 .f32)
  (x5 : Vec Ideal S256x1536 .bf16) (x6 : Vec Ideal S1x16x1024 .f32) (N : Vec Ideal S8x512 .f32)

/-- The convolution's input rows of the block, those before it in front. -/
def bp (e : ℕ) (he : e < 264) (j : Fin 512) : EReal :=
  pe (k0_pay90 i x2) (cols 2560 (by omega) x1) (cols 3072 (by omega) x1) e he j

/-- The gradient rows at the convolution's output, those after the block behind. -/
def bq (e : ℕ) (he : e < 264) (j : Fin 512) : EReal := dqe (cols 2048 (by omega) x1) (cols 1024 (by omega) x5) N e he j

/-- The convolution's output at a row. -/
def conv (r : Fin 256) (j : Fin 512) : EReal :=
  tap x6 2 j * bp i x1 x2 (8 + r.val) (by omega) j + tap x6 0 j * bp i x1 x2 (6 + r.val) (by omega) j
    + tap x6 1 j * bp i x1 x2 (7 + r.val) (by omega) j

/-- The gradient at the convolution's input at a row. -/
def back (r : Fin 256) (j : Fin 512) : EReal :=
  tap x6 2 j * bq x1 x5 N r.val (by omega) j + tap x6 0 j * bq x1 x5 N (r.val + 2) (by omega) j
    + tap x6 1 j * bq x1 x5 N (r.val + 1) (by omega) j

/-- The gradient block's gate and short-convolution columns. -/
structure Good8 (X : Vec Ideal S256x3584 .bf16) : Prop where
  g : ∀ (r : Fin 256) (j : Fin 1024), X (ix2 r ⟨1024 + j.val, by omega⟩)
    = gate (x1 (ix2 r ⟨1024 + j.val, by omega⟩)) (x5 (ix2 r ⟨j.val, by omega⟩)) (x3 (ix2 r j))
  a : ∀ (r : Fin 256) (j : Fin 512), X (ix2 r ⟨2048 + j.val, by omega⟩)
    = x5 (ix2 r ⟨1024 + j.val, by omega⟩) * conv i x1 x2 x6 r j
  b : ∀ (r : Fin 256) (j : Fin 512), X (ix2 r ⟨2560 + j.val, by omega⟩)
    = back x1 x5 x6 N r j * x1 (ix2 r ⟨3072 + j.val, by omega⟩)
  c : ∀ (r : Fin 256) (j : Fin 512), X (ix2 r ⟨3072 + j.val, by omega⟩)
    = back x1 x5 x6 N r j * x1 (ix2 r ⟨2560 + j.val, by omega⟩)

/-- The block's part of the gradient of tap `k`. -/
def part (k : Fin 3) (j : Fin 512) : EReal :=
  ∑ r : Fin 256, bq x1 x5 N r.val (by omega) j * bp i x1 x2 (6 + k.val + r.val) (by omega) j

/-- The taps' gradient rows: what was there plus the block's part. -/
def Good9 (old : Fin 3 → Fin 512 → EReal) (X : Vec Ideal S16x1024 .f32) : Prop :=
  ∀ (k : Fin 3) (j : Fin 512), X (ix2 ⟨8 + k.val, by omega⟩ ⟨j.val, by omega⟩) = old k j + part i x1 x2 x5 N k j

/-- The rows handed to the next point. -/
def Good21 (X : Vec Ideal S8x512 .f32) : Prop :=
  ∀ (q : Fin 8) (j : Fin 512), X (ix2 q j) = bq x1 x5 N q.val (by omega) j

end

variable {arg1 : Memref sig .tc .vmem S256x3584 .bf16} (harg1 : arg1.IsWhole) {arg2 : Memref sig .tc .vmem S16x3584 .bf16} (harg2 : arg2.IsWhole)
  {arg5 : Memref sig .tc .vmem S256x1536 .bf16} (harg5 : arg5.IsWhole) {arg6 : Memref sig .tc .vmem S1x16x1024 .f32} (harg6 : arg6.IsWhole)
  (i : grid0.Coords) (x1 : Vec Ideal S256x3584 .bf16) (x2 : Vec Ideal S16x3584 .bf16) (x3 : Vec Ideal S256x1024 .f32)
  (x5 : Vec Ideal S256x1536 .bf16) (x6 : Vec Ideal S1x16x1024 .f32) (N : Vec Ideal S8x512 .f32)

theorem load1 (o : ℕ) (ho : o + 512 ≤ 3584) (inb : ∀ a, (![0, o] : Fin 2 → ℕ) a + S256x512.size a ≤ S256x3584.size a) :
    arg1.view.readAt (Elt Ideal) (Rect.unit (s := S256x3584) ![0, o] S256x512.size inb).toLoadRect (harg1.unread x1)
      = cols o ho x1 := by
  funext y
  idx_vars y
  refine (load_at _ _ _ _ _ y0 ⟨o + y1.val, by omega⟩ ?_ rfl).trans ?_
  · show 0 + y0.val = y0.val; omega
  · rw [harg1.read_unread]; rfl

theorem load5 (o : ℕ) (ho : o + 512 ≤ 1536) (inb : ∀ a, (![0, o] : Fin 2 → ℕ) a + S256x512.size a ≤ S256x1536.size a) :
    arg5.view.readAt (Elt Ideal) (Rect.unit (s := S256x1536) ![0, o] S256x512.size inb).toLoadRect (harg5.unread x5)
      = cols o ho x5 := by
  funext y
  idx_vars y
  refine (load_at _ _ _ _ _ y0 ⟨o + y1.val, by omega⟩ ?_ rfl).trans ?_
  · show 0 + y0.val = y0.val; omega
  · rw [harg5.read_unread]; rfl

theorem load_whole {s : Shape} {e : EltTy} {arg : Memref sig .tc .vmem s e} (h : arg.IsWhole) (x : Vec Ideal s e)
    {off : Fin s.rank → ℕ} (inb : ∀ a, off a + s.size a ≤ s.size a) :
    arg.view.readAt (Elt Ideal) (Rect.unit (s := s) off s.size inb).toLoadRect (h.unread x) = x := by
  funext y
  show arg.view.read (Elt Ideal) (h.unread x) ((Rect.unit (s := s) off s.size inb).emb y) = x y
  rw [h.read_unread]
  refine congrArg x (funext fun a => Fin.ext ?_)
  show off a + 1 * (y a).val = (y a).val
  have := inb a
  omega

/-- Reading back inside the last store's rectangle. -/
theorem hit {r c r' c' : ℕ} {e : EltTy} (v : View sig .tc .vmem ⟨2, ![r, c]⟩ e) (f : v.ty.Contents (Elt Ideal))
    {off : Fin 2 → ℕ} (inb : ∀ a, off a + (⟨2, ![r', c']⟩ : Shape).size a ≤ (⟨2, ![r, c]⟩ : Shape).size a)
    (w : Vec Ideal ⟨2, ![r', c']⟩ e) (L : List (View.Piece (Elt Ideal) ⟨2, ![r, c]⟩ e))
    (P : Fin r) (J : Fin c) (p : Fin r') (j : Fin c') (h0 : P.val = off 0 + p.val) (h1 : J.val = off 1 + j.val) :
    v.read (Elt Ideal) (v.writes (Elt Ideal) f (⟨Rect.unit (s := ⟨2, ![r, c]⟩) off (⟨2, ![r', c']⟩ : Shape).size inb, w⟩ :: L)) (ix2 P J)
      = w (ix2 p j) := by
  refine View.read_writes_cons_unit_of_mem v f inb w L (ix2 P J) (ix2 p j) rfl (fun a => ?_)
  fin_cases a
  · exact h0
  · exact h1

theorem at8 {arg8 : Memref sig .tc .vmem S256x3584 .bf16} (f : BufTy.Contents (Elt Ideal) arg8.view.ty)
    {i3 : ∀ a, (![0, 3072] : Fin 2 → ℕ) a + S256x512.size a ≤ S256x3584.size a}
    {i2 : ∀ a, (![0, 2560] : Fin 2 → ℕ) a + S256x512.size a ≤ S256x3584.size a}
    {i1 : ∀ a, (![0, 2048] : Fin 2 → ℕ) a + S256x512.size a ≤ S256x3584.size a}
    {i0 : ∀ a, (![0, 0] : Fin 2 → ℕ) a + S256x1024.size a ≤ S256x3584.size a}
    (p3 p2 p1 : Vec Ideal S256x512 .bf16) (p0 : Vec Ideal S256x1024 .bf16) (L : List (View.Piece (Elt Ideal) S256x3584 .bf16))
    (X : Vec Ideal S256x3584 .bf16)
    (hX : X = arg8.view.read (Elt Ideal) (arg8.view.writes (Elt Ideal) f
      (⟨Rect.unit (s := S256x3584) ![0, 3072] S256x512.size i3, p3⟩ :: ⟨Rect.unit (s := S256x3584) ![0, 2560] S256x512.size i2, p2⟩
        :: ⟨Rect.unit (s := S256x3584) ![0, 2048] S256x512.size i1, p1⟩
        :: ⟨Rect.unit (s := S256x3584) ![0, 0] S256x1024.size i0, p0⟩ :: L))) (r : Fin 256) :
    (∀ j : Fin 512, X (ix2 r ⟨3072 + j.val, by omega⟩) = p3 (ix2 r j)) ∧ (∀ j : Fin 512, X (ix2 r ⟨2560 + j.val, by omega⟩) = p2 (ix2 r j))
      ∧ (∀ j : Fin 512, X (ix2 r ⟨2048 + j.val, by omega⟩) = p1 (ix2 r j))
      ∧ ∀ j : Fin 1024, X (ix2 r ⟨1024 + j.val, by omega⟩)
          = arg8.view.read (Elt Ideal) (arg8.view.writes (Elt Ideal) f L) (ix2 r ⟨1024 + j.val, by omega⟩) := by
  subst hX
  refine ⟨fun j => ?_, fun j => ?_, fun j => ?_, fun j => ?_⟩
  · exact hit _ _ _ _ _ _ _ r j (by simp) (by simp)
  · refine (View.read_writes_cons_unit_of_not_mem _ _ _ _ _ _ rfl 1 (.inl ?_)).trans ?_
    · show 2560 + j.val < 3072; omega
    exact hit _ _ _ _ _ _ _ r j (by simp) (by simp)
  · refine (View.read_writes_cons_unit_of_not_mem _ _ _ _ _ _ rfl 1 (.inl ?_)).trans ?_
    · show 2048 + j.val < 3072; omega
    refine (View.read_writes_cons_unit_of_not_mem _ _ _ _ _ _ rfl 1 (.inl ?_)).trans ?_
    · show 2048 + j.val < 2560; omega
    exact hit _ _ _ _ _ _ _ r j (by simp) (by simp)
  · refine (View.read_writes_cons_unit_of_not_mem _ _ _ _ _ _ rfl 1 (.inl ?_)).trans ?_
    · show 1024 + j.val < 3072; omega
    refine (View.read_writes_cons_unit_of_not_mem _ _ _ _ _ _ rfl 1 (.inl ?_)).trans ?_
    · show 1024 + j.val < 2560; omega
    refine (View.read_writes_cons_unit_of_not_mem _ _ _ _ _ _ rfl 1 (.inl ?_)).trans ?_
    · show 1024 + j.val < 2048; omega
    refine View.read_writes_cons_unit_of_not_mem _ _ _ _ _ _ rfl 1 (.inr ?_)
    show 0 + 1024 ≤ 1024 + j.val; omega

theorem at9 {arg9 : Memref sig .tc .vmem S16x1024 .f32} (f : BufTy.Contents (Elt Ideal) arg9.view.ty)
    {i9 : ∀ a, (![9, 0] : Fin 2 → ℕ) a + S1x512.size a ≤ S16x1024.size a}
    {i8 : ∀ a, (![8, 0] : Fin 2 → ℕ) a + S1x512.size a ≤ S16x1024.size a}
    {i10 : ∀ a, (![10, 0] : Fin 2 → ℕ) a + S1x512.size a ≤ S16x1024.size a}
    (p9 p8 p10 : Vec Ideal S1x512 .f32) (L : List (View.Piece (Elt Ideal) S16x1024 .f32)) (X : Vec Ideal S16x1024 .f32)
    (hX : X = arg9.view.read (Elt Ideal) (arg9.view.writes (Elt Ideal) f
      (⟨Rect.unit (s := S16x1024) ![9, 0] S1x512.size i9, p9⟩ :: ⟨Rect.unit (s := S16x1024) ![8, 0] S1x512.size i8, p8⟩
        :: ⟨Rect.unit (s := S16x1024) ![10, 0] S1x512.size i10, p10⟩ :: L))) (j : Fin 512) :
    X (ix2 8 ⟨j.val, by omega⟩) = p8 (ix2 0 j) ∧ X (ix2 9 ⟨j.val, by omega⟩) = p9 (ix2 0 j) ∧ X (ix2 10 ⟨j.val, by omega⟩) = p10 (ix2 0 j) := by
  subst hX
  refine ⟨?_, ?_, ?_⟩
  · refine (View.read_writes_cons_unit_of_not_mem _ _ _ _ _ _ rfl 0 (.inl ?_)).trans ?_
    · show 8 < 9; omega
    exact hit _ _ _ _ _ _ _ 0 j (by simp) (by simp)
  · exact hit _ _ _ _ _ _ _ 0 j (by simp) (by simp)
  · refine (View.read_writes_cons_unit_of_not_mem _ _ _ _ _ _ rfl 0 (.inr ?_)).trans ?_
    · show 9 + 1 ≤ 10; omega
    refine (View.read_writes_cons_unit_of_not_mem _ _ _ _ _ _ rfl 0 (.inr ?_)).trans ?_
    · show 8 + 1 ≤ 10; omega
    exact hit _ _ _ _ _ _ _ 0 j (by simp) (by simp)

/-- The loads the short convolution works on. -/
abbrev lA := arg1.view.readAt (Elt Ideal) (Rect.unit (s := S256x3584) ![0, 2048] S256x512.size inb_S256x3584_S256x512_0_2048).toLoadRect (harg1.unread x1)
abbrev lB := arg1.view.readAt (Elt Ideal) (Rect.unit (s := S256x3584) ![0, 2560] S256x512.size inb_S256x3584_S256x512_0_2560).toLoadRect (harg1.unread x1)
abbrev lC := arg1.view.readAt (Elt Ideal) (Rect.unit (s := S256x3584) ![0, 3072] S256x512.size inb_S256x3584_S256x512_0_3072).toLoadRect (harg1.unread x1)
abbrev lD := arg5.view.readAt (Elt Ideal) (Rect.unit (s := S256x1536) ![0, 1024] S256x512.size inb_S256x1536_S256x512_0_1024).toLoadRect (harg5.unread x5)
abbrev lZ := arg2.view.readAt (Elt Ideal) (Rect.unit (s := S16x3584) ![0, 0] S16x3584.size inb_S16x3584_S16x3584_0_0).toLoadRect (harg2.unread x2)
abbrev lW := arg6.view.readAt (Elt Ideal) (Rect.unit (s := S1x16x1024) ![0, 0, 0] S1x16x1024.size inb_S1x16x1024_S1x16x1024_0_0_0).toLoadRect (harg6.unread x6)

theorem eA : lA harg1 x1 = cols 2048 (by omega) x1 := load1 harg1 x1 2048 (by omega) _
theorem eB : lB harg1 x1 = cols 2560 (by omega) x1 := load1 harg1 x1 2560 (by omega) _
theorem eC : lC harg1 x1 = cols 3072 (by omega) x1 := load1 harg1 x1 3072 (by omega) _
theorem eD : lD harg5 x5 = cols 1024 (by omega) x5 := load5 harg5 x5 1024 (by omega) _
theorem eZ : lZ harg2 x2 = x2 := load_whole harg2 x2 _
theorem eW : lW harg6 x6 = x6 := load_whole harg6 x6 _

/-- The gradient block after the body's last stores. -/
theorem good8 {arg8 : Memref sig .tc .vmem S256x3584 .bf16} (f : BufTy.Contents (Elt Ideal) arg8.view.ty)
    (n : Vec Ideal S8x512 .f32) (hn : n = N) (p0 : Vec Ideal S256x1024 .bf16) (L : List (View.Piece (Elt Ideal) S256x3584 .bf16))
    (hg : ∀ (r : Fin 256) (j : Fin 1024), arg8.view.read (Elt Ideal) (arg8.view.writes (Elt Ideal) f L) (ix2 r ⟨1024 + j.val, by omega⟩)
      = gate (x1 (ix2 r ⟨1024 + j.val, by omega⟩)) (x5 (ix2 r ⟨j.val, by omega⟩)) (x3 (ix2 r j))) :
    Good8 i x1 x2 x3 x5 x6 N (arg8.view.read (Elt Ideal) (arg8.view.writes (Elt Ideal) f
      (⟨Rect.unit (s := S256x3584) ![0, 3072] S256x512.size inb_S256x3584_S256x512_0_3072, k0_pay1 (k0_pay166 (k0_pay150 (lB harg1 x1))
          (k0_pay157 (k0_pay86 (lW harg6 x6)) (k0_pay87 (lW harg6 x6)) (k0_pay88 (lW harg6 x6)) (lA harg1 x1) (lD harg5 x5) n))⟩
        :: ⟨Rect.unit (s := S256x3584) ![0, 2560] S256x512.size inb_S256x3584_S256x512_0_2560, k0_pay165 (k0_pay151 (lC harg1 x1))
          (k0_pay157 (k0_pay86 (lW harg6 x6)) (k0_pay87 (lW harg6 x6)) (k0_pay88 (lW harg6 x6)) (lA harg1 x1) (lD harg5 x5) n)⟩
        :: ⟨Rect.unit (s := S256x3584) ![0, 2048] S256x512.size inb_S256x3584_S256x512_0_2048, k0_pay164
          (k0_pay154 (k0_pay86 (lW harg6 x6)) (k0_pay87 (lW harg6 x6)) (k0_pay88 (lW harg6 x6)) (k0_pay90 i (lZ harg2 x2)) (lB harg1 x1) (lC harg1 x1))
          (k0_pay155 (lD harg5 x5))⟩
        :: ⟨Rect.unit (s := S256x3584) ![0, 0] S256x1024.size inb_S256x3584_S256x1024_0_0, p0⟩ :: L))) := by
  subst hn
  rw [eA, eB, eC, eD, eZ, eW]
  refine ⟨fun r j => ?_, fun r j => ?_, fun r j => ?_, fun r j => ?_⟩
  · rw [(at8 f _ _ _ _ _ _ rfl r).2.2.2 j]; exact hg r j
  · rw [(at8 f _ _ _ _ _ _ rfl r).2.2.1 j]
    pointwise [k0_pay164, k0_pay155]
    rw [q_point, tap0, tap1, tap2]; rfl
  · rw [(at8 f _ _ _ _ _ _ rfl r).2.1 j]
    pointwise [k0_pay165, k0_pay151]
    rw [dp_point, tap0, tap1, tap2]; rfl
  · rw [(at8 f _ _ _ _ _ _ rfl r).1 j]
    pointwise [k0_pay1, k0_pay166, k0_pay150]
    rw [dp_point, tap0, tap1, tap2]; rfl

/-- The taps' gradient rows after the body's stores. -/
theorem good9 {arg9 : Memref sig .tc .vmem S16x1024 .f32} (f : BufTy.Contents (Elt Ideal) arg9.view.ty)
    (old : Fin 3 → Fin 512 → EReal) (o8 o9 o10 : Vec Ideal S1x512 .f32) (h8 : ∀ j, o8 (ix2 0 j) = old 0 j)
    (h9 : ∀ j, o9 (ix2 0 j) = old 1 j) (h10 : ∀ j, o10 (ix2 0 j) = old 2 j) (L : List (View.Piece (Elt Ideal) S16x1024 .f32)) :
    Good9 i x1 x2 x5 N old (arg9.view.read (Elt Ideal) (arg9.view.writes (Elt Ideal) f
      (⟨Rect.unit (s := S16x1024) ![9, 0] S1x512.size inb_S16x1024_S1x512_9_0,
          k0_pay162 (k0_pay153 (k0_pay90 i (lZ harg2 x2)) (lB harg1 x1) (lC harg1 x1)) (k0_pay156 (lA harg1 x1) (lD harg5 x5)) o9⟩
        :: ⟨Rect.unit (s := S16x1024) ![8, 0] S1x512.size inb_S16x1024_S1x512_8_0,
          k0_pay161 (k0_pay153 (k0_pay90 i (lZ harg2 x2)) (lB harg1 x1) (lC harg1 x1)) (k0_pay156 (lA harg1 x1) (lD harg5 x5)) o8⟩
        :: ⟨Rect.unit (s := S16x1024) ![10, 0] S1x512.size inb_S16x1024_S1x512_10_0,
          k0_pay160 (k0_pay158 o10) (k0_pay159 (lA harg1 x1) (lB harg1 x1) (lC harg1 x1) (lD harg5 x5))⟩ :: L))) := by
  rw [eA, eB, eC, eD, eZ]
  intro k j
  have hq : ∀ r : Fin 256, bq x1 x5 N r.val (by omega) j
      = cols 1024 (by omega) x5 (ix2 r j) * cols 2048 (by omega) x1 (ix2 r j) := fun r => dif_pos r.isLt
  unfold part
  simp only [hq]
  fin_cases k
  · refine (at9 f _ _ _ _ _ rfl j).1.trans ?_
    rw [row8_point, h8]
    simp only [dq_point, pext_point]
    rfl
  · refine (at9 f _ _ _ _ _ rfl j).2.1.trans ?_
    rw [row9_point, h9]
    simp only [dq_point, pext_point]
    rfl
  · refine (at9 f _ _ _ _ _ rfl j).2.2.trans ?_
    rw [row10_point]
    have e : k0_pay158 o10 (ix2 0 j) = old 2 j := by
      refine Eq.trans ?_ (h10 j)
      pointwise [k0_pay158]
    rw [e]
    refine congrArg (old 2 j + ·) (Finset.sum_congr rfl fun r _ => congrArg _ ?_)
    refine Eq.symm ((dif_neg (show ¬ (8 + r.val < 8) by omega)).trans ?_)
    have he : ∀ h, (⟨8 + r.val - 8, h⟩ : Fin 256) = r := fun h => Fin.ext (by show 8 + r.val - 8 = r.val; omega)
    exact congrArg₂ (· * ·) (congrArg (fun x => cols 2560 (by omega) x1 (ix2 x j)) (he _))
      (congrArg (fun x => cols 3072 (by omega) x1 (ix2 x j)) (he _))

/-- The rows handed on. -/
theorem good21 {arg21 : Memref sig .tc .vmem S8x512 .f32} (f : BufTy.Contents (Elt Ideal) arg21.view.ty)
    (L : List (View.Piece (Elt Ideal) S8x512 .f32)) :
    Good21 x1 x5 N (arg21.view.read (Elt Ideal) (arg21.view.writes (Elt Ideal) f
      (⟨Rect.unit (s := S8x512) ![0, 0] S8x512.size inb_S8x512_S8x512_0_0, k0_pay163 (k0_pay156 (lA harg1 x1) (lD harg5 x5))⟩ :: L))) := by
  rw [eA, eD]
  intro q j
  refine (hit _ _ _ _ _ _ _ q j (by simp) (by simp)).trans ?_
  refine Eq.trans ?_ (dif_pos (show q.val < 256 by omega)).symm
  refine Eq.trans ?_ (dq_point _ _ ⟨q.val, by omega⟩ j)
  pointwise [k0_pay163]

end Cert.Proof.MixBlock

end
-- ==== Proof.MixValB.lean ====
module

public import proofs.«01_k».proof.Proof.Gen.KernelIdeal.Frame
public import proofs.«01_k».proof.Proof.Gen.KernelIdeal.Loops
public import proofs.«01_k».proof.Proof.MixRunA
public import proofs.«01_k».proof.Proof.MixBlock
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.WordCmp

@[expose] public section

set_option maxRecDepth 16384

noncomputable section

namespace Cert.Proof.MixVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Proof.MixGate Cert.Proof.MixBlock
open Cert.KernelIdeal.Mix (cond0_0 cond0_1)

local notation "𝕄" => MT nD τ sig Unit (Elt Ideal) ℕ (UR sig nD τ) ℕ

/-- A row of the taps' gradient read from contents held whole. -/
theorem row9 {arg9 : Memref sig .tc .vmem S16x1024 .f32} (harg9 : arg9.IsWhole) (x9 : Vec Ideal S16x1024 .f32) (k : ℕ)
    (hk : k < 16) (inb : ∀ a, (![k, 0] : Fin 2 → ℕ) a + S1x512.size a ≤ S16x1024.size a) (j : Fin 512) :
    arg9.view.readAt (Elt Ideal) (Rect.unit (s := S16x1024) ![k, 0] S1x512.size inb).toLoadRect (harg9.unread x9) (ix2 0 j)
      = x9 (ix2 ⟨k, hk⟩ ⟨j.val, by omega⟩) := by
  refine (load_at _ _ _ _ _ ⟨k, hk⟩ ⟨j.val, by omega⟩ rfl ?_).trans ?_
  · show 0 + j.val = j.val; omega
  · rw [harg9.read_unread]

/-- The state's rows as the body stages them, eight rows of the block before in front. -/
theorem stage17 {arg17 : Memref sig .tc .vmem S264x1024 .f32} {arg3 : Memref sig .tc .vmem S256x1024 .f32} (harg3 : arg3.IsWhole)
    (x3 : Vec Ideal S256x1024 .f32) (f : BufTy.Contents (Elt Ideal) arg17.view.ty) (L : List (View.Piece (Elt Ideal) S264x1024 .f32))
    (r : Fin 256) (j : Fin 1024) :
    arg17.view.read (Elt Ideal) (arg17.view.writes (Elt Ideal) f
      (⟨Rect.unit (s := S264x1024) ![8, 0] S256x1024.size inb_S264x1024_S256x1024_8_0,
        k0_pay111 (arg3.view.readAt (Elt Ideal) (Rect.unit (s := S256x1024) ![0, 0] S256x1024.size inb_S256x1024_S256x1024_0_0).toLoadRect
          (harg3.unread x3))⟩ :: L)) (ix2 ⟨8 + r.val, by omega⟩ j) = x3 (ix2 r j) := by
  refine (hit _ _ _ _ _ _ _ r j rfl (by simp)).trans ?_
  rw [load_whole]
  pointwise [k0_pay111]

/-- After the last trip every row is done. -/
theorem no_row {n : ℕ} : 256 - 16 * k0_t1_loop.trips ≤ n :=
  le_of_eq_of_le (by decide +kernel : 256 - 16 * k0_t1_loop.trips = 0) (Nat.zero_le _)

/-- Whole rows 5, 6 and 7 stored afterwards leave the taps' rows as they are. -/
theorem good9_tail {arg9 : Memref sig .tc .vmem S16x1024 .f32} {i : grid0.Coords} {x1 : Vec Ideal S256x3584 .bf16}
    {x2 : Vec Ideal S16x3584 .bf16} {x5 : Vec Ideal S256x1536 .bf16} {N : Vec Ideal S8x512 .f32} {old : Fin 3 → Fin 512 → EReal}
    (f : BufTy.Contents (Elt Ideal) arg9.view.ty)
    {i7 : ∀ a, (![7, 0] : Fin 2 → ℕ) a + S1x1024.size a ≤ S16x1024.size a}
    {i6 : ∀ a, (![6, 0] : Fin 2 → ℕ) a + S1x1024.size a ≤ S16x1024.size a}
    {i5 : ∀ a, (![5, 0] : Fin 2 → ℕ) a + S1x1024.size a ≤ S16x1024.size a}
    (p7 p6 p5 : Vec Ideal S1x1024 .f32) (L : List (View.Piece (Elt Ideal) S16x1024 .f32))
    (h : Good9 i x1 x2 x5 N old (arg9.view.read (Elt Ideal) (arg9.view.writes (Elt Ideal) f L))) :
    Good9 i x1 x2 x5 N old (arg9.view.read (Elt Ideal) (arg9.view.writes (Elt Ideal) f
      (⟨Rect.unit (s := S16x1024) ![7, 0] S1x1024.size i7, p7⟩ :: ⟨Rect.unit (s := S16x1024) ![6, 0] S1x1024.size i6, p6⟩
        :: ⟨Rect.unit (s := S16x1024) ![5, 0] S1x1024.size i5, p5⟩ :: L))) := by
  intro k j
  refine Eq.trans ?_ (h k j)
  refine (View.read_writes_cons_unit_of_not_mem _ _ _ _ _ _ rfl 0 (.inr ?_)).trans ?_
  · show 7 + 1 ≤ 8 + k.val; omega
  refine (View.read_writes_cons_unit_of_not_mem _ _ _ _ _ _ rfl 0 (.inr ?_)).trans ?_
  · show 6 + 1 ≤ 8 + k.val; omega
  refine View.read_writes_cons_unit_of_not_mem _ _ _ _ _ _ rfl 0 (.inr ?_)
  show 5 + 1 ≤ 8 + k.val; omega

/-- A row that was filled with zero and not stored to since is zero: past one store to another row. -/
theorem past {arg9 : Memref sig .tc .vmem S16x1024 .f32} (f : BufTy.Contents (Elt Ideal) arg9.view.ty) {k w : ℕ}
    (inb : ∀ a, (![k, 0] : Fin 2 → ℕ) a + (⟨2, ![1, w]⟩ : Shape).size a ≤ S16x1024.size a) (p : Vec Ideal ⟨2, ![1, w]⟩ .f32)
    (L : List (View.Piece (Elt Ideal) S16x1024 .f32)) (P : Fin 16) (J : Fin 1024) (hk : P.val < k ∨ k + 1 ≤ P.val)
    (h : arg9.view.read (Elt Ideal) (arg9.view.writes (Elt Ideal) f L) (ix2 P J) = 0) :
    arg9.view.read (Elt Ideal) (arg9.view.writes (Elt Ideal) f
      (⟨Rect.unit (s := S16x1024) ![k, 0] (⟨2, ![1, w]⟩ : Shape).size inb, p⟩ :: L)) (ix2 P J) = 0 :=
  (View.read_writes_cons_unit_of_not_mem _ _ _ _ _ _ rfl 0 hk).trans h

/-- The fill itself. -/
theorem filled {arg9 : Memref sig .tc .vmem S16x1024 .f32} (f : BufTy.Contents (Elt Ideal) arg9.view.ty)
    (inb : ∀ a, (![0, 0] : Fin 2 → ℕ) a + S16x1024.size a ≤ S16x1024.size a) (P : Fin 16) (J : Fin 1024) :
    arg9.view.read (Elt Ideal) (arg9.view.writes (Elt Ideal) f
      [⟨Rect.unit (s := S16x1024) ![0, 0] S16x1024.size inb, k0_pay71 (F := Ideal)⟩]) (ix2 P J) = 0 := by
  refine (hit _ _ _ _ _ _ _ P J (by simp) (by simp)).trans ?_
  pointwise [k0_pay71]

/-- A load of the row is the row. -/
theorem cov9 {arg9 : Memref sig .tc .vmem S16x1024 .f32} (k : ℕ) (hk : k < 16)
    (inb : ∀ a, (![k, 0] : Fin 2 → ℕ) a + S1x512.size a ≤ S16x1024.size a) (L : List (View.Piece (Elt Ideal) S16x1024 .f32)) (j : Fin 512)
    (h : arg9.view.read (Elt Ideal) (arg9.view.writes (Elt Ideal) arg9.view.junk L) (ix2 ⟨k, hk⟩ ⟨j.val, by omega⟩) = 0) :
    arg9.view.readCov (Val := Elt Ideal) L (Rect.unit (s := S16x1024) ![k, 0] S1x512.size inb).toLoadRect (ix2 0 j) = 0 := by
  refine (load_at _ _ _ _ _ ⟨k, hk⟩ ⟨j.val, by omega⟩ rfl ?_).trans h
  show 0 + j.val = j.val; omega

/-- The rows of the next block's gradient are zero where the first point filled them. -/
theorem fill21 {arg21 : Memref sig .tc .vmem S8x512 .f32} (inb inb' : ∀ a, (![0, 0] : Fin 2 → ℕ) a + S8x512.size a ≤ S8x512.size a) :
    arg21.view.readCov (Val := Elt Ideal) [⟨Rect.unit (s := S8x512) ![0, 0] S8x512.size inb, k0_pay76 (F := Ideal)⟩]
      (Rect.unit (s := S8x512) ![0, 0] S8x512.size inb').toLoadRect = fun _ => 0 := by
  funext y
  idx_vars y
  refine (load_at _ _ _ _ _ y0 y1 (by simp) (by simp)).trans ?_
  refine (hit _ _ _ _ _ _ _ y0 y1 (by simp) (by simp)).trans ?_
  pointwise [k0_pay76]

set_option maxHeartbeats 40000000 in
/-- Case B: the outputs' tracked columns and rows after the body. -/
theorem val_B (c : Dev nD) (i : grid0.Coords) (arg1 : Memref sig .tc .vmem S256x3584 .bf16) (harg1 : arg1.IsWhole) (arg2 : Memref sig .tc .vmem S16x3584 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S256x1536 .bf16) (harg5 : arg5.IsWhole) (arg6 : Memref sig .tc .vmem S1x16x1024 .f32) (harg6 : arg6.IsWhole) (arg7 : Memref sig .tc .vmem S1x8x256x256 .bf16) (harg7 : arg7.IsWhole) (arg8 : Memref sig .tc .vmem S256x3584 .bf16) (harg8 : arg8.IsWhole) (arg9 : Memref sig .tc .vmem S16x1024 .f32) (harg9 : arg9.IsWhole) (arg10 : Memref sig .tc .vmem S8x256x256 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S264x1024 .f32) (harg16 : arg16.IsWhole) (arg17 : Memref sig .tc .vmem S264x1024 .f32) (harg17 : arg17.IsWhole) (arg18 : Memref sig .tc .vmem S3x8x1024 .f32) (harg18 : arg18.IsWhole) (arg19 : Memref sig .tc .vmem S8x1024 .f32) (harg19 : arg19.IsWhole) (arg20 : Memref sig .tc .vmem S8x1024 .f32) (harg20 : arg20.IsWhole) (arg21 : Memref sig .tc .vmem S8x512 .f32) (harg21 : arg21.IsWhole) (hc0 : ¬cond0_0 i) (hc1 : ¬cond0_1 i) (x1 : Vec Ideal S256x3584 .bf16) (x2 : Vec Ideal S16x3584 .bf16) (x3 : Vec Ideal S256x1024 .f32) (x4 : Vec Ideal S8x1024 .f32) (x5 : Vec Ideal S256x1536 .bf16) (x6 : Vec Ideal S1x16x1024 .f32) (x7 : Vec Ideal S1x8x256x256 .bf16) (x9 : Vec Ideal S16x1024 .f32) (x21 : Vec Ideal S8x512 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} f) ∗ owns (c : Thread nD τ) arg9 fullShare x9 ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ owns (c : Thread nD τ) arg21 fullShare x21 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, (arg8.view.loc (c : Thread nD τ) ↦[arg8.view.set]{fullShare} f) ∗ ⌜Good8 i x1 x2 x3 x5 x6 x21 (arg8.view.read (Elt Ideal) f)⌝) ∗ (∃ f, (arg9.view.loc (c : Thread nD τ) ↦[arg9.view.set]{fullShare} f) ∗ ⌜Good9 i x1 x2 x5 x21 (fun k j => x9 (ix2 ⟨8 + k.val, by omega⟩ ⟨j.val, by omega⟩)) (arg9.view.read (Elt Ideal) f)⌝) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, (arg21.view.loc (c : Thread nD τ) ↦[arg21.view.set]{fullShare} f) ∗ ⌜Good21 x1 x5 x21 (arg21.view.read (Elt Ideal) f)⌝)) -∗ K ⟨⟩))
      ⊢ wp frame (wpE (defs₀ (F := Ideal)) Variants.none c none) E (cc0_bwd_mixer_1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_bwd_mixer_1_eq_skeleton]; unfold cc0_bwd_mixer_1_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, %hf9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, %hf21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg21.eq_unread hf21
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitl
    · iexact H8
    · ipureintro
      refine good8 harg1 harg2 harg5 harg6 i x1 x2 x3 x5 x6 x21 f8 _ ?_ _ _ (fun r j => ?_)
      · exact load_whole harg21 x21 _
      · refine (st_gate _ trips_eq.le f8 r j no_row).trans ?_
        rw [harg1.read_unread, harg5.read_unread]
        exact congrArg (gate _ _) (stage17 harg3 x3 _ _ r j)
  isplitl [H9]
  · iexists _; isplitl
    · iexact H9
    · ipureintro
      refine good9 harg1 harg2 harg5 i x1 x2 x5 x21 _ (fun k j => x9 (ix2 ⟨8 + k.val, by omega⟩ ⟨j.val, by omega⟩)) _ _ _ ?_ ?_ ?_ _
      · intro j; exact row9 harg9 x9 8 (by decide) _ j
      · intro j; exact row9 harg9 x9 9 (by decide) _ j
      · intro j; exact row9 harg9 x9 10 (by decide) _ j
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  isplitl [H20]
  · iexists _; iexact H20
  iexists _; isplitl
  · iexact H21
  · ipureintro
    exact good21 harg1 harg5 x1 x5 x21 _ _

end Cert.Proof.MixVal

end
-- ==== Proof.MixValA.lean ====
module

public import proofs.«01_k».proof.Proof.Gen.KernelIdeal.Frame
public import proofs.«01_k».proof.Proof.Gen.KernelIdeal.Loops
public import proofs.«01_k».proof.Proof.MixRunA
public import proofs.«01_k».proof.Proof.MixValB
public import proofs.«01_k».proof.Proof.MixBlock
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.WordCmp

@[expose] public section

set_option maxRecDepth 16384

noncomputable section

namespace Cert.Proof.MixVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Proof.MixGate Cert.Proof.MixBlock
open Cert.KernelIdeal.Mix (cond0_0 cond0_1)

local notation "𝕄" => MT nD τ sig Unit (Elt Ideal) ℕ (UR sig nD τ) ℕ

set_option maxHeartbeats 40000000 in
/-- Case A: the outputs' tracked columns and rows after the body. -/
theorem val_A (c : Dev nD) (i : grid0.Coords) (arg1 : Memref sig .tc .vmem S256x3584 .bf16) (harg1 : arg1.IsWhole) (arg2 : Memref sig .tc .vmem S16x3584 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S256x1536 .bf16) (harg5 : arg5.IsWhole) (arg6 : Memref sig .tc .vmem S1x16x1024 .f32) (harg6 : arg6.IsWhole) (arg7 : Memref sig .tc .vmem S1x8x256x256 .bf16) (harg7 : arg7.IsWhole) (arg8 : Memref sig .tc .vmem S256x3584 .bf16) (harg8 : arg8.IsWhole) (arg9 : Memref sig .tc .vmem S16x1024 .f32) (harg9 : arg9.IsWhole) (arg10 : Memref sig .tc .vmem S8x256x256 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S264x1024 .f32) (harg16 : arg16.IsWhole) (arg17 : Memref sig .tc .vmem S264x1024 .f32) (harg17 : arg17.IsWhole) (arg18 : Memref sig .tc .vmem S3x8x1024 .f32) (harg18 : arg18.IsWhole) (arg19 : Memref sig .tc .vmem S8x1024 .f32) (harg19 : arg19.IsWhole) (arg20 : Memref sig .tc .vmem S8x1024 .f32) (harg20 : arg20.IsWhole) (arg21 : Memref sig .tc .vmem S8x512 .f32) (harg21 : arg21.IsWhole) (hc0 : cond0_0 i) (hc1 : ¬cond0_1 i) (x1 : Vec Ideal S256x3584 .bf16) (x2 : Vec Ideal S16x3584 .bf16) (x3 : Vec Ideal S256x1024 .f32) (x4 : Vec Ideal S8x1024 .f32) (x5 : Vec Ideal S256x1536 .bf16) (x6 : Vec Ideal S1x16x1024 .f32) (x7 : Vec Ideal S1x8x256x256 .bf16)  (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, (arg8.view.loc (c : Thread nD τ) ↦[arg8.view.set]{fullShare} f) ∗ ⌜Good8 i x1 x2 x3 x5 x6 (fun _ => 0) (arg8.view.read (Elt Ideal) f)⌝) ∗ (∃ f, (arg9.view.loc (c : Thread nD τ) ↦[arg9.view.set]{fullShare} f) ∗ ⌜Good9 i x1 x2 x5 (fun _ => 0) (fun _ _ => 0) (arg9.view.read (Elt Ideal) f)⌝) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, (arg21.view.loc (c : Thread nD τ) ↦[arg21.view.set]{fullShare} f) ∗ ⌜Good21 x1 x5 (fun _ => 0) (arg21.view.read (Elt Ideal) f)⌝)) -∗ K ⟨⟩))
      ⊢ wp frame (wpE (defs₀ (F := Ideal)) Variants.none c none) E (cc0_bwd_mixer_1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_bwd_mixer_1_eq_skeleton]; unfold cc0_bwd_mixer_1_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitl
    · iexact H8
    · ipureintro
      refine good8 harg1 harg2 harg5 harg6 i x1 x2 x3 x5 x6 (fun _ => 0) f8 _ ?_ _ _ (fun r j => ?_)
      · exact fill21 _ _
      · refine (st_gate _ trips_eq.le f8 r j no_row).trans ?_
        rw [harg1.read_unread, harg5.read_unread]
        exact congrArg (gate _ _) (stage17 harg3 x3 _ _ r j)
  isplitl [H9]
  · iexists _; isplitl
    · iexact H9
    · ipureintro
      refine good9 harg1 harg2 harg5 i x1 x2 x5 (fun _ => 0) _ (fun _ _ => 0) _ _ _ ?_ ?_ ?_ _
      · intro j; refine cov9 8 (by decide) _ _ j ?_; exact past _ _ _ _ _ _ (.inl (by decide)) (past _ _ _ _ _ _ (.inr (by decide)) (past _ _ _ _ _ _ (.inr (by decide)) (past _ _ _ _ _ _ (.inr (by decide)) (past _ _ _ _ _ _ (.inr (by decide)) (past _ _ _ _ _ _ (.inr (by decide)) (filled _ _ _ _))))))
      · intro j; refine cov9 9 (by decide) _ _ j ?_; exact past _ _ _ _ _ _ (.inr (by decide)) (past _ _ _ _ _ _ (.inl (by decide)) (past _ _ _ _ _ _ (.inr (by decide)) (past _ _ _ _ _ _ (.inr (by decide)) (past _ _ _ _ _ _ (.inr (by decide)) (past _ _ _ _ _ _ (.inr (by decide)) (past _ _ _ _ _ _ (.inr (by decide)) (filled _ _ _ _)))))))
      · intro j; refine cov9 10 (by decide) _ _ j ?_; exact past _ _ _ _ _ _ (.inr (by decide)) (past _ _ _ _ _ _ (.inr (by decide)) (past _ _ _ _ _ _ (.inr (by decide)) (past _ _ _ _ _ _ (.inr (by decide)) (past _ _ _ _ _ _ (.inr (by decide)) (filled _ _ _ _)))))
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  isplitl [H20]
  · iexists _; iexact H20
  iexists _; isplitl
  · iexact H21
  · ipureintro
    exact good21 harg1 harg5 x1 x5 (fun _ => 0) _ _

end Cert.Proof.MixVal

end
-- ==== Proof.MixValC.lean ====
module

public import proofs.«01_k».proof.Proof.Gen.KernelIdeal.Frame
public import proofs.«01_k».proof.Proof.Gen.KernelIdeal.Loops
public import proofs.«01_k».proof.Proof.MixRunA
public import proofs.«01_k».proof.Proof.MixValB
public import proofs.«01_k».proof.Proof.MixBlock
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.WordCmp

@[expose] public section

set_option maxRecDepth 16384

noncomputable section

namespace Cert.Proof.MixVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Proof.MixGate Cert.Proof.MixBlock
open Cert.KernelIdeal.Mix (cond0_0 cond0_1)

local notation "𝕄" => MT nD τ sig Unit (Elt Ideal) ℕ (UR sig nD τ) ℕ

set_option maxHeartbeats 40000000 in
/-- Case C: the outputs' tracked columns and rows after the body. -/
theorem val_C (c : Dev nD) (i : grid0.Coords) (arg1 : Memref sig .tc .vmem S256x3584 .bf16) (harg1 : arg1.IsWhole) (arg2 : Memref sig .tc .vmem S16x3584 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S256x1536 .bf16) (harg5 : arg5.IsWhole) (arg6 : Memref sig .tc .vmem S1x16x1024 .f32) (harg6 : arg6.IsWhole) (arg7 : Memref sig .tc .vmem S1x8x256x256 .bf16) (harg7 : arg7.IsWhole) (arg8 : Memref sig .tc .vmem S256x3584 .bf16) (harg8 : arg8.IsWhole) (arg9 : Memref sig .tc .vmem S16x1024 .f32) (harg9 : arg9.IsWhole) (arg10 : Memref sig .tc .vmem S8x256x256 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S264x1024 .f32) (harg16 : arg16.IsWhole) (arg17 : Memref sig .tc .vmem S264x1024 .f32) (harg17 : arg17.IsWhole) (arg18 : Memref sig .tc .vmem S3x8x1024 .f32) (harg18 : arg18.IsWhole) (arg19 : Memref sig .tc .vmem S8x1024 .f32) (harg19 : arg19.IsWhole) (arg20 : Memref sig .tc .vmem S8x1024 .f32) (harg20 : arg20.IsWhole) (arg21 : Memref sig .tc .vmem S8x512 .f32) (harg21 : arg21.IsWhole) (hc0 : ¬cond0_0 i) (hc1 : cond0_1 i) (x1 : Vec Ideal S256x3584 .bf16) (x2 : Vec Ideal S16x3584 .bf16) (x3 : Vec Ideal S256x1024 .f32) (x4 : Vec Ideal S8x1024 .f32) (x5 : Vec Ideal S256x1536 .bf16) (x6 : Vec Ideal S1x16x1024 .f32) (x7 : Vec Ideal S1x8x256x256 .bf16) (x9 : Vec Ideal S16x1024 .f32) (x21 : Vec Ideal S8x512 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} f) ∗ owns (c : Thread nD τ) arg9 fullShare x9 ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ owns (c : Thread nD τ) arg21 fullShare x21 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, (arg8.view.loc (c : Thread nD τ) ↦[arg8.view.set]{fullShare} f) ∗ ⌜Good8 i x1 x2 x3 x5 x6 x21 (arg8.view.read (Elt Ideal) f)⌝) ∗ (∃ f, (arg9.view.loc (c : Thread nD τ) ↦[arg9.view.set]{fullShare} f) ∗ ⌜Good9 i x1 x2 x5 x21 (fun k j => x9 (ix2 ⟨8 + k.val, by omega⟩ ⟨j.val, by omega⟩)) (arg9.view.read (Elt Ideal) f)⌝) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, (arg21.view.loc (c : Thread nD τ) ↦[arg21.view.set]{fullShare} f) ∗ ⌜Good21 x1 x5 x21 (arg21.view.read (Elt Ideal) f)⌝)) -∗ K ⟨⟩))
      ⊢ wp frame (wpE (defs₀ (F := Ideal)) Variants.none c none) E (cc0_bwd_mixer_1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_bwd_mixer_1_eq_skeleton]; unfold cc0_bwd_mixer_1_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, %hf9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, %hf21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg21.eq_unread hf21
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitl
    · iexact H8
    · ipureintro
      refine good8 harg1 harg2 harg5 harg6 i x1 x2 x3 x5 x6 x21 f8 _ ?_ _ _ (fun r j => ?_)
      · exact load_whole harg21 x21 _
      · refine (st_gate _ trips_eq.le f8 r j no_row).trans ?_
        rw [harg1.read_unread, harg5.read_unread]
        exact congrArg (gate _ _) (stage17 harg3 x3 _ _ r j)
  isplitl [H9]
  · iexists _; isplitl
    · iexact H9
    · ipureintro
      refine good9_tail _ _ _ _ _ ?_
      refine good9 harg1 harg2 harg5 i x1 x2 x5 x21 _ (fun k j => x9 (ix2 ⟨8 + k.val, by omega⟩ ⟨j.val, by omega⟩)) _ _ _ ?_ ?_ ?_ _
      · intro j; exact row9 harg9 x9 8 (by decide) _ j
      · intro j; exact row9 harg9 x9 9 (by decide) _ j
      · intro j; exact row9 harg9 x9 10 (by decide) _ j
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  isplitl [H20]
  · iexists _; iexact H20
  iexists _; isplitl
  · iexact H21
  · ipureintro
    exact good21 harg1 harg5 x1 x5 x21 _ _

end Cert.Proof.MixVal

end
-- ==== Proof.MixWhole.lean ====
/-
  What a point of the mixer's backward call reads and leaves, in terms of the whole arrays: the block's rows are rows of the
  arrays, the rows in front of it and behind it are rows of the neighbouring blocks, and outside the sequence there is zero.
-/
module

public import proofs.«01_k».proof.Proof.Gen.KernelIdeal.Frame
public import proofs.«01_k».proof.Proof.MixBlock
public import Idealize.ShloMosaic.Lib.Pipeline.ValueKit
public import Idealize.ShloMosaic.Lib.WordCmp

@[expose] public section

set_option maxRecDepth 16384

noncomputable section

namespace Cert.Proof.MixWhole

open Cert.KernelIdeal Cert.KernelIdeal.Gen Idealize.ShloMosaic Idealize.ShloMosaic.TcCoe Idealize.SL.Sem
open Cert.Proof.MixGate Cert.Proof.MixConv Cert.Proof.MixBlock

/-- The product that enters the short convolution, eight zero rows in front of the sequence. -/
def PP (Z : FVec Ideal S4096x3584 .bf16) (e : ℕ) (j : Fin 512) : EReal :=
  if h : 8 ≤ e ∧ e - 8 < 4096 then Z (ix2 ⟨e - 8, h.2⟩ ⟨2560 + j.val, by omega⟩) * Z (ix2 ⟨e - 8, h.2⟩ ⟨3072 + j.val, by omega⟩) else 0

/-- The gradient at the short convolution's output, zero behind the sequence. -/
def DQ (Z : FVec Ideal S4096x3584 .bf16) (D : FVec Ideal S4096x1536 .bf16) (e : ℕ) (j : Fin 512) : EReal :=
  if h : e < 4096 then D (ix2 ⟨e, h⟩ ⟨1024 + j.val, by omega⟩) * Z (ix2 ⟨e, h⟩ ⟨2048 + j.val, by omega⟩) else 0

/-- The convolution's output at token `e`. -/
def conv (Z : FVec Ideal S4096x3584 .bf16) (w : Fin 3 → Fin 512 → EReal) (e : ℕ) (j : Fin 512) : EReal :=
  w 2 j * PP Z (8 + e) j + w 0 j * PP Z (6 + e) j + w 1 j * PP Z (7 + e) j

/-- The gradient at the convolution's input at token `e`. -/
def back (Z : FVec Ideal S4096x3584 .bf16) (D : FVec Ideal S4096x1536 .bf16) (w : Fin 3 → Fin 512 → EReal) (e : ℕ) (j : Fin 512) : EReal :=
  w 2 j * DQ Z D e j + w 0 j * DQ Z D (e + 2) j + w 1 j * DQ Z D (e + 1) j

/-- Block `b`'s part of the gradient of tap `k`. -/
def part (Z : FVec Ideal S4096x3584 .bf16) (D : FVec Ideal S4096x1536 .bf16) (b : ℕ) (k : Fin 3) (j : Fin 512) : EReal :=
  ∑ r : Fin 256, DQ Z D (b * 256 + r.val) j * PP Z (6 + k.val + (b * 256 + r.val)) j

variable (m : (ℓ : Loc nD τ sig) → Buf (Elt Ideal) ℓ) (c : Dev nD)

/-- The arrays as the call finds them: the mixer's input projections, -/
abbrev gZ : FVec Ideal S4096x3584 .bf16 := V m c main_arg0
/-- the recurrence's states, -/
abbrev gH : FVec Ideal S4096x1024 .f32 := V m c main_arg1
/-- and the cotangent. -/
abbrev gD : FVec Ideal S4096x1536 .bf16 := V m c main_arg2

theorem lt16 (t : Fin cfg0.N) : t.val < 16 := lt_of_lt_of_eq t.isLt (show cfg0.N = 16 from N_0)

/-- The windows' block indices: the grid runs from the last block of rows to the first. -/
theorem idx : ∀ t : Fin cfg0.N, win0_0.index t = ![15 - t.val, 0] ∧ win0_1.index t = ![(15 - t.val) * 16 - 1, 0]
    ∧ win0_2.index t = ![15 - t.val, 0] ∧ win0_4.index t = ![15 - t.val, 0] ∧ win0_5.index t = ![1, 0, 0]
    ∧ win0_7.index t = ![15 - t.val, 0] ∧ win0_8.index t = ![0, 0] :=
  (by decide +kernel : ∀ t : Fin grid0.N, _)

/-- Row `r` of the block that point `t` works on. -/
def row (t : Fin cfg0.N) (r : Fin 256) : Fin 4096 := ⟨(15 - t.val) * 256 + r.val, by have := lt16 t; omega⟩

theorem blk0 (t : Fin cfg0.N) (r : Fin 256) (j : Fin 3584) : iblk m c 0 t (ix2 r j) = gZ m c (ix2 (row t r) j) := by
  blk_ext [iblk, idx t, row]
theorem blk1 (t : Fin cfg0.N) (q : Fin 16) (j : Fin 3584) :
    iblk m c 1 t (ix2 q j) = gZ m c (ix2 ⟨((15 - t.val) * 16 - 1) * 16 + q.val, by omega⟩ j) := by
  blk_ext [iblk, idx t]
theorem blk2 (t : Fin cfg0.N) (r : Fin 256) (j : Fin 1024) : iblk m c 2 t (ix2 r j) = gH m c (ix2 (row t r) j) := by
  blk_ext [iblk, idx t, row]
theorem blk4 (t : Fin cfg0.N) (r : Fin 256) (j : Fin 1536) : iblk m c 4 t (ix2 r j) = gD m c (ix2 (row t r) j) := by
  blk_ext [iblk, idx t, row]
theorem blk5 (t : Fin cfg0.N) (q : Fin 16) (j : Fin 1024) : iblk m c 5 t (ix3 0 q j) = V m c main_v7 (ix3 1 q j) := by
  blk_ext [iblk, idx t]

/-- The taps as the call finds them. -/
def taps (k : Fin 3) (j : Fin 512) : EReal := (V m c main_v7 : FVec Ideal S2x16x1024 .f32) (ix3 1 ⟨8 + k.val, by omega⟩ ⟨j.val, by omega⟩)

theorem tap_eq (t : Fin cfg0.N) (k : Fin 3) (j : Fin 512) : tap (iblk m c 5 t) k j = taps m c k j := by
  unfold tap taps; exact blk5 m c t _ _

/-- The rows in front are kept, except in front of the first block, where they are multiplied by zero. -/
theorem keep (t : Fin cfg0.N) (x : Vec Ideal S16x3584 .bf16) (q : Fin 8) (j : Fin 3584) :
    k0_pay90 (F := Ideal) (grid0.coords t) x (ix2 q j) = if t.val = 15 then 0 else x (ix2 ⟨8 + q.val, by omega⟩ j) := by
  have ht := lt16 t
  have e0 : (grid0.coords t 0).val = t.val / 1 % 16 := Pipeline.Grid.coords_val t 0 (by decide) rfl
  by_cases h : t.val = 15
  · rw [if_pos h]
    pointwise [k0_pay90, k0_pay89]
    rw [e0, h, show Scalar.cmpi .eq (BitVec.ofNat 32 (15 / 1 % 16)) 15#32 = 1#1 by decide]
    rfl
  · rw [if_neg h]
    pointwise [k0_pay90, k0_pay89]
    rw [e0, (by decide : ∀ n < 16, n ≠ 15 → Scalar.cmpi .eq (BitVec.ofNat 32 (n / 1 % 16)) 15#32 = 0#1) t.val ht h]
    rfl

theorem bp_eq (t : Fin cfg0.N) (e : ℕ) (he : e < 264) (j : Fin 512) :
    bp (grid0.coords t) (iblk m c 0 t) (iblk m c 1 t) e he j = PP (gZ m c) ((15 - t.val) * 256 + e) j := by
  have ht := lt16 t
  unfold bp pe PP
  by_cases h : e < 8
  · rw [dif_pos h, keep, keep]
    by_cases h' : t.val = 15
    · rw [if_pos h', if_pos h', dif_neg (by omega), mul_zero]
    · rw [if_neg h', if_neg h', dif_pos (by omega)]
      refine congrArg₂ (· * ·) ((blk1 m c t _ _).trans ?_) ((blk1 m c t _ _).trans ?_)
      · congr 2; refine Fin.ext ?_; show ((15 - t.val) * 16 - 1) * 16 + (8 + e) = (15 - t.val) * 256 + e - 8; omega
      · congr 2; refine Fin.ext ?_; show ((15 - t.val) * 16 - 1) * 16 + (8 + e) = (15 - t.val) * 256 + e - 8; omega
  · rw [dif_neg h, dif_pos (by omega)]
    rw [cols_apply, cols_apply]
    refine congrArg₂ (· * ·) ((blk0 m c t _ _).trans ?_) ((blk0 m c t _ _).trans ?_)
    · congr 2; refine Fin.ext ?_; show (15 - t.val) * 256 + (e - 8) = (15 - t.val) * 256 + e - 8; omega
    · congr 2; refine Fin.ext ?_; show (15 - t.val) * 256 + (e - 8) = (15 - t.val) * 256 + e - 8; omega

/-- The rows of the block after point `t`'s that point `t` is handed. -/
def car (n : ℕ) : Vec Ideal S8x512 .f32 := fun y => DQ (gZ m c) (gD m c) ((16 - n) * 256 + (y 0).val) (y 1)

theorem bq_eq (t : Fin cfg0.N) (e : ℕ) (he : e < 264) (j : Fin 512) :
    bq (iblk m c 0 t) (iblk m c 4 t) (car m c t.val) e he j = DQ (gZ m c) (gD m c) ((15 - t.val) * 256 + e) j := by
  have ht := lt16 t
  unfold bq dqe
  by_cases h : e < 256
  · rw [dif_pos h]
    unfold DQ
    rw [dif_pos (by omega), cols_apply, cols_apply]
    exact congrArg₂ (· * ·) (blk4 m c t _ _) (blk0 m c t _ _)
  · rw [dif_neg h]
    show DQ _ _ ((16 - t.val) * 256 + (e - 256)) j = _
    congr 1; omega

theorem car_zero : car m c 0 = fun _ => 0 := by
  funext y
  unfold car DQ
  rw [dif_neg (by omega)]

/-- What point `t` leaves for the next one. -/
theorem car_step (t : Fin cfg0.N) (N : Vec Ideal S8x512 .f32) (hN : N = car m c t.val) (X : Vec Ideal S8x512 .f32)
    (h : Good21 (iblk m c 0 t) (iblk m c 4 t) N X) : X = car m c (t.val + 1) := by
  subst hN
  have ht := lt16 t
  funext y
  idx_vars y
  rw [h y0 y1, bq_eq]
  show _ = DQ _ _ ((16 - (t.val + 1)) * 256 + y0.val) y1
  congr 1; omega

/-- Row `r` of the convolution of point `t`'s block is row `row t r` of the whole. -/
theorem conv_eq (t : Fin cfg0.N) (r : Fin 256) (j : Fin 512) :
    MixBlock.conv (grid0.coords t) (iblk m c 0 t) (iblk m c 1 t) (iblk m c 5 t) r j
      = conv (gZ m c) (taps m c) (row t r).val j := by
  unfold MixBlock.conv conv row
  simp only [bp_eq, tap_eq]
  simp only [show ∀ a, (15 - t.val) * 256 + (a + r.val) = a + ((15 - t.val) * 256 + r.val) from fun a => by omega]

theorem back_eq (t : Fin cfg0.N) (N : Vec Ideal S8x512 .f32) (hN : N = car m c t.val) (r : Fin 256) (j : Fin 512) :
    MixBlock.back (iblk m c 0 t) (iblk m c 4 t) (iblk m c 5 t) N r j
      = back (gZ m c) (gD m c) (taps m c) (row t r).val j := by
  subst hN
  unfold MixBlock.back back row
  simp only [bq_eq, tap_eq, Nat.add_assoc]

theorem part_eq (t : Fin cfg0.N) (N : Vec Ideal S8x512 .f32) (hN : N = car m c t.val) (k : Fin 3) (j : Fin 512) :
    MixBlock.part (grid0.coords t) (iblk m c 0 t) (iblk m c 1 t) (iblk m c 4 t) N k j
      = part (gZ m c) (gD m c) (15 - t.val) k j := by
  subst hN
  unfold MixBlock.part part
  refine Finset.sum_congr rfl fun r _ => ?_
  rw [bq_eq, bp_eq]
  congr 2; omega

/-- The gradient block that point `t` leaves, at the tracked columns. -/
structure Left7 (t : Fin cfg0.N) (X : Vec Ideal S256x3584 .bf16) : Prop where
  g : ∀ (r : Fin 256) (j : Fin 1024), X (ix2 r ⟨1024 + j.val, by omega⟩)
    = gate (gZ m c (ix2 (row t r) ⟨1024 + j.val, by omega⟩)) (gD m c (ix2 (row t r) ⟨j.val, by omega⟩))
      (gH m c (ix2 (row t r) j))
  a : ∀ (r : Fin 256) (j : Fin 512), X (ix2 r ⟨2048 + j.val, by omega⟩)
    = gD m c (ix2 (row t r) ⟨1024 + j.val, by omega⟩) * conv (gZ m c) (taps m c) (row t r).val j
  b : ∀ (r : Fin 256) (j : Fin 512), X (ix2 r ⟨2560 + j.val, by omega⟩)
    = back (gZ m c) (gD m c) (taps m c) (row t r).val j * gZ m c (ix2 (row t r) ⟨3072 + j.val, by omega⟩)
  c : ∀ (r : Fin 256) (j : Fin 512), X (ix2 r ⟨3072 + j.val, by omega⟩)
    = back (gZ m c) (gD m c) (taps m c) (row t r).val j * gZ m c (ix2 (row t r) ⟨2560 + j.val, by omega⟩)

theorem left7 (t : Fin cfg0.N) (N : Vec Ideal S8x512 .f32) (hN : N = car m c t.val) (X : Vec Ideal S256x3584 .bf16)
    (h : Good8 (grid0.coords t) (iblk m c 0 t) (iblk m c 1 t) (iblk m c 2 t) (iblk m c 4 t) (iblk m c 5 t) N X) : Left7 m c t X where
  g r j := by rw [h.g, blk0, blk4, blk2]
  a r j := by rw [h.a, blk4, conv_eq]
  b r j := by rw [h.b, back_eq m c t N hN, blk0]
  c r j := by rw [h.c, back_eq m c t N hN, blk0]

/-- The taps' gradient rows after point `t`: the sum over the blocks done. -/
def Left8 (t : Fin cfg0.N) (X : Vec Ideal S16x1024 .f32) : Prop := ∀ (k : Fin 3) (j : Fin 512),
  X (ix2 ⟨8 + k.val, by omega⟩ ⟨j.val, by omega⟩)
    = ∑ n ∈ Finset.range (t.val + 1), part (gZ m c) (gD m c) (15 - n) k j

theorem left8_first (t : Fin cfg0.N) (h0 : t.val = 0) (X : Vec Ideal S16x1024 .f32)
    (h : Good9 (grid0.coords t) (iblk m c 0 t) (iblk m c 1 t) (iblk m c 4 t) (fun _ => 0) (fun _ _ => 0) X) : Left8 m c t X := by
  intro k j
  rw [h k j, part_eq m c t _ (by rw [h0, car_zero]), zero_add, h0, Finset.sum_range_one]

theorem left8_next (t u : Fin cfg0.N) (hu : t.val = u.val + 1) (Y X : Vec Ideal S16x1024 .f32) (hY : Left8 m c u Y)
    (h : Good9 (grid0.coords t) (iblk m c 0 t) (iblk m c 1 t) (iblk m c 4 t) (car m c t.val)
      (fun k j => Y (ix2 ⟨8 + k.val, by omega⟩ ⟨j.val, by omega⟩)) X) : Left8 m c t X := by
  intro k j
  rw [h k j, part_eq m c t _ rfl]
  show Y (ix2 ⟨8 + k.val, _⟩ ⟨j.val, _⟩) + _ = _
  rw [hY k j, Finset.sum_range_succ _ t.val, hu]

theorem prm_piece (A B : FVec Ideal S2x4x1024 .f32) (P : FVec Ideal S2x3x1024 .f32) (E : FVec Ideal S2x5x1024 .f32) (h) (k : Fin 3) (j : Fin 512) :
    concatenate S2x16x1024 1 [⟨S2x4x1024, A⟩, ⟨S2x4x1024, B⟩, ⟨S2x3x1024, P⟩, ⟨S2x5x1024, E⟩] h (ix3 1 ⟨8 + k.val, by omega⟩ ⟨j.val, by omega⟩)
      = P (ix3 1 k ⟨j.val, by omega⟩) := by
  pointwise
  rw [dif_neg (by omega), dif_neg (by omega), dif_pos (by omega)]
  congr 2
  refine Fin.ext ?_
  show 8 + k.val - 4 - 4 = k.val
  omega

theorem pad_piece (x : FVec Ideal S2x3x512 .f32) (v : FVec Ideal S_ .f32) (h) (h') (k : Fin 3) (j : Fin 512) :
    pad S2x3x1024 ![0, 0, 0] ![0, 0, 512] ![0, 0, 0] x v h h' (ix3 1 k ⟨j.val, by omega⟩) = x (ix3 1 k j) := by
  rw [pad_apply, dif_pos (by
    intro a
    fin_cases a
    · simp
    · simp [Nat.mod_one]
    · simp [Nat.mod_one])]
  pointwise

/-- The taps are those of the argument. -/
theorem V_prm (k : Fin 3) (j : Fin 512) : taps m c k j = m ((c : Thread nD τ).loc main_arg8) (ix3 1 k j) := by
  unfold taps
  refine (congrFun (show V m c main_v7 = ?_ from ?_) _).trans ?_
  rotate_left
  · unfold_abbrev_sides
    simp only [hostOps0, hostOps0_1, hostOps0_2, List.flatten_cons, List.flatten_nil, List.append_nil, List.cons_append, List.nil_append]
    after_results
  rw [StableHlo.nary4_result]
  refine (prm_piece _ _ _ _ _ k j).trans ?_
  after_results_steps
  refine (show _ = pad S2x3x1024 ![0, 0, 0] ![0, 0, 512] ![0, 0, 0] (m ((c : Thread nD τ).loc main_arg8)) _ pads_S2x3x512_S2x3x1024_000_000_05120 h_S_
    (ix3 1 k ⟨j.val, by omega⟩) from rfl).trans ?_
  exact pad_piece _ _ _ _ k j

end Cert.Proof.MixWhole

end
-- ==== Proof.MixLaunch.lean ====
/-
  The launch of the mixer's backward call at the extended reals: what its result arrays hold at the tracked columns and rows.
-/
module

public import proofs.«01_k».proof.Proof.MixFrame
public import proofs.«01_k».proof.Proof.MixValA
public import proofs.«01_k».proof.Proof.MixValB
public import proofs.«01_k».proof.Proof.MixValC
public import proofs.«01_k».proof.Proof.MixWhole
public import Idealize.ShloMosaic.Lib.Pipeline.ReadBack

@[expose] public section

set_option maxRecDepth 16384

noncomputable section

namespace Cert.Proof.MixLaunch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Proof.MixGate Cert.Proof.MixBlock Cert.Proof.MixWhole Cert.Proof.MixVal
open Cert.KernelIdeal.Mix (cond0_0 cond0_1 hcond0_0 hcond0_1 dats A_eq fgt defs₀_row ms0_0 ms0_1 ms0_2 ms0_3 ms0_4 ms0_5 ms0_6 ms0_7 ms0_8 ms0_9)

local notation "𝕄" => MT nD τ sig Unit (Elt Ideal) ℕ (UR sig nD τ) ℕ

variable (m : (ℓ : Loc nD τ sig) → Buf (Elt Ideal) ℓ) (ρ : Dev nD → PrngReg)

/-- What a point leaves in the outputs: the gradient block's tracked columns, the taps' rows so far; of the gates' gradient
    nothing is said. -/
def Rl (c : Dev nD) (w : Fin cfg0.W) (t : Fin cfg0.N) (X : (cfg0.win w).block.Idx → Elt Ideal (cfg0.win w).elt) : Prop :=
  match w, X with
  | ⟨7, _⟩, X => Left7 m c t X
  | ⟨8, _⟩, X => Left8 m c t X
  | _, _ => True

/-- Between points the scratch of rows handed on holds the rows of the block last done. -/
def Φ (c : Dev nD) (n : Fin (cfg0.N + 1)) : sProp 𝕄 := iprop(((∃ f : Buf (Elt Ideal) ((c : Thread nD τ).loc cc0_scratch0), ((c : Thread nD τ).loc cc0_scratch0) ↦{fullShare} f) ∗ (∃ f : Buf (Elt Ideal) ((c : Thread nD τ).loc cc0_scratch1), ((c : Thread nD τ).loc cc0_scratch1) ↦{fullShare} f) ∗ (∃ f : Buf (Elt Ideal) ((c : Thread nD τ).loc cc0_scratch2), ((c : Thread nD τ).loc cc0_scratch2) ↦{fullShare} f) ∗ (∃ f : Buf (Elt Ideal) ((c : Thread nD τ).loc cc0_scratch3), ((c : Thread nD τ).loc cc0_scratch3) ↦{fullShare} f) ∗ (∃ f : Buf (Elt Ideal) ((c : Thread nD τ).loc cc0_scratch4), ((c : Thread nD τ).loc cc0_scratch4) ↦{fullShare} f) ∗ (∃ f : Buf (Elt Ideal) ((c : Thread nD τ).loc cc0_scratch5), ((c : Thread nD τ).loc cc0_scratch5) ↦{fullShare} f) ∗ (∃ f : Buf (Elt Ideal) ((c : Thread nD τ).loc cc0_scratch6), ((c : Thread nD τ).loc cc0_scratch6) ↦{fullShare} f) ∗ (∃ f : Buf (Elt Ideal) ((c : Thread nD τ).loc cc0_scratch7), ((c : Thread nD τ).loc cc0_scratch7) ↦{fullShare} f) ∗ (∃ f : Buf (Elt Ideal) ((c : Thread nD τ).loc cc0_scratch8), ((c : Thread nD τ).loc cc0_scratch8) ↦{fullShare} f) ∗ (∃ f : Buf (Elt Ideal) ((c : Thread nD τ).loc cc0_scratch9), ((c : Thread nD τ).loc cc0_scratch9) ↦{fullShare} f) ∗ (∃ f : Buf (Elt Ideal) ((c : Thread nD τ).loc cc0_scratch10), (((c : Thread nD τ).loc cc0_scratch10) ↦{fullShare} f) ∗ ⌜n.val ≠ 0 → f = car m c n.val⌝)) ∗ ∃ r, prngReg c r)

/-- The proof data with that between the points. -/
def rdats (c : Dev nD) : Dat τ (Elt Ideal) Unit ℕ (UR sig nD τ) ℕ cfg0 c := { dats m 0 c with Φ := Φ m c }

theorem A_eq' (c : Dev nD) (w : Fin cfg0.W) : (rdats m c).A w = V m c (Pipeline.arrRef spec0 w) := A_eq m c w
theorem after0_0 (c : Dev nD) (t : Fin cfg0.N) : (rdats m c).after 0 t = iblk m c 0 t := rfl
theorem after0_1 (c : Dev nD) (t : Fin cfg0.N) : (rdats m c).after 1 t = iblk m c 1 t := rfl
theorem after0_2 (c : Dev nD) (t : Fin cfg0.N) : (rdats m c).after 2 t = iblk m c 2 t := rfl
theorem after0_3 (c : Dev nD) (t : Fin cfg0.N) : (rdats m c).after 3 t = iblk m c 3 t := rfl
theorem after0_4 (c : Dev nD) (t : Fin cfg0.N) : (rdats m c).after 4 t = iblk m c 4 t := rfl
theorem after0_5 (c : Dev nD) (t : Fin cfg0.N) : (rdats m c).after 5 t = iblk m c 5 t := rfl
theorem after0_6 (c : Dev nD) (t : Fin cfg0.N) : (rdats m c).after 6 t = iblk m c 6 t := rfl
theorem before0_0 (c : Dev nD) (t : Fin cfg0.N) (d) : (rdats m c).before 0 t d = iblk m c 0 t :=
  before0_0_of m (rdats m c) (A_eq' m c 0) (after0_0 m c) t d
theorem before0_1 (c : Dev nD) (t : Fin cfg0.N) (d) : (rdats m c).before 1 t d = iblk m c 1 t :=
  before0_1_of m (rdats m c) (A_eq' m c 1) (after0_1 m c) t d
theorem before0_2 (c : Dev nD) (t : Fin cfg0.N) (d) : (rdats m c).before 2 t d = iblk m c 2 t :=
  before0_2_of m (rdats m c) (A_eq' m c 2) (after0_2 m c) t d
theorem before0_3 (c : Dev nD) (t : Fin cfg0.N) (d) : (rdats m c).before 3 t d = iblk m c 3 t :=
  before0_3_of m (rdats m c) (A_eq' m c 3) (after0_3 m c) t d
theorem before0_4 (c : Dev nD) (t : Fin cfg0.N) (d) : (rdats m c).before 4 t d = iblk m c 4 t :=
  before0_4_of m (rdats m c) (A_eq' m c 4) (after0_4 m c) t d
theorem before0_5 (c : Dev nD) (t : Fin cfg0.N) (d) : (rdats m c).before 5 t d = iblk m c 5 t :=
  before0_5_of m (rdats m c) (A_eq' m c 5) (after0_5 m c) t d
theorem before0_6 (c : Dev nD) (t : Fin cfg0.N) (d) : (rdats m c).before 6 t d = iblk m c 6 t :=
  before0_6_of m (rdats m c) (A_eq' m c 6) (after0_6 m c) t d

/-- What the body is called with at point `t`, -/
def bodyPre (c : Dev nD) (t : Fin cfg0.N) : sProp 𝕄 := iprop((rdats m c).Φ t.castSucc ∗ (rdats m c).owesAt () t.castSucc ∗ (∃ d, owns (c : Thread nD τ) (ms0_0 t) fullShare ((rdats m c).before 0 t d)) ∗ (∃ d, owns (c : Thread nD τ) (ms0_1 t) fullShare ((rdats m c).before 1 t d)) ∗ (∃ d, owns (c : Thread nD τ) (ms0_2 t) fullShare ((rdats m c).before 2 t d)) ∗ (∃ d, owns (c : Thread nD τ) (ms0_3 t) fullShare ((rdats m c).before 3 t d)) ∗ (∃ d, owns (c : Thread nD τ) (ms0_4 t) fullShare ((rdats m c).before 4 t d)) ∗ (∃ d, owns (c : Thread nD τ) (ms0_5 t) fullShare ((rdats m c).before 5 t d)) ∗ (∃ d, owns (c : Thread nD τ) (ms0_6 t) fullShare ((rdats m c).before 6 t d)) ∗ (∃ Y, ⌜((rdats m c).toRRel fgt (Rl m c)).Finds 7 t Y⌝ ∗ owns (c : Thread nD τ) (ms0_7 t) fullShare Y) ∗ (∃ Y, ⌜((rdats m c).toRRel fgt (Rl m c)).Finds 8 t Y⌝ ∗ owns (c : Thread nD τ) (ms0_8 t) fullShare Y) ∗ (∃ Y, ⌜((rdats m c).toRRel fgt (Rl m c)).Finds 9 t Y⌝ ∗ owns (c : Thread nD τ) (ms0_9 t) fullShare Y))
/-- and what it returns. -/
def bodyPost (c : Dev nD) (t : Fin cfg0.N) : sProp 𝕄 := iprop((rdats m c).Φ t.succ ∗ (rdats m c).owesAt () t.succ ∗ owns (c : Thread nD τ) (ms0_0 t) fullShare ((rdats m c).after 0 t) ∗ owns (c : Thread nD τ) (ms0_1 t) fullShare ((rdats m c).after 1 t) ∗ owns (c : Thread nD τ) (ms0_2 t) fullShare ((rdats m c).after 2 t) ∗ owns (c : Thread nD τ) (ms0_3 t) fullShare ((rdats m c).after 3 t) ∗ owns (c : Thread nD τ) (ms0_4 t) fullShare ((rdats m c).after 4 t) ∗ owns (c : Thread nD τ) (ms0_5 t) fullShare ((rdats m c).after 5 t) ∗ owns (c : Thread nD τ) (ms0_6 t) fullShare ((rdats m c).after 6 t) ∗ (∃ X, ⌜Rl m c 7 t X⌝ ∗ owns (c : Thread nD τ) (ms0_7 t) fullShare X) ∗ (∃ X, ⌜Rl m c 8 t X⌝ ∗ owns (c : Thread nD τ) (ms0_8 t) fullShare X) ∗ (∃ X, ⌜Rl m c 9 t X⌝ ∗ owns (c : Thread nD τ) (ms0_9 t) fullShare X))

/-- The taps' window is written back at the last point only, and never fetched. -/
theorem flush8 : ∀ t : Fin cfg0.N, (cfg0.win 8).flush t = true → t.val = 15 := (by decide +kernel : ∀ t : Fin grid0.N, _)
theorem fetch8 : ∀ t : Fin cfg0.N, (cfg0.win 8).fetch t = false := (by decide +kernel : ∀ t : Fin grid0.N, _)

/-- After the first point the body finds the rows that the point before left. -/
theorem found8 (c : Dev nD) (t : Fin cfg0.N) (h0 : t.val ≠ 0) (Y : Vec Ideal S16x1024 .f32)
    (h : ((rdats m c).toRRel fgt (Rl m c)).Finds 8 t Y) : Left8 m c ⟨t.val - 1, by omega⟩ Y := by
  have ht := lt16 t
  rcases (Pipeline.RDat.finds_of_pos _ (fetch8 t) h0 Y).mp h with hf | hl
  · have := flush8 _ hf
    simp only at this
    omega
  · exact Dat.toRRel_leaves (dat := (rdats m c)) (fgt := fgt) (Rl := Rl m c) (w := 8) rfl hl

set_option maxHeartbeats 4000000 in
/-- The body at any point, by the run of the case that the point is in. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (rdats m c).Φ t.castSucc = Φ m c t.castSucc from rfl, show (rdats m c).Φ t.succ = Φ m c t.succ from rfl,
    show (rdats m c).owesAt () t.succ = (rdats m c).owesAt () t.castSucc from rfl, after0_0, after0_1, after0_2, after0_3, after0_4, after0_5, after0_6]
  unfold Φ
  by_cases h0 : t.val = 0
  · iintro ⟨⟨⟨S0, S1, S2, S3, S4, S5, S6, S7, S8, S9, ⟨%f21, S10, %h21⟩⟩, Hr⟩, Ho, ⟨%d0, H0⟩, ⟨%d1, H1⟩, ⟨%d2, H2⟩, ⟨%d3, H3⟩, ⟨%d4, H4⟩, ⟨%d5, H5⟩, ⟨%d6, H6⟩, ⟨%Y7, %F7, H7⟩, ⟨%Y8, %F8, H8⟩, ⟨%Y9, %F9, H9⟩⟩
    have R := fun K : PUnit → sProp 𝕄 => val_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) ((hcond0_0 t).mpr h0) (fun h => by have := (hcond0_1 t).mp h; omega) (iblk m c 0 t) (iblk m c 1 t) (iblk m c 2 t) (iblk m c 3 t) (iblk m c 4 t) (iblk m c 5 t) (iblk m c 6 t) Set.univ K
    simp only [Memref.view_whole, View.set_whole] at R
    iapply (R _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; icases H7 with ⟨%f7, -, H7⟩; iexists _; iexact H7
    isplitl [H8]
    · unfold owns; icases H8 with ⟨%f8, -, H8⟩; iexists _; iexact H8
    isplitl [H9]
    · unfold owns; icases H9 with ⟨%f9, -, H9⟩; iexists _; iexact H9
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexists _; iexact S10
    iintro ⟨H0, H1, H2, H3, H4, H5, H6, ⟨%e7, H7, %G7⟩, ⟨%e8, H8, %G8⟩, ⟨%e9, H9⟩, S0, S1, S2, S3, S4, S5, S6, S7, S8, S9, ⟨%g21, S10, %G21⟩⟩
    isplitl [S0 S1 S2 S3 S4 S5 S6 S7 S8 S9 S10 Hr]
    · isplitr [Hr]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        iexists g21; isplitl [S10]; · iexact S10
        ipureintro; intro _; exact car_step m c t _ (by rw [h0, car_zero]) g21 G21
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr
      swap
      · unfold owns; iexists _; isplitr
        swap; · iexact H7
        ipureintro; rfl
      ipureintro; exact left7 m c t _ (by rw [h0, car_zero]) _ G7
    isplitl [H8]
    · iexists _; isplitr
      swap
      · unfold owns; iexists _; isplitr
        swap; · iexact H8
        ipureintro; rfl
      ipureintro; exact left8_first m c t h0 _ G8
    iexists _; isplitr
    swap
    · unfold owns; iexists _; isplitr
      swap; · iexact H9
      ipureintro; rfl
    ipureintro; exact trivial
  · by_cases h1 : t.val = 15
    · iintro ⟨⟨⟨S0, S1, S2, S3, S4, S5, S6, S7, S8, S9, ⟨%f21, S10, %h21⟩⟩, Hr⟩, Ho, ⟨%d0, H0⟩, ⟨%d1, H1⟩, ⟨%d2, H2⟩, ⟨%d3, H3⟩, ⟨%d4, H4⟩, ⟨%d5, H5⟩, ⟨%d6, H6⟩, ⟨%Y7, %F7, H7⟩, ⟨%Y8, %F8, H8⟩, ⟨%Y9, %F9, H9⟩⟩
      have R := fun K : PUnit → sProp 𝕄 => val_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) Y8 (car m c t.val) Set.univ K
      simp only [Memref.view_whole, View.set_whole] at R
      iapply (R _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; icases H7 with ⟨%f7, -, H7⟩; iexists _; iexact H7
      isplitl [H8]; · iexact H8
      isplitl [H9]
      · unfold owns; icases H9 with ⟨%f9, -, H9⟩; iexists _; iexact H9
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]
      · unfold owns; iexists f21; isplitr
        · ipureintro; exact h21 h0
        simp only [Memref.view_whole, View.set_whole]; iexact S10
      iintro ⟨H0, H1, H2, H3, H4, H5, H6, ⟨%e7, H7, %G7⟩, ⟨%e8, H8, %G8⟩, ⟨%e9, H9⟩, S0, S1, S2, S3, S4, S5, S6, S7, S8, S9, ⟨%g21, S10, %G21⟩⟩
      isplitl [S0 S1 S2 S3 S4 S5 S6 S7 S8 S9 S10 Hr]
      · isplitr [Hr]
        · isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          iexists g21; isplitl [S10]; · iexact S10
          ipureintro; intro _; exact car_step m c t _ rfl g21 G21
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iexists _; isplitr
        swap
        · unfold owns; iexists _; isplitr
          swap; · iexact H7
          ipureintro; rfl
        ipureintro; exact left7 m c t _ rfl _ G7
      isplitl [H8]
      · iexists _; isplitr
        swap
        · unfold owns; iexists _; isplitr
          swap; · iexact H8
          ipureintro; rfl
        ipureintro; exact left8_next m c t ⟨t.val - 1, by omega⟩ (by show t.val = t.val - 1 + 1; omega) Y8 _ (found8 m c t h0 Y8 F8) G8
      iexists _; isplitr
      swap
      · unfold owns; iexists _; isplitr
        swap; · iexact H9
        ipureintro; rfl
      ipureintro; exact trivial
    · iintro ⟨⟨⟨S0, S1, S2, S3, S4, S5, S6, S7, S8, S9, ⟨%f21, S10, %h21⟩⟩, Hr⟩, Ho, ⟨%d0, H0⟩, ⟨%d1, H1⟩, ⟨%d2, H2⟩, ⟨%d3, H3⟩, ⟨%d4, H4⟩, ⟨%d5, H5⟩, ⟨%d6, H6⟩, ⟨%Y7, %F7, H7⟩, ⟨%Y8, %F8, H8⟩, ⟨%Y9, %F9, H9⟩⟩
      have R := fun K : PUnit → sProp 𝕄 => val_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) Y8 (car m c t.val) Set.univ K
      simp only [Memref.view_whole, View.set_whole] at R
      iapply (R _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; icases H7 with ⟨%f7, -, H7⟩; iexists _; iexact H7
      isplitl [H8]; · iexact H8
      isplitl [H9]
      · unfold owns; icases H9 with ⟨%f9, -, H9⟩; iexists _; iexact H9
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]
      · unfold owns; iexists f21; isplitr
        · ipureintro; exact h21 h0
        simp only [Memref.view_whole, View.set_whole]; iexact S10
      iintro ⟨H0, H1, H2, H3, H4, H5, H6, ⟨%e7, H7, %G7⟩, ⟨%e8, H8, %G8⟩, ⟨%e9, H9⟩, S0, S1, S2, S3, S4, S5, S6, S7, S8, S9, ⟨%g21, S10, %G21⟩⟩
      isplitl [S0 S1 S2 S3 S4 S5 S6 S7 S8 S9 S10 Hr]
      · isplitr [Hr]
        · isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          iexists g21; isplitl [S10]; · iexact S10
          ipureintro; intro _; exact car_step m c t _ rfl g21 G21
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iexists _; isplitr
        swap
        · unfold owns; iexists _; isplitr
          swap; · iexact H7
          ipureintro; rfl
        ipureintro; exact left7 m c t _ rfl _ G7
      isplitl [H8]
      · iexists _; isplitr
        swap
        · unfold owns; iexists _; isplitr
          swap; · iexact H8
          ipureintro; rfl
        ipureintro; exact left8_next m c t ⟨t.val - 1, by omega⟩ (by show t.val = t.val - 1 + 1; omega) Y8 _ (found8 m c t h0 Y8 F8) G8
      iexists _; isplitr
      swap
      · unfold owns; iexists _; isplitr
        swap; · iexact H9
        ipureintro; rfl
      ipureintro; exact trivial

/-- The body obligation, the outputs held to `Rl`. -/
theorem body_obligation (c : Dev nD) :
    Pipeline.BodyObligationRel (rdats m c) (defs₀ (F := Ideal)) Variants.none () Set.univ fgt (Rl m c) := fun t => by
  rw [bigSep_W0, bigSep_W0, defs₀_row]
  exact triple_restated (sound_body m c t) rfl .rfl fun _ => .rfl

theorem Φ_in (c : Dev nD) : Pipeline.ΦA spec0 c ⊢ Φ m c 0 := by
  unfold Pipeline.ΦA Φ
  rw [scopedRest0_eq]
  iintro ⟨⟨S0, S1, S2, S3, S4, S5, S6, S7, S8, S9, ⟨%f21, S10⟩⟩, Hr⟩
  isplitr [Hr]
  · (isplitl [S0]; · iexact S0); (isplitl [S1]; · iexact S1); (isplitl [S2]; · iexact S2); (isplitl [S3]; · iexact S3); (isplitl [S4]; · iexact S4); (isplitl [S5]; · iexact S5); (isplitl [S6]; · iexact S6); (isplitl [S7]; · iexact S7); (isplitl [S8]; · iexact S8); (isplitl [S9]; · iexact S9)
    iexists f21; isplitl [S10]; · iexact S10
    ipureintro; intro h; exact absurd rfl h
  · iexact Hr

theorem Φ_out (c : Dev nD) (n : Fin (cfg0.N + 1)) : Φ m c n ⊢ Pipeline.ΦA spec0 c := by
  unfold Pipeline.ΦA Φ
  rw [scopedRest0_eq]
  iintro ⟨⟨S0, S1, S2, S3, S4, S5, S6, S7, S8, S9, ⟨%f21, S10, -⟩⟩, Hr⟩
  isplitr [Hr]
  · (isplitl [S0]; · iexact S0); (isplitl [S1]; · iexact S1); (isplitl [S2]; · iexact S2); (isplitl [S3]; · iexact S3); (isplitl [S4]; · iexact S4); (isplitl [S5]; · iexact S5); (isplitl [S6]; · iexact S6); (isplitl [S7]; · iexact S7); (isplitl [S8]; · iexact S8); (isplitl [S9]; · iexact S9)
    iexists f21; iexact S10
  · iexact Hr

set_option backward.isDefEq.respectTransparency.types false in
/-- The launch: every array ends at some contents that it may hold, the counters at zero. -/
theorem run : θ_run defs (onTc (τ := τ) (main (F := Ideal))) (s₀ m ρ)
    (fun r => Pipeline.RDat.FramePost cfg0 (fun c => (rdats m c).toRRel fgt (Rl m c)) (V m) r ∧ r.2.sem = fun _ => 0) :=
  Pipeline.RDat.θ_run_frame_track_shared (Q' := _) cfgs (0 : Fin 1) launch₀0 defs₀ Variants.none (fun c => (rdats m c).toRRel fgt (Rl m c)) m ρ main
    (hbody := fun c => (body_obligation m c).toRRel) (hq := fun _ _ _ => rfl)
    (howed := fun _ _ => rfl) (V := V m) (hmain := hmain m Variants.none) (hA := A_eq' m)
    (hin := fun c => Φ_in m c) (hout := fun c => Φ_out m c _) (hQ' := fun _ h => h)

end Cert.Proof.MixLaunch

end
-- ==== Proof.MixResult.lean ====
/-
  The result arrays of the mixer's backward call at the tracked columns and rows, as formulas of the arguments.
-/
module

public import proofs.«01_k».proof.Proof.MixLaunch

@[expose] public section

set_option maxRecDepth 16384

noncomputable section

namespace Cert.Proof.MixResult

open Cert.KernelIdeal Cert.KernelIdeal.Gen Idealize.ShloMosaic Idealize.ShloMosaic.TcCoe Idealize.SL.Sem
open Cert.Proof.MixGate Cert.Proof.MixWhole Cert.Proof.MixLaunch
open Cert.KernelIdeal.Mix (dats fgt)

/-- The gradients that are claimed, of the projections `Z`, the states `H`, the cotangent `D` and the layer's taps `w`:
    the gate's columns, the three column blocks of the short convolution, and the three rows of the taps' gradient. -/
structure Grads (Z : FVec Ideal S4096x3584 .bf16) (H : FVec Ideal S4096x1024 .f32) (D : FVec Ideal S4096x1536 .bf16)
    (w : Fin 3 → Fin 512 → EReal) (X : Vec Ideal S4096x3584 .bf16) (Y : Vec Ideal S16x1024 .f32) : Prop where
  g : ∀ (s : Fin 4096) (j : Fin 1024), X (ix2 s ⟨1024 + j.val, by omega⟩)
    = gate (Z (ix2 s ⟨1024 + j.val, by omega⟩)) (D (ix2 s ⟨j.val, by omega⟩)) (H (ix2 s j))
  a : ∀ (s : Fin 4096) (j : Fin 512), X (ix2 s ⟨2048 + j.val, by omega⟩) = D (ix2 s ⟨1024 + j.val, by omega⟩) * conv Z w s.val j
  b : ∀ (s : Fin 4096) (j : Fin 512), X (ix2 s ⟨2560 + j.val, by omega⟩) = back Z D w s.val j * Z (ix2 s ⟨3072 + j.val, by omega⟩)
  c : ∀ (s : Fin 4096) (j : Fin 512), X (ix2 s ⟨3072 + j.val, by omega⟩) = back Z D w s.val j * Z (ix2 s ⟨2560 + j.val, by omega⟩)
  e : ∀ (k : Fin 3) (j : Fin 512), Y (ix2 ⟨8 + k.val, by omega⟩ ⟨j.val, by omega⟩)
    = ∑ s : Fin 4096, DQ Z D s.val j * PP Z (6 + k.val + s.val) j

/-- The blocks' parts, last block first, add up to the sum over the sequence. -/
theorem sum_parts (Z : FVec Ideal S4096x3584 .bf16) (D : FVec Ideal S4096x1536 .bf16) (k : Fin 3) (j : Fin 512) :
    ∑ n ∈ Finset.range 16, part Z D (15 - n) k j = ∑ s : Fin 4096, DQ Z D s.val j * PP Z (6 + k.val + s.val) j := by
  rw [Finset.sum_range_reflect (fun n => part Z D n k j) 16, Finset.sum_range]
  exact (Fin.sum_mul_add_fin 16 256 (fun s : Fin 4096 => DQ Z D s.val j * PP Z (6 + k.val + s.val) j) rfl)

variable (m : (ℓ : Loc nD τ sig) → Buf (Elt Ideal) ℓ)

theorem out_row (t : Fin cfg0.N) : win0_7.index t = ![15 - t.val, 0] :=
  (by decide +kernel : ∀ t : Fin grid0.N, win0_7.index t = ![15 - t.val, 0]) t

/-- The point that writes a row, -/
def ptOf (s : Fin 4096) : Fin cfg0.N := ⟨15 - s.val / 256, lt_of_lt_of_eq (by omega : _ < 16) (show cfg0.N = 16 from N_0).symm⟩
/-- and the row's place in the point's block. -/
def inOf (s : Fin 4096) : Fin 256 := ⟨s.val % 256, by omega⟩

theorem row_ptOf (s : Fin 4096) : row (ptOf s) (inOf s) = s := by
  apply Fin.ext; simp only [row, ptOf, inOf]; omega

theorem ptOf_row (t : Fin cfg0.N) (r : Fin 256) : ptOf (row t r) = t := by
  have := lt16 t
  apply Fin.ext; simp only [row, ptOf]; omega

theorem inOf_row (t : Fin cfg0.N) (r : Fin 256) : inOf (row t r) = r := by
  have := lt16 t
  apply Fin.ext; simp only [row, inOf]; omega

/-- After the launch the result arrays hold the gradients. -/
theorem grads (r : PUnit × MemSt nD τ sig (Elt Ideal))
    (h : Pipeline.RDat.FramePost cfg0 (fun c => (rdats m c).toRRel fgt (Rl m c)) (V m) r) (c : Dev nD) :
    Grads (gZ m c) (gH m c) (gD m c) (taps m c) (r.2.mem ((c.tc : Thread nD τ).loc main_v36_0))
      (r.2.mem ((c.tc : Thread nD τ).loc main_v36_1)) := by
  obtain ⟨after, hL, hA⟩ := h.exists_exact c
  have h7 : r.2.mem ((c.tc : Thread nD τ).loc main_v36_0) = fun i : S4096x3584.Idx => after 7 (ptOf (i 0)) (ix2 (inOf (i 0)) (i 1)) := by
    refine (hA 7).trans ?_
    refine Pipeline.Dat.arrAt_eq_of_covers _ 7 _ (by decide +kernel) fun t _ y => ?_
    idx_vars y
    have he : ((cfg0.win 7).blk t).view.emb (ix2 y0 y1) = ix2 (row t y0) y1 := by
      blk_ext [out_row t, row]
    rw [he]
    blk_simp
    show after 7 t (ix2 y0 y1) = after 7 (ptOf (row t y0)) (ix2 (inOf (row t y0)) y1)
    rw [ptOf_row, inOf_row]
  have l7 : ∀ t, Left7 m c t (after 7 t) := fun t =>
    Pipeline.Dat.toRRel_leaves (dat := rdats m c) (fgt := fgt) (Rl := Rl m c) (w := 7) rfl
      (hL 7 t ((by decide +kernel : ∀ t : Fin grid0.N, win0_7.flush t = true) t))
  have h8 : r.2.mem ((c.tc : Thread nD τ).loc main_v36_1) = after 8 ⟨15, by decide⟩ := by
    refine (hA 8).trans ?_
    exact Pipeline.Dat.arrAt_eq_of_after_last _ 8 ⟨15, by decide⟩ (by decide +kernel) _ fun j => rfl
  have l8 : Left8 m c ⟨15, by decide⟩ (after 8 ⟨15, by decide⟩) :=
    Pipeline.Dat.toRRel_leaves (dat := rdats m c) (fgt := fgt) (Rl := Rl m c) (w := 8) rfl
      (hL 8 ⟨15, by decide⟩ (by decide +kernel))
  rw [h7, h8]
  refine ⟨fun s j => ?_, fun s j => ?_, fun s j => ?_, fun s j => ?_, fun k j => ?_⟩
  · refine ((l7 (ptOf s)).g (inOf s) j).trans ?_
    rw [row_ptOf]
  · refine ((l7 (ptOf s)).a (inOf s) j).trans ?_
    rw [row_ptOf]
  · refine ((l7 (ptOf s)).b (inOf s) j).trans ?_
    rw [row_ptOf]
  · refine ((l7 (ptOf s)).c (inOf s) j).trans ?_
    rw [row_ptOf]
  · exact (l8 k j).trans (sum_parts _ _ k j)

end Cert.Proof.MixResult

end
-- ==== Proof.MixRef.lean ====
/-
  What the plain gradient of the gate and of the short convolution is, element by element, at the extended reals, in the terms
  that the kernel's results are stated in: first the short convolution, which needs no more than that addition and
  multiplication commute and associate.
-/
module

public import proofs.«01_k».proof.Proof.Gen.ReferenceIdeal.Read
public import Idealize.ShloMosaic.Lib.Pipeline.ValueKit
public import Idealize.ShloMosaic.Lib.KernelVsHost
public import proofs.«01_k».proof.Proof.MixWhole

@[expose] public section

set_option maxRecDepth 16384

noncomputable section

namespace Cert.Proof.MixRef

open Idealize.ShloMosaic Cert.ReferenceIdeal Cert.ReferenceIdeal.Value Cert.ReferenceIdeal.Read
open Cert.Proof.MixWhole (PP DQ conv back)

variable (x0 : (⟨S4096x3584, .bf16⟩ : BufTy).Contents (Elt Ideal)) (x2 : (⟨S4096x1536, .bf16⟩ : BufTy).Contents (Elt Ideal))
  (x8 : (⟨S2x3x512, .f32⟩ : BufTy).Contents (Elt Ideal))

/-- The layer's taps. -/
def tapsOf (k : Fin 3) (j : Fin 512) : EReal := x8 (ix3 1 k j)

/-- The convolution's input with two zero rows in front. -/
theorem v32_eq (e : Fin 4098) (j : Fin 512) : val_main_v32 (F := Ideal) x0 (ix2 e j) = PP x0 (6 + e.val) j := by
  unfold PP
  pointwise [val_main_v32, val_main_v31, val_main_v30, val_main_v6, val_main_v7, val_main_v0, val_main_cst_6]
  by_cases h : e.val < 2
  · rw [dif_pos h, dif_neg (by omega)]
  · rw [dif_neg h, dif_pos (by omega)]
    have h' : (⟨e.val - 2, by omega⟩ : Fin 4096) = ⟨6 + e.val - 8, by omega⟩ := Fin.ext (by show e.val - 2 = 6 + e.val - 8; omega)
    exact congrArg (fun r : Fin 4096 => x0 (ix2 r ⟨2560 + j.val, by omega⟩) * x0 (ix2 r ⟨3072 + j.val, by omega⟩)) h'

theorem v34_eq (s : Fin 4096) (j : Fin 512) : val_main_v34 (F := Ideal) x0 (ix2 s j) = PP x0 (6 + s.val) j := by
  pointwise [val_main_v34]
  exact (v32_eq x0 _ j).trans (by congr 1)

theorem v40_eq (s : Fin 4096) (j : Fin 512) : val_main_v40 (F := Ideal) x0 (ix2 s j) = PP x0 (7 + s.val) j := by
  pointwise [val_main_v40]
  exact (v32_eq x0 _ j).trans (by congr 1; show 6 + (1 + s.val) = _; omega)

theorem v47_eq (s : Fin 4096) (j : Fin 512) : val_main_v47 (F := Ideal) x0 (ix2 s j) = PP x0 (8 + s.val) j := by
  pointwise [val_main_v47]
  exact (v32_eq x0 _ j).trans (by congr 1; show 6 + (2 + s.val) = _; omega)

theorem v38_eq (s : Fin 4096) (j : Fin 512) : val_main_v38 (F := Ideal) x8 (ix2 s j) = tapsOf x8 0 j := by
  pointwise [val_main_v38, val_main_v37, val_main_v36, val_main_v35, val_main_v2, val_main_v1, tapsOf]

theorem v44_eq (s : Fin 4096) (j : Fin 512) : val_main_v44 (F := Ideal) x8 (ix2 s j) = tapsOf x8 1 j := by
  pointwise [val_main_v44, val_main_v43, val_main_v42, val_main_v41, val_main_v2, val_main_v1, tapsOf]

theorem v51_eq (s : Fin 4096) (j : Fin 512) : val_main_v51 (F := Ideal) x8 (ix2 s j) = tapsOf x8 2 j := by
  pointwise [val_main_v51, val_main_v50, val_main_v49, val_main_v48, val_main_v2, val_main_v1, tapsOf]

theorem v84_eq (s : Fin 4096) (j : Fin 512) : val_main_v84 (F := Ideal) x8 (ix2 s j) = tapsOf x8 0 j := by
  pointwise [val_main_v84, val_main_v37, val_main_v36, val_main_v35, val_main_v2, val_main_v1, tapsOf]

theorem v73_eq (s : Fin 4096) (j : Fin 512) : val_main_v73 (F := Ideal) x8 (ix2 s j) = tapsOf x8 1 j := by
  pointwise [val_main_v73, val_main_v43, val_main_v42, val_main_v41, val_main_v2, val_main_v1, tapsOf]

theorem v64_eq (s : Fin 4096) (j : Fin 512) : val_main_v64 (F := Ideal) x8 (ix2 s j) = tapsOf x8 2 j := by
  pointwise [val_main_v64, val_main_v50, val_main_v49, val_main_v48, val_main_v2, val_main_v1, tapsOf]

/-- The convolution's output. -/
theorem v53_eq (s : Fin 4096) (j : Fin 512) : val_main_v53 (F := Ideal) x0 x8 (ix2 s j) = conv x0 (tapsOf x8) s.val j := by
  pointwise [val_main_v53, val_main_v46, val_main_v39, val_main_v45, val_main_v52]
  rw [v34_eq, v40_eq, v47_eq, v38_eq, v44_eq, v51_eq]
  unfold conv
  rw [mul_comm (tapsOf x8 2 j), mul_comm (tapsOf x8 0 j), mul_comm (tapsOf x8 1 j)]
  exact (add_comm _ _).trans (add_assoc _ _ _).symm

/-- The gradient at the convolution's output. -/
theorem v59_eq (s : Fin 4096) (j : Fin 512) : val_main_v59 (F := Ideal) x0 x2 (ix2 s j) = DQ x0 x2 s.val j := by
  unfold DQ
  pointwise [val_main_v59, val_main_v5, val_main_v0, val_main_v58, val_main_v56]
  exact mul_comm _ _

/-- The gradient at the convolution's input, tap by tap. -/
theorem v69_eq (s : Fin 4096) (j : Fin 512) :
    val_main_v69 (F := Ideal) x0 x2 x8 (ix2 ⟨2 + s.val, by omega⟩ j) = DQ x0 x2 s.val j * tapsOf x8 2 j := by
  unfold val_main_v69
  rw [pad_apply_of_inside _ _ _ _ _ _ _ _ (ix2 s j) (by intro a; fin_cases a <;> simp)]
  pointwise [val_main_v65]
  rw [v59_eq, v64_eq]

theorem v79_eq (s : Fin 4096) (j : Fin 512) :
    val_main_v79 (F := Ideal) x0 x2 x8 (ix2 ⟨2 + s.val, by omega⟩ j) = DQ x0 x2 (s.val + 1) j * tapsOf x8 1 j := by
  unfold val_main_v79
  by_cases h : s.val + 1 < 4096
  · rw [pad_apply_of_inside _ _ _ _ _ _ _ _ (ix2 ⟨s.val + 1, h⟩ j) (by intro a; fin_cases a <;> simp <;> omega)]
    pointwise [val_main_v74]
    rw [v59_eq, v73_eq]
  · rw [pad_apply_of_not_inside _ _ _ _ _ _ _ _ 0 (by simp; omega)]
    unfold DQ
    rw [dif_neg h, zero_mul]
    pointwise [val_main_cst_15]

theorem v90_eq (s : Fin 4096) (j : Fin 512) :
    val_main_v90 (F := Ideal) x0 x2 x8 (ix2 ⟨2 + s.val, by omega⟩ j) = DQ x0 x2 (s.val + 2) j * tapsOf x8 0 j := by
  unfold val_main_v90
  by_cases h : s.val + 2 < 4096
  · rw [pad_apply_of_inside _ _ _ _ _ _ _ _ (ix2 ⟨s.val + 2, h⟩ j) (by intro a; fin_cases a <;> simp <;> omega)]
    pointwise [val_main_v85]
    rw [v59_eq, v84_eq]
  · rw [pad_apply_of_not_inside _ _ _ _ _ _ _ _ 0 (by simp; omega)]
    unfold DQ
    rw [dif_neg h, zero_mul]
    pointwise [val_main_cst_19]

/-- The gradient at the convolution's input. -/
theorem v93_eq (s : Fin 4096) (j : Fin 512) : val_main_v93 (F := Ideal) x0 x2 x8 (ix2 s j) = back x0 x2 (tapsOf x8) s.val j := by
  pointwise [val_main_v93, val_main_v91, val_main_v80]
  rw [v69_eq, v79_eq, v90_eq]
  unfold back
  rw [mul_comm (tapsOf x8 2 j), mul_comm (tapsOf x8 0 j), mul_comm (tapsOf x8 1 j), add_right_comm]

/-- The three sums over the sequence. -/
theorem v62_eq (j : Fin 512) : val_main_v62 (F := Ideal) x0 x2 (ix1 j) = ∑ s : Fin 4096, DQ x0 x2 s.val j * PP x0 (8 + s.val) j := by
  rw [val_main_v62_apply]
  refine (congrArg₂ (· + ·) (show _ = (0 : EReal) by pointwise [val_main_cst_8]) (Finset.sum_congr rfl fun s _ => ?_)).trans (zero_add _)
  refine Eq.trans (b := val_main_v61 (F := Ideal) x0 x2 (ix2 s j)) (by congr 1; funext a; fin_cases a <;> rfl) ?_
  pointwise [val_main_v61]
  rw [v47_eq, v59_eq]
  exact mul_comm _ _

theorem v71_eq (j : Fin 512) : val_main_v71 (F := Ideal) x0 x2 (ix1 j) = ∑ s : Fin 4096, DQ x0 x2 s.val j * PP x0 (7 + s.val) j := by
  rw [val_main_v71_apply]
  refine (congrArg₂ (· + ·) (show _ = (0 : EReal) by pointwise [val_main_cst_12]) (Finset.sum_congr rfl fun s _ => ?_)).trans (zero_add _)
  refine Eq.trans (b := val_main_v70 (F := Ideal) x0 x2 (ix2 s j)) (by congr 1; funext a; fin_cases a <;> rfl) ?_
  pointwise [val_main_v70]
  rw [v40_eq, v59_eq]
  exact mul_comm _ _

theorem v82_eq (j : Fin 512) : val_main_v82 (F := Ideal) x0 x2 (ix1 j) = ∑ s : Fin 4096, DQ x0 x2 s.val j * PP x0 (6 + s.val) j := by
  rw [val_main_v82_apply]
  refine (congrArg₂ (· + ·) (show _ = (0 : EReal) by pointwise [val_main_cst_16]) (Finset.sum_congr rfl fun s _ => ?_)).trans (zero_add _)
  refine Eq.trans (b := val_main_v81 (F := Ideal) x0 x2 (ix2 s j)) (by congr 1; funext a; fin_cases a <;> rfl) ?_
  pointwise [val_main_v81]
  rw [v34_eq, v59_eq]
  exact mul_comm _ _

/-- The sums as one row each (the sum over one row is the row). -/
theorem v67_eq (j : Fin 512) : val_main_v67 (F := Ideal) x0 x2 (ix2 0 j) = ∑ s : Fin 4096, DQ x0 x2 s.val j * PP x0 (8 + s.val) j := by
  rw [← v62_eq]
  pointwise [val_main_v67, val_main_v66, val_main_v63, val_main_cst_9]
  try simp only [Finset.univ_unique, Finset.sum_singleton]

theorem v76_eq (j : Fin 512) : val_main_v76 (F := Ideal) x0 x2 (ix2 0 j) = ∑ s : Fin 4096, DQ x0 x2 s.val j * PP x0 (7 + s.val) j := by
  rw [← v71_eq]
  pointwise [val_main_v76, val_main_v75, val_main_v72, val_main_cst_13]
  try simp only [Finset.univ_unique, Finset.sum_singleton]

theorem v87_eq (j : Fin 512) : val_main_v87 (F := Ideal) x0 x2 (ix2 0 j) = ∑ s : Fin 4096, DQ x0 x2 s.val j * PP x0 (6 + s.val) j := by
  rw [← v82_eq]
  pointwise [val_main_v87, val_main_v86, val_main_v83, val_main_cst_17]
  try simp only [Finset.univ_unique, Finset.sum_singleton]

/-- Each row in its place, zeros in the other two places. -/
theorem v68_on (j : Fin 512) : val_main_v68 (F := Ideal) x0 x2 (ix2 2 j) = ∑ s : Fin 4096, DQ x0 x2 s.val j * PP x0 (8 + s.val) j := by
  unfold val_main_v68
  rw [pad_apply_of_inside _ _ _ _ _ _ _ _ (ix2 0 j) (by intro a; fin_cases a <;> simp)]
  exact v67_eq x0 x2 j

theorem v68_off (k : Fin 3) (j : Fin 512) (h : k ≠ 2) : val_main_v68 (F := Ideal) x0 x2 (ix2 k j) = 0 := by
  unfold val_main_v68
  rw [pad_apply_of_not_inside _ _ _ _ _ _ _ _ 0 (by have := fun h' => h (Fin.ext h'); simp at this ⊢; omega)]
  pointwise [val_main_cst_10]

theorem v77_on (j : Fin 512) : val_main_v77 (F := Ideal) x0 x2 (ix2 1 j) = ∑ s : Fin 4096, DQ x0 x2 s.val j * PP x0 (7 + s.val) j := by
  unfold val_main_v77
  rw [pad_apply_of_inside _ _ _ _ _ _ _ _ (ix2 0 j) (by intro a; fin_cases a <;> simp)]
  exact v76_eq x0 x2 j

theorem v77_off (k : Fin 3) (j : Fin 512) (h : k ≠ 1) : val_main_v77 (F := Ideal) x0 x2 (ix2 k j) = 0 := by
  unfold val_main_v77
  rw [pad_apply_of_not_inside _ _ _ _ _ _ _ _ 0 (by have := fun h' => h (Fin.ext h'); simp at this ⊢; omega)]
  pointwise [val_main_cst_14]

theorem v88_on (j : Fin 512) : val_main_v88 (F := Ideal) x0 x2 (ix2 0 j) = ∑ s : Fin 4096, DQ x0 x2 s.val j * PP x0 (6 + s.val) j := by
  unfold val_main_v88
  rw [pad_apply_of_inside _ _ _ _ _ _ _ _ (ix2 0 j) (by intro a; fin_cases a <;> simp)]
  exact v87_eq x0 x2 j

theorem v88_off (k : Fin 3) (j : Fin 512) (h : k ≠ 0) : val_main_v88 (F := Ideal) x0 x2 (ix2 k j) = 0 := by
  unfold val_main_v88
  rw [pad_apply_of_not_inside _ _ _ _ _ _ _ _ 0 (by have := fun h' => h (Fin.ext h'); simp at this ⊢; omega)]
  pointwise [val_main_cst_18]

/-- The taps' gradient. -/
theorem v89_eq (k : Fin 3) (j : Fin 512) :
    val_main_v89 (F := Ideal) x0 x2 (ix2 k j) = ∑ s : Fin 4096, DQ x0 x2 s.val j * PP x0 (6 + k.val + s.val) j := by
  pointwise [val_main_v89, val_main_v78]
  match k with
  | 0 => rw [v68_off x0 x2 0 j (by decide), v77_off x0 x2 0 j (by decide), v88_on, zero_add, zero_add]; rfl
  | 1 => rw [v68_off x0 x2 1 j (by decide), v77_on, v88_off x0 x2 1 j (by decide), zero_add, add_zero]; rfl
  | 2 => rw [v68_on, v77_off x0 x2 2 j (by decide), v88_off x0 x2 2 j (by decide), add_zero, add_zero]; rfl

theorem v112_eq (k : Fin 3) (j : Fin 512) :
    val_main_v112 (F := Ideal) x0 x2 (ix2 ⟨8 + k.val, by omega⟩ ⟨j.val, by omega⟩)
      = ∑ s : Fin 4096, DQ x0 x2 s.val j * PP x0 (6 + k.val + s.val) j := by
  rw [← v89_eq]
  unfold val_main_v112
  exact pad_apply_of_inside _ _ _ _ _ _ _ _ (ix2 k j) (by intro a; fin_cases a <;> simp)

end Cert.Proof.MixRef

end
-- ==== Proof.MixRefGate.lean ====
/-
  The plain gradient of the gate: over finite factors it is the kernel's closed form of the derivative of gelu, both with the
  same two constants.
-/
module

public import proofs.«01_k».proof.Proof.Gen.ReferenceIdeal.Read
public import Idealize.ShloMosaic.Lib.Pipeline.ValueKit
public import proofs.«01_k».proof.Proof.MixGate

@[expose] public section

set_option maxRecDepth 16384

noncomputable section

namespace Cert.Proof.MixRefGate

open Idealize.ShloMosaic Cert.ReferenceIdeal Cert.ReferenceIdeal.Value Cert.ReferenceIdeal.Read
open Cert.Proof.MixGate

/-- The reference's constants as it writes them: three, the two of gelu, one half, one. -/
def k3 : EReal := (Scalar.ofBits .f32 0x40400000#32 : Ideal .f32)
def k1 : EReal := (Scalar.ofBits .f32 0x3D372713#32 : Ideal .f32)
def k0 : EReal := (Scalar.ofBits .f32 0x3F4C422A#32 : Ideal .f32)

theorem k3_eq : k3 = ((3 : ℝ) : EReal) := by
  show Ideal.ofBits .f32 0x40400000#32 = _
  simp [Ideal.ofBits, Ideal.ieee, -EReal.coe_mul]; norm_num

theorem k1_eq : k1 = ((12003091 / 268435456 : ℝ) : EReal) := by
  show Ideal.ofBits .f32 0x3D372713#32 = _
  simp [Ideal.ofBits, Ideal.ieee, -EReal.coe_mul]; norm_num

theorem k0_eq : k0 = ((6693141 / 8388608 : ℝ) : EReal) := by
  show Ideal.ofBits .f32 0x3F4C422A#32 = _
  simp [Ideal.ofBits, Ideal.ieee, -EReal.coe_mul]; norm_num

theorem cHalf_eq : cHalf = ((1 / 2 : ℝ) : EReal) := by
  show Ideal.ofBits .f32 0x3F000000#32 = _
  simp [Ideal.ofBits, Ideal.ieee, -EReal.coe_mul]; norm_num

theorem cOne_eq : cOne = ((1 : ℝ) : EReal) := by
  show Ideal.ofBits .f32 0x3F800000#32 = _
  simp [Ideal.ofBits, Ideal.ieee, -EReal.coe_mul]; norm_num

/-- The kernel's named constants denote the reference's first constant and the two products with it. -/
theorem c0_eq : c0 = ((6693141 / 8388608 : ℝ) : EReal) := IdealRules.named_const.ideal_named_scalar _ _ _ _ rfl
theorem c01_eq : c01 = (((6693141 / 8388608) * (12003091 / 268435456) : ℝ) : EReal) := IdealRules.named_const.ideal_named_scalar _ _ _ _ rfl
theorem c301_eq : c301 = (((3 * (6693141 / 8388608)) * (12003091 / 268435456) : ℝ) : EReal) := IdealRules.named_const.ideal_named_scalar _ _ _ _ rfl

/-- The tanh inside gelu, as the plain program computes it. -/
def thr (z : EReal) : EReal := Ideal.tanh (k0 * (z + k1 * (z * z * z)))

/-- The gate's gradient as reverse-mode differentiation computes it. -/
def gateRef (z d h : EReal) : EReal :=
  (h * d * (cHalf * (cOne + thr z)) + k0 * (cHalf * (z * (h * d)) * ((cOne + thr z) * (cOne - thr z))))
    + k1 * (k0 * (cHalf * (z * (h * d)) * ((cOne + thr z) * (cOne - thr z)))) * (k3 * (z * z))

/-- The two agree where the factors are finite. -/
theorem gate_real (z d h : ℝ) : gateRef z d h = gate z d h := by
  have ht : thr (z : EReal) = ((Real.tanh (6693141 / 8388608 * (z + 12003091 / 268435456 * (z * z * z))) : ℝ) : EReal) := by
    unfold thr
    rw [k0_eq, k1_eq]
    simp only [← EReal.coe_mul, ← EReal.coe_add, Ideal.tanh_coe]
  have hk : th (z : EReal) = ((Real.tanh (6693141 / 8388608 * (z + 12003091 / 268435456 * (z * z * z))) : ℝ) : EReal) := by
    unfold th
    rw [c0_eq, c01_eq]
    simp only [← EReal.coe_mul, ← EReal.coe_add, Ideal.tanh_coe]
    congr 2
    ring
  unfold gateRef gate dgelu
  rw [ht, hk, cHalf_eq, cOne_eq, k0_eq, k1_eq, k3_eq, c0_eq, c301_eq]
  simp only [← EReal.coe_mul, ← EReal.coe_add, ← EReal.coe_sub]
  congr 1
  ring

/-- A value whose magnitude is below infinity is a real. -/
theorem real_of_finite (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  replace h : Ideal.cmp .olt (max x (-x)) (Ideal.ofBits .f32 0x7F800000#32) = 1#1 := h
  rw [htop] at h
  induction x using EReal.rec with
  | bot => simp [Ideal.cmp] at h
  | coe r => exact ⟨r, rfl⟩
  | top => simp [Ideal.cmp] at h

variable (x0 : (⟨S4096x3584, .bf16⟩ : BufTy).Contents (Elt Ideal)) (x1 : (⟨S4096x1024, .f32⟩ : BufTy).Contents (Elt Ideal))
  (x2 : (⟨S4096x1536, .bf16⟩ : BufTy).Contents (Elt Ideal))

theorem v18_eq (s : Fin 4096) (j : Fin 1024) : val_main_v18 (F := Ideal) x0 (ix2 s j) = thr (x0 (ix2 s ⟨1024 + j.val, by omega⟩)) := by
  pointwise [val_main_v18, val_main_v17, val_main_v16, val_main_v15, val_main_v14, val_main_v13, val_main_v9, val_main_v8,
    val_main_v4, val_main_v0, val_main_cst_0, val_main_cst_1, thr, k0, k1]

theorem v108_eq (s : Fin 4096) (j : Fin 1024) : val_main_v108 (F := Ideal) x0 x1 x2 (ix2 s j)
    = gateRef (x0 (ix2 s ⟨1024 + j.val, by omega⟩)) (x2 (ix2 s ⟨j.val, by omega⟩)) (x1 (ix2 s j)) := by
  pointwise [val_main_v108, val_main_v104, val_main_v98, val_main_v107, val_main_v106, val_main_v105, val_main_v103, val_main_v102,
    val_main_v101, val_main_v100, val_main_v99, val_main_v97, val_main_v96, val_main_v57, val_main_v56, val_main_v27, val_main_v26,
    val_main_v25, val_main_v24, val_main_v23, val_main_v22, val_main_v21, val_main_v20, val_main_v19, val_main_v12, val_main_v11,
    val_main_v10, val_main_v4, val_main_v0, val_main_cst, val_main_cst_2, val_main_cst_3, val_main_cst_4, val_main_cst_5,
    val_main_cst_20, val_main_cst_21, val_main_cst_22]
  rw [v18_eq]
  pointwise [gateRef, cHalf, cOne, k0, k1, k3]

end Cert.Proof.MixRefGate

end
-- ==== Proof.MixMask.lean ====
/-
  Where the claim about the gate's and the short convolution's gradients speaks: what the mask's being set at an element says.
-/
module

public import proofs.«01_k».proof.Defs
public import proofs.«01_k».proof.Proof.MixRefGate
public import Idealize.ShloMosaic.Lib.Pipeline.ValueKit
public import Idealize.ShloMosaic.Lib.WordCmp

@[expose] public section

set_option maxRecDepth 16384

noncomputable section

namespace Cert.Proof.MixMask

open Idealize.ShloMosaic Idealize.ShloMosaic.WordCmp Cert.On_gate_and_short_conv

/-- The side conditions of the mask's operations. -/
theorem facts : Cert.On_gate_and_short_conv.Facts where
  slices_S4096x3584_S4096x1024_0_1024 := by decide
  bitsLt_bf16_f32 := by decide
  bcast_S_S4096x1024 := by decide
  slices_S4096x1536_S4096x1024_0_0 := by decide
  bcast_S_S4096x1536 := by decide
  concatenates_S4096x1024_S4096x1024_S4096x1536_S4096x3584_d1 := by decide
  bcast_S_S16x1024 := by decide
  bcast_S_S8x256x256 := by decide

variable [Facts]
variable (x0 : FVec Ideal S4096x3584 .bf16) (x1 : FVec Ideal S4096x1024 .f32) (x2 : FVec Ideal S4096x1536 .bf16)
  (x3 : FVec Ideal S2x4x1024 .f32) (x4 x5 x6 x7 : FVec Ideal S2x1024 .f32) (x8 : FVec Ideal S2x3x512 .f32)
  (x9 x10 : FVec Ideal S2x16x64x64 .f32)

/-- The finiteness test of one value. -/
abbrev fin (x : EReal) : Prop :=
  FloatOps.cmpf (F := Ideal) (φ := .f32) .olt (FloatOps.hostAbsf (F := Ideal) (φ := .f32) x) (FloatOps.ofBits (F := Ideal) .f32 0x7F800000#32) = 1#1

theorem and_one {a b : BitVec 1} (h : IntOp.andi a b = 1#1) : a = 1#1 ∧ b = 1#1 := by
  revert a b; decide

/-- At a column of the recurrence the mask is clear. -/
theorem dz_lru (s : Fin 4096) (j : Fin 1024) (h : (fn (F := Ideal) x0 x1 x2 x3 x4 x5 x6 x7 x8 x9 x10).1 (ix2 s ⟨j.val, by omega⟩) = 1#1) : False := by
  revert h
  pointwise [fn, fn_part1]
  exact fun h => absurd h (by decide)

/-- At a column of the gate it says that the three factors are finite. -/
theorem dz_gate (s : Fin 4096) (j : Fin 1024)
    (h : (fn (F := Ideal) x0 x1 x2 x3 x4 x5 x6 x7 x8 x9 x10).1 (ix2 s ⟨1024 + j.val, by omega⟩) = 1#1) :
    fin (x0 (ix2 s ⟨1024 + j.val, by omega⟩)) ∧ fin (x1 (ix2 s j)) ∧ fin (x2 (ix2 s ⟨j.val, by omega⟩)) := by
  revert h
  pointwise [fn, fn_part1]
  exact fun h => ⟨(and_one (and_one h).1).1, (and_one (and_one h).1).2, (and_one h).2⟩

/-- The taps' gradient: rows eight to ten, the first half of the columns. -/
theorem dp_rows (q : Fin 16) (j : Fin 1024) (h : (fn (F := Ideal) x0 x1 x2 x3 x4 x5 x6 x7 x8 x9 x10).2.1 (ix2 q j) = 1#1) :
    8 ≤ q.val ∧ q.val < 11 ∧ j.val < 512 := by
  revert h
  pointwise [fn, fn_part1]
  intro h
  have h1 := (and_one (and_one h).1).1
  have h2 := (and_one (and_one h).1).2
  have h3 := (and_one h).2
  rw [cmpi_sge_eq, ofBool_decide_eq_one_iff, toInt_ofNat_of_lt (w := 32) (a := q.val) (by omega)] at h1
  rw [cmpi_slt_eq, ofBool_decide_eq_one_iff, toInt_ofNat_of_lt (w := 32) (a := q.val) (by omega)] at h2
  rw [cmpi_slt_eq, ofBool_decide_eq_one_iff, toInt_ofNat_of_lt (w := 32) (a := j.val) (by omega)] at h3
  have e1 : (8#32 : BitVec 32).toInt = 8 := by decide
  have e2 : (11#32 : BitVec 32).toInt = 11 := by decide
  have e3 : (512#32 : BitVec 32).toInt = 512 := by decide
  omega

/-- Of the gates' gradient nothing is claimed. -/
theorem dg_none (i : S8x256x256.Idx) (h : (fn (F := Ideal) x0 x1 x2 x3 x4 x5 x6 x7 x8 x9 x10).2.2 i = 1#1) : False := by
  revert h
  pointwise [fn, fn_part1]
  exact fun h => absurd h (by decide)

end Cert.Proof.MixMask

end
-- ==== Proof.MixClaims.lean ====
/-
  The claims about the mixer's backward call: its two programs' frames, the plain gradient's frame, the folded constants, and
  the equality of the gate's and the short convolution's gradients at the extended reals.
-/
module

public import proofs.«01_k».proof.Defs
public import proofs.«01_k».proof.Proof.MixResult
public import proofs.«01_k».proof.Proof.MixRef
public import proofs.«01_k».proof.Proof.MixRefGate
public import proofs.«01_k».proof.Proof.MixMask
public import proofs.«01_k».proof.Proof.Gen.ReferenceIdeal.Run
public import proofs.«01_k».proof.Proof.Gen.ReferenceIdeal.Read

@[expose] public section

set_option maxRecDepth 16384

noncomputable section

namespace Cert.Proof.MixClaims

open Idealize.ShloMosaic Idealize.SL.Sem Cert.ReferenceIdeal Cert.ReferenceIdeal.Read

/-- The plain gradient's run keeps its arguments and ends with every counter at zero. -/
theorem frame_ref : Cert.quiescent_ReferenceIdeal := fun m ρ _ =>
  (θ_run Cert.ReferenceIdeal.defs _ _).mono (fun r h => ⟨fun c => (h c).2.2.2,
      Idealize.ShloMosaic.sem_eq_zero_of_no_sems (by decide) r.2⟩) (Cert.ReferenceIdeal.Value.run (F := Ideal) m ρ)

/-- The kernel's folded constants are named as the products of the plain program's two. -/
theorem preserves : Cert.preserves_Kernel_KernelIdeal :=
  ⟨IdealRules.named_const.statement _ _ _ _ _ rfl, IdealRules.named_const.statement _ _ _ _ _ rfl,
    IdealRules.named_const.statement _ _ _ _ _ rfl⟩

section Columns

variable (x0 : (⟨S4096x3584, .bf16⟩ : BufTy).Contents (Elt Ideal)) (x1 : (⟨S4096x1024, .f32⟩ : BufTy).Contents (Elt Ideal))
  (x2 : (⟨S4096x1536, .bf16⟩ : BufTy).Contents (Elt Ideal)) (x8 : (⟨S2x3x512, .f32⟩ : BufTy).Contents (Elt Ideal))

/-- The gradient's column blocks in the plain program. -/
theorem col_gate (s : Fin 4096) (j : Fin 1024) :
    val_main_v111 (F := Ideal) x0 x1 x2 x8 (ix2 s ⟨1024 + j.val, by omega⟩) = val_main_v108 (F := Ideal) x0 x1 x2 (ix2 s j) := by
  pointwise [val_main_v111, val_main_v110]

theorem col_a (s : Fin 4096) (j : Fin 512) :
    val_main_v111 (F := Ideal) x0 x1 x2 x8 (ix2 s ⟨2048 + j.val, by omega⟩) = val_main_v60 (F := Ideal) x0 x2 x8 (ix2 s j) := by
  pointwise [val_main_v111, val_main_v110]
  rw [dif_neg (by omega), dif_neg (by omega), dif_pos (by omega)]
  exact congrArg (fun r => val_main_v60 (F := Ideal) x0 x2 x8 (ix2 s r)) (Fin.ext (by simp only []; omega))

theorem col_b (s : Fin 4096) (j : Fin 512) :
    val_main_v111 (F := Ideal) x0 x1 x2 x8 (ix2 s ⟨2560 + j.val, by omega⟩) = val_main_v95 (F := Ideal) x0 x2 x8 (ix2 s j) := by
  pointwise [val_main_v111, val_main_v110]
  rw [dif_neg (by omega), dif_neg (by omega), dif_neg (by omega), dif_pos (by omega)]
  exact congrArg (fun r => val_main_v95 (F := Ideal) x0 x2 x8 (ix2 s r)) (Fin.ext (by simp only []; omega))

theorem col_c (s : Fin 4096) (j : Fin 512) :
    val_main_v111 (F := Ideal) x0 x1 x2 x8 (ix2 s ⟨3072 + j.val, by omega⟩) = val_main_v94 (F := Ideal) x0 x2 x8 (ix2 s j) := by
  pointwise [val_main_v111, val_main_v110]
  rw [dif_neg (by omega), dif_neg (by omega), dif_neg (by omega), dif_neg (by omega)]
  exact congrArg (fun r => val_main_v94 (F := Ideal) x0 x2 x8 (ix2 s r)) (Fin.ext (by simp only []; omega))

theorem v60_eq (s : Fin 4096) (j : Fin 512) : val_main_v60 (F := Ideal) x0 x2 x8 (ix2 s j)
    = x2 (ix2 s ⟨1024 + j.val, by omega⟩) * MixWhole.conv x0 (MixRef.tapsOf x8) s.val j := by
  pointwise [val_main_v60, val_main_v58, val_main_v56]
  rw [MixRef.v53_eq]

theorem v95_eq (s : Fin 4096) (j : Fin 512) : val_main_v95 (F := Ideal) x0 x2 x8 (ix2 s j)
    = MixWhole.back x0 x2 (MixRef.tapsOf x8) s.val j * x0 (ix2 s ⟨3072 + j.val, by omega⟩) := by
  pointwise [val_main_v95, val_main_v7, val_main_v0]
  rw [MixRef.v93_eq]

theorem v94_eq (s : Fin 4096) (j : Fin 512) : val_main_v94 (F := Ideal) x0 x2 x8 (ix2 s j)
    = MixWhole.back x0 x2 (MixRef.tapsOf x8) s.val j * x0 (ix2 s ⟨2560 + j.val, by omega⟩) := by
  pointwise [val_main_v94, val_main_v6, val_main_v0]
  rw [MixRef.v93_eq]
  exact mul_comm _ _

end Columns

/-- Where the mask is set, arrays that hold the gradients hold the plain program's results. -/
theorem agree [Cert.On_gate_and_short_conv.Facts]
    (x0 : FVec Ideal S4096x3584 .bf16) (x1 : FVec Ideal S4096x1024 .f32) (x2 : FVec Ideal S4096x1536 .bf16)
    (x3 : FVec Ideal S2x4x1024 .f32) (x4 x5 x6 x7 : FVec Ideal S2x1024 .f32) (x8 : FVec Ideal S2x3x512 .f32)
    (x9 x10 : FVec Ideal S2x16x64x64 .f32) (w : Fin 3 → Fin 512 → EReal) (hw : w = MixRef.tapsOf x8)
    (X : Vec Ideal S4096x3584 .bf16) (Y : Vec Ideal S16x1024 .f32) (G : MixResult.Grads x0 x1 x2 w X Y) :
    (∀ i : S4096x3584.Idx, (Cert.On_gate_and_short_conv.fn (F := Ideal) x0 x1 x2 x3 x4 x5 x6 x7 x8 x9 x10).1 i = 1#1 →
      X i = val_main_v111 (F := Ideal) x0 x1 x2 x8 i)
    ∧ ∀ i : S16x1024.Idx, (Cert.On_gate_and_short_conv.fn (F := Ideal) x0 x1 x2 x3 x4 x5 x6 x7 x8 x9 x10).2.1 i = 1#1 →
      Y i = val_main_v112 (F := Ideal) x0 x2 i := by
  subst hw
  constructor
  · intro i h
    idx_vars i
    obtain ⟨c, hc⟩ := i1
    by_cases h1 : c < 1024
    · exact (MixMask.dz_lru x0 x1 x2 x3 x4 x5 x6 x7 x8 x9 x10 i0 ⟨c, h1⟩ h).elim
    by_cases h2 : c < 2048
    · obtain ⟨j, rfl⟩ : ∃ j : ℕ, c = 1024 + j := ⟨c - 1024, by omega⟩
      have hj : j < 1024 := by omega
      obtain ⟨fz, fh, fd⟩ := MixMask.dz_gate x0 x1 x2 x3 x4 x5 x6 x7 x8 x9 x10 i0 ⟨j, hj⟩ h
      obtain ⟨z, ez⟩ := MixRefGate.real_of_finite _ fz
      obtain ⟨hh, eh⟩ := MixRefGate.real_of_finite _ fh
      obtain ⟨d, ed⟩ := MixRefGate.real_of_finite _ fd
      refine (G.g i0 ⟨j, hj⟩).trans (Eq.symm ((col_gate x0 x1 x2 x8 i0 ⟨j, hj⟩).trans ((MixRefGate.v108_eq x0 x1 x2 i0 ⟨j, hj⟩).trans ?_)))
      rw [ez, eh, ed]
      exact MixRefGate.gate_real z d hh
    by_cases h3 : c < 2560
    · obtain ⟨j, rfl⟩ : ∃ j : ℕ, c = 2048 + j := ⟨c - 2048, by omega⟩
      have hj : j < 512 := by omega
      exact (G.a i0 ⟨j, hj⟩).trans ((col_a x0 x1 x2 x8 i0 ⟨j, hj⟩).trans (v60_eq x0 x2 x8 i0 ⟨j, hj⟩)).symm
    by_cases h4 : c < 3072
    · obtain ⟨j, rfl⟩ : ∃ j : ℕ, c = 2560 + j := ⟨c - 2560, by omega⟩
      have hj : j < 512 := by omega
      exact (G.b i0 ⟨j, hj⟩).trans ((col_b x0 x1 x2 x8 i0 ⟨j, hj⟩).trans (v95_eq x0 x2 x8 i0 ⟨j, hj⟩)).symm
    · obtain ⟨j, rfl⟩ : ∃ j : ℕ, c = 3072 + j := ⟨c - 3072, by omega⟩
      have hj : j < 512 := by omega
      exact (G.c i0 ⟨j, hj⟩).trans ((col_c x0 x1 x2 x8 i0 ⟨j, hj⟩).trans (v94_eq x0 x2 x8 i0 ⟨j, hj⟩)).symm
  · intro i h
    idx_vars i
    obtain ⟨q8, q11, j5⟩ := MixMask.dp_rows x0 x1 x2 x3 x4 x5 x6 x7 x8 x9 x10 i0 i1 h
    obtain ⟨q, hq⟩ := i0
    obtain ⟨j, hj⟩ := i1
    simp only [] at q8 q11 j5
    obtain ⟨k, rfl⟩ : ∃ k : ℕ, q = 8 + k := ⟨q - 8, by omega⟩
    have hk : k < 3 := by omega
    exact (G.e ⟨k, hk⟩ ⟨j, j5⟩).trans (MixRef.v112_eq x0 x2 ⟨k, hk⟩ ⟨j, j5⟩).symm

/-- The kernel leaves the plain gradient's values: in the gate's columns where the three factors are finite, in the short
    convolution's columns, and in the three rows of its taps' gradient. -/
theorem algebraic : Cert.algebraic_KernelIdeal_ReferenceIdeal_on_gate_and_short_conv (hOn_gate_and_short_conv := MixMask.facts) :=
    fun m ρ m' ρ' _ hm => by
  letI := MixMask.facts
  refine ⟨fun c => Cert.ReferenceIdeal.Value.res_main_v111 m' c, fun c => val_main_v112 (F := Ideal) (m' ((c.tc : Thread nD τ).loc main_arg0)) (m' ((c.tc : Thread nD τ).loc main_arg2)),
    fun c => m ((c.tc : Thread Cert.KernelIdeal.nD Cert.KernelIdeal.τ).loc Cert.KernelIdeal.main_v36_2), (θ_run _ _ _).mono (fun r h c => ?_) (MixLaunch.run m ρ),
    (θ_run _ _ _).mono (fun r h c => ?_) (Cert.ReferenceIdeal.Value.run m' ρ')⟩
  · have G := MixResult.grads m r h.1 c
    have ew : MixWhole.taps m c = MixRef.tapsOf (m ((c.tc : Thread Cert.KernelIdeal.nD Cert.KernelIdeal.τ).loc Cert.KernelIdeal.main_arg8)) := by
      funext k j
      exact MixWhole.V_prm m c k j
    unfold MixWhole.gZ MixWhole.gH MixWhole.gD at G
    rw [ew, Cert.KernelIdeal.Gen.V_main_arg0, Cert.KernelIdeal.Gen.V_main_arg1, Cert.KernelIdeal.Gen.V_main_arg2] at G
    obtain ⟨e0, e1, e2, e3, e4, e5, e6, e7, e8, e9, e10⟩ := hm c
    have A := agree _ _ _ (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) _ rfl _ _ G
    refine ⟨fun i hi => (A.1 i hi).trans ?_, fun i hi => (A.2 i hi).trans ?_, fun i hi => (MixMask.dg_none _ _ _ _ _ _ _ _ _ _ _ i hi).elim,
      (Pipeline.RDat.FramePost.arr_in h.1 c 1 rfl).trans ((MixLaunch.A_eq' m c 1).trans (Cert.KernelIdeal.Gen.V_main_arg0 m c)),
      (Pipeline.RDat.FramePost.arr_in h.1 c 3 rfl).trans ((MixLaunch.A_eq' m c 3).trans (Cert.KernelIdeal.Gen.V_main_arg1 m c)),
      (Pipeline.RDat.FramePost.arr_in h.1 c 4 rfl).trans ((MixLaunch.A_eq' m c 4).trans (Cert.KernelIdeal.Gen.V_main_arg2 m c)),
      ((h.1 c).2 Cert.KernelIdeal.main_arg3 (Pipeline.mem_restRefs_of Cert.KernelIdeal.main_arg3 (by decide) (by decide))).trans (Cert.KernelIdeal.Gen.V_main_arg3 m c),
      ((h.1 c).2 Cert.KernelIdeal.main_arg4 (Pipeline.mem_restRefs_of Cert.KernelIdeal.main_arg4 (by decide) (by decide))).trans (Cert.KernelIdeal.Gen.V_main_arg4 m c),
      ((h.1 c).2 Cert.KernelIdeal.main_arg5 (Pipeline.mem_restRefs_of Cert.KernelIdeal.main_arg5 (by decide) (by decide))).trans (Cert.KernelIdeal.Gen.V_main_arg5 m c),
      ((h.1 c).2 Cert.KernelIdeal.main_arg6 (Pipeline.mem_restRefs_of Cert.KernelIdeal.main_arg6 (by decide) (by decide))).trans (Cert.KernelIdeal.Gen.V_main_arg6 m c),
      ((h.1 c).2 Cert.KernelIdeal.main_arg7 (Pipeline.mem_restRefs_of Cert.KernelIdeal.main_arg7 (by decide) (by decide))).trans (Cert.KernelIdeal.Gen.V_main_arg7 m c),
      ((h.1 c).2 Cert.KernelIdeal.main_arg8 (Pipeline.mem_restRefs_of Cert.KernelIdeal.main_arg8 (by decide) (by decide))).trans (Cert.KernelIdeal.Gen.V_main_arg8 m c),
      ((h.1 c).2 Cert.KernelIdeal.main_arg9 (Pipeline.mem_restRefs_of Cert.KernelIdeal.main_arg9 (by decide) (by decide))).trans (Cert.KernelIdeal.Gen.V_main_arg9 m c),
      ((h.1 c).2 Cert.KernelIdeal.main_arg10 (Pipeline.mem_restRefs_of Cert.KernelIdeal.main_arg10 (by decide) (by decide))).trans (Cert.KernelIdeal.Gen.V_main_arg10 m c)⟩
    · beta_reduce
      rw [val_main_v111_eq, e0, e1, e2, e8]
    · beta_reduce
      rw [e0, e2]
  · obtain ⟨h0, h1, h2, hargs⟩ := h c
    exact ⟨fun i _ => congrFun h0 i, fun i _ => congrFun (h1.trans (val_main_v112_eq _ _)) i,
      fun i hi => (MixMask.dg_none _ _ _ _ _ _ _ _ _ _ _ i hi).elim, hargs⟩

end Cert.Proof.MixClaims

end
-- ==== Proof.AccMath.lean ====
/-
  A fold over four tiles of 1024 tokens is the sum over the 4096 tokens: what every weight gradient's accumulator needs.
-/
module

public import Idealize.ShloMosaic.Lib.Pipeline.Value
public import Idealize.ShloMosaic.Lib.Pipeline.ValueKit
public import Idealize.ShloMosaic.PureOps.Ideal.Laws

@[expose] public section

noncomputable section

namespace Cert.Proof.AccMath

open Idealize.ShloMosaic

/-- Token `q` of tile `r`. -/
abbrev tok4 (r : Fin 4) (q : Fin 1024) : Fin 4096 := ⟨r.val * 1024 + q.val, by omega⟩

/-- A weight's gradient: the sum over the tokens of the products of column `i` of `a` and column `j` of `b`. -/
def tn {K N : ℕ} (a : (Shape.mk 2 ![4096, K]).Idx → EReal) (b : (Shape.mk 2 ![4096, N]).Idx → EReal) (i : Fin K) (j : Fin N)
    (s : Fin 4096) : EReal := a (ix2 s i) * b (ix2 s j)

/-- If the first point of a run leaves the first tile's sum, and each of the next three adds its tile's, the run leaves the
    sum over all tokens. -/
theorem acc4 {ι : Type*} {N : ℕ} (a : (n : ℕ) → n < N → ι → EReal) (g : (n : ℕ) → n < N → (ι → EReal) → ι → EReal) (b : ℕ)
    (f : ι → Fin 4096 → EReal) (ha : ∀ (h : b < N) (i : ι), a b h i = ∑ q : Fin 1024, f i (tok4 0 q))
    (hg : ∀ (r : Fin 4) (h : b + r.val < N) (acc : ι → EReal) (i : ι), g (b + r.val) h acc i = acc i + ∑ q : Fin 1024, f i (tok4 r q))
    (h : b + 3 < N) (i : ι) : Pipeline.accAt a g b 3 h i = ∑ s : Fin 4096, f i s := by
  have e := Fin.sum_mul_add_fin 4 1024 (f i) rfl
  rw [Fin.sum_univ_four] at e
  refine Eq.trans ?_ e
  refine (hg 3 h _ i).trans (congrArg₂ (· + ·) ?_ rfl)
  refine (hg 2 (by show b + 2 < N; omega) _ i).trans (congrArg₂ (· + ·) ?_ rfl)
  refine (hg 1 (by show b + 1 < N; omega) _ i).trans (congrArg₂ (· + ·) ?_ rfl)
  exact ha (by omega) i

end Cert.Proof.AccMath

end
-- ==== Proof.WupCall.lean ====
/-
  The gradient of the up-projection's weights: what the kernel leaves, what the plain gradient is, and the claims.
-/
module

public import proofs.«01_k».proof.Defs
public import proofs.«01_k».proof.Proof.AccMath
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

namespace Cert.Proof.WupCall

open Idealize.ShloMosaic Idealize.ShloMosaic.TcCoe Idealize.SL.Sem Cert.Proof.AccMath

/-- One token's product of the norm's output, lane `i`, and the cotangent, plane `p`, lane `j`. -/
def part (a0 : FVec Ideal Cert.Kernel3Ideal.S4096x1024 .bf16) (a1 : FVec Ideal Cert.Kernel3Ideal.S2x4096x3072 .bf16)
    (i : Fin 1024) (p : Fin 2) (j : Fin 3072) (s : Fin 4096) : EReal := a0 (ix2 s i) * a1 (ix3 p s j)

/-- The gradient of weight `(i, j)`: the sum over the tokens; the cotangent's columns lie in two planes. -/
def dw (a0 : FVec Ideal Cert.Kernel3Ideal.S4096x1024 .bf16) (a1 : FVec Ideal Cert.Kernel3Ideal.S2x4096x3072 .bf16)
    (i : Fin 1024) (j : Fin 6144) : EReal :=
  ∑ s : Fin 4096, part a0 a1 i ⟨j.val / 3072, by omega⟩ ⟨j.val % 3072, by omega⟩ s

section kernel

open Cert.Kernel3Ideal Cert.Kernel3Ideal.Gen Cert.Kernel3Ideal.Value
open Idealize.ShloMosaic.Pipeline (Dat)

variable (m : (ℓ : Loc nD τ sig) → Buf (Elt Ideal) ℓ)

/-- The windows' block indices at a point: token tile `t % 4`, column tile `t / 4`, two column tiles a plane. -/
theorem idx : ∀ t : Fin cfg0.N, win0_0.index t = ![t.val % 4, 0] ∧ win0_1.index t = ![t.val / 8, t.val % 4, t.val / 4 % 2] :=
  (by decide +kernel : ∀ t : Fin grid0.N, _)

/-- What a point adds to its block. -/
theorem pay2_apply (c : Dev nD) (t : Fin cfg0.N) (r : Fin 4) (J : Fin 4) (ht : t.val = 4 * J.val + r.val) (acc : FVec Ideal S1024x1536 .f32)
    (i : Fin 1024) (j : Fin 1536) : k0_pay2 (F := Ideal) acc (iblk m c 0 t) (iblk m c 1 t) (ix2 i j)
      = acc (ix2 i j) + ∑ q : Fin 1024, part (m ((c : Thread nD τ).loc main_arg0)) (m ((c : Thread nD τ).loc main_arg1)) i
          ⟨J.val / 2, by omega⟩ ⟨J.val % 2 * 1536 + j.val, by omega⟩ (tok4 r q) := by
  have e1 : t.val % 4 = r.val := by omega
  have e2 : t.val / 8 = J.val / 2 := by omega
  have e3 : t.val / 4 % 2 = J.val % 2 := by omega
  unfold part
  pointwise [k0_pay2]
  blk_point [iblk, V, idx t, e1, e2, e3]

/-- The result: every run of four points leaves the sum over its four token tiles. -/
theorem final (c : Dev nD) (i : Fin 1024) (j : Fin 6144) : G2 m c (ix2 i j)
    = dw (m ((c : Thread nD τ).loc main_arg0)) (m ((c : Thread nD τ).loc main_arg1)) i j := by
  have hN : cfg0.N = 16 := N_0
  have hb : 4 * run2Of (ix2 i j) = 4 * (j.val / 1536) := by
    show 4 * (4 * (i.val / 1024 - 0) + 1 * (j.val / 1536 - 0)) = _
    omega
  unfold G2
  rw [dif_pos (by rw [hb, hN]; omega)]
  refine (acc4 _ _ _ (fun y : S1024x1536.Idx => part (m ((c : Thread nD τ).loc main_arg0)) (m ((c : Thread nD τ).loc main_arg1)) (y 0)
      ⟨j.val / 1536 / 2, by omega⟩ ⟨j.val / 1536 % 2 * 1536 + (y 1).val, by have : (y 1).val < 1536 := (y 1).isLt; omega⟩) ?_ ?_ _ _).trans ?_
  · intro h y
    idx_vars y
    refine (pay2_apply m c ⟨_, h⟩ 0 ⟨j.val / 1536, by omega⟩ (by simp only [hb]; simp) _ y0 y1).trans ?_
    pointwise [k0_pay1]
  · intro r h acc y
    idx_vars y
    exact pay2_apply m c ⟨_, h⟩ r ⟨j.val / 1536, by omega⟩ (by simp only [hb]) _ y0 y1
  · unfold dw
    refine Finset.sum_congr rfl fun s _ => ?_
    show part _ _ ⟨i.val % 1024, _⟩ _ ⟨j.val / 1536 % 2 * 1536 + j.val % 1536, _⟩ s = _
    congr 1
    · exact Fin.ext (by show i.val % 1024 = i.val; omega)
    · exact Fin.ext (by show j.val / 1536 / 2 = j.val / 3072; omega)
    · exact Fin.ext (by show j.val / 1536 % 2 * 1536 + j.val % 1536 = j.val % 3072; omega)

end kernel

section reference

open Cert.Reference3Ideal Cert.Reference3Ideal.Read

/-- The plain gradient: the two planes side by side, one product over the tokens. -/
theorem v10_eq (a0 : (⟨S4096x1024, .bf16⟩ : BufTy).Contents (Elt Ideal)) (a1 : (⟨S2x4096x3072, .bf16⟩ : BufTy).Contents (Elt Ideal))
    (i : Fin 1024) (j : Fin 6144) : val_main_v10 (F := Ideal) a0 a1 (ix2 i j) = dw a0 a1 i j := by
  unfold dw part
  pointwise [val_main_v10, val_main_v9, val_main_v7, val_main_v5, val_main_v4, val_main_v3, val_main_v2, val_main_v1, val_main_v0]
  refine Finset.sum_congr rfl fun s _ => ?_
  rw [mul_comm]
  by_cases h : j.val < 3072
  · rw [dif_pos h]
    exact congrArg₂ (fun p q => a0 (ix2 s i) * a1 (ix3 p s q)) (Fin.ext (by show 0 = j.val / 3072; omega))
      (Fin.ext (by show j.val = j.val % 3072; omega))
  · rw [dif_neg h]
    exact congrArg₂ (fun p q => a0 (ix2 s i) * a1 (ix3 p s q)) (Fin.ext (by show 1 = j.val / 3072; omega))
      (Fin.ext (by show j.val - 3072 = j.val % 3072; omega))

end reference

/-- The plain gradient's run keeps its arguments and ends with every counter at zero. -/
theorem frame_ref : Cert.quiescent_Reference3Ideal := fun m ρ _ =>
  (θ_run Cert.Reference3Ideal.defs _ _).mono (fun r h => ⟨fun c => (h c).2,
      Idealize.ShloMosaic.sem_eq_zero_of_no_sems (by decide) r.2⟩) (Cert.Reference3Ideal.Value.run (F := Ideal) m ρ)

/-- The kernel leaves the plain gradient of the up-projection's weights. -/
theorem algebraic : Cert.algebraic_Kernel3Ideal_Reference3Ideal := fun m ρ m' ρ' _ hm => by
  refine ⟨_, Cert.Kernel3Ideal.Value.run m ρ, (θ_run _ _ _).mono (fun r h c => ?_) (Cert.Reference3Ideal.Value.run m' ρ')⟩
  obtain ⟨h0, hargs⟩ := h c
  obtain ⟨e0, e1⟩ := hm c
  refine ⟨h0.trans ?_, hargs⟩
  rw [Cert.Reference3Ideal.Read.val_main_v10_eq, e0, e1]
  funext i
  idx_vars i
  exact (v10_eq _ _ i0 i1).trans (final m c i0 i1).symm

end Cert.Proof.WupCall

end
-- ==== Proof.UpCall.lean ====
/-
  The feed-forward's norm and first product: what the kernel leaves, what the plain forward pass is, and the claims.
-/
module

public import proofs.«01_k».proof.Defs
public import proofs.«01_k».proof.Proof.NormMath
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof.UpCall

open Idealize.ShloMosaic Idealize.ShloMosaic.TcCoe Idealize.SL.Sem
open Idealize.ShloMosaic.Pipeline (Dat)
open Cert.Proof.NormMath

/-- The normalised input, token `s`, lane `j`. -/
def nrm (a0 : (Shape.mk 2 ![4096, 1024]).Idx → EReal) (a1 : (Shape.mk 2 ![1, 1024]).Idx → EReal) (s : Fin 4096) (j : Fin 1024) : EReal :=
  a0 (ix2 s j) * Ideal.rsqrt (Ideal.div (∑ k : Fin 1024, a0 (ix2 s k) * a0 (ix2 s k)) c1024 + cEps) * a1 (ix2 0 j)

/-- The product's column `j` at token `s`. -/
def up (a0 : (Shape.mk 2 ![4096, 1024]).Idx → EReal) (a1 : (Shape.mk 2 ![1, 1024]).Idx → EReal)
    (a2 : (Shape.mk 2 ![1024, 6144]).Idx → EReal) (s : Fin 4096) (j : Fin 6144) : EReal :=
  ∑ k : Fin 1024, nrm a0 a1 s k * a2 (ix2 k j)

section kernel

open Cert.Kernel4Ideal Cert.Kernel4Ideal.Gen Cert.Kernel4Ideal.Value

variable (m : (ℓ : Loc nD τ sig) → Buf (Elt Ideal) ℓ)

/-- The windows' block indices at a point: the token tile, and the whole of the weights. -/
theorem idx : ∀ t : Fin cfg0.N, win0_0.index t = ![t.val, 0] ∧ win0_1.index t = ![0, 0] ∧ win0_2.index t = ![0, 0]
    ∧ win0_3.index t = ![0, t.val, 0] ∧ win0_4.index t = ![t.val, 0] :=
  (by decide +kernel : ∀ t : Fin grid0.N, _)

/-- Token `q` of tile `t`. -/
def tok (t : Fin cfg0.N) (q : Fin 512) : Fin 4096 := ⟨t.val * 512 + q.val, by
  have : t.val < 8 := lt_of_lt_of_eq t.isLt (show cfg0.N = 8 from N_0)
  omega⟩

/-- What a point stores of the normalised input. -/
theorem pay4_apply (c : Dev nD) (t : Fin cfg0.N) (q : Fin 512) (j : Fin 1024) :
    k0_pay4 (F := Ideal) (iblk m c 0 t) (iblk m c 1 t) (ix2 q j)
      = nrm (m ((c : Thread nD τ).loc main_arg0)) (m ((c : Thread nD τ).loc main_arg1)) (tok t q) j := by
  unfold nrm
  pointwise [k0_pay4]
  blk_point [iblk, V, idx t, tok]

/-- The normalised input, element by element. -/
theorem final4 (c : Dev nD) : (dats m 0 c).arrAt 4 cfg0.N
    = fun i => nrm (m ((c : Thread nD τ).loc main_arg0)) (m ((c : Thread nD τ).loc main_arg1)) (i 0) (i 1) := by
  refine (dats m 0 c).arrAt_eq_of_covers 4 _ (by decide +kernel) fun t _ y => ?_
  idx_vars y
  have he : ((cfg0.win 4).blk t).view.emb (ix2 y0 y1) = ix2 (tok t y0) y1 := by blk_ext [idx t, tok]
  rw [he]
  blk_simp
  rw [after0_4, outsAt0]
  frame_out
  exact pay4_apply m c t y0 y1

/-- What a point stores in one tile of the product: the normalised tokens times the tile's columns of the weights. -/
theorem tile_apply (c : Dev nD) (t : Fin cfg0.N) (w : FVec Ideal S1024x512 .bf16) (q : Fin 512) (j : Fin 512) (z : Fin 1) :
    k0_pay1 (F := Ideal) (k0_pay4 (iblk m c 0 t) (iblk m c 1 t)) w (ix3 z q j)
      = ∑ k : Fin 1024, nrm (m ((c : Thread nD τ).loc main_arg0)) (m ((c : Thread nD τ).loc main_arg1)) (tok t q) k * w (ix2 k j) := by
  pointwise [k0_pay1]
  simp only [pay4_apply]

/-- The product, element by element: plane `i 0` holds the columns from `3072 * i 0`. -/
theorem final3 (c : Dev nD) : (dats m 0 c).arrAt 3 cfg0.N
    = fun i => up (m ((c : Thread nD τ).loc main_arg0)) (m ((c : Thread nD τ).loc main_arg1)) (m ((c : Thread nD τ).loc main_arg2)) (i 1)
      ⟨(i 0).val * 3072 + (i 2).val, by have : (i 0).val < 2 := (i 0).isLt; have : (i 2).val < 3072 := (i 2).isLt; omega⟩ := by
  refine (dats m 0 c).arrAt_eq_of_covers 3 _ (by decide +kernel) fun t _ y => ?_
  idx_vars y
  have he : ((cfg0.win 3).blk t).view.emb (ix3 y0 y1 y2) = ix3 y0 (tok t y1) y2 := by blk_ext [idx t, tok]
  rw [he]
  blk_simp
  rw [after0_3, outsAt0]
  frame_out
  canon_tiles x h
  all_goals
    idx_vars x
    refine (tile_apply m c t _ x1 x2 x0).trans ?_
    obtain rfl : y1 = x1 := Fin.ext h1
    unfold up
    blk_point [iblk, V, idx t]

end kernel

section reference

open Cert.Reference4Ideal Cert.Reference4Ideal.Read

/-- The plain norm. -/
theorem v13_eq (a0 : (⟨S4096x1024, .f32⟩ : BufTy).Contents (Elt Ideal)) (a1 : (⟨S1x1024, .f32⟩ : BufTy).Contents (Elt Ideal))
    (s : Fin 4096) (j : Fin 1024) : val_main_v13 (F := Ideal) a0 a1 (ix2 s j) = nrm a0 a1 s j := by
  unfold nrm
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The plain norm at the kernel's width. -/
theorem v22_eq (a0 : (⟨S4096x1024, .f32⟩ : BufTy).Contents (Elt Ideal)) (a1 : (⟨S1x1024, .f32⟩ : BufTy).Contents (Elt Ideal))
    (s : Fin 4096) (j : Fin 1024) : val_main_v22 (F := Ideal) a0 a1 (ix2 s j) = nrm a0 a1 s j := v13_eq a0 a1 s j

/-- The plain product. -/
theorem v15_eq (a0 : (⟨S4096x1024, .f32⟩ : BufTy).Contents (Elt Ideal)) (a1 : (⟨S1x1024, .f32⟩ : BufTy).Contents (Elt Ideal))
    (a2 : (⟨S1024x6144, .bf16⟩ : BufTy).Contents (Elt Ideal)) (s : Fin 4096) (j : Fin 6144) :
    val_main_v15 (F := Ideal) a0 a1 a2 (ix2 s j) = up a0 a1 a2 s j := by
  unfold up
  pointwise [val_main_v15, val_main_v14]
  simp only [v13_eq]

/-- The plain product's two halves, stacked. -/
theorem v21_eq (a0 : (⟨S4096x1024, .f32⟩ : BufTy).Contents (Elt Ideal)) (a1 : (⟨S1x1024, .f32⟩ : BufTy).Contents (Elt Ideal))
    (a2 : (⟨S1024x6144, .bf16⟩ : BufTy).Contents (Elt Ideal)) (p : Fin 2) (s : Fin 4096) (j : Fin 3072) :
    val_main_v21 (F := Ideal) a0 a1 a2 (ix3 p s j) = up a0 a1 a2 s ⟨p.val * 3072 + j.val, by omega⟩ := by
  rw [← v15_eq]
  pointwise [val_main_v21, val_main_v20, val_main_v19, val_main_v18, val_main_v17, val_main_v16]
  by_cases hp : p.val < 1
  · rw [dif_pos hp]
    exact congrArg (fun r => val_main_v15 (F := Ideal) a0 a1 a2 (ix2 s r)) (Fin.ext (by simp only []; omega))
  · rw [dif_neg hp]
    exact congrArg (fun r => val_main_v15 (F := Ideal) a0 a1 a2 (ix2 s r)) (Fin.ext (by simp only []; omega))

end reference

/-- The plain forward pass's run keeps its arguments and ends with every counter at zero. -/
theorem frame_ref : Cert.quiescent_Reference4Ideal := fun m ρ _ =>
  (θ_run Cert.Reference4Ideal.defs _ _).mono (fun r h => ⟨fun c => (h c).2.2,
      Idealize.ShloMosaic.sem_eq_zero_of_no_sems (by decide) r.2⟩) (Cert.Reference4Ideal.Value.run (F := Ideal) m ρ)

/-- The kernel leaves the plain product's two halves and the plain norm. -/
theorem algebraic : Cert.algebraic_Kernel4Ideal_Reference4Ideal := fun m ρ m' ρ' _ hm => by
  refine ⟨_, _, Cert.Kernel4Ideal.Value.run_blocks m ρ, (θ_run _ _ _).mono (fun r h c => ?_) (Cert.Reference4Ideal.Value.run m' ρ')⟩
  obtain ⟨h0, h1, hargs⟩ := h c
  obtain ⟨e0, e1, e2⟩ := hm c
  refine ⟨h0.trans ?_, h1.trans ?_, hargs⟩
  · rw [Cert.Reference4Ideal.Read.val_main_v21_eq, e0, e1, e2, final3 m c]
    funext i
    idx_vars i
    exact v21_eq _ _ _ i0 i1 i2
  · rw [Cert.Reference4Ideal.Read.val_main_v22_eq, e0, e1, final4 m c]
    funext i
    idx_vars i
    exact v22_eq _ _ i0 i1

end Cert.Proof.UpCall

end
-- ==== Proof.DactCall.lean ====
/-
  The gradient at the feed-forward's activation, a product with the transposed down-projection: what the kernel leaves,
  what the plain gradient is, and the claims.
-/
module

public import proofs.«01_k».proof.Defs
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ReadBack

@[expose] public section

set_option maxRecDepth 16384

noncomputable section

namespace Cert.Proof.DactCall

open Idealize.ShloMosaic Idealize.ShloMosaic.TcCoe Idealize.SL.Sem
open Idealize.ShloMosaic.Pipeline (Dat)

/-- The gradient at the activation, token `s`, unit `j`: the cotangent's row times the unit's row of weights. -/
def da (a0 : (Shape.mk 2 ![4096, 1024]).Idx → EReal) (a1 : (Shape.mk 2 ![3072, 1024]).Idx → EReal) (s : Fin 4096) (j : Fin 3072) :
    EReal := ∑ k : Fin 1024, a0 (ix2 s k) * a1 (ix2 j k)

section kernel

open Cert.Kernel5Ideal Cert.Kernel5Ideal.Gen Cert.Kernel5Ideal.Value

variable (m : (ℓ : Loc nD τ sig) → Buf (Elt Ideal) ℓ)

/-- The windows' block indices at a point: the token tile, and the whole of the weights. -/
theorem idx : ∀ t : Fin cfg0.N, win0_0.index t = ![t.val, 0] ∧ win0_1.index t = ![0, 0] ∧ win0_2.index t = ![t.val, 0] :=
  (by decide +kernel : ∀ t : Fin grid0.N, _)

/-- Token `q` of tile `t`. -/
def tok (t : Fin cfg0.N) (q : Fin 512) : Fin 4096 := ⟨t.val * 512 + q.val, by
  have : t.val < 8 := lt_of_lt_of_eq t.isLt (show cfg0.N = 8 from N_0)
  omega⟩

/-- What a point stores. -/
theorem point (c : Dev nD) (t : Fin cfg0.N) (q : Fin 512) (j : Fin 3072) :
    k0_pay1 (F := Ideal) (iblk m c 0 t) (iblk m c 1 t) (ix2 q j)
      = da (m ((c : Thread nD τ).loc main_arg0)) (m ((c : Thread nD τ).loc main_arg1)) (tok t q) j := by
  unfold da
  pointwise [k0_pay1]
  blk_point [iblk, V, idx t, tok]

/-- The result, element by element. -/
theorem final (c : Dev nD) : (dats m 0 c).arrAt 2 cfg0.N
    = fun i => da (m ((c : Thread nD τ).loc main_arg0)) (m ((c : Thread nD τ).loc main_arg1)) (i 0) (i 1) := by
  refine (dats m 0 c).arrAt_eq_of_covers 2 _ (by decide +kernel) fun t _ y => ?_
  idx_vars y
  have he : ((cfg0.win 2).blk t).view.emb (ix2 y0 y1) = ix2 (tok t y0) y1 := by blk_ext [idx t, tok]
  rw [he]
  blk_simp
  rw [after0_2]
  frame_out
  exact point m c t y0 y1

end kernel

section reference

open Cert.Reference5Ideal Cert.Reference5Ideal.Read

/-- The plain gradient is the same product. -/
theorem v5_eq (a0 : (⟨S4096x1024, .bf16⟩ : BufTy).Contents (Elt Ideal)) (a1 : (⟨S3072x1024, .bf16⟩ : BufTy).Contents (Elt Ideal))
    (s : Fin 4096) (j : Fin 3072) : val_main_v5 (F := Ideal) a0 a1 (ix2 s j) = da a0 a1 s j := by
  unfold da
  pointwise [val_main_v5, val_main_v4, val_main_v3, val_main_v1]

end reference

/-- The plain gradient's run keeps its arguments and ends with every counter at zero. -/
theorem frame_ref : Cert.quiescent_Reference5Ideal := fun m ρ _ =>
  (θ_run Cert.Reference5Ideal.defs _ _).mono (fun r h => ⟨fun c => (h c).2,
      Idealize.ShloMosaic.sem_eq_zero_of_no_sems (by decide) r.2⟩) (Cert.Reference5Ideal.Value.run (F := Ideal) m ρ)

/-- The kernel leaves the plain gradient at the activation. -/
theorem algebraic : Cert.algebraic_Kernel5Ideal_Reference5Ideal := fun m ρ m' ρ' _ hm => by
  refine ⟨_, Cert.Kernel5Ideal.Value.run_blocks m ρ, (θ_run _ _ _).mono (fun r h c => ?_) (Cert.Reference5Ideal.Value.run m' ρ')⟩
  obtain ⟨h0, hargs⟩ := h c
  obtain ⟨e0, e1⟩ := hm c
  refine ⟨h0.trans ?_, hargs⟩
  rw [Cert.Reference5Ideal.Read.val_main_v5_eq, e0, e1, final m c]
  funext i
  idx_vars i
  exact v5_eq _ _ i0 i1

end Cert.Proof.DactCall

end
-- ==== Proof.WdownCall.lean ====
/-
  The gradient of the down-projection's weights: what the kernel leaves, what the plain gradient is, and the claims.
-/
module

public import proofs.«01_k».proof.Defs
public import proofs.«01_k».proof.Proof.AccMath
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

namespace Cert.Proof.WdownCall

open Idealize.ShloMosaic Idealize.ShloMosaic.TcCoe Idealize.SL.Sem Cert.Proof.AccMath

section kernel

open Cert.Kernel6Ideal Cert.Kernel6Ideal.Gen Cert.Kernel6Ideal.Value

variable (m : (ℓ : Loc nD τ sig) → Buf (Elt Ideal) ℓ)

/-- The windows' block indices at a point: token tile `t % 4`, row tile `t / 4` of the result. -/
theorem idx : ∀ t : Fin cfg0.N, win0_0.index t = ![t.val % 4, t.val / 4] ∧ win0_1.index t = ![t.val % 4, 0] :=
  (by decide +kernel : ∀ t : Fin grid0.N, _)

/-- What a point adds to its block. -/
theorem pay2_apply (c : Dev nD) (t : Fin cfg0.N) (r : Fin 4) (I : Fin 2) (ht : t.val = 4 * I.val + r.val)
    (acc : FVec Ideal S1536x1024 .f32) (i : Fin 1536) (j : Fin 1024) :
    k0_pay2 (F := Ideal) acc (iblk m c 0 t) (iblk m c 1 t) (ix2 i j)
      = acc (ix2 i j) + ∑ q : Fin 1024, tn (K := 3072) (m ((c : Thread nD τ).loc main_arg0)) (m ((c : Thread nD τ).loc main_arg1))
          ⟨I.val * 1536 + i.val, by omega⟩ j (tok4 r q) := by
  have e1 : t.val % 4 = r.val := by omega
  have e2 : t.val / 4 = I.val := by omega
  unfold tn
  pointwise [k0_pay2]
  blk_point [iblk, V, idx t, e1, e2]

/-- The result: every run of four points leaves the sum over its four token tiles. -/
theorem final (c : Dev nD) (i : Fin 3072) (j : Fin 1024) : G2 m c (ix2 i j)
    = ∑ s : Fin 4096, tn (m ((c : Thread nD τ).loc main_arg0)) (m ((c : Thread nD τ).loc main_arg1)) i j s := by
  have hN : cfg0.N = 8 := N_0
  have hb : 4 * run2Of (ix2 i j) = 4 * (i.val / 1536) := by
    show 4 * (1 * (i.val / 1536 - 0) + 1 * (j.val / 1024 - 0)) = _
    omega
  unfold G2
  rw [dif_pos (by rw [hb, hN]; omega)]
  refine (acc4 _ _ _ (fun y : S1536x1024.Idx => tn (K := 3072) (m ((c : Thread nD τ).loc main_arg0)) (m ((c : Thread nD τ).loc main_arg1))
      ⟨i.val / 1536 * 1536 + (y 0).val, by have : (y 0).val < 1536 := (y 0).isLt; omega⟩ (y 1)) ?_ ?_ _ _).trans ?_
  · intro h y
    idx_vars y
    refine (pay2_apply m c ⟨_, h⟩ 0 ⟨i.val / 1536, by omega⟩ (by simp only [hb]; simp) _ y0 y1).trans ?_
    pointwise [k0_pay1]
  · intro r h acc y
    idx_vars y
    exact pay2_apply m c ⟨_, h⟩ r ⟨i.val / 1536, by omega⟩ (by simp only [hb]) _ y0 y1
  · exact Finset.sum_congr rfl fun s _ => congrArg₂ (fun p q => tn (K := 3072) (m ((c : Thread nD τ).loc main_arg0)) (m ((c : Thread nD τ).loc main_arg1)) p q s)
      (Fin.ext (by show i.val / 1536 * 1536 + i.val % 1536 = i.val; omega)) (Fin.ext (by show j.val % 1024 = j.val; omega))

end kernel

section reference

open Cert.Reference6Ideal Cert.Reference6Ideal.Read

/-- The plain gradient is the same sum. -/
theorem v5_eq (a0 : (⟨S4096x3072, .bf16⟩ : BufTy).Contents (Elt Ideal)) (a1 : (⟨S4096x1024, .bf16⟩ : BufTy).Contents (Elt Ideal))
    (i : Fin 3072) (j : Fin 1024) : val_main_v5 (F := Ideal) a0 a1 (ix2 i j) = ∑ s : Fin 4096, tn a0 a1 i j s := by
  unfold tn
  pointwise [val_main_v5, val_main_v4, val_main_v3, val_main_v1]
  exact Finset.sum_congr rfl fun s _ => mul_comm _ _

end reference

/-- The plain gradient's run keeps its arguments and ends with every counter at zero. -/
theorem frame_ref : Cert.quiescent_Reference6Ideal := fun m ρ _ =>
  (θ_run Cert.Reference6Ideal.defs _ _).mono (fun r h => ⟨fun c => (h c).2,
      Idealize.ShloMosaic.sem_eq_zero_of_no_sems (by decide) r.2⟩) (Cert.Reference6Ideal.Value.run (F := Ideal) m ρ)

/-- The kernel leaves the plain gradient of the down-projection's weights. -/
theorem algebraic : Cert.algebraic_Kernel6Ideal_Reference6Ideal := fun m ρ m' ρ' _ hm => by
  refine ⟨_, Cert.Kernel6Ideal.Value.run m ρ, (θ_run _ _ _).mono (fun r h c => ?_) (Cert.Reference6Ideal.Value.run m' ρ')⟩
  obtain ⟨h0, hargs⟩ := h c
  obtain ⟨e0, e1⟩ := hm c
  refine ⟨h0.trans ?_, hargs⟩
  rw [Cert.Reference6Ideal.Read.val_main_v5_eq, e0, e1]
  funext i
  idx_vars i
  exact (v5_eq _ _ i0 i1).trans (final m c i0 i1).symm

end Cert.Proof.WdownCall

end
-- ==== Proof.LossKernel.lean ====
/-
  What the call of the last product and the loss leaves, element by element, at the extended reals: the gradient at the
  layer's output, its half-width copy, the gradient of the final norm's weights, and the loss.
-/
module

public import proofs.«01_k».proof.Proof.Gen.Kernel7Ideal.Value
public import Idealize.ShloMosaic.Lib.Pipeline.ValueKit
public import Idealize.ShloMosaic.Lib.Pipeline.ReadBack
public import Idealize.ShloMosaic.Lib.WritesUnit
public import proofs.«01_k».proof.Proof.NormMath

@[expose] public section

set_option maxRecDepth 16384

noncomputable section

namespace Cert.Proof.LossKernel

open Cert.Kernel7Ideal Cert.Kernel7Ideal.Gen Idealize.ShloMosaic Idealize.ShloMosaic.TcCoe Idealize.SL.Sem
open Idealize.ShloMosaic.Pipeline (Dat)
open Cert.Proof.NormMath

/-- The kernel's words for the mean's weight and for half of it. -/
abbrev cMean : EReal := Ideal.ofBits .f32 0x3A800000#32
abbrev cHalfMean : EReal := Ideal.ofBits .f32 0x3A000000#32

theorem cMean_eq : cMean = ((1 / 1024 : ℝ) : EReal) := by
  simp [cMean, Ideal.ofBits, Ideal.ieee, -EReal.coe_mul]; norm_num

theorem cHalfMean_eq : cHalfMean = ((1 / 2048 : ℝ) : EReal) := by
  simp [cHalfMean, Ideal.ofBits, Ideal.ieee, -EReal.coe_mul]; norm_num

/-- The layer's output at token `s`, lane `j`: the residual stream plus the last product. -/
def y (a0 : FVec Ideal S4096x3072 .bf16) (a1 : FVec Ideal S3072x1024 .bf16) (a2 : FVec Ideal S4096x1024 .f32) (s : Fin 4096)
    (j : Fin 1024) : EReal := a2 (ix2 s j) + ∑ k : Fin 3072, a0 (ix2 s k) * a1 (ix2 k j)

/-- The mean square plus epsilon of the output's row `s`. -/
def vv (a0 : FVec Ideal S4096x3072 .bf16) (a1 : FVec Ideal S3072x1024 .bf16) (a2 : FVec Ideal S4096x1024 .f32) (s : Fin 4096) : EReal :=
  Ideal.div (∑ k : Fin 1024, y a0 a1 a2 s k * y a0 a1 a2 s k) c1024 + cEps

/-- The error at token `s`, lane `j`: the normalised output less the target. -/
def err (a0 : FVec Ideal S4096x3072 .bf16) (a1 : FVec Ideal S3072x1024 .bf16) (a2 : FVec Ideal S4096x1024 .f32)
    (a3 : FVec Ideal S1x1024 .f32) (a4 : FVec Ideal S4096x1024 .f32) (s : Fin 4096) (j : Fin 1024) : EReal :=
  y a0 a1 a2 s j * Ideal.rsqrt (vv a0 a1 a2 s) * a3 (ix2 0 j) - a4 (ix2 s j)

/-- The gradient at the normalised output before the norm's weights. -/
def ct (a0 : FVec Ideal S4096x3072 .bf16) (a1 : FVec Ideal S3072x1024 .bf16) (a2 : FVec Ideal S4096x1024 .f32)
    (a3 : FVec Ideal S1x1024 .f32) (a4 : FVec Ideal S4096x1024 .f32) (s : Fin 4096) (j : Fin 1024) : EReal :=
  err a0 a1 a2 a3 a4 s j * cMean

/-- The gradient at the layer's output. -/
def dx (a0 : FVec Ideal S4096x3072 .bf16) (a1 : FVec Ideal S3072x1024 .bf16) (a2 : FVec Ideal S4096x1024 .f32)
    (a3 : FVec Ideal S1x1024 .f32) (a4 : FVec Ideal S4096x1024 .f32) (s : Fin 4096) (j : Fin 1024) : EReal :=
  Ideal.rsqrt (vv a0 a1 a2 s) * (ct a0 a1 a2 a3 a4 s j * a3 (ix2 0 j)
    - y a0 a1 a2 s j * Ideal.rsqrt (vv a0 a1 a2 s)
      * Ideal.div (∑ k : Fin 1024, ct a0 a1 a2 a3 a4 s k * a3 (ix2 0 k) * (y a0 a1 a2 s k * Ideal.rsqrt (vv a0 a1 a2 s))) c1024)

/-- One token's part of the gradient of the norm's weight `j`. -/
def dgTerm (a0 : FVec Ideal S4096x3072 .bf16) (a1 : FVec Ideal S3072x1024 .bf16) (a2 : FVec Ideal S4096x1024 .f32)
    (a3 : FVec Ideal S1x1024 .f32) (a4 : FVec Ideal S4096x1024 .f32) (s : Fin 4096) (j : Fin 1024) : EReal :=
  ct a0 a1 a2 a3 a4 s j * (y a0 a1 a2 s j * Ideal.rsqrt (vv a0 a1 a2 s))

/-- One token's squared error. -/
def sq (a0 : FVec Ideal S4096x3072 .bf16) (a1 : FVec Ideal S3072x1024 .bf16) (a2 : FVec Ideal S4096x1024 .f32)
    (a3 : FVec Ideal S1x1024 .f32) (a4 : FVec Ideal S4096x1024 .f32) (s : Fin 4096) : EReal :=
  ∑ k : Fin 1024, err a0 a1 a2 a3 a4 s k * err a0 a1 a2 a3 a4 s k

variable (m : (ℓ : Loc nD τ sig) → Buf (Elt Ideal) ℓ)

/-- The windows' block indices: the token tile for the token arrays, the whole array for the rest. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ win0_6.index t = ![t.val, 0] ∧ win0_7.index t = ![0, 0] ∧ win0_8.index t = ![0, 0] :=
  (by decide +kernel : ∀ t : Fin grid0.N, _)

/-- Token `q` of tile `t`. -/
def tok (t : Fin cfg0.N) (q : Fin 512) : Fin 4096 := ⟨t.val * 512 + q.val, by
  have : t.val < 8 := lt_of_lt_of_eq t.isLt (show cfg0.N = 8 from N_0)
  omega⟩

/-! The same values at the kernel's arguments on device `c`. -/

def yK (c : Dev nD) (s : Fin 4096) (j : Fin 1024) : EReal := y (m ((c : Thread nD τ).loc main_arg0)) (m ((c : Thread nD τ).loc main_arg1))
    (m ((c : Thread nD τ).loc main_arg2)) s j

def rK (c : Dev nD) (s : Fin 4096) : EReal := Ideal.rsqrt (vv (m ((c : Thread nD τ).loc main_arg0)) (m ((c : Thread nD τ).loc main_arg1))
    (m ((c : Thread nD τ).loc main_arg2)) s)

def errK (c : Dev nD) (s : Fin 4096) (j : Fin 1024) : EReal := err (m ((c : Thread nD τ).loc main_arg0)) (m ((c : Thread nD τ).loc main_arg1))
    (m ((c : Thread nD τ).loc main_arg2)) (m ((c : Thread nD τ).loc main_arg3)) (m ((c : Thread nD τ).loc main_arg4)) s j

def ctK (c : Dev nD) (s : Fin 4096) (j : Fin 1024) : EReal := ct (m ((c : Thread nD τ).loc main_arg0)) (m ((c : Thread nD τ).loc main_arg1))
    (m ((c : Thread nD τ).loc main_arg2)) (m ((c : Thread nD τ).loc main_arg3)) (m ((c : Thread nD τ).loc main_arg4)) s j

def dxK (c : Dev nD) (s : Fin 4096) (j : Fin 1024) : EReal := dx (m ((c : Thread nD τ).loc main_arg0)) (m ((c : Thread nD τ).loc main_arg1))
    (m ((c : Thread nD τ).loc main_arg2)) (m ((c : Thread nD τ).loc main_arg3)) (m ((c : Thread nD τ).loc main_arg4)) s j

def dgK (c : Dev nD) (s : Fin 4096) (j : Fin 1024) : EReal := dgTerm (m ((c : Thread nD τ).loc main_arg0)) (m ((c : Thread nD τ).loc main_arg1))
    (m ((c : Thread nD τ).loc main_arg2)) (m ((c : Thread nD τ).loc main_arg3)) (m ((c : Thread nD τ).loc main_arg4)) s j

def sqK (c : Dev nD) (s : Fin 4096) : EReal := sq (m ((c : Thread nD τ).loc main_arg0)) (m ((c : Thread nD τ).loc main_arg1))
    (m ((c : Thread nD τ).loc main_arg2)) (m ((c : Thread nD τ).loc main_arg3)) (m ((c : Thread nD τ).loc main_arg4)) s

/-! What the payloads of a point compute. -/

variable (c : Dev nD) (t : Fin cfg0.N)

theorem iblk3_apply (j : Fin 1024) : iblk m c 3 t (ix2 0 j) = m ((c : Thread nD τ).loc main_arg3) (ix2 0 j) := by
  blk_ext [iblk, V, idx t, tok]

theorem iblk4_apply (q : Fin 512) (j : Fin 1024) :
    iblk m c 4 t (ix2 q j) = m ((c : Thread nD τ).loc main_arg4) (ix2 (tok t q) j) := by
  blk_ext [iblk, V, idx t, tok]

theorem pay7_apply (q : Fin 512) (j : Fin 1024) :
    k0_pay7 (F := Ideal) (iblk m c 2 t) (iblk m c 0 t) (iblk m c 1 t) (ix2 q j) = yK m c (tok t q) j := by
  unfold yK y
  pointwise [k0_pay7]
  blk_point [iblk, V, idx t, tok]

theorem pay8_apply (q : Fin 512) :
    k0_pay8 (F := Ideal) (iblk m c 2 t) (iblk m c 0 t) (iblk m c 1 t) (ix2 q 0) = rK m c (tok t q) := by
  pointwise [k0_pay8]
  simp only [pay7_apply]
  rfl

theorem pay9_apply (q : Fin 512) (j : Fin 1024) :
    k0_pay9 (F := Ideal) (iblk m c 2 t) (iblk m c 0 t) (iblk m c 1 t) (ix2 q j) = yK m c (tok t q) j * rK m c (tok t q) := by
  pointwise [k0_pay9]
  simp only [pay7_apply, pay8_apply]

theorem pay10_apply (q : Fin 512) (j : Fin 1024) :
    k0_pay10 (F := Ideal) (iblk m c 2 t) (iblk m c 0 t) (iblk m c 1 t) (iblk m c 3 t) (iblk m c 4 t) (ix2 q j)
      = errK m c (tok t q) j := by
  pointwise [k0_pay10]
  simp only [pay9_apply, iblk3_apply, iblk4_apply]
  rfl

theorem pay1_apply (q : Fin 512) (j : Fin 1024) :
    k0_pay1 (F := Ideal) (k0_pay10 (iblk m c 2 t) (iblk m c 0 t) (iblk m c 1 t) (iblk m c 3 t) (iblk m c 4 t)) (ix2 q j)
      = ctK m c (tok t q) j := by
  pointwise [k0_pay1]
  simp only [pay10_apply]
  rfl

/-- What a point stores of the gradient at the layer's output. -/
theorem pay2_apply (q : Fin 512) (j : Fin 1024) :
    k0_pay2 (F := Ideal) (iblk m c 3 t) (k0_pay8 (iblk m c 2 t) (iblk m c 0 t) (iblk m c 1 t))
        (k0_pay9 (iblk m c 2 t) (iblk m c 0 t) (iblk m c 1 t))
        (k0_pay10 (iblk m c 2 t) (iblk m c 0 t) (iblk m c 1 t) (iblk m c 3 t) (iblk m c 4 t)) (ix2 q j)
      = dxK m c (tok t q) j := by
  pointwise [k0_pay2]
  simp only [pay1_apply, pay8_apply, pay9_apply, iblk3_apply]
  rfl

/-- What a point adds to the row of weight gradients. -/
theorem pay4_apply (x : FVec Ideal S1x1024 .f32) (j : Fin 1024) :
    k0_pay4 (F := Ideal) (k0_pay9 (iblk m c 2 t) (iblk m c 0 t) (iblk m c 1 t))
        (k0_pay10 (iblk m c 2 t) (iblk m c 0 t) (iblk m c 1 t) (iblk m c 3 t) (iblk m c 4 t)) x (ix2 0 j)
      = x (ix2 0 j) + ∑ q : Fin 512, dgK m c (tok t q) j := by
  pointwise [k0_pay4]
  simp only [pay1_apply, pay9_apply]
  rfl

/-- What a point adds to every entry of the loss block. -/
theorem pay11_apply (x : FVec Ideal S8x128 .f32) (i : Fin 8) (j : Fin 128) :
    k0_pay11 (F := Ideal) (iblk m c 2 t) (iblk m c 0 t) (iblk m c 1 t) (iblk m c 3 t) (iblk m c 4 t) x (ix2 i j)
      = x (ix2 i j) + cHalfMean * ∑ q : Fin 512, sqK m c (tok t q) := by
  pointwise [k0_pay11]
  simp only [pay10_apply]
  rfl

/-- One tile's part of the gradient of the norm's weights, in the array's first row. -/
def term7 (i : S8x1024.Idx) : EReal := if (i 0).val = 0 then ∑ q : Fin 512, dgK m c (tok t q) (i 1) else 0

/-- One tile's part of the loss. -/
def term8 (_ : S8x128.Idx) : EReal := cHalfMean * ∑ q : Fin 512, sqK m c (tok t q)

theorem step7 (h0 : ¬t.val % 8 = 0) (i : S8x1024.Idx) : (outsAt0 m c t.val t.isLt).2.2.1 i
    = (outsAt0 m c (t.val - 1) (Nat.lt_of_le_of_lt (Nat.sub_le _ _) t.isLt)).2.2.1 i + term7 m c t i := by
  rw [outsAt0_B m c t h0]
  frame_out
  idx_vars i
  by_cases hi : i0.val = 0
  · have hi0 : i0 = 0 := Fin.ext hi
    subst hi0
    rw [View.read_writes_cons_unit_of_mem _ _ inb_S8x1024_S1x1024_0_0 _ _ _ (ix2 0 i1) rfl
      (fun a => by fin_cases a <;> simp)]
    refine (pay4_apply m c t _ i1).trans ?_
    unfold term7
    pointwise
  · rw [View.read_writes_cons_unit_of_not_mem _ _ inb_S8x1024_S1x1024_0_0 _ _ _ rfl 0 (.inr (by
      show 0 + 1 ≤ i0.val
      omega)), View.writes_nil, Memref.IsWhole.read_unread]
    unfold term7
    simp [hi]

theorem init7 (h0 : t.val % 8 = 0) (i : S8x1024.Idx) : (outsAt0 m c t.val t.isLt).2.2.1 i = 0 + term7 m c t i := by
  rw [outsAt0_A m c t h0]
  frame_out
  idx_vars i
  rw [View.readCov_fill _ _ _ _ _ (by decide)]
  by_cases hi : i0.val = 0
  · have hi0 : i0 = 0 := Fin.ext hi
    subst hi0
    have he : (ix2 0 i1 : S8x1024.Idx) = (Rect.unit (s := S8x1024) ![0, 0] ![1, 1024] inb_S8x1024_S1x1024_0_0).emb (ix2 0 i1) := by
      blk_ext
    rw [he, View.canon_cons_emb, ← he]
    refine (pay4_apply m c t _ i1).trans ?_
    unfold term7
    pointwise [k0_pay5]
  · rw [View.canon_cons_of_not_mem _ _ (by
      rw [Rect.mem_set_unit]
      intro h
      have h1 : i0.val < 0 + 1 := (h 0).2
      omega), View.canon_cons_unit_lit _ _ _ (by decide)]
    unfold term7
    pointwise [k0_pay5]
    simp [hi]

theorem step8 (h0 : ¬t.val % 8 = 0) (i : S8x128.Idx) : (outsAt0 m c t.val t.isLt).2.2.2 i
    = (outsAt0 m c (t.val - 1) (Nat.lt_of_le_of_lt (Nat.sub_le _ _) t.isLt)).2.2.2 i + term8 m c t i := by
  rw [outsAt0_B m c t h0]
  frame_out
  idx_vars i
  exact pay11_apply m c t _ i0 i1

theorem init8 (h0 : t.val % 8 = 0) (i : S8x128.Idx) : (outsAt0 m c t.val t.isLt).2.2.2 i = 0 + term8 m c t i := by
  rw [outsAt0_A m c t h0]
  frame_out
  idx_vars i
  refine (pay11_apply m c t _ i0 i1).trans ?_
  unfold term8
  pointwise [k0_pay6]

theorem final5 : (dats m 0 c).arrAt 5 (cfgs 0).N = fun i => dxK m c (i 0) (i 1) := by
  refine (dats m 0 c).arrAt_eq_of_covers 5 _ (by decide +kernel) fun t _ y => ?_
  idx_vars y
  have he : ((cfg0.win 5).blk t).view.emb (ix2 y0 y1) = ix2 (tok t y0) y1 := by
    blk_ext [idx t, tok]
  rw [he]
  blk_simp
  rw [after0_5]
  by_cases h0 : t.val % 8 = 0
  · rw [outsAt0_A m c t h0]
    frame_out
    exact pay2_apply m c t y0 y1
  · rw [outsAt0_B m c t h0]
    frame_out
    exact pay2_apply m c t y0 y1

theorem final6 : (dats m 0 c).arrAt 6 (cfgs 0).N = fun i => dxK m c (i 0) (i 1) := by
  refine (dats m 0 c).arrAt_eq_of_covers 6 _ (by decide +kernel) fun t _ y => ?_
  idx_vars y
  have he : ((cfg0.win 6).blk t).view.emb (ix2 y0 y1) = ix2 (tok t y0) y1 := by
    blk_ext [idx t, tok]
  rw [he]
  blk_simp
  rw [after0_6]
  by_cases h0 : t.val % 8 = 0
  · rw [outsAt0_A m c t h0]
    frame_out
    exact pay2_apply m c t y0 y1
  · rw [outsAt0_B m c t h0]
    frame_out
    exact pay2_apply m c t y0 y1

/-- The third result: its first row is the gradient of the norm's weights, summed over the 4096 tokens; its other rows are
    zero. -/
theorem final7 : (dats m 0 c).arrAt 7 (cfgs 0).N
    = fun i => if (i 0).val = 0 then ∑ s : Fin 4096, dgK m c s (i 1) else 0 := by
  refine (dats m 0 c).arrAt_eq_of_after_last 7 t0_7 (by decide +kernel) _ fun i => ?_
  change S8x1024.Idx at i
  show (dats m 0 c).after 7 t0_7 i = if (i 0).val = 0 then ∑ s : Fin 4096, dgK m c s (i 1) else 0
  rw [after0_7]
  refine (Pipeline.eq_sum_fin_of_reset_step_apply_last (fun n h => (outsAt0 m c n h).2.2.1) 8 (fun _ => 0) (term7 m c)
    (init7 m c) (step7 m c) (le_of_eq N_0) t0_7 rfl i).trans ?_
  rw [zero_add]
  unfold term7
  by_cases hi : (i 0).val = 0
  · simp only [if_pos hi]
    exact Fin.sum_mul_add_fin 8 512 (fun s : Fin 4096 => dgK m c s (i 1)) rfl
  · simp only [if_neg hi, Finset.sum_const_zero]

/-- The fourth result: every entry is the loss, half the mean squared error of a token, summed over the tokens. -/
theorem final8 : (dats m 0 c).arrAt 8 (cfgs 0).N = fun _ => (∑ s : Fin 4096, sqK m c s) * ((1 / 2048 : ℝ) : EReal) := by
  refine (dats m 0 c).arrAt_eq_of_after_last 8 t0_7 (by decide +kernel) _ fun i => ?_
  change S8x128.Idx at i
  show (dats m 0 c).after 8 t0_7 i = (∑ s : Fin 4096, sqK m c s) * ((1 / 2048 : ℝ) : EReal)
  rw [after0_8]
  refine (Pipeline.eq_sum_fin_of_reset_step_apply_last (fun n h => (outsAt0 m c n h).2.2.2) 8 (fun _ => 0) (term8 m c)
    (init8 m c) (step8 m c) (le_of_eq N_0) t0_7 rfl i).trans ?_
  rw [zero_add]
  unfold term8
  have h := Fin.sum_mul_add_fin 8 512 (fun s : Fin 4096 => sqK m c s) rfl
  rw [← h, sum_mul_coe _ (by norm_num)]
  exact Finset.sum_congr rfl fun k _ => by rw [cHalfMean_eq, mul_comm]; rfl

end Cert.Proof.LossKernel

end
-- ==== Proof.LossCall.lean ====
/-
  The last product and the loss: what the plain value and gradient are, element by element, in the terms that the kernel's
  results are stated in, and the claims.
-/
module

public import proofs.«01_k».proof.Defs
public import proofs.«01_k».proof.Proof.Gen.Kernel7
public import proofs.«01_k».proof.Proof.Gen.Kernel7.Frame
public import proofs.«01_k».proof.Proof.Gen.Reference7Ideal.Run
public import proofs.«01_k».proof.Proof.Gen.Reference7Ideal.Read
public import proofs.«01_k».proof.Proof.LossKernel

@[expose] public section

set_option maxRecDepth 16384

noncomputable section

namespace Cert.Proof.LossCall

open Idealize.ShloMosaic Idealize.ShloMosaic.TcCoe Idealize.SL.Sem Cert.Proof.NormMath
open Cert.Proof.LossKernel (y vv err ct dx dgTerm sq cMean)

section reference

open Cert.Reference7Ideal Cert.Reference7Ideal.Read

variable (a0 : (⟨S4096x3072, .bf16⟩ : BufTy).Contents (Elt Ideal)) (a1 : (⟨S3072x1024, .bf16⟩ : BufTy).Contents (Elt Ideal))
  (a2 : (⟨S4096x1024, .f32⟩ : BufTy).Contents (Elt Ideal)) (a3 : (⟨S1x1024, .f32⟩ : BufTy).Contents (Elt Ideal))
  (a4 : (⟨S4096x1024, .f32⟩ : BufTy).Contents (Elt Ideal))

/-- The numbers one half, one and two, as the program's words denote them. -/
theorem half_eq : Ideal.ofBits .f32 0x3F000000#32 = ((1 / 2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- The cotangent of the mean of squares is the error times the mean's weight. -/
theorem ct_eq (d : EReal) : Ideal.div (Ideal.ofBits .f32 0x3F000000#32 * Ideal.ofBits .f32 0x3F800000#32) c1024
    * (Ideal.ofBits .f32 0x40000000#32 * d) = d * cMean := by
  rw [div_c1024, half_eq, one_eq, two_eq, LossKernel.cMean_eq, ← mul_assoc, mul_comm d, ← EReal.coe_mul, ← EReal.coe_mul,
    ← EReal.coe_mul]
  norm_num

theorem v3_eq (s : Fin 4096) (j : Fin 1024) : val_main_v3 (F := Ideal) a0 a1 a2 (ix2 s j) = y a0 a1 a2 s j := by
  unfold y
  pointwise [val_main_v3, val_main_v2, val_main_v1, val_main_v0]

theorem v11_eq (s : Fin 4096) : val_main_v11 (F := Ideal) a0 a1 a2 (ix2 s 0) = vv a0 a1 a2 s := by
  unfold vv
  pointwise [val_main_v11, val_main_v10, val_main_v9, val_main_v8, val_main_v7, val_main_v6, val_main_v5, val_main_cst,
    val_main_cst_0, val_main_cst_1]
  simp only [v3_eq]

theorem v12_eq (s : Fin 4096) : val_main_v12 (F := Ideal) a0 a1 a2 (ix2 s 0) = Ideal.rsqrt (vv a0 a1 a2 s) := by
  pointwise [val_main_v12]
  rw [v11_eq]

theorem v17_eq (s : Fin 4096) (j : Fin 1024) :
    val_main_v17 (F := Ideal) a0 a1 a2 (ix2 s j) = y a0 a1 a2 s j * Ideal.rsqrt (vv a0 a1 a2 s) := by
  pointwise [val_main_v17, val_main_v16]
  rw [v3_eq, v12_eq]

theorem v21_eq (s : Fin 4096) (j : Fin 1024) : val_main_v21 (F := Ideal) a0 a1 a2 a3 a4 (ix2 s j) = err a0 a1 a2 a3 a4 s j := by
  unfold err
  pointwise [val_main_v21, val_main_v20, val_main_v19, val_main_v18, val_main_v4]
  rw [v17_eq]

theorem v35_eq (s : Fin 4096) (j : Fin 1024) : val_main_v35 (F := Ideal) a0 a1 a2 a3 a4 (ix2 s j) = ct a0 a1 a2 a3 a4 s j := by
  unfold ct
  rw [← ct_eq, ← v21_eq]
  pointwise [val_main_v35, val_main_v34, val_main_v33, val_main_v32, val_main_v31, val_main_v30, val_main_v24, val_main_v23,
    val_main_cst_3, val_main_cst_8, val_main_cst_9, val_main_cst_10]

theorem v40_eq (s : Fin 4096) (j : Fin 1024) :
    val_main_v40 (F := Ideal) a0 a1 a2 a3 a4 (ix2 s j) = ct a0 a1 a2 a3 a4 s j * a3 (ix2 0 j) := by
  pointwise [val_main_v40, val_main_v39, val_main_v18, val_main_v4]
  rw [v35_eq]

theorem v51_eq (s : Fin 4096) (j : Fin 1024) : val_main_v51 (F := Ideal) a0 a1 a2 a3 a4 (ix2 s j)
    = Ideal.div ((∑ k : Fin 1024, y a0 a1 a2 s k * (ct a0 a1 a2 a3 a4 s k * a3 (ix2 0 k)))
        * (cNegHalf * Ideal.div (Ideal.rsqrt (vv a0 a1 a2 s)) (vv a0 a1 a2 s))) c1024 := by
  pointwise [val_main_v51, val_main_v50, val_main_v49, val_main_v48, val_main_v47, val_main_v44, val_main_v43, val_main_v42,
    val_main_v15, val_main_v14, val_main_v13, val_main_cst_2, val_main_cst_13, val_main_cst_14, val_main_cst_15]
  simp only [v40_eq, v3_eq, Finset.univ_unique, Finset.sum_singleton]
  rw [show (default : Fin 1) = 0 from rfl, v12_eq, v11_eq]

/-- The plain gradient at the layer's output. -/
theorem v55_eq (s : Fin 4096) (j : Fin 1024) : val_main_v55 (F := Ideal) a0 a1 a2 a3 a4 (ix2 s j) = dx a0 a1 a2 a3 a4 s j := by
  unfold dx
  refine Eq.trans ?_ ((dnorm_eq (y a0 a1 a2 s) (fun k => ct a0 a1 a2 a3 a4 s k * a3 (ix2 0 k)) 0 j _ _ rfl rfl).symm.trans (zero_add _))
  pointwise [val_main_v55, val_main_v54, val_main_v53, val_main_v52, val_main_v46, val_main_v45]
  rw [v51_eq, v40_eq, v12_eq, v3_eq]
  rfl

/-- The plain gradient at the kernel's width. -/
theorem v56_eq (s : Fin 4096) (j : Fin 1024) : val_main_v56 (F := Ideal) a0 a1 a2 a3 a4 (ix2 s j) = dx a0 a1 a2 a3 a4 s j :=
  v55_eq a0 a1 a2 a3 a4 s j

/-- The plain gradient of the norm's weights, in the first of eight rows. -/
theorem v58_eq (i : S8x1024.Idx) : val_main_v58 (F := Ideal) a0 a1 a2 a3 a4 i
    = if (i 0).val = 0 then ∑ s : Fin 4096, dgTerm a0 a1 a2 a3 a4 s (i 1) else 0 := by
  idx_vars i
  unfold val_main_v58
  rw [pad_apply]
  by_cases h : i0.val = 0
  · rw [dif_pos (by
      intro a
      fin_cases a
      · simp [h]
      · simp [Nat.mod_one])]
    pointwise [val_main_v57, val_main_v41, val_main_v38, val_main_v37, val_main_v36, val_main_cst_11, val_main_cst_12]
    simp only [v17_eq, v35_eq]
    unfold dgTerm
    refine Eq.trans ?_ (if_pos h).symm
    simp only [Finset.univ_unique, Finset.sum_singleton]
    exact Finset.sum_congr rfl fun s _ => mul_comm _ _
  · rw [dif_neg (by
      intro hin
      have h1 : (i0.val - 0) / (0 + 1) < 1 := (hin 0).2.2
      omega)]
    pointwise [val_main_call0_v0, val_main_c]
    simp [h, FloatOps.sitofp]

/-- The plain loss. -/
theorem v59_eq (i : S8x128.Idx) : val_main_v59 (F := Ideal) a0 a1 a2 a3 a4 i
    = (∑ s : Fin 4096, sq a0 a1 a2 a3 a4 s) * ((1 / 2048 : ℝ) : EReal) := by
  have hc : ((1 / 2048 : ℝ) : EReal) = ((1 / 1024 : ℝ) : EReal) * ((1 / 2 : ℝ) : EReal) := by
    rw [← EReal.coe_mul]; norm_num
  rw [hc, ← mul_assoc, sum_mul_coe _ (by norm_num), mul_comm, ← half_eq]
  idx_vars i
  pointwise [val_main_v59, val_main_v29, val_main_v28, val_main_v27, val_main_v26, val_main_v25, val_main_v22, val_main_cst_4,
    val_main_cst_5, val_main_cst_6, val_main_cst_7]
  simp only [v21_eq, div_c1024]
  rfl

end reference

/-- The plain program's run keeps its arguments and ends with every counter at zero. -/
theorem frame_ref : Cert.quiescent_Reference7Ideal := fun m ρ _ =>
  (θ_run Cert.Reference7Ideal.defs _ _).mono (fun r h => ⟨fun c => (h c).2.2.2.2,
      Idealize.ShloMosaic.sem_eq_zero_of_no_sems (by decide) r.2⟩) (Cert.Reference7Ideal.Value.run (F := Ideal) m ρ)

/-- The kernel leaves the plain loss and its gradients. -/
theorem algebraic : Cert.algebraic_Kernel7Ideal_Reference7Ideal := fun m ρ m' ρ' _ hm => by
  refine ⟨_, _, _, _, Cert.Kernel7Ideal.Value.run_blocks m ρ, (θ_run _ _ _).mono (fun r h c => ?_) (Cert.Reference7Ideal.Value.run m' ρ')⟩
  obtain ⟨h0, h1, h2, h3, hargs⟩ := h c
  obtain ⟨e0, e1, e2, e3, e4⟩ := hm c
  refine ⟨h0.trans ?_, h1.trans ?_, h2.trans ?_, h3.trans ?_, hargs⟩
  · rw [Cert.Reference7Ideal.Read.val_main_v55_eq, LossKernel.final5 m c, e0, e1, e2, e3, e4]
    funext i
    idx_vars i
    exact v55_eq _ _ _ _ _ i0 i1
  · rw [Cert.Reference7Ideal.Read.val_main_v56_eq, LossKernel.final6 m c, e0, e1, e2, e3, e4]
    funext i
    idx_vars i
    exact v56_eq _ _ _ _ _ i0 i1
  · rw [Cert.Reference7Ideal.Read.val_main_v58_eq, LossKernel.final7 m c, e0, e1, e2, e3, e4]
    funext i
    exact v58_eq _ _ _ _ _ i
  · rw [Cert.Reference7Ideal.Read.val_main_v59_eq, LossKernel.final8 m c, e0, e1, e2, e3, e4]
    funext i
    exact v59_eq _ _ _ _ _ i

end Cert.Proof.LossCall

end
-- ==== Proof.WoutCall.lean ====
/-
  The gradient of the output projection's weights: what the kernel leaves, what the plain gradient is, and the claims.
-/
module

public import proofs.«01_k».proof.Defs
public import proofs.«01_k».proof.Proof.AccMath
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384

noncomputable section

namespace Cert.Proof.WoutCall

open Idealize.ShloMosaic Idealize.ShloMosaic.TcCoe Idealize.SL.Sem Cert.Proof.AccMath

section kernel

open Cert.Kernel8Ideal Cert.Kernel8Ideal.Gen Cert.Kernel8Ideal.Value

variable (m : (ℓ : Loc nD τ sig) → Buf (Elt Ideal) ℓ)

/-- The windows' block indices at a point: token tile `t % 4`; the result is one block. -/
theorem idx : ∀ t : Fin cfg0.N, win0_0.index t = ![t.val % 4, t.val / 4] ∧ win0_1.index t = ![t.val % 4, 0] :=
  (by decide +kernel : ∀ t : Fin grid0.N, _)

/-- What a point adds to its block. -/
theorem pay2_apply (c : Dev nD) (t : Fin cfg0.N) (r : Fin 4) (I : Fin 1) (ht : t.val = 4 * I.val + r.val)
    (acc : FVec Ideal S1536x1024 .f32) (i : Fin 1536) (j : Fin 1024) :
    k0_pay2 (F := Ideal) acc (iblk m c 0 t) (iblk m c 1 t) (ix2 i j)
      = acc (ix2 i j) + ∑ q : Fin 1024, tn (K := 1536) (m ((c : Thread nD τ).loc main_arg0)) (m ((c : Thread nD τ).loc main_arg1))
          ⟨I.val * 1536 + i.val, by omega⟩ j (tok4 r q) := by
  have e1 : t.val % 4 = r.val := by omega
  have e2 : t.val / 4 = I.val := by omega
  unfold tn
  pointwise [k0_pay2]
  blk_point [iblk, V, idx t, e1, e2]

/-- The result: the four points leave the sum over its four token tiles. -/
theorem final (c : Dev nD) (i : Fin 1536) (j : Fin 1024) : G2 m c (ix2 i j)
    = ∑ s : Fin 4096, tn (m ((c : Thread nD τ).loc main_arg0)) (m ((c : Thread nD τ).loc main_arg1)) i j s := by
  have hN : cfg0.N = 4 := N_0
  have hb : 4 * run2Of (ix2 i j) = 4 * (i.val / 1536) := by
    show 4 * (1 * (i.val / 1536 - 0) + 1 * (j.val / 1024 - 0)) = _
    omega
  unfold G2
  rw [dif_pos (by rw [hb, hN]; omega)]
  refine (acc4 _ _ _ (fun y : S1536x1024.Idx => tn (K := 1536) (m ((c : Thread nD τ).loc main_arg0)) (m ((c : Thread nD τ).loc main_arg1))
      ⟨i.val / 1536 * 1536 + (y 0).val, by have : (y 0).val < 1536 := (y 0).isLt; omega⟩ (y 1)) ?_ ?_ _ _).trans ?_
  · intro h y
    idx_vars y
    refine (pay2_apply m c ⟨_, h⟩ 0 ⟨i.val / 1536, by omega⟩ (by simp only [hb]; simp) _ y0 y1).trans ?_
    pointwise [k0_pay1]
  · intro r h acc y
    idx_vars y
    exact pay2_apply m c ⟨_, h⟩ r ⟨i.val / 1536, by omega⟩ (by simp only [hb]) _ y0 y1
  · exact Finset.sum_congr rfl fun s _ => congrArg₂ (fun p q => tn (K := 1536) (m ((c : Thread nD τ).loc main_arg0)) (m ((c : Thread nD τ).loc main_arg1)) p q s)
      (Fin.ext (by show i.val / 1536 * 1536 + i.val % 1536 = i.val; omega)) (Fin.ext (by show j.val % 1024 = j.val; omega))

end kernel

section reference

open Cert.Reference8Ideal Cert.Reference8Ideal.Read

/-- The plain gradient is the same sum. -/
theorem v5_eq (a0 : (⟨S4096x1536, .bf16⟩ : BufTy).Contents (Elt Ideal)) (a1 : (⟨S4096x1024, .bf16⟩ : BufTy).Contents (Elt Ideal))
    (i : Fin 1536) (j : Fin 1024) : val_main_v5 (F := Ideal) a0 a1 (ix2 i j) = ∑ s : Fin 4096, tn a0 a1 i j s := by
  unfold tn
  pointwise [val_main_v5, val_main_v4, val_main_v3, val_main_v1]
  exact Finset.sum_congr rfl fun s _ => mul_comm _ _

end reference

/-- The plain gradient's run keeps its arguments and ends with every counter at zero. -/
theorem frame_ref : Cert.quiescent_Reference8Ideal := fun m ρ _ =>
  (θ_run Cert.Reference8Ideal.defs _ _).mono (fun r h => ⟨fun c => (h c).2,
      Idealize.ShloMosaic.sem_eq_zero_of_no_sems (by decide) r.2⟩) (Cert.Reference8Ideal.Value.run (F := Ideal) m ρ)

/-- The kernel leaves the plain gradient of the output projection's weights. -/
theorem algebraic : Cert.algebraic_Kernel8Ideal_Reference8Ideal := fun m ρ m' ρ' _ hm => by
  refine ⟨_, Cert.Kernel8Ideal.Value.run m ρ, (θ_run _ _ _).mono (fun r h c => ?_) (Cert.Reference8Ideal.Value.run m' ρ')⟩
  obtain ⟨h0, hargs⟩ := h c
  obtain ⟨e0, e1⟩ := hm c
  refine ⟨h0.trans ?_, hargs⟩
  rw [Cert.Reference8Ideal.Read.val_main_v5_eq, e0, e1]
  funext i
  idx_vars i
  exact (v5_eq _ _ i0 i1).trans (final m c i0 i1).symm

end Cert.Proof.WoutCall

end
-- ==== Proof.DymixCall.lean ====
/-
  The gradient at the mixer's output, a product with the transposed output projection: what the kernel leaves, what the
  plain gradient is, and the claims.
-/
module

public import proofs.«01_k».proof.Defs
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ReadBack

@[expose] public section

set_option maxRecDepth 16384

noncomputable section

namespace Cert.Proof.DymixCall

open Idealize.ShloMosaic Idealize.ShloMosaic.TcCoe Idealize.SL.Sem
open Idealize.ShloMosaic.Pipeline (Dat)

/-- The gradient at the mixer's output, token `s`, channel `j`: the cotangent's row times the channel's row of weights. -/
def dymix (a0 : (Shape.mk 2 ![4096, 1024]).Idx → EReal) (a1 : (Shape.mk 2 ![1536, 1024]).Idx → EReal) (s : Fin 4096) (j : Fin 1536) :
    EReal := ∑ k : Fin 1024, a0 (ix2 s k) * a1 (ix2 j k)

section kernel

open Cert.Kernel9Ideal Cert.Kernel9Ideal.Gen Cert.Kernel9Ideal.Value

variable (m : (ℓ : Loc nD τ sig) → Buf (Elt Ideal) ℓ)

/-- The windows' block indices at a point: the token tile, and the whole of the weights. -/
theorem idx : ∀ t : Fin cfg0.N, win0_0.index t = ![t.val, 0] ∧ win0_1.index t = ![0, 0] ∧ win0_2.index t = ![t.val, 0] :=
  (by decide +kernel : ∀ t : Fin grid0.N, _)

/-- Token `q` of tile `t`. -/
def tok (t : Fin cfg0.N) (q : Fin 512) : Fin 4096 := ⟨t.val * 512 + q.val, by
  have : t.val < 8 := lt_of_lt_of_eq t.isLt (show cfg0.N = 8 from N_0)
  omega⟩

/-- What a point stores. -/
theorem point (c : Dev nD) (t : Fin cfg0.N) (q : Fin 512) (j : Fin 1536) :
    k0_pay1 (F := Ideal) (iblk m c 0 t) (iblk m c 1 t) (ix2 q j)
      = dymix (m ((c : Thread nD τ).loc main_arg0)) (m ((c : Thread nD τ).loc main_arg1)) (tok t q) j := by
  unfold dymix
  pointwise [k0_pay1]
  blk_point [iblk, V, idx t, tok]

/-- The result, element by element. -/
theorem final (c : Dev nD) : (dats m 0 c).arrAt 2 cfg0.N
    = fun i => dymix (m ((c : Thread nD τ).loc main_arg0)) (m ((c : Thread nD τ).loc main_arg1)) (i 0) (i 1) := by
  refine (dats m 0 c).arrAt_eq_of_covers 2 _ (by decide +kernel) fun t _ y => ?_
  idx_vars y
  have he : ((cfg0.win 2).blk t).view.emb (ix2 y0 y1) = ix2 (tok t y0) y1 := by blk_ext [idx t, tok]
  rw [he]
  blk_simp
  rw [after0_2]
  frame_out
  exact point m c t y0 y1

end kernel

section reference

open Cert.Reference9Ideal Cert.Reference9Ideal.Read

/-- The plain gradient is the same product. -/
theorem v5_eq (a0 : (⟨S4096x1024, .bf16⟩ : BufTy).Contents (Elt Ideal)) (a1 : (⟨S1536x1024, .bf16⟩ : BufTy).Contents (Elt Ideal))
    (s : Fin 4096) (j : Fin 1536) : val_main_v5 (F := Ideal) a0 a1 (ix2 s j) = dymix a0 a1 s j := by
  unfold dymix
  pointwise [val_main_v5, val_main_v4, val_main_v3, val_main_v1]

end reference

/-- The plain gradient's run keeps its arguments and ends with every counter at zero. -/
theorem frame_ref : Cert.quiescent_Reference9Ideal := fun m ρ _ =>
  (θ_run Cert.Reference9Ideal.defs _ _).mono (fun r h => ⟨fun c => (h c).2,
      Idealize.ShloMosaic.sem_eq_zero_of_no_sems (by decide) r.2⟩) (Cert.Reference9Ideal.Value.run (F := Ideal) m ρ)

/-- The kernel leaves the plain gradient at the mixer's output. -/
theorem algebraic : Cert.algebraic_Kernel9Ideal_Reference9Ideal := fun m ρ m' ρ' _ hm => by
  refine ⟨_, Cert.Kernel9Ideal.Value.run_blocks m ρ, (θ_run _ _ _).mono (fun r h c => ?_) (Cert.Reference9Ideal.Value.run m' ρ')⟩
  obtain ⟨h0, hargs⟩ := h c
  obtain ⟨e0, e1⟩ := hm c
  refine ⟨h0.trans ?_, hargs⟩
  rw [Cert.Reference9Ideal.Read.val_main_v5_eq, e0, e1, final m c]
  funext i
  idx_vars i
  exact v5_eq _ _ i0 i1

end Cert.Proof.DymixCall

end
-- ==== Proof.OutCall.lean ====
/-
  The output projection and the residual: what the kernel leaves, what the plain program computes, and the claims.
-/
module

public import proofs.«01_k».proof.Defs
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.ReadBack

@[expose] public section

set_option maxRecDepth 16384

noncomputable section

namespace Cert.Proof.OutCall

open Idealize.ShloMosaic Idealize.ShloMosaic.TcCoe Idealize.SL.Sem
open Idealize.ShloMosaic.Pipeline (Dat)

/-- The layer's input at token `s`, channel `j`, with the mixer's row projected onto it. -/
def x2 (a0 : (Shape.mk 2 ![4096, 1536]).Idx → EReal) (a1 : (Shape.mk 2 ![1536, 1024]).Idx → EReal)
    (a2 : (Shape.mk 2 ![4096, 1024]).Idx → EReal) (s : Fin 4096) (j : Fin 1024) : EReal :=
  a2 (ix2 s j) + ∑ k : Fin 1536, a0 (ix2 s k) * a1 (ix2 k j)

section kernel

open Cert.Kernel10Ideal Cert.Kernel10Ideal.Gen Cert.Kernel10Ideal.Value

variable (m : (ℓ : Loc nD τ sig) → Buf (Elt Ideal) ℓ)

/-- The windows' block indices at a point: the token tile, and the whole of the weights. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- Token `q` of tile `t`. -/
def tok (t : Fin cfg0.N) (q : Fin 512) : Fin 4096 := ⟨t.val * 512 + q.val, by
  have : t.val < 8 := lt_of_lt_of_eq t.isLt (show cfg0.N = 8 from N_0)
  omega⟩

/-- What a point stores. -/
theorem point (c : Dev nD) (t : Fin cfg0.N) (q : Fin 512) (j : Fin 1024) :
    k0_pay1 (F := Ideal) (iblk m c 2 t) (iblk m c 0 t) (iblk m c 1 t) (ix2 q j)
      = x2 (m ((c : Thread nD τ).loc main_arg0)) (m ((c : Thread nD τ).loc main_arg1)) (m ((c : Thread nD τ).loc main_arg2))
          (tok t q) j := by
  unfold x2
  pointwise [k0_pay1]
  blk_point [iblk, V, idx t, tok]

/-- The result, element by element. -/
theorem final (c : Dev nD) : (dats m 0 c).arrAt 3 cfg0.N
    = fun i => x2 (m ((c : Thread nD τ).loc main_arg0)) (m ((c : Thread nD τ).loc main_arg1))
        (m ((c : Thread nD τ).loc main_arg2)) (i 0) (i 1) := by
  refine (dats m 0 c).arrAt_eq_of_covers 3 _ (by decide +kernel) fun t _ y => ?_
  idx_vars y
  have he : ((cfg0.win 3).blk t).view.emb (ix2 y0 y1) = ix2 (tok t y0) y1 := by blk_ext [idx t, tok]
  rw [he]
  blk_simp
  rw [after0_3]
  frame_out
  exact point m c t y0 y1

end kernel

section reference

open Cert.Reference10Ideal Cert.Reference10Ideal.Read

/-- The plain program's result is the same sum. -/
theorem v3_eq (a0 : (⟨S4096x1536, .bf16⟩ : BufTy).Contents (Elt Ideal)) (a1 : (⟨S1536x1024, .bf16⟩ : BufTy).Contents (Elt Ideal))
    (a2 : (⟨S4096x1024, .f32⟩ : BufTy).Contents (Elt Ideal)) (s : Fin 4096) (j : Fin 1024) :
    val_main_v3 (F := Ideal) a0 a1 a2 (ix2 s j) = x2 a0 a1 a2 s j := by
  unfold x2
  pointwise [val_main_v3, val_main_v2, val_main_v1, val_main_v0]

end reference

/-- The plain program's run keeps its arguments and ends with every counter at zero. -/
theorem frame_ref : Cert.quiescent_Reference10Ideal := fun m ρ _ =>
  (θ_run Cert.Reference10Ideal.defs _ _).mono (fun r h => ⟨fun c => (h c).2,
      Idealize.ShloMosaic.sem_eq_zero_of_no_sems (by decide) r.2⟩) (Cert.Reference10Ideal.Value.run (F := Ideal) m ρ)

/-- The kernel leaves the plain program's result. -/
theorem algebraic : Cert.algebraic_Kernel10Ideal_Reference10Ideal := fun m ρ m' ρ' _ hm => by
  refine ⟨_, Cert.Kernel10Ideal.Value.run_blocks m ρ, (θ_run _ _ _).mono (fun r h c => ?_) (Cert.Reference10Ideal.Value.run m' ρ')⟩
  obtain ⟨h0, hargs⟩ := h c
  obtain ⟨e0, e1, e2⟩ := hm c
  refine ⟨h0.trans ?_, hargs⟩
  rw [Cert.Reference10Ideal.Read.val_main_v3_eq, e0, e1, e2, final m c]
  funext i
  idx_vars i
  exact v3_eq _ _ _ i0 i1

end Cert.Proof.OutCall

end
-- ==== Proof.InCall.lean ====
/-
  The first norm and the input projection: what the kernel leaves, what the plain forward pass is, and the claims.
-/
module

public import proofs.«01_k».proof.Defs
public import proofs.«01_k».proof.Proof.NormMath
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof.InCall

open Idealize.ShloMosaic Idealize.ShloMosaic.TcCoe Idealize.SL.Sem
open Idealize.ShloMosaic.Pipeline (Dat)
open Cert.Proof.NormMath

/-- The normalised input, token `s`, lane `j`. -/
def nrm (a0 : (Shape.mk 2 ![4096, 1024]).Idx → EReal) (a1 : (Shape.mk 2 ![1, 1024]).Idx → EReal) (s : Fin 4096) (j : Fin 1024) : EReal :=
  a0 (ix2 s j) * Ideal.rsqrt (Ideal.div (∑ k : Fin 1024, a0 (ix2 s k) * a0 (ix2 s k)) c1024 + cEps) * a1 (ix2 0 j)

/-- The product's column `j` at token `s`. -/
def up (a0 : (Shape.mk 2 ![4096, 1024]).Idx → EReal) (a1 : (Shape.mk 2 ![1, 1024]).Idx → EReal)
    (a2 : (Shape.mk 2 ![1024, 3584]).Idx → EReal) (s : Fin 4096) (j : Fin 3584) : EReal :=
  ∑ k : Fin 1024, nrm a0 a1 s k * a2 (ix2 k j)

section kernel

open Cert.Kernel12Ideal Cert.Kernel12Ideal.Gen Cert.Kernel12Ideal.Value

variable (m : (ℓ : Loc nD τ sig) → Buf (Elt Ideal) ℓ)

/-- The windows' block indices at a point: the token tile, and the whole of the weights. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- Token `q` of tile `t`. -/
def tok (t : Fin cfg0.N) (q : Fin 512) : Fin 4096 := ⟨t.val * 512 + q.val, by
  have : t.val < 8 := lt_of_lt_of_eq t.isLt (show cfg0.N = 8 from N_0)
  omega⟩

/-- What a point stores of the normalised input. -/
theorem pay2_apply (c : Dev nD) (t : Fin cfg0.N) (q : Fin 512) (j : Fin 1024) :
    k0_pay2 (F := Ideal) (iblk m c 0 t) (iblk m c 1 t) (ix2 q j)
      = nrm (m ((c : Thread nD τ).loc main_arg0)) (m ((c : Thread nD τ).loc main_arg1)) (tok t q) j := by
  unfold nrm
  pointwise [k0_pay2]
  blk_point [iblk, V, idx t, tok]

/-- The normalised input, element by element. -/
theorem final4 (c : Dev nD) : (dats m 0 c).arrAt 4 cfg0.N
    = fun i => nrm (m ((c : Thread nD τ).loc main_arg0)) (m ((c : Thread nD τ).loc main_arg1)) (i 0) (i 1) := by
  refine (dats m 0 c).arrAt_eq_of_covers 4 _ (by decide +kernel) fun t _ y => ?_
  idx_vars y
  have he : ((cfg0.win 4).blk t).view.emb (ix2 y0 y1) = ix2 (tok t y0) y1 := by blk_ext [idx t, tok]
  rw [he]
  blk_simp
  rw [after0_4, outsAt0]
  frame_out
  exact pay2_apply m c t y0 y1

/-- What a point stores in one tile of the product: the normalised tokens times the tile's columns of the weights. -/
theorem tile_apply (c : Dev nD) (t : Fin cfg0.N) (w : FVec Ideal S1024x512 .bf16) (q : Fin 512) (j : Fin 512) :
    k0_pay4 (F := Ideal) (k0_pay2 (iblk m c 0 t) (iblk m c 1 t)) w (ix2 q j)
      = ∑ k : Fin 1024, nrm (m ((c : Thread nD τ).loc main_arg0)) (m ((c : Thread nD τ).loc main_arg1)) (tok t q) k * w (ix2 k j) := by
  pointwise [k0_pay4]
  simp only [pay2_apply]

/-- The product, element by element. -/
theorem final3 (c : Dev nD) : (dats m 0 c).arrAt 3 cfg0.N
    = fun i => up (m ((c : Thread nD τ).loc main_arg0)) (m ((c : Thread nD τ).loc main_arg1)) (m ((c : Thread nD τ).loc main_arg2)) (i 0) (i 1) := by
  refine (dats m 0 c).arrAt_eq_of_covers 3 _ (by decide +kernel) fun t _ y => ?_
  idx_vars y
  have he : ((cfg0.win 3).blk t).view.emb (ix2 y0 y1) = ix2 (tok t y0) y1 := by blk_ext [idx t, tok]
  rw [he]
  blk_simp
  rw [after0_3, outsAt0]
  frame_out
  canon_tiles x h
  all_goals
    idx_vars x
    refine (tile_apply m c t _ x0 x1).trans ?_
    obtain rfl : y0 = x0 := Fin.ext h0
    unfold up
    blk_point [iblk, V, idx t]

end kernel

section reference

open Cert.Reference12Ideal Cert.Reference12Ideal.Read

/-- The plain norm. -/
theorem v13_eq (a0 : (⟨S4096x1024, .f32⟩ : BufTy).Contents (Elt Ideal)) (a1 : (⟨S1x1024, .f32⟩ : BufTy).Contents (Elt Ideal))
    (s : Fin 4096) (j : Fin 1024) : val_main_v13 (F := Ideal) a0 a1 (ix2 s j) = nrm a0 a1 s j := by
  unfold nrm
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The plain norm at the kernel's width. -/
theorem v17_eq (a0 : (⟨S4096x1024, .f32⟩ : BufTy).Contents (Elt Ideal)) (a1 : (⟨S1x1024, .f32⟩ : BufTy).Contents (Elt Ideal))
    (s : Fin 4096) (j : Fin 1024) : val_main_v17 (F := Ideal) a0 a1 (ix2 s j) = nrm a0 a1 s j := v13_eq a0 a1 s j

/-- The plain product. -/
theorem v15_eq (a0 : (⟨S4096x1024, .f32⟩ : BufTy).Contents (Elt Ideal)) (a1 : (⟨S1x1024, .f32⟩ : BufTy).Contents (Elt Ideal))
    (a2 : (⟨S1024x3584, .bf16⟩ : BufTy).Contents (Elt Ideal)) (s : Fin 4096) (j : Fin 3584) :
    val_main_v15 (F := Ideal) a0 a1 a2 (ix2 s j) = up a0 a1 a2 s j := by
  unfold up
  pointwise [val_main_v15, val_main_v14]
  simp only [v13_eq]

/-- The plain product at the kernel's width. -/
theorem v16_eq (a0 : (⟨S4096x1024, .f32⟩ : BufTy).Contents (Elt Ideal)) (a1 : (⟨S1x1024, .f32⟩ : BufTy).Contents (Elt Ideal))
    (a2 : (⟨S1024x3584, .bf16⟩ : BufTy).Contents (Elt Ideal)) (s : Fin 4096) (j : Fin 3584) :
    val_main_v16 (F := Ideal) a0 a1 a2 (ix2 s j) = up a0 a1 a2 s j := v15_eq a0 a1 a2 s j

end reference

/-- The plain forward pass's run keeps its arguments and ends with every counter at zero. -/
theorem frame_ref : Cert.quiescent_Reference12Ideal := fun m ρ _ =>
  (θ_run Cert.Reference12Ideal.defs _ _).mono (fun r h => ⟨fun c => (h c).2.2,
      Idealize.ShloMosaic.sem_eq_zero_of_no_sems (by decide) r.2⟩) (Cert.Reference12Ideal.Value.run (F := Ideal) m ρ)

/-- The kernel leaves the plain product and the plain norm. -/
theorem algebraic : Cert.algebraic_Kernel12Ideal_Reference12Ideal := fun m ρ m' ρ' _ hm => by
  refine ⟨_, _, Cert.Kernel12Ideal.Value.run_blocks m ρ, (θ_run _ _ _).mono (fun r h c => ?_) (Cert.Reference12Ideal.Value.run m' ρ')⟩
  obtain ⟨h0, h1, hargs⟩ := h c
  obtain ⟨e0, e1, e2⟩ := hm c
  refine ⟨h0.trans ?_, h1.trans ?_, hargs⟩
  · rw [Cert.Reference12Ideal.Read.val_main_v16_eq, e0, e1, e2, final3 m c]
    funext i
    idx_vars i
    exact v16_eq _ _ _ i0 i1
  · rw [Cert.Reference12Ideal.Read.val_main_v17_eq, e0, e1, final4 m c]
    funext i
    idx_vars i
    exact v17_eq _ _ i0 i1

end Cert.Proof.InCall

end
-- ==== Proof.WinCall.lean ====
/-
  The gradient of the down-projection's weights: what the kernel leaves, what the plain gradient is, and the claims.
-/
module

public import proofs.«01_k».proof.Defs
public import proofs.«01_k».proof.Proof.AccMath
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read

@[expose] public section

set_option maxRecDepth 16384

noncomputable section

namespace Cert.Proof.WinCall

open Idealize.ShloMosaic Idealize.ShloMosaic.TcCoe Idealize.SL.Sem Cert.Proof.AccMath

section kernel

open Cert.Kernel13Ideal Cert.Kernel13Ideal.Gen Cert.Kernel13Ideal.Value

variable (m : (ℓ : Loc nD τ sig) → Buf (Elt Ideal) ℓ)

/-- The windows' block indices at a point: token tile `t % 4`, column tile `t / 4` of the result. -/
theorem idx : ∀ t : Fin cfg0.N, win0_0.index t = ![t.val % 4, 0] ∧ win0_1.index t = ![t.val % 4, t.val / 4] :=
  (by decide +kernel : ∀ t : Fin grid0.N, _)

/-- What a point adds to its block. -/
theorem pay2_apply (c : Dev nD) (t : Fin cfg0.N) (r : Fin 4) (I : Fin 2) (ht : t.val = 4 * I.val + r.val)
    (acc : FVec Ideal S1024x1792 .f32) (i : Fin 1024) (j : Fin 1792) :
    k0_pay2 (F := Ideal) acc (iblk m c 0 t) (iblk m c 1 t) (ix2 i j)
      = acc (ix2 i j) + ∑ q : Fin 1024, tn (K := 1024) (N := 3584) (m ((c : Thread nD τ).loc main_arg0)) (m ((c : Thread nD τ).loc main_arg1))
          i ⟨I.val * 1792 + j.val, by omega⟩ (tok4 r q) := by
  have e1 : t.val % 4 = r.val := by omega
  have e2 : t.val / 4 = I.val := by omega
  unfold tn
  pointwise [k0_pay2]
  blk_point [iblk, V, idx t, e1, e2]

/-- The result: every run of four points leaves the sum over its four token tiles. -/
theorem final (c : Dev nD) (i : Fin 1024) (j : Fin 3584) : G2 m c (ix2 i j)
    = ∑ s : Fin 4096, tn (m ((c : Thread nD τ).loc main_arg0)) (m ((c : Thread nD τ).loc main_arg1)) i j s := by
  have hN : cfg0.N = 8 := N_0
  have hb : 4 * run2Of (ix2 i j) = 4 * (j.val / 1792) := by
    show 4 * (2 * (i.val / 1024 - 0) + 1 * (j.val / 1792 - 0)) = _
    omega
  unfold G2
  rw [dif_pos (by rw [hb, hN]; omega)]
  refine (acc4 _ _ _ (fun y : S1024x1792.Idx => tn (K := 1024) (N := 3584) (m ((c : Thread nD τ).loc main_arg0)) (m ((c : Thread nD τ).loc main_arg1))
      (y 0) ⟨j.val / 1792 * 1792 + (y 1).val, by have : (y 1).val < 1792 := (y 1).isLt; omega⟩) ?_ ?_ _ _).trans ?_
  · intro h y
    idx_vars y
    refine (pay2_apply m c ⟨_, h⟩ 0 ⟨j.val / 1792, by omega⟩ (by simp only [hb]; simp) _ y0 y1).trans ?_
    pointwise [k0_pay1]
  · intro r h acc y
    idx_vars y
    exact pay2_apply m c ⟨_, h⟩ r ⟨j.val / 1792, by omega⟩ (by simp only [hb]) _ y0 y1
  · exact Finset.sum_congr rfl fun s _ => congrArg₂ (fun p q => tn (K := 1024) (N := 3584) (m ((c : Thread nD τ).loc main_arg0)) (m ((c : Thread nD τ).loc main_arg1)) p q s)
      (Fin.ext (by show i.val % 1024 = i.val; omega)) (Fin.ext (by show j.val / 1792 * 1792 + j.val % 1792 = j.val; omega))

end kernel

section reference

open Cert.Reference13Ideal Cert.Reference13Ideal.Read

/-- The plain gradient is the same sum. -/
theorem v5_eq (a0 : (⟨S4096x1024, .bf16⟩ : BufTy).Contents (Elt Ideal)) (a1 : (⟨S4096x3584, .bf16⟩ : BufTy).Contents (Elt Ideal))
    (i : Fin 1024) (j : Fin 3584) : val_main_v5 (F := Ideal) a0 a1 (ix2 i j) = ∑ s : Fin 4096, tn a0 a1 i j s := by
  unfold tn
  pointwise [val_main_v5, val_main_v4, val_main_v3, val_main_v1]
  exact Finset.sum_congr rfl fun s _ => mul_comm _ _

end reference

/-- The plain gradient's run keeps its arguments and ends with every counter at zero. -/
theorem frame_ref : Cert.quiescent_Reference13Ideal := fun m ρ _ =>
  (θ_run Cert.Reference13Ideal.defs _ _).mono (fun r h => ⟨fun c => (h c).2,
      Idealize.ShloMosaic.sem_eq_zero_of_no_sems (by decide) r.2⟩) (Cert.Reference13Ideal.Value.run (F := Ideal) m ρ)

/-- The kernel leaves the plain gradient of the input projection's weights. -/
theorem algebraic : Cert.algebraic_Kernel13Ideal_Reference13Ideal := fun m ρ m' ρ' _ hm => by
  refine ⟨_, Cert.Kernel13Ideal.Value.run m ρ, (θ_run _ _ _).mono (fun r h c => ?_) (Cert.Reference13Ideal.Value.run m' ρ')⟩
  obtain ⟨h0, hargs⟩ := h c
  obtain ⟨e0, e1⟩ := hm c
  refine ⟨h0.trans ?_, hargs⟩
  rw [Cert.Reference13Ideal.Read.val_main_v5_eq, e0, e1]
  funext i
  idx_vars i
  exact (v5_eq _ _ i0 i1).trans (final m c i0 i1).symm

end Cert.Proof.WinCall

end
-- ==== Proof.BwdInKernel.lean ====
/-
  What the input-gradient call of the input projection leaves, element by element, at the extended reals:
  the gradient through the product and the RMS norm, its half-width copy, and the gradient of the norm's weights.
-/
module

public import proofs.«01_k».proof.Proof.Gen.Kernel14Ideal.Value
public import Idealize.ShloMosaic.Lib.Pipeline.ValueKit
public import Idealize.ShloMosaic.Lib.Pipeline.ReadBack
public import Idealize.ShloMosaic.Lib.WritesUnit
public import proofs.«01_k».proof.Proof.NormMath

@[expose] public section

set_option maxRecDepth 16384

noncomputable section

namespace Cert.Proof.BwdInKernel

open Cert.Kernel14Ideal Cert.Kernel14Ideal.Gen Idealize.ShloMosaic Idealize.ShloMosaic.TcCoe Idealize.SL.Sem
open Idealize.ShloMosaic.Pipeline (Dat)
open Cert.Proof.NormMath

/-- The gradient at the norm's output, token `s`, lane `j`: the cotangent times the transposed weights. -/
def dh (a0 : FVec Ideal S4096x3584 .bf16) (a1 : FVec Ideal S1024x3584 .bf16) (s : Fin 4096) (j : Fin 1024) : EReal :=
  ∑ k : Fin 3584, a0 (ix2 s k) * a1 (ix2 j k)

/-- The reciprocal root mean square of token `s`. -/
def rr (a2 : FVec Ideal S4096x1024 .f32) (s : Fin 4096) : EReal :=
  Ideal.rsqrt (Ideal.div (∑ k : Fin 1024, a2 (ix2 s k) * a2 (ix2 s k)) c1024 + cEps)

/-- The input gradient at token `s`, lane `j`. -/
def dx (a0 : FVec Ideal S4096x3584 .bf16) (a1 : FVec Ideal S1024x3584 .bf16) (a2 : FVec Ideal S4096x1024 .f32)
    (a3 : FVec Ideal S1x1024 .f32) (a4 : FVec Ideal S4096x1024 .f32) (s : Fin 4096) (j : Fin 1024) : EReal :=
  a4 (ix2 s j) + rr a2 s * (dh a0 a1 s j * a3 (ix2 0 j)
    - a2 (ix2 s j) * rr a2 s
      * Ideal.div (∑ k : Fin 1024, dh a0 a1 s k * a3 (ix2 0 k) * (a2 (ix2 s k) * rr a2 s)) c1024)

/-- One token's part of the gradient of the norm's weight `j`. -/
def dgTerm (a0 : FVec Ideal S4096x3584 .bf16) (a1 : FVec Ideal S1024x3584 .bf16) (a2 : FVec Ideal S4096x1024 .f32)
    (s : Fin 4096) (j : Fin 1024) : EReal := dh a0 a1 s j * (a2 (ix2 s j) * rr a2 s)

variable (m : (ℓ : Loc nD τ sig) → Buf (Elt Ideal) ℓ)

/-- The windows' block indices: the token tile for the token arrays, the whole array for the weights. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ win0_6.index t = ![t.val, 0] ∧ win0_7.index t = ![0, 0] :=
  (by decide +kernel : ∀ t : Fin grid0.N, _)

/-- Token `q` of tile `t`. -/
def tok (t : Fin cfg0.N) (q : Fin 512) : Fin 4096 := ⟨t.val * 512 + q.val, by
  have : t.val < 8 := lt_of_lt_of_eq t.isLt (show cfg0.N = 8 from N_0)
  omega⟩

/-- The cotangent at the norm's output, as the point's payload computes it. -/
theorem pay3_apply (c : Dev nD) (t : Fin cfg0.N) (q : Fin 512) (j : Fin 1024) :
    k0_pay3 (F := Ideal) (iblk m c 0 t) (iblk m c 1 t) (ix2 q j)
      = dh (m ((c : Thread nD τ).loc main_arg0)) (m ((c : Thread nD τ).loc main_arg1)) (tok t q) j := by
  unfold dh
  pointwise [k0_pay3]
  blk_point [iblk, V, idx t, tok]

/-- The reciprocal root mean square, as the point's payload computes it. -/
theorem pay4_apply (c : Dev nD) (t : Fin cfg0.N) (q : Fin 512) :
    k0_pay4 (F := Ideal) (iblk m c 2 t) (ix2 q 0) = rr (m ((c : Thread nD τ).loc main_arg2)) (tok t q) := by
  unfold rr
  pointwise [k0_pay4]
  blk_point [iblk, V, idx t, tok]

theorem iblk2_apply (c : Dev nD) (t : Fin cfg0.N) (q : Fin 512) (j : Fin 1024) :
    iblk m c 2 t (ix2 q j) = m ((c : Thread nD τ).loc main_arg2) (ix2 (tok t q) j) := by
  blk_ext [iblk, V, idx t, tok]

theorem iblk3_apply (c : Dev nD) (t : Fin cfg0.N) (j : Fin 1024) :
    iblk m c 3 t (ix2 0 j) = m ((c : Thread nD τ).loc main_arg3) (ix2 0 j) := by
  blk_ext [iblk, V, idx t, tok]

theorem iblk4_apply (c : Dev nD) (t : Fin cfg0.N) (q : Fin 512) (j : Fin 1024) :
    iblk m c 4 t (ix2 q j) = m ((c : Thread nD τ).loc main_arg4) (ix2 (tok t q) j) := by
  blk_ext [iblk, V, idx t, tok]

/-- What a point stores of the input gradient. -/
theorem point5 (c : Dev nD) (t : Fin cfg0.N) (q : Fin 512) (j : Fin 1024) :
    k0_pay6 (F := Ideal) (iblk m c 0 t) (iblk m c 1 t) (iblk m c 2 t) (iblk m c 3 t) (iblk m c 4 t) (ix2 q j)
      = dx (m ((c : Thread nD τ).loc main_arg0)) (m ((c : Thread nD τ).loc main_arg1))
        (m ((c : Thread nD τ).loc main_arg2)) (m ((c : Thread nD τ).loc main_arg3)) (m ((c : Thread nD τ).loc main_arg4))
        (tok t q) j := by
  unfold dx
  pointwise [k0_pay6, k0_pay5]
  simp only [pay3_apply, pay4_apply, iblk2_apply, iblk3_apply, iblk4_apply]

/-- One tile's part of the gradient of the norm's weights, in the array's first row. -/
def term7 (c : Dev nD) (t : Fin cfg0.N) (j : S8x1024.Idx) : EReal :=
  if (j 0).val = 0 then ∑ q : Fin 512, dgTerm (m ((c : Thread nD τ).loc main_arg0)) (m ((c : Thread nD τ).loc main_arg1))
    (m ((c : Thread nD τ).loc main_arg2)) (tok t q) (j 1) else 0

/-- What a point adds to the row of weight gradients. -/
theorem pay1_apply (c : Dev nD) (t : Fin cfg0.N) (x : FVec Ideal S1x1024 .f32) (j : Fin 1024) :
    k0_pay1 (F := Ideal) (k0_pay3 (iblk m c 0 t) (iblk m c 1 t))
      (k0_pay5 (iblk m c 2 t)) x (ix2 0 j)
      = x (ix2 0 j) + ∑ q : Fin 512, dgTerm (m ((c : Thread nD τ).loc main_arg0)) (m ((c : Thread nD τ).loc main_arg1))
          (m ((c : Thread nD τ).loc main_arg2)) (tok t q) j := by
  unfold dgTerm
  pointwise [k0_pay1, k0_pay5]
  simp only [pay3_apply, pay4_apply, iblk2_apply]

theorem step7 (c : Dev nD) (t : Fin cfg0.N) (h0 : ¬t.val % 8 = 0) (j : S8x1024.Idx) :
    (outsAt0 m c t.val t.isLt).2.2 j
      = (outsAt0 m c (t.val - 1) (Nat.lt_of_le_of_lt (Nat.sub_le _ _) t.isLt)).2.2 j + term7 m c t j := by
  rw [outsAt0_B m c t h0]
  frame_out
  idx_vars j
  by_cases hj : j0.val = 0
  · have hj0 : j0 = 0 := Fin.ext hj
    subst hj0
    rw [View.read_writes_cons_unit_of_mem _ _ inb_S8x1024_S1x1024_0_0 _ _ _ (ix2 0 j1) rfl
      (fun a => by fin_cases a <;> simp)]
    refine (pay1_apply m c t _ j1).trans ?_
    unfold term7
    pointwise
  · rw [View.read_writes_cons_unit_of_not_mem _ _ inb_S8x1024_S1x1024_0_0 _ _ _ rfl 0 (.inr (by
      show 0 + 1 ≤ j0.val
      omega)), View.writes_nil, Memref.IsWhole.read_unread]
    unfold term7
    simp [hj]

theorem init7 (c : Dev nD) (t : Fin cfg0.N) (h0 : t.val % 8 = 0) (j : S8x1024.Idx) :
    (outsAt0 m c t.val t.isLt).2.2 j = 0 + term7 m c t j := by
  rw [outsAt0_A m c t h0]
  frame_out
  idx_vars j
  rw [View.readCov_fill _ _ _ _ _ (by decide)]
  by_cases hj : j0.val = 0
  · have hj0 : j0 = 0 := Fin.ext hj
    subst hj0
    have he : (ix2 0 j1 : S8x1024.Idx) = (Rect.unit (s := S8x1024) ![0, 0] ![1, 1024] inb_S8x1024_S1x1024_0_0).emb (ix2 0 j1) := by
      blk_ext
    rw [he, View.canon_cons_emb, ← he]
    refine (pay1_apply m c t _ j1).trans ?_
    unfold term7
    pointwise [k0_pay2]
  · rw [View.canon_cons_of_not_mem _ _ (by
      rw [Rect.mem_set_unit]
      intro h
      have h1 : j0.val < 0 + 1 := (h 0).2
      omega), View.canon_cons_unit_lit _ _ _ (by decide)]
    unfold term7
    pointwise [k0_pay2]
    simp [hj]

theorem final5 (c : Dev nD) : (dats m 0 c).arrAt 5 (cfgs 0).N
    = fun i => dx (m ((c : Thread nD τ).loc main_arg0)) (m ((c : Thread nD τ).loc main_arg1))
        (m ((c : Thread nD τ).loc main_arg2)) (m ((c : Thread nD τ).loc main_arg3)) (m ((c : Thread nD τ).loc main_arg4))
        (i 0) (i 1) := by
  refine (dats m 0 c).arrAt_eq_of_covers 5 _ (by decide +kernel) fun t _ y => ?_
  idx_vars y
  have he : ((cfg0.win 5).blk t).view.emb (ix2 y0 y1) = ix2 (tok t y0) y1 := by
    blk_ext [idx t, tok]
  rw [he]
  blk_simp
  rw [after0_5]
  by_cases h0 : t.val % 8 = 0
  · rw [outsAt0_A m c t h0]
    frame_out
    exact point5 m c t y0 y1
  · rw [outsAt0_B m c t h0]
    frame_out
    exact point5 m c t y0 y1

theorem final6 (c : Dev nD) : (dats m 0 c).arrAt 6 (cfgs 0).N
    = fun i => dx (m ((c : Thread nD τ).loc main_arg0)) (m ((c : Thread nD τ).loc main_arg1))
        (m ((c : Thread nD τ).loc main_arg2)) (m ((c : Thread nD τ).loc main_arg3)) (m ((c : Thread nD τ).loc main_arg4))
        (i 0) (i 1) := by
  refine (dats m 0 c).arrAt_eq_of_covers 6 _ (by decide +kernel) fun t _ y => ?_
  idx_vars y
  have he : ((cfg0.win 6).blk t).view.emb (ix2 y0 y1) = ix2 (tok t y0) y1 := by
    blk_ext [idx t, tok]
  rw [he]
  blk_simp
  rw [after0_6]
  by_cases h0 : t.val % 8 = 0
  · rw [outsAt0_A m c t h0]
    frame_out
    unfold k0_pay7
    pointwise
    exact point5 m c t y0 y1
  · rw [outsAt0_B m c t h0]
    frame_out
    unfold k0_pay7
    pointwise
    exact point5 m c t y0 y1

/-- The third result: its first row is the gradient of the norm's weights, summed over the 4096 tokens; its other rows are
    zero. -/
theorem final7 (c : Dev nD) : (dats m 0 c).arrAt 7 (cfgs 0).N
    = fun i => if (i 0).val = 0 then ∑ s : Fin 4096, dgTerm (m ((c : Thread nD τ).loc main_arg0))
        (m ((c : Thread nD τ).loc main_arg1)) (m ((c : Thread nD τ).loc main_arg2)) s (i 1) else 0 := by
  refine (dats m 0 c).arrAt_eq_of_after_last 7 t0_7 (by decide +kernel) _ fun j => ?_
  change S8x1024.Idx at j
  show (dats m 0 c).after 7 t0_7 j = if (j 0).val = 0 then ∑ s : Fin 4096, dgTerm (m ((c : Thread nD τ).loc main_arg0))
        (m ((c : Thread nD τ).loc main_arg1)) (m ((c : Thread nD τ).loc main_arg2)) s (j 1) else 0
  rw [after0_7]
  refine (Pipeline.eq_sum_fin_of_reset_step_apply_last (fun n h => (outsAt0 m c n h).2.2) 8 (fun _ => 0) (term7 m c)
    (init7 m c) (step7 m c) (le_of_eq N_0) t0_7 rfl j).trans ?_
  rw [zero_add]
  unfold term7
  by_cases hj : (j 0).val = 0
  · simp only [if_pos hj]
    have h := Fin.sum_mul_add_fin 8 512 (fun s : Fin 4096 => dgTerm (m ((c : Thread nD τ).loc main_arg0))
        (m ((c : Thread nD τ).loc main_arg1)) (m ((c : Thread nD τ).loc main_arg2)) s (j 1)) rfl
    exact h
  · simp only [if_neg hj, Finset.sum_const_zero]

end Cert.Proof.BwdInKernel

end
-- ==== Proof.BwdInRef.lean ====
/-
  What the plain gradient of the norm and the input projection is, element by element, at the extended reals,
  in the terms that the kernel's results are stated in.
-/
module

public import proofs.«01_k».proof.Proof.Gen.Reference14Ideal.Read
public import Idealize.ShloMosaic.Lib.Pipeline.ValueKit
public import proofs.«01_k».proof.Proof.BwdInKernel

@[expose] public section

set_option maxRecDepth 16384

noncomputable section

namespace Cert.Proof.BwdInRef

open Idealize.ShloMosaic Cert.Reference14Ideal Cert.Reference14Ideal.Value Cert.Reference14Ideal.Read Cert.Proof.NormMath

variable (a0 : (⟨S4096x3584, .bf16⟩ : BufTy).Contents (Elt Ideal)) (a1 : (⟨S1024x3584, .bf16⟩ : BufTy).Contents (Elt Ideal))
  (a2 : (⟨S4096x1024, .f32⟩ : BufTy).Contents (Elt Ideal)) (a3 : (⟨S1x1024, .f32⟩ : BufTy).Contents (Elt Ideal))
  (a4 : (⟨S4096x1024, .f32⟩ : BufTy).Contents (Elt Ideal))

/-- The mean square plus epsilon of a row. -/
theorem v7_eq (s : Fin 4096) : val_main_v7 (F := Ideal) a2 (ix2 s 0)
    = Ideal.div (∑ k : Fin 1024, a2 (ix2 s k) * a2 (ix2 s k)) c1024 + cEps := by
  pointwise [val_main_v7, val_main_v6, val_main_v5, val_main_v4, val_main_v3, val_main_v2, val_main_v1, val_main_cst,
    val_main_cst_0, val_main_cst_1]

theorem v8_eq (s : Fin 4096) : val_main_v8 (F := Ideal) a2 (ix2 s 0) = BwdInKernel.rr a2 s := by
  unfold BwdInKernel.rr
  pointwise [val_main_v8]
  rw [v7_eq]

/-- The cotangent at the norm's output is one product. -/
theorem v20_eq (s : Fin 4096) (j : Fin 1024) : val_main_v20 (F := Ideal) a0 a1 (ix2 s j) = BwdInKernel.dh a0 a1 s j := by
  unfold BwdInKernel.dh
  pointwise [val_main_v20, val_main_v19, val_main_v17]

theorem v25_eq (s : Fin 4096) (j : Fin 1024) :
    val_main_v25 (F := Ideal) a0 a1 a3 (ix2 s j) = BwdInKernel.dh a0 a1 s j * a3 (ix2 0 j) := by
  pointwise [val_main_v25, val_main_v24, val_main_v14, val_main_v0]
  rw [v20_eq]

theorem v37_eq (s : Fin 4096) (j : Fin 1024) : val_main_v37 (F := Ideal) a0 a1 a2 a3 (ix2 s j)
    = Ideal.div ((∑ k : Fin 1024, a2 (ix2 s k) * (BwdInKernel.dh a0 a1 s k * a3 (ix2 0 k)))
        * (cNegHalf * Ideal.div (BwdInKernel.rr a2 s) (Ideal.div (∑ k : Fin 1024, a2 (ix2 s k) * a2 (ix2 s k)) c1024 + cEps)))
        c1024 := by
  pointwise [val_main_v37, val_main_v36, val_main_v35, val_main_v34, val_main_v33, val_main_v29, val_main_v28, val_main_v27,
    val_main_v11, val_main_v10, val_main_v9, val_main_cst_2, val_main_cst_5, val_main_cst_6, val_main_cst_7]
  simp only [v25_eq, Finset.univ_unique, Finset.sum_singleton]
  rw [show (default : Fin 1) = 0 from rfl, v8_eq, v7_eq]

theorem v41_eq (s : Fin 4096) (j : Fin 1024) :
    val_main_v41 (F := Ideal) a0 a1 a2 a3 a4 (ix2 s j) = BwdInKernel.dx a0 a1 a2 a3 a4 s j := by
  unfold BwdInKernel.dx
  pointwise [val_main_v41, val_main_v40, val_main_v39, val_main_v38, val_main_v32, val_main_v31, val_main_v30]
  rw [v37_eq, v8_eq, v25_eq]
  exact (dnorm_eq (fun k => a2 (ix2 s k)) (fun k => BwdInKernel.dh a0 a1 s k * a3 (ix2 0 k)) _ j _ _ rfl rfl).symm

theorem v44_eq (i : S8x1024.Idx) : val_main_v44 (F := Ideal) a0 a1 a2 i
    = if (i 0).val = 0 then ∑ s : Fin 4096, BwdInKernel.dgTerm a0 a1 a2 s (i 1) else 0 := by
  idx_vars i
  unfold val_main_v44
  rw [pad_apply]
  by_cases h : i0.val = 0
  · rw [dif_pos (by
      intro a
      fin_cases a
      · simp [h]
      · simp [Nat.mod_one])]
    pointwise [val_main_v43, val_main_v26, val_main_v23, val_main_v22, val_main_v21, val_main_v13, val_main_v12, val_main_cst_3,
      val_main_cst_4]
    simp only [v8_eq, v20_eq]
    unfold BwdInKernel.dgTerm
    refine Eq.trans ?_ (if_pos h).symm
    simp only [Finset.univ_unique, Finset.sum_singleton]
    exact Finset.sum_congr rfl fun s _ => mul_comm _ _
  · rw [dif_neg (by
      intro hin
      have h1 : (i0.val - 0) / (0 + 1) < 1 := (hin 0).2.2
      omega)]
    pointwise [val_main_call0_v0, val_main_c]
    simp [h, FloatOps.sitofp]

end Cert.Proof.BwdInRef

end
-- ==== Proof.BwdInCall.lean ====
/-
  The claims about the input-gradient call of the input projection: the two programs' frames, the plain
  gradient's frame, and the equality of the three results at the extended reals.
-/
module

public import proofs.«01_k».proof.Defs
public import proofs.«01_k».proof.Proof.BwdInKernel
public import proofs.«01_k».proof.Proof.BwdInRef
public import proofs.«01_k».proof.Proof.Gen.Kernel14
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read

@[expose] public section

noncomputable section

namespace Cert.Proof.BwdInCall

open Idealize.ShloMosaic Idealize.SL.Sem

/-- The plain gradient's run keeps its arguments and ends with every counter at zero. -/
theorem frame_ref : Cert.quiescent_Reference14Ideal := fun m ρ _ =>
  (θ_run Cert.Reference14Ideal.defs _ _).mono (fun r h => ⟨fun c => (h c).2.2.2,
      Idealize.ShloMosaic.sem_eq_zero_of_no_sems (by decide) r.2⟩) (Cert.Reference14Ideal.Value.run (F := Ideal) m ρ)

/-- The kernel and the plain gradient leave the same three arrays at the extended reals: the input gradient, its
    half-width copy, and the gradient of the norm's weights in the first of eight rows. -/
theorem algebraic : Cert.algebraic_Kernel14Ideal_Reference14Ideal := fun m ρ m' ρ' _ hm => by
  refine ⟨_, _, _, Cert.Kernel14Ideal.Value.run_blocks m ρ, (θ_run _ _ _).mono (fun r h c => ?_) (Cert.Reference14Ideal.Value.run m' ρ')⟩
  obtain ⟨h0, h1, h2, hargs⟩ := h c
  obtain ⟨e0, e1, e2, e3, e4⟩ := hm c
  refine ⟨h0.trans ?_, h1.trans ?_, h2.trans ?_, hargs⟩
  · rw [Cert.Reference14Ideal.Read.val_main_v41_eq, BwdInKernel.final5 m c, e0, e1, e2, e3, e4]
    funext i
    idx_vars i
    exact BwdInRef.v41_eq _ _ _ _ _ i0 i1
  · rw [Cert.Reference14Ideal.Read.val_main_v42_eq, BwdInKernel.final6 m c, e0, e1, e2, e3, e4]
    funext i
    idx_vars i
    exact BwdInRef.v41_eq _ _ _ _ _ i0 i1
  · rw [Cert.Reference14Ideal.Read.val_main_v44_eq, BwdInKernel.final7 m c, e0, e1, e2]
    funext i
    exact BwdInRef.v44_eq _ _ _ i

end Cert.Proof.BwdInCall

end
-- ==== Proof.DownCall.lean ====
/-
  The down-projection and the residual: what the kernel leaves, what the plain program computes, and the claims.
-/
module

public import proofs.«01_k».proof.Defs
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pipeline.ReadBack

@[expose] public section

set_option maxRecDepth 16384

noncomputable section

namespace Cert.Proof.DownCall

open Idealize.ShloMosaic Idealize.ShloMosaic.TcCoe Idealize.SL.Sem
open Idealize.ShloMosaic.Pipeline (Dat)

/-- The mixer's output at token `s`, channel `j`, with the feed-forward's row projected onto it. -/
def x2 (a0 : (Shape.mk 2 ![4096, 3072]).Idx → EReal) (a1 : (Shape.mk 2 ![3072, 1024]).Idx → EReal)
    (a2 : (Shape.mk 2 ![4096, 1024]).Idx → EReal) (s : Fin 4096) (j : Fin 1024) : EReal :=
  a2 (ix2 s j) + ∑ k : Fin 3072, a0 (ix2 s k) * a1 (ix2 k j)

section kernel

open Cert.Kernel15Ideal Cert.Kernel15Ideal.Gen Cert.Kernel15Ideal.Value

variable (m : (ℓ : Loc nD τ sig) → Buf (Elt Ideal) ℓ)

/-- The windows' block indices at a point: the token tile, and the whole of the weights. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- Token `q` of tile `t`. -/
def tok (t : Fin cfg0.N) (q : Fin 512) : Fin 4096 := ⟨t.val * 512 + q.val, by
  have : t.val < 8 := lt_of_lt_of_eq t.isLt (show cfg0.N = 8 from N_0)
  omega⟩

/-- What a point stores. -/
theorem point (c : Dev nD) (t : Fin cfg0.N) (q : Fin 512) (j : Fin 1024) :
    k0_pay1 (F := Ideal) (iblk m c 2 t) (iblk m c 0 t) (iblk m c 1 t) (ix2 q j)
      = x2 (m ((c : Thread nD τ).loc main_arg0)) (m ((c : Thread nD τ).loc main_arg1)) (m ((c : Thread nD τ).loc main_arg2))
          (tok t q) j := by
  unfold x2
  pointwise [k0_pay1]
  blk_point [iblk, V, idx t, tok]

/-- The result, element by element. -/
theorem final (c : Dev nD) : (dats m 0 c).arrAt 3 cfg0.N
    = fun i => x2 (m ((c : Thread nD τ).loc main_arg0)) (m ((c : Thread nD τ).loc main_arg1))
        (m ((c : Thread nD τ).loc main_arg2)) (i 0) (i 1) := by
  refine (dats m 0 c).arrAt_eq_of_covers 3 _ (by decide +kernel) fun t _ y => ?_
  idx_vars y
  have he : ((cfg0.win 3).blk t).view.emb (ix2 y0 y1) = ix2 (tok t y0) y1 := by blk_ext [idx t, tok]
  rw [he]
  blk_simp
  rw [after0_3]
  frame_out
  exact point m c t y0 y1

end kernel

section reference

open Cert.Reference15Ideal Cert.Reference15Ideal.Read

/-- The plain program's result is the same sum. -/
theorem v3_eq (a0 : (⟨S4096x3072, .bf16⟩ : BufTy).Contents (Elt Ideal)) (a1 : (⟨S3072x1024, .bf16⟩ : BufTy).Contents (Elt Ideal))
    (a2 : (⟨S4096x1024, .f32⟩ : BufTy).Contents (Elt Ideal)) (s : Fin 4096) (j : Fin 1024) :
    val_main_v3 (F := Ideal) a0 a1 a2 (ix2 s j) = x2 a0 a1 a2 s j := by
  unfold x2
  pointwise [val_main_v3, val_main_v2, val_main_v1, val_main_v0]

end reference

/-- The plain program's run keeps its arguments and ends with every counter at zero. -/
theorem frame_ref : Cert.quiescent_Reference15Ideal := fun m ρ _ =>
  (θ_run Cert.Reference15Ideal.defs _ _).mono (fun r h => ⟨fun c => (h c).2,
      Idealize.ShloMosaic.sem_eq_zero_of_no_sems (by decide) r.2⟩) (Cert.Reference15Ideal.Value.run (F := Ideal) m ρ)

/-- The kernel leaves the plain program's result. -/
theorem algebraic : Cert.algebraic_Kernel15Ideal_Reference15Ideal := fun m ρ m' ρ' _ hm => by
  refine ⟨_, Cert.Kernel15Ideal.Value.run_blocks m ρ, (θ_run _ _ _).mono (fun r h c => ?_) (Cert.Reference15Ideal.Value.run m' ρ')⟩
  obtain ⟨h0, hargs⟩ := h c
  obtain ⟨e0, e1, e2⟩ := hm c
  refine ⟨h0.trans ?_, hargs⟩
  rw [Cert.Reference15Ideal.Read.val_main_v3_eq, e0, e1, e2, final m c]
  funext i
  idx_vars i
  exact v3_eq _ _ _ i0 i1

end Cert.Proof.DownCall

end
-- ==== Proof.AdamMath.lean ====
/-
  One AdamW step at a single weight, over the extended reals: the new moments and the change of the weight, as the plain
  program writes them, and the two bias corrections as products.
-/
module

public import Idealize.ShloMosaic.Lib.Pipeline.ValueKit

@[expose] public section

noncomputable section

namespace Cert.Proof.AdamMath

open Idealize.ShloMosaic

/-- The two bias corrections `1 - b ^ 10`, as the float words that hold them. -/
abbrev w1 : EReal := Ideal.ofBits .f32 0x3F26BD02#32
abbrev w2 : EReal := Ideal.ofBits .f32 0x3C231ACC#32

/-- The new first moment from the gradient `g` and the moment `m`. -/
def mom1 (g m : EReal) : EReal := Ideal.ofBits .f32 0x3F666666#32 * m + Ideal.ofBits .f32 0x3DCCCCCD#32 * g

/-- The new second moment from the gradient `g` and the moment `v`. -/
def mom2 (g v : EReal) : EReal := Ideal.ofBits .f32 0x3F7FBE77#32 * v + Ideal.ofBits .f32 0x3A83126F#32 * (g * g)

/-- The change of the weight `w`. -/
def step (w g m v : EReal) : EReal :=
  Ideal.ofBits .f32 0xBA83126F#32
    * (Ideal.div (Ideal.div (mom1 g m) w1) (Ideal.sqrt (Ideal.div (mom2 g v) w2) + Ideal.ofBits .f32 0x322BCC77#32)
      + Ideal.ofBits .f32 0x3C23D70A#32 * w)

theorem w1_eq : w1 = ((5463681 / 8388608 : ℝ) : EReal) := by
  simp [w1, Ideal.ofBits, Ideal.ieee, -EReal.coe_mul]; norm_num

theorem w2_eq : w2 = ((2672307 / 268435456 : ℝ) : EReal) := by
  simp [w2, Ideal.ofBits, Ideal.ieee, -EReal.coe_mul]; norm_num

/-- Dividing by a bias correction is multiplying by its reciprocal, the constant that the kernel folds. -/
theorem div_w1 (a : EReal) : Ideal.div a w1 = a * ((8388608 / 5463681 : ℝ) : EReal) := by
  rw [w1_eq, Ideal.div, if_neg (by norm_num), ← EReal.coe_inv]; norm_num

theorem div_w2 (a : EReal) : Ideal.div a w2 = a * ((268435456 / 2672307 : ℝ) : EReal) := by
  rw [w2_eq, Ideal.div, if_neg (by norm_num), ← EReal.coe_inv]; norm_num

end Cert.Proof.AdamMath

end
-- ==== Proof.AdamUpCall.lean ====
/-
  AdamW of the up-projection's weights: what the kernel leaves, what the plain program computes, and the claims.
-/
module

public import proofs.«01_k».proof.Defs
public import proofs.«01_k».proof.Proof.AdamMath
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pipeline.ReadBack

@[expose] public section

set_option maxRecDepth 16384

noncomputable section

namespace Cert.Proof.AdamUpCall

open Idealize.ShloMosaic Idealize.ShloMosaic.TcCoe Idealize.SL.Sem
open Idealize.ShloMosaic.Pipeline (Dat)
open Cert.Proof.AdamMath

section kernel

open Cert.Kernel16Ideal Cert.Kernel16Ideal.Gen Cert.Kernel16Ideal.Value

/-- An argument's two layers, one under the other. -/
def rows (a : FVec Ideal S2x1024x1536 .f32) : FVec Ideal S2048x1536 .f32 := shapeCast S2048x1536 a shapeCasts_S2x1024x1536_S2048x1536

/-- The kernel's two named constants are the reciprocals of the bias corrections. -/
theorem c1_eq : (Named.named κ "adam_c1" 0x3FC48605#32 : Ideal .f32) = ((8388608 / 5463681 : ℝ) : EReal) :=
  IdealRules.named_const.ideal_named_scalar _ _ _ _ rfl

theorem c2_eq : (Named.named κ "adam_c2" 0x42C8E6D3#32 : Ideal .f32) = ((268435456 / 2672307 : ℝ) : EReal) :=
  IdealRules.named_const.ideal_named_scalar _ _ _ _ rfl

variable (m : (ℓ : Loc nD τ sig) → Buf (Elt Ideal) ℓ)

/-- The four arrays that the call is given are the arguments' rows: the weights, the gradient and the two moments. -/
theorem V_rows (c : Dev nD) : V m c main_v0 = rows (m ((c : Thread nD τ).loc main_arg0))
    ∧ V m c main_v1 = rows (m ((c : Thread nD τ).loc main_arg1)) ∧ V m c main_v2 = rows (m ((c : Thread nD τ).loc main_arg2))
    ∧ V m c main_v3 = rows (m ((c : Thread nD τ).loc main_arg3)) := by
  refine ⟨?_, ?_, ?_, ?_⟩ <;>
  · unfold_abbrev_sides
    simp only [hostOps0, List.flatten_cons, List.flatten_nil, List.append_nil, List.cons_append, List.nil_append]
    after_results
    rfl

/-- The windows' block indices at a point: the tile of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `q` of tile `t`. -/
def row (t : Fin cfg0.N) (q : Fin 256) : Fin 2048 := ⟨t.val * 256 + q.val, by
  have : t.val < 8 := lt_of_lt_of_eq t.isLt (show cfg0.N = 8 from N_0)
  omega⟩

/-- The four blocks of a point. -/
theorem blk (c : Dev nD) (t : Fin cfg0.N) (q : Fin 256) (j : Fin 1536) :
    iblk m c 0 t (ix2 q j) = rows (m ((c : Thread nD τ).loc main_arg0)) (ix2 (row t q) j)
    ∧ iblk m c 1 t (ix2 q j) = rows (m ((c : Thread nD τ).loc main_arg1)) (ix2 (row t q) j)
    ∧ iblk m c 2 t (ix2 q j) = rows (m ((c : Thread nD τ).loc main_arg2)) (ix2 (row t q) j)
    ∧ iblk m c 3 t (ix2 q j) = rows (m ((c : Thread nD τ).loc main_arg3)) (ix2 (row t q) j) := by
  obtain ⟨e0, e1, e2, e3⟩ := V_rows m c
  rw [← e0, ← e1, ← e2, ← e3]
  refine ⟨?_, ?_, ?_, ?_⟩ <;> blk_ext [iblk, idx t, row]

/-- What a point stores of the first moment, of the second, and of the weights' change. -/
theorem point5 (c : Dev nD) (t : Fin cfg0.N) (q : Fin 256) (j : Fin 1536) :
    k0_pay2 (F := Ideal) (iblk m c 1 t) (iblk m c 2 t) (ix2 q j)
      = mom1 (rows (m ((c : Thread nD τ).loc main_arg1)) (ix2 (row t q) j)) (rows (m ((c : Thread nD τ).loc main_arg2)) (ix2 (row t q) j)) := by
  unfold mom1
  pointwise [k0_pay2, k0_pay1]
  rw [(blk m c t q j).2.1, (blk m c t q j).2.2.1]

theorem point6 (c : Dev nD) (t : Fin cfg0.N) (q : Fin 256) (j : Fin 1536) :
    k0_pay3 (F := Ideal) (iblk m c 1 t) (iblk m c 3 t) (ix2 q j)
      = mom2 (rows (m ((c : Thread nD τ).loc main_arg1)) (ix2 (row t q) j)) (rows (m ((c : Thread nD τ).loc main_arg3)) (ix2 (row t q) j)) := by
  unfold mom2
  pointwise [k0_pay3, k0_pay1]
  rw [(blk m c t q j).2.1, (blk m c t q j).2.2.2]

theorem point4 (c : Dev nD) (t : Fin cfg0.N) (q : Fin 256) (j : Fin 1536) :
    k0_pay4 (F := Ideal) (iblk m c 1 t) (iblk m c 2 t) (iblk m c 3 t) (iblk m c 0 t) (ix2 q j)
      = step (rows (m ((c : Thread nD τ).loc main_arg0)) (ix2 (row t q) j)) (rows (m ((c : Thread nD τ).loc main_arg1)) (ix2 (row t q) j))
          (rows (m ((c : Thread nD τ).loc main_arg2)) (ix2 (row t q) j)) (rows (m ((c : Thread nD τ).loc main_arg3)) (ix2 (row t q) j)) := by
  unfold step
  rw [div_w1, div_w2, ← point5 m c t q j, ← point6 m c t q j, ← (blk m c t q j).1, ← c1_eq, ← c2_eq]
  pointwise [k0_pay4]

/-- The weights' change, the two moments and the gradient, element by element. -/
theorem final4 (c : Dev nD) : (dats m 0 c).arrAt 4 cfg0.N
    = fun i => step (rows (m ((c : Thread nD τ).loc main_arg0)) (ix2 (i 0) (i 1))) (rows (m ((c : Thread nD τ).loc main_arg1)) (ix2 (i 0) (i 1)))
        (rows (m ((c : Thread nD τ).loc main_arg2)) (ix2 (i 0) (i 1))) (rows (m ((c : Thread nD τ).loc main_arg3)) (ix2 (i 0) (i 1))) := by
  refine (dats m 0 c).arrAt_eq_of_covers 4 _ (by decide +kernel) fun t _ y => ?_
  idx_vars y
  have he : ((cfg0.win 4).blk t).view.emb (ix2 y0 y1) = ix2 (row t y0) y1 := by blk_ext [idx t, row]
  rw [he]
  blk_simp
  rw [after0_4]
  frame_out
  exact point4 m c t y0 y1

theorem final5 (c : Dev nD) : (dats m 0 c).arrAt 5 cfg0.N
    = fun i => mom1 (rows (m ((c : Thread nD τ).loc main_arg1)) (ix2 (i 0) (i 1))) (rows (m ((c : Thread nD τ).loc main_arg2)) (ix2 (i 0) (i 1))) := by
  refine (dats m 0 c).arrAt_eq_of_covers 5 _ (by decide +kernel) fun t _ y => ?_
  idx_vars y
  have he : ((cfg0.win 5).blk t).view.emb (ix2 y0 y1) = ix2 (row t y0) y1 := by blk_ext [idx t, row]
  rw [he]
  blk_simp
  rw [after0_5]
  frame_out
  exact point5 m c t y0 y1

theorem final6 (c : Dev nD) : (dats m 0 c).arrAt 6 cfg0.N
    = fun i => mom2 (rows (m ((c : Thread nD τ).loc main_arg1)) (ix2 (i 0) (i 1))) (rows (m ((c : Thread nD τ).loc main_arg3)) (ix2 (i 0) (i 1))) := by
  refine (dats m 0 c).arrAt_eq_of_covers 6 _ (by decide +kernel) fun t _ y => ?_
  idx_vars y
  have he : ((cfg0.win 6).blk t).view.emb (ix2 y0 y1) = ix2 (row t y0) y1 := by blk_ext [idx t, row]
  rw [he]
  blk_simp
  rw [after0_6]
  frame_out
  exact point6 m c t y0 y1

theorem final7 (c : Dev nD) : (dats m 0 c).arrAt 7 cfg0.N
    = fun i => rows (m ((c : Thread nD τ).loc main_arg1)) (ix2 (i 0) (i 1)) := by
  refine (dats m 0 c).arrAt_eq_of_covers 7 _ (by decide +kernel) fun t _ y => ?_
  idx_vars y
  have he : ((cfg0.win 7).blk t).view.emb (ix2 y0 y1) = ix2 (row t y0) y1 := by blk_ext [idx t, row]
  rw [he]
  blk_simp
  rw [after0_7]
  frame_out
  pointwise [k0_pay1]
  exact (blk m c t y0 y1).2.1

end kernel

section reference

open Cert.Reference16Ideal Cert.Reference16Ideal.Read

variable (a0 a1 a2 a3 : (⟨S2x1024x1536, .f32⟩ : BufTy).Contents (Elt Ideal))

/-- The plain program's moments and the weights' change. -/
theorem v8_eq (i : Fin 2048) (j : Fin 1536) : val_main_v8 (F := Ideal) a1 a2 (ix2 i j) = mom1 (rows a1 (ix2 i j)) (rows a2 (ix2 i j)) := by
  show _ = mom1 (val_main_v1 (F := Ideal) a1 (ix2 i j)) (val_main_v2 (F := Ideal) a2 (ix2 i j))
  unfold mom1
  generalize hp : val_main_v1 (F := Ideal) a1 = p
  generalize hq : val_main_v2 (F := Ideal) a2 = q
  pointwise [val_main_v8, val_main_v7, val_main_v6, val_main_v5, val_main_v4, val_main_cst, val_main_cst_0, hp, hq]

theorem v14_eq (i : Fin 2048) (j : Fin 1536) : val_main_v14 (F := Ideal) a1 a3 (ix2 i j) = mom2 (rows a1 (ix2 i j)) (rows a3 (ix2 i j)) := by
  show _ = mom2 (val_main_v1 (F := Ideal) a1 (ix2 i j)) (val_main_v3 (F := Ideal) a3 (ix2 i j))
  unfold mom2
  generalize hp : val_main_v1 (F := Ideal) a1 = p
  generalize hq : val_main_v3 (F := Ideal) a3 = q
  pointwise [val_main_v14, val_main_v13, val_main_v12, val_main_v11, val_main_v10, val_main_v9, val_main_cst_1, val_main_cst_2, hp, hq]

theorem v27_eq (i : Fin 2048) (j : Fin 1536) : val_main_v27 (F := Ideal) a0 a1 a2 a3 (ix2 i j)
    = step (rows a0 (ix2 i j)) (rows a1 (ix2 i j)) (rows a2 (ix2 i j)) (rows a3 (ix2 i j)) := by
  unfold step
  rw [← v8_eq, ← v14_eq]
  show _ = _ * (_ + _ * val_main_v0 (F := Ideal) a0 (ix2 i j))
  generalize hp : val_main_v0 (F := Ideal) a0 = p
  generalize hq : val_main_v8 (F := Ideal) a1 a2 = q
  generalize hr : val_main_v14 (F := Ideal) a1 a3 = r
  pointwise [val_main_v27, val_main_v26, val_main_v25, val_main_v24, val_main_v23, val_main_v22, val_main_v21, val_main_v20,
    val_main_v19, val_main_v18, val_main_v17, val_main_v16, val_main_v15, val_main_cst_3, val_main_cst_4, val_main_cst_5,
    val_main_cst_6, val_main_cst_7, hp, hq, hr]

end reference

/-- The kernel's two folded reciprocals are named as those of the plain program's bias corrections. -/
theorem preserves : Cert.preserves_Kernel16_Kernel16Ideal :=
  ⟨IdealRules.named_const.statement _ _ _ _ _ rfl, IdealRules.named_const.statement _ _ _ _ _ rfl⟩

/-- The plain program's run keeps its arguments and ends with every counter at zero. -/
theorem frame_ref : Cert.quiescent_Reference16Ideal := fun m ρ _ =>
  (θ_run Cert.Reference16Ideal.defs _ _).mono (fun r h => ⟨fun c => (h c).2.2.2.2,
      Idealize.ShloMosaic.sem_eq_zero_of_no_sems (by decide) r.2⟩) (Cert.Reference16Ideal.Value.run (F := Ideal) m ρ)

/-- The kernel leaves the plain program's change of the weights, its two moments and the gradient. -/
theorem algebraic : Cert.algebraic_Kernel16Ideal_Reference16Ideal := fun m ρ m' ρ' _ hm => by
  refine ⟨_, _, _, _, Cert.Kernel16Ideal.Value.run_blocks m ρ, (θ_run _ _ _).mono (fun r h c => ?_) (Cert.Reference16Ideal.Value.run m' ρ')⟩
  obtain ⟨h0, h1, h2, h3, hargs⟩ := h c
  obtain ⟨e0, e1, e2, e3⟩ := hm c
  refine ⟨h0.trans ?_, h1.trans ?_, h2.trans ?_, h3.trans ?_, hargs⟩
  · rw [Cert.Reference16Ideal.Read.val_main_v27_eq, e0, e1, e2, e3, final4 m c]
    funext i
    idx_vars i
    exact v27_eq _ _ _ _ i0 i1
  · rw [Cert.Reference16Ideal.Read.val_main_v8_eq, e1, e2, final5 m c]
    funext i
    idx_vars i
    exact v8_eq _ _ i0 i1
  · rw [Cert.Reference16Ideal.Read.val_main_v14_eq, e1, e3, final6 m c]
    funext i
    idx_vars i
    exact v14_eq _ _ i0 i1
  · rw [Cert.Reference16Ideal.Read.val_main_v28_eq, e1, final7 m c]
    funext i
    idx_vars i
    rfl

end Cert.Proof.AdamUpCall

end
-- ==== Proof.AdamDownCall.lean ====
/-
  AdamW of the down-projection's weights: what the kernel leaves, what the plain program computes, and the claims.
-/
module

public import proofs.«01_k».proof.Defs
public import proofs.«01_k».proof.Proof.AdamMath
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pipeline.ReadBack

@[expose] public section

set_option maxRecDepth 16384

noncomputable section

namespace Cert.Proof.AdamDownCall

open Idealize.ShloMosaic Idealize.ShloMosaic.TcCoe Idealize.SL.Sem
open Idealize.ShloMosaic.Pipeline (Dat)
open Cert.Proof.AdamMath

section kernel

open Cert.Kernel17Ideal Cert.Kernel17Ideal.Gen Cert.Kernel17Ideal.Value

/-- An argument's two layers, one under the other. -/
def rows (a : FVec Ideal S2x768x1024 .f32) : FVec Ideal S1536x1024 .f32 := shapeCast S1536x1024 a shapeCasts_S2x768x1024_S1536x1024

/-- The kernel's two named constants are the reciprocals of the bias corrections. -/
theorem c1_eq : (Named.named κ "adam_c1" 0x3FC48605#32 : Ideal .f32) = ((8388608 / 5463681 : ℝ) : EReal) :=
  IdealRules.named_const.ideal_named_scalar _ _ _ _ rfl

theorem c2_eq : (Named.named κ "adam_c2" 0x42C8E6D3#32 : Ideal .f32) = ((268435456 / 2672307 : ℝ) : EReal) :=
  IdealRules.named_const.ideal_named_scalar _ _ _ _ rfl

variable (m : (ℓ : Loc nD τ sig) → Buf (Elt Ideal) ℓ)

/-- The four arrays that the call is given are the arguments' rows: the weights, the gradient and the two moments. -/
theorem V_rows (c : Dev nD) : V m c main_v0 = rows (m ((c : Thread nD τ).loc main_arg0))
    ∧ V m c main_v1 = rows (m ((c : Thread nD τ).loc main_arg1)) ∧ V m c main_v2 = rows (m ((c : Thread nD τ).loc main_arg2))
    ∧ V m c main_v3 = rows (m ((c : Thread nD τ).loc main_arg3)) := by
  refine ⟨?_, ?_, ?_, ?_⟩ <;>
  · unfold_abbrev_sides
    simp only [hostOps0, List.flatten_cons, List.flatten_nil, List.append_nil, List.cons_append, List.nil_append]
    after_results
    rfl

/-- The windows' block indices at a point: the tile of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `q` of tile `t`. -/
def row (t : Fin cfg0.N) (q : Fin 256) : Fin 1536 := ⟨t.val * 256 + q.val, by
  have : t.val < 6 := lt_of_lt_of_eq t.isLt (show cfg0.N = 6 from N_0)
  omega⟩

/-- The four blocks of a point. -/
theorem blk (c : Dev nD) (t : Fin cfg0.N) (q : Fin 256) (j : Fin 1024) :
    iblk m c 0 t (ix2 q j) = rows (m ((c : Thread nD τ).loc main_arg0)) (ix2 (row t q) j)
    ∧ iblk m c 1 t (ix2 q j) = rows (m ((c : Thread nD τ).loc main_arg1)) (ix2 (row t q) j)
    ∧ iblk m c 2 t (ix2 q j) = rows (m ((c : Thread nD τ).loc main_arg2)) (ix2 (row t q) j)
    ∧ iblk m c 3 t (ix2 q j) = rows (m ((c : Thread nD τ).loc main_arg3)) (ix2 (row t q) j) := by
  obtain ⟨e0, e1, e2, e3⟩ := V_rows m c
  rw [← e0, ← e1, ← e2, ← e3]
  refine ⟨?_, ?_, ?_, ?_⟩ <;> blk_ext [iblk, idx t, row]

/-- What a point stores of the first moment, of the second, and of the weights' change. -/
theorem point5 (c : Dev nD) (t : Fin cfg0.N) (q : Fin 256) (j : Fin 1024) :
    k0_pay2 (F := Ideal) (iblk m c 1 t) (iblk m c 2 t) (ix2 q j)
      = mom1 (rows (m ((c : Thread nD τ).loc main_arg1)) (ix2 (row t q) j)) (rows (m ((c : Thread nD τ).loc main_arg2)) (ix2 (row t q) j)) := by
  unfold mom1
  pointwise [k0_pay2, k0_pay1]
  rw [(blk m c t q j).2.1, (blk m c t q j).2.2.1]

theorem point6 (c : Dev nD) (t : Fin cfg0.N) (q : Fin 256) (j : Fin 1024) :
    k0_pay3 (F := Ideal) (iblk m c 1 t) (iblk m c 3 t) (ix2 q j)
      = mom2 (rows (m ((c : Thread nD τ).loc main_arg1)) (ix2 (row t q) j)) (rows (m ((c : Thread nD τ).loc main_arg3)) (ix2 (row t q) j)) := by
  unfold mom2
  pointwise [k0_pay3, k0_pay1]
  rw [(blk m c t q j).2.1, (blk m c t q j).2.2.2]

theorem point4 (c : Dev nD) (t : Fin cfg0.N) (q : Fin 256) (j : Fin 1024) :
    k0_pay4 (F := Ideal) (iblk m c 1 t) (iblk m c 2 t) (iblk m c 3 t) (iblk m c 0 t) (ix2 q j)
      = step (rows (m ((c : Thread nD τ).loc main_arg0)) (ix2 (row t q) j)) (rows (m ((c : Thread nD τ).loc main_arg1)) (ix2 (row t q) j))
          (rows (m ((c : Thread nD τ).loc main_arg2)) (ix2 (row t q) j)) (rows (m ((c : Thread nD τ).loc main_arg3)) (ix2 (row t q) j)) := by
  unfold step
  rw [div_w1, div_w2, ← point5 m c t q j, ← point6 m c t q j, ← (blk m c t q j).1, ← c1_eq, ← c2_eq]
  pointwise [k0_pay4]

/-- The weights' change, the two moments and the gradient, element by element. -/
theorem final4 (c : Dev nD) : (dats m 0 c).arrAt 4 cfg0.N
    = fun i => step (rows (m ((c : Thread nD τ).loc main_arg0)) (ix2 (i 0) (i 1))) (rows (m ((c : Thread nD τ).loc main_arg1)) (ix2 (i 0) (i 1)))
        (rows (m ((c : Thread nD τ).loc main_arg2)) (ix2 (i 0) (i 1))) (rows (m ((c : Thread nD τ).loc main_arg3)) (ix2 (i 0) (i 1))) := by
  refine (dats m 0 c).arrAt_eq_of_covers 4 _ (by decide +kernel) fun t _ y => ?_
  idx_vars y
  have he : ((cfg0.win 4).blk t).view.emb (ix2 y0 y1) = ix2 (row t y0) y1 := by blk_ext [idx t, row]
  rw [he]
  blk_simp
  rw [after0_4]
  frame_out
  exact point4 m c t y0 y1

theorem final5 (c : Dev nD) : (dats m 0 c).arrAt 5 cfg0.N
    = fun i => mom1 (rows (m ((c : Thread nD τ).loc main_arg1)) (ix2 (i 0) (i 1))) (rows (m ((c : Thread nD τ).loc main_arg2)) (ix2 (i 0) (i 1))) := by
  refine (dats m 0 c).arrAt_eq_of_covers 5 _ (by decide +kernel) fun t _ y => ?_
  idx_vars y
  have he : ((cfg0.win 5).blk t).view.emb (ix2 y0 y1) = ix2 (row t y0) y1 := by blk_ext [idx t, row]
  rw [he]
  blk_simp
  rw [after0_5]
  frame_out
  exact point5 m c t y0 y1

theorem final6 (c : Dev nD) : (dats m 0 c).arrAt 6 cfg0.N
    = fun i => mom2 (rows (m ((c : Thread nD τ).loc main_arg1)) (ix2 (i 0) (i 1))) (rows (m ((c : Thread nD τ).loc main_arg3)) (ix2 (i 0) (i 1))) := by
  refine (dats m 0 c).arrAt_eq_of_covers 6 _ (by decide +kernel) fun t _ y => ?_
  idx_vars y
  have he : ((cfg0.win 6).blk t).view.emb (ix2 y0 y1) = ix2 (row t y0) y1 := by blk_ext [idx t, row]
  rw [he]
  blk_simp
  rw [after0_6]
  frame_out
  exact point6 m c t y0 y1

theorem final7 (c : Dev nD) : (dats m 0 c).arrAt 7 cfg0.N
    = fun i => rows (m ((c : Thread nD τ).loc main_arg1)) (ix2 (i 0) (i 1)) := by
  refine (dats m 0 c).arrAt_eq_of_covers 7 _ (by decide +kernel) fun t _ y => ?_
  idx_vars y
  have he : ((cfg0.win 7).blk t).view.emb (ix2 y0 y1) = ix2 (row t y0) y1 := by blk_ext [idx t, row]
  rw [he]
  blk_simp
  rw [after0_7]
  frame_out
  pointwise [k0_pay1]
  exact (blk m c t y0 y1).2.1

end kernel

section reference

open Cert.Reference17Ideal Cert.Reference17Ideal.Read

variable (a0 a1 a2 a3 : (⟨S2x768x1024, .f32⟩ : BufTy).Contents (Elt Ideal))

/-- The plain program's moments and the weights' change. -/
theorem v8_eq (i : Fin 1536) (j : Fin 1024) : val_main_v8 (F := Ideal) a1 a2 (ix2 i j) = mom1 (rows a1 (ix2 i j)) (rows a2 (ix2 i j)) := by
  show _ = mom1 (val_main_v1 (F := Ideal) a1 (ix2 i j)) (val_main_v2 (F := Ideal) a2 (ix2 i j))
  unfold mom1
  generalize hp : val_main_v1 (F := Ideal) a1 = p
  generalize hq : val_main_v2 (F := Ideal) a2 = q
  pointwise [val_main_v8, val_main_v7, val_main_v6, val_main_v5, val_main_v4, val_main_cst, val_main_cst_0, hp, hq]

theorem v14_eq (i : Fin 1536) (j : Fin 1024) : val_main_v14 (F := Ideal) a1 a3 (ix2 i j) = mom2 (rows a1 (ix2 i j)) (rows a3 (ix2 i j)) := by
  show _ = mom2 (val_main_v1 (F := Ideal) a1 (ix2 i j)) (val_main_v3 (F := Ideal) a3 (ix2 i j))
  unfold mom2
  generalize hp : val_main_v1 (F := Ideal) a1 = p
  generalize hq : val_main_v3 (F := Ideal) a3 = q
  pointwise [val_main_v14, val_main_v13, val_main_v12, val_main_v11, val_main_v10, val_main_v9, val_main_cst_1, val_main_cst_2, hp, hq]

theorem v27_eq (i : Fin 1536) (j : Fin 1024) : val_main_v27 (F := Ideal) a0 a1 a2 a3 (ix2 i j)
    = step (rows a0 (ix2 i j)) (rows a1 (ix2 i j)) (rows a2 (ix2 i j)) (rows a3 (ix2 i j)) := by
  unfold step
  rw [← v8_eq, ← v14_eq]
  show _ = _ * (_ + _ * val_main_v0 (F := Ideal) a0 (ix2 i j))
  generalize hp : val_main_v0 (F := Ideal) a0 = p
  generalize hq : val_main_v8 (F := Ideal) a1 a2 = q
  generalize hr : val_main_v14 (F := Ideal) a1 a3 = r
  pointwise [val_main_v27, val_main_v26, val_main_v25, val_main_v24, val_main_v23, val_main_v22, val_main_v21, val_main_v20,
    val_main_v19, val_main_v18, val_main_v17, val_main_v16, val_main_v15, val_main_cst_3, val_main_cst_4, val_main_cst_5,
    val_main_cst_6, val_main_cst_7, hp, hq, hr]

end reference

/-- The kernel's two folded reciprocals are named as those of the plain program's bias corrections. -/
theorem preserves : Cert.preserves_Kernel17_Kernel17Ideal :=
  ⟨IdealRules.named_const.statement _ _ _ _ _ rfl, IdealRules.named_const.statement _ _ _ _ _ rfl⟩

/-- The plain program's run keeps its arguments and ends with every counter at zero. -/
theorem frame_ref : Cert.quiescent_Reference17Ideal := fun m ρ _ =>
  (θ_run Cert.Reference17Ideal.defs _ _).mono (fun r h => ⟨fun c => (h c).2.2.2.2,
      Idealize.ShloMosaic.sem_eq_zero_of_no_sems (by decide) r.2⟩) (Cert.Reference17Ideal.Value.run (F := Ideal) m ρ)

/-- The kernel leaves the plain program's change of the weights, its two moments and the gradient. -/
theorem algebraic : Cert.algebraic_Kernel17Ideal_Reference17Ideal := fun m ρ m' ρ' _ hm => by
  refine ⟨_, _, _, _, Cert.Kernel17Ideal.Value.run_blocks m ρ, (θ_run _ _ _).mono (fun r h c => ?_) (Cert.Reference17Ideal.Value.run m' ρ')⟩
  obtain ⟨h0, h1, h2, h3, hargs⟩ := h c
  obtain ⟨e0, e1, e2, e3⟩ := hm c
  refine ⟨h0.trans ?_, h1.trans ?_, h2.trans ?_, h3.trans ?_, hargs⟩
  · rw [Cert.Reference17Ideal.Read.val_main_v27_eq, e0, e1, e2, e3, final4 m c]
    funext i
    idx_vars i
    exact v27_eq _ _ _ _ i0 i1
  · rw [Cert.Reference17Ideal.Read.val_main_v8_eq, e1, e2, final5 m c]
    funext i
    idx_vars i
    exact v8_eq _ _ i0 i1
  · rw [Cert.Reference17Ideal.Read.val_main_v14_eq, e1, e3, final6 m c]
    funext i
    idx_vars i
    exact v14_eq _ _ i0 i1
  · rw [Cert.Reference17Ideal.Read.val_main_v28_eq, e1, final7 m c]
    funext i
    idx_vars i
    rfl

end Cert.Proof.AdamDownCall

end
-- ==== Proof.AdamOutCall.lean ====
/-
  AdamW of the output projection's weights: what the kernel leaves, what the plain program computes, and the claims.
-/
module

public import proofs.«01_k».proof.Defs
public import proofs.«01_k».proof.Proof.AdamMath
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pipeline.ReadBack

@[expose] public section

set_option maxRecDepth 16384

noncomputable section

namespace Cert.Proof.AdamOutCall

open Idealize.ShloMosaic Idealize.ShloMosaic.TcCoe Idealize.SL.Sem
open Idealize.ShloMosaic.Pipeline (Dat)
open Cert.Proof.AdamMath

section kernel

open Cert.Kernel18Ideal Cert.Kernel18Ideal.Gen Cert.Kernel18Ideal.Value

/-- An argument's two layers, one under the other. -/
def rows (a : FVec Ideal S2x384x1024 .f32) : FVec Ideal S768x1024 .f32 := shapeCast S768x1024 a shapeCasts_S2x384x1024_S768x1024

/-- The kernel's two named constants are the reciprocals of the bias corrections. -/
theorem c1_eq : (Named.named κ "adam_c1" 0x3FC48605#32 : Ideal .f32) = ((8388608 / 5463681 : ℝ) : EReal) :=
  IdealRules.named_const.ideal_named_scalar _ _ _ _ rfl

theorem c2_eq : (Named.named κ "adam_c2" 0x42C8E6D3#32 : Ideal .f32) = ((268435456 / 2672307 : ℝ) : EReal) :=
  IdealRules.named_const.ideal_named_scalar _ _ _ _ rfl

variable (m : (ℓ : Loc nD τ sig) → Buf (Elt Ideal) ℓ)

/-- The four arrays that the call is given are the arguments' rows: the weights, the gradient and the two moments. -/
theorem V_rows (c : Dev nD) : V m c main_v0 = rows (m ((c : Thread nD τ).loc main_arg0))
    ∧ V m c main_v1 = rows (m ((c : Thread nD τ).loc main_arg1)) ∧ V m c main_v2 = rows (m ((c : Thread nD τ).loc main_arg2))
    ∧ V m c main_v3 = rows (m ((c : Thread nD τ).loc main_arg3)) := by
  refine ⟨?_, ?_, ?_, ?_⟩ <;>
  · unfold_abbrev_sides
    simp only [hostOps0, List.flatten_cons, List.flatten_nil, List.append_nil, List.cons_append, List.nil_append]
    after_results
    rfl

/-- The windows' block indices at a point: the tile of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `q` of tile `t`. -/
def row (t : Fin cfg0.N) (q : Fin 256) : Fin 768 := ⟨t.val * 256 + q.val, by
  have : t.val < 3 := lt_of_lt_of_eq t.isLt (show cfg0.N = 3 from N_0)
  omega⟩

/-- The four blocks of a point. -/
theorem blk (c : Dev nD) (t : Fin cfg0.N) (q : Fin 256) (j : Fin 1024) :
    iblk m c 0 t (ix2 q j) = rows (m ((c : Thread nD τ).loc main_arg0)) (ix2 (row t q) j)
    ∧ iblk m c 1 t (ix2 q j) = rows (m ((c : Thread nD τ).loc main_arg1)) (ix2 (row t q) j)
    ∧ iblk m c 2 t (ix2 q j) = rows (m ((c : Thread nD τ).loc main_arg2)) (ix2 (row t q) j)
    ∧ iblk m c 3 t (ix2 q j) = rows (m ((c : Thread nD τ).loc main_arg3)) (ix2 (row t q) j) := by
  obtain ⟨e0, e1, e2, e3⟩ := V_rows m c
  rw [← e0, ← e1, ← e2, ← e3]
  refine ⟨?_, ?_, ?_, ?_⟩ <;> blk_ext [iblk, idx t, row]

/-- What a point stores of the first moment, of the second, and of the weights' change. -/
theorem point5 (c : Dev nD) (t : Fin cfg0.N) (q : Fin 256) (j : Fin 1024) :
    k0_pay2 (F := Ideal) (iblk m c 1 t) (iblk m c 2 t) (ix2 q j)
      = mom1 (rows (m ((c : Thread nD τ).loc main_arg1)) (ix2 (row t q) j)) (rows (m ((c : Thread nD τ).loc main_arg2)) (ix2 (row t q) j)) := by
  unfold mom1
  pointwise [k0_pay2, k0_pay1]
  rw [(blk m c t q j).2.1, (blk m c t q j).2.2.1]

theorem point6 (c : Dev nD) (t : Fin cfg0.N) (q : Fin 256) (j : Fin 1024) :
    k0_pay3 (F := Ideal) (iblk m c 1 t) (iblk m c 3 t) (ix2 q j)
      = mom2 (rows (m ((c : Thread nD τ).loc main_arg1)) (ix2 (row t q) j)) (rows (m ((c : Thread nD τ).loc main_arg3)) (ix2 (row t q) j)) := by
  unfold mom2
  pointwise [k0_pay3, k0_pay1]
  rw [(blk m c t q j).2.1, (blk m c t q j).2.2.2]

theorem point4 (c : Dev nD) (t : Fin cfg0.N) (q : Fin 256) (j : Fin 1024) :
    k0_pay4 (F := Ideal) (iblk m c 1 t) (iblk m c 2 t) (iblk m c 3 t) (iblk m c 0 t) (ix2 q j)
      = step (rows (m ((c : Thread nD τ).loc main_arg0)) (ix2 (row t q) j)) (rows (m ((c : Thread nD τ).loc main_arg1)) (ix2 (row t q) j))
          (rows (m ((c : Thread nD τ).loc main_arg2)) (ix2 (row t q) j)) (rows (m ((c : Thread nD τ).loc main_arg3)) (ix2 (row t q) j)) := by
  unfold step
  rw [div_w1, div_w2, ← point5 m c t q j, ← point6 m c t q j, ← (blk m c t q j).1, ← c1_eq, ← c2_eq]
  pointwise [k0_pay4]

/-- The weights' change, the two moments and the gradient, element by element. -/
theorem final4 (c : Dev nD) : (dats m 0 c).arrAt 4 cfg0.N
    = fun i => step (rows (m ((c : Thread nD τ).loc main_arg0)) (ix2 (i 0) (i 1))) (rows (m ((c : Thread nD τ).loc main_arg1)) (ix2 (i 0) (i 1)))
        (rows (m ((c : Thread nD τ).loc main_arg2)) (ix2 (i 0) (i 1))) (rows (m ((c : Thread nD τ).loc main_arg3)) (ix2 (i 0) (i 1))) := by
  refine (dats m 0 c).arrAt_eq_of_covers 4 _ (by decide +kernel) fun t _ y => ?_
  idx_vars y
  have he : ((cfg0.win 4).blk t).view.emb (ix2 y0 y1) = ix2 (row t y0) y1 := by blk_ext [idx t, row]
  rw [he]
  blk_simp
  rw [after0_4]
  frame_out
  exact point4 m c t y0 y1

theorem final5 (c : Dev nD) : (dats m 0 c).arrAt 5 cfg0.N
    = fun i => mom1 (rows (m ((c : Thread nD τ).loc main_arg1)) (ix2 (i 0) (i 1))) (rows (m ((c : Thread nD τ).loc main_arg2)) (ix2 (i 0) (i 1))) := by
  refine (dats m 0 c).arrAt_eq_of_covers 5 _ (by decide +kernel) fun t _ y => ?_
  idx_vars y
  have he : ((cfg0.win 5).blk t).view.emb (ix2 y0 y1) = ix2 (row t y0) y1 := by blk_ext [idx t, row]
  rw [he]
  blk_simp
  rw [after0_5]
  frame_out
  exact point5 m c t y0 y1

theorem final6 (c : Dev nD) : (dats m 0 c).arrAt 6 cfg0.N
    = fun i => mom2 (rows (m ((c : Thread nD τ).loc main_arg1)) (ix2 (i 0) (i 1))) (rows (m ((c : Thread nD τ).loc main_arg3)) (ix2 (i 0) (i 1))) := by
  refine (dats m 0 c).arrAt_eq_of_covers 6 _ (by decide +kernel) fun t _ y => ?_
  idx_vars y
  have he : ((cfg0.win 6).blk t).view.emb (ix2 y0 y1) = ix2 (row t y0) y1 := by blk_ext [idx t, row]
  rw [he]
  blk_simp
  rw [after0_6]
  frame_out
  exact point6 m c t y0 y1

theorem final7 (c : Dev nD) : (dats m 0 c).arrAt 7 cfg0.N
    = fun i => rows (m ((c : Thread nD τ).loc main_arg1)) (ix2 (i 0) (i 1)) := by
  refine (dats m 0 c).arrAt_eq_of_covers 7 _ (by decide +kernel) fun t _ y => ?_
  idx_vars y
  have he : ((cfg0.win 7).blk t).view.emb (ix2 y0 y1) = ix2 (row t y0) y1 := by blk_ext [idx t, row]
  rw [he]
  blk_simp
  rw [after0_7]
  frame_out
  pointwise [k0_pay1]
  exact (blk m c t y0 y1).2.1

end kernel

section reference

open Cert.Reference18Ideal Cert.Reference18Ideal.Read

variable (a0 a1 a2 a3 : (⟨S2x384x1024, .f32⟩ : BufTy).Contents (Elt Ideal))

/-- The plain program's moments and the weights' change. -/
theorem v8_eq (i : Fin 768) (j : Fin 1024) : val_main_v8 (F := Ideal) a1 a2 (ix2 i j) = mom1 (rows a1 (ix2 i j)) (rows a2 (ix2 i j)) := by
  show _ = mom1 (val_main_v1 (F := Ideal) a1 (ix2 i j)) (val_main_v2 (F := Ideal) a2 (ix2 i j))
  unfold mom1
  generalize hp : val_main_v1 (F := Ideal) a1 = p
  generalize hq : val_main_v2 (F := Ideal) a2 = q
  pointwise [val_main_v8, val_main_v7, val_main_v6, val_main_v5, val_main_v4, val_main_cst, val_main_cst_0, hp, hq]

theorem v14_eq (i : Fin 768) (j : Fin 1024) : val_main_v14 (F := Ideal) a1 a3 (ix2 i j) = mom2 (rows a1 (ix2 i j)) (rows a3 (ix2 i j)) := by
  show _ = mom2 (val_main_v1 (F := Ideal) a1 (ix2 i j)) (val_main_v3 (F := Ideal) a3 (ix2 i j))
  unfold mom2
  generalize hp : val_main_v1 (F := Ideal) a1 = p
  generalize hq : val_main_v3 (F := Ideal) a3 = q
  pointwise [val_main_v14, val_main_v13, val_main_v12, val_main_v11, val_main_v10, val_main_v9, val_main_cst_1, val_main_cst_2, hp, hq]

theorem v27_eq (i : Fin 768) (j : Fin 1024) : val_main_v27 (F := Ideal) a0 a1 a2 a3 (ix2 i j)
    = step (rows a0 (ix2 i j)) (rows a1 (ix2 i j)) (rows a2 (ix2 i j)) (rows a3 (ix2 i j)) := by
  unfold step
  rw [← v8_eq, ← v14_eq]
  show _ = _ * (_ + _ * val_main_v0 (F := Ideal) a0 (ix2 i j))
  generalize hp : val_main_v0 (F := Ideal) a0 = p
  generalize hq : val_main_v8 (F := Ideal) a1 a2 = q
  generalize hr : val_main_v14 (F := Ideal) a1 a3 = r
  pointwise [val_main_v27, val_main_v26, val_main_v25, val_main_v24, val_main_v23, val_main_v22, val_main_v21, val_main_v20,
    val_main_v19, val_main_v18, val_main_v17, val_main_v16, val_main_v15, val_main_cst_3, val_main_cst_4, val_main_cst_5,
    val_main_cst_6, val_main_cst_7, hp, hq, hr]

end reference

/-- The kernel's two folded reciprocals are named as those of the plain program's bias corrections. -/
theorem preserves : Cert.preserves_Kernel18_Kernel18Ideal :=
  ⟨IdealRules.named_const.statement _ _ _ _ _ rfl, IdealRules.named_const.statement _ _ _ _ _ rfl⟩

/-- The plain program's run keeps its arguments and ends with every counter at zero. -/
theorem frame_ref : Cert.quiescent_Reference18Ideal := fun m ρ _ =>
  (θ_run Cert.Reference18Ideal.defs _ _).mono (fun r h => ⟨fun c => (h c).2.2.2.2,
      Idealize.ShloMosaic.sem_eq_zero_of_no_sems (by decide) r.2⟩) (Cert.Reference18Ideal.Value.run (F := Ideal) m ρ)

/-- The kernel leaves the plain program's change of the weights, its two moments and the gradient. -/
theorem algebraic : Cert.algebraic_Kernel18Ideal_Reference18Ideal := fun m ρ m' ρ' _ hm => by
  refine ⟨_, _, _, _, Cert.Kernel18Ideal.Value.run_blocks m ρ, (θ_run _ _ _).mono (fun r h c => ?_) (Cert.Reference18Ideal.Value.run m' ρ')⟩
  obtain ⟨h0, h1, h2, h3, hargs⟩ := h c
  obtain ⟨e0, e1, e2, e3⟩ := hm c
  refine ⟨h0.trans ?_, h1.trans ?_, h2.trans ?_, h3.trans ?_, hargs⟩
  · rw [Cert.Reference18Ideal.Read.val_main_v27_eq, e0, e1, e2, e3, final4 m c]
    funext i
    idx_vars i
    exact v27_eq _ _ _ _ i0 i1
  · rw [Cert.Reference18Ideal.Read.val_main_v8_eq, e1, e2, final5 m c]
    funext i
    idx_vars i
    exact v8_eq _ _ i0 i1
  · rw [Cert.Reference18Ideal.Read.val_main_v14_eq, e1, e3, final6 m c]
    funext i
    idx_vars i
    exact v14_eq _ _ i0 i1
  · rw [Cert.Reference18Ideal.Read.val_main_v28_eq, e1, final7 m c]
    funext i
    idx_vars i
    rfl

end Cert.Proof.AdamOutCall

end
-- ==== Proof.AdamInCall.lean ====
/-
  AdamW of the input projection's weights: what the kernel leaves, what the plain program computes, and the claims.
-/
module

public import proofs.«01_k».proof.Defs
public import proofs.«01_k».proof.Proof.AdamMath
public import proofs.«01_k».proof.Proof.Gen.Kernel19
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pipeline.ReadBack

@[expose] public section

set_option maxRecDepth 16384

noncomputable section

namespace Cert.Proof.AdamInCall

open Idealize.ShloMosaic Idealize.ShloMosaic.TcCoe Idealize.SL.Sem
open Idealize.ShloMosaic.Pipeline (Dat)
open Cert.Proof.AdamMath

section kernel

open Cert.Kernel19Ideal Cert.Kernel19Ideal.Gen Cert.Kernel19Ideal.Value

/-- An argument's two layers, one under the other. -/
def rows (a : FVec Ideal S2x1024x896 .f32) : FVec Ideal S2048x896 .f32 := shapeCast S2048x896 a shapeCasts_S2x1024x896_S2048x896

/-- The kernel's two named constants are the reciprocals of the bias corrections. -/
theorem c1_eq : (Named.named κ "adam_c1" 0x3FC48605#32 : Ideal .f32) = ((8388608 / 5463681 : ℝ) : EReal) :=
  IdealRules.named_const.ideal_named_scalar _ _ _ _ rfl

theorem c2_eq : (Named.named κ "adam_c2" 0x42C8E6D3#32 : Ideal .f32) = ((268435456 / 2672307 : ℝ) : EReal) :=
  IdealRules.named_const.ideal_named_scalar _ _ _ _ rfl

variable (m : (ℓ : Loc nD τ sig) → Buf (Elt Ideal) ℓ)

/-- The four arrays that the call is given are the arguments' rows: the weights, the gradient and the two moments. -/
theorem V_rows (c : Dev nD) : V m c main_v0 = rows (m ((c : Thread nD τ).loc main_arg0))
    ∧ V m c main_v1 = rows (m ((c : Thread nD τ).loc main_arg1)) ∧ V m c main_v2 = rows (m ((c : Thread nD τ).loc main_arg2))
    ∧ V m c main_v3 = rows (m ((c : Thread nD τ).loc main_arg3)) := by
  refine ⟨?_, ?_, ?_, ?_⟩ <;>
  · unfold_abbrev_sides
    simp only [hostOps0, List.flatten_cons, List.flatten_nil, List.append_nil, List.cons_append, List.nil_append]
    after_results
    rfl

/-- The windows' block indices at a point: the tile of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `q` of tile `t`. -/
def row (t : Fin cfg0.N) (q : Fin 256) : Fin 2048 := ⟨t.val * 256 + q.val, by
  have : t.val < 8 := lt_of_lt_of_eq t.isLt (show cfg0.N = 8 from N_0)
  omega⟩

/-- The four blocks of a point. -/
theorem blk (c : Dev nD) (t : Fin cfg0.N) (q : Fin 256) (j : Fin 896) :
    iblk m c 0 t (ix2 q j) = rows (m ((c : Thread nD τ).loc main_arg0)) (ix2 (row t q) j)
    ∧ iblk m c 1 t (ix2 q j) = rows (m ((c : Thread nD τ).loc main_arg1)) (ix2 (row t q) j)
    ∧ iblk m c 2 t (ix2 q j) = rows (m ((c : Thread nD τ).loc main_arg2)) (ix2 (row t q) j)
    ∧ iblk m c 3 t (ix2 q j) = rows (m ((c : Thread nD τ).loc main_arg3)) (ix2 (row t q) j) := by
  obtain ⟨e0, e1, e2, e3⟩ := V_rows m c
  rw [← e0, ← e1, ← e2, ← e3]
  refine ⟨?_, ?_, ?_, ?_⟩ <;> blk_ext [iblk, idx t, row]

/-- What a point stores of the first moment, of the second, and of the weights' change. -/
theorem point5 (c : Dev nD) (t : Fin cfg0.N) (q : Fin 256) (j : Fin 896) :
    k0_pay2 (F := Ideal) (iblk m c 1 t) (iblk m c 2 t) (ix2 q j)
      = mom1 (rows (m ((c : Thread nD τ).loc main_arg1)) (ix2 (row t q) j)) (rows (m ((c : Thread nD τ).loc main_arg2)) (ix2 (row t q) j)) := by
  unfold mom1
  pointwise [k0_pay2, k0_pay1]
  rw [(blk m c t q j).2.1, (blk m c t q j).2.2.1]

theorem point6 (c : Dev nD) (t : Fin cfg0.N) (q : Fin 256) (j : Fin 896) :
    k0_pay3 (F := Ideal) (iblk m c 1 t) (iblk m c 3 t) (ix2 q j)
      = mom2 (rows (m ((c : Thread nD τ).loc main_arg1)) (ix2 (row t q) j)) (rows (m ((c : Thread nD τ).loc main_arg3)) (ix2 (row t q) j)) := by
  unfold mom2
  pointwise [k0_pay3, k0_pay1]
  rw [(blk m c t q j).2.1, (blk m c t q j).2.2.2]

theorem point4 (c : Dev nD) (t : Fin cfg0.N) (q : Fin 256) (j : Fin 896) :
    k0_pay4 (F := Ideal) (iblk m c 1 t) (iblk m c 2 t) (iblk m c 3 t) (iblk m c 0 t) (ix2 q j)
      = step (rows (m ((c : Thread nD τ).loc main_arg0)) (ix2 (row t q) j)) (rows (m ((c : Thread nD τ).loc main_arg1)) (ix2 (row t q) j))
          (rows (m ((c : Thread nD τ).loc main_arg2)) (ix2 (row t q) j)) (rows (m ((c : Thread nD τ).loc main_arg3)) (ix2 (row t q) j)) := by
  unfold step
  rw [div_w1, div_w2, ← point5 m c t q j, ← point6 m c t q j, ← (blk m c t q j).1, ← c1_eq, ← c2_eq]
  pointwise [k0_pay4]

/-- The weights' change, the two moments and the gradient, element by element. -/
theorem final4 (c : Dev nD) : (dats m 0 c).arrAt 4 cfg0.N
    = fun i => step (rows (m ((c : Thread nD τ).loc main_arg0)) (ix2 (i 0) (i 1))) (rows (m ((c : Thread nD τ).loc main_arg1)) (ix2 (i 0) (i 1)))
        (rows (m ((c : Thread nD τ).loc main_arg2)) (ix2 (i 0) (i 1))) (rows (m ((c : Thread nD τ).loc main_arg3)) (ix2 (i 0) (i 1))) := by
  refine (dats m 0 c).arrAt_eq_of_covers 4 _ (by decide +kernel) fun t _ y => ?_
  idx_vars y
  have he : ((cfg0.win 4).blk t).view.emb (ix2 y0 y1) = ix2 (row t y0) y1 := by blk_ext [idx t, row]
  rw [he]
  blk_simp
  rw [after0_4]
  frame_out
  exact point4 m c t y0 y1

theorem final5 (c : Dev nD) : (dats m 0 c).arrAt 5 cfg0.N
    = fun i => mom1 (rows (m ((c : Thread nD τ).loc main_arg1)) (ix2 (i 0) (i 1))) (rows (m ((c : Thread nD τ).loc main_arg2)) (ix2 (i 0) (i 1))) := by
  refine (dats m 0 c).arrAt_eq_of_covers 5 _ (by decide +kernel) fun t _ y => ?_
  idx_vars y
  have he : ((cfg0.win 5).blk t).view.emb (ix2 y0 y1) = ix2 (row t y0) y1 := by blk_ext [idx t, row]
  rw [he]
  blk_simp
  rw [after0_5]
  frame_out
  exact point5 m c t y0 y1

theorem final6 (c : Dev nD) : (dats m 0 c).arrAt 6 cfg0.N
    = fun i => mom2 (rows (m ((c : Thread nD τ).loc main_arg1)) (ix2 (i 0) (i 1))) (rows (m ((c : Thread nD τ).loc main_arg3)) (ix2 (i 0) (i 1))) := by
  refine (dats m 0 c).arrAt_eq_of_covers 6 _ (by decide +kernel) fun t _ y => ?_
  idx_vars y
  have he : ((cfg0.win 6).blk t).view.emb (ix2 y0 y1) = ix2 (row t y0) y1 := by blk_ext [idx t, row]
  rw [he]
  blk_simp
  rw [after0_6]
  frame_out
  exact point6 m c t y0 y1

theorem final7 (c : Dev nD) : (dats m 0 c).arrAt 7 cfg0.N
    = fun i => rows (m ((c : Thread nD τ).loc main_arg1)) (ix2 (i 0) (i 1)) := by
  refine (dats m 0 c).arrAt_eq_of_covers 7 _ (by decide +kernel) fun t _ y => ?_
  idx_vars y
  have he : ((cfg0.win 7).blk t).view.emb (ix2 y0 y1) = ix2 (row t y0) y1 := by blk_ext [idx t, row]
  rw [he]
  blk_simp
  rw [after0_7]
  frame_out
  pointwise [k0_pay1]
  exact (blk m c t y0 y1).2.1

end kernel

section reference

open Cert.Reference19Ideal Cert.Reference19Ideal.Read

variable (a0 a1 a2 a3 : (⟨S2x1024x896, .f32⟩ : BufTy).Contents (Elt Ideal))

/-- The plain program's moments and the weights' change. -/
theorem v8_eq (i : Fin 2048) (j : Fin 896) : val_main_v8 (F := Ideal) a1 a2 (ix2 i j) = mom1 (rows a1 (ix2 i j)) (rows a2 (ix2 i j)) := by
  show _ = mom1 (val_main_v1 (F := Ideal) a1 (ix2 i j)) (val_main_v2 (F := Ideal) a2 (ix2 i j))
  unfold mom1
  generalize hp : val_main_v1 (F := Ideal) a1 = p
  generalize hq : val_main_v2 (F := Ideal) a2 = q
  pointwise [val_main_v8, val_main_v7, val_main_v6, val_main_v5, val_main_v4, val_main_cst, val_main_cst_0, hp, hq]

theorem v14_eq (i : Fin 2048) (j : Fin 896) : val_main_v14 (F := Ideal) a1 a3 (ix2 i j) = mom2 (rows a1 (ix2 i j)) (rows a3 (ix2 i j)) := by
  show _ = mom2 (val_main_v1 (F := Ideal) a1 (ix2 i j)) (val_main_v3 (F := Ideal) a3 (ix2 i j))
  unfold mom2
  generalize hp : val_main_v1 (F := Ideal) a1 = p
  generalize hq : val_main_v3 (F := Ideal) a3 = q
  pointwise [val_main_v14, val_main_v13, val_main_v12, val_main_v11, val_main_v10, val_main_v9, val_main_cst_1, val_main_cst_2, hp, hq]

theorem v27_eq (i : Fin 2048) (j : Fin 896) : val_main_v27 (F := Ideal) a0 a1 a2 a3 (ix2 i j)
    = step (rows a0 (ix2 i j)) (rows a1 (ix2 i j)) (rows a2 (ix2 i j)) (rows a3 (ix2 i j)) := by
  unfold step
  rw [← v8_eq, ← v14_eq]
  show _ = _ * (_ + _ * val_main_v0 (F := Ideal) a0 (ix2 i j))
  generalize hp : val_main_v0 (F := Ideal) a0 = p
  generalize hq : val_main_v8 (F := Ideal) a1 a2 = q
  generalize hr : val_main_v14 (F := Ideal) a1 a3 = r
  pointwise [val_main_v27, val_main_v26, val_main_v25, val_main_v24, val_main_v23, val_main_v22, val_main_v21, val_main_v20,
    val_main_v19, val_main_v18, val_main_v17, val_main_v16, val_main_v15, val_main_cst_3, val_main_cst_4, val_main_cst_5,
    val_main_cst_6, val_main_cst_7, hp, hq, hr]

end reference

/-- The kernel's two folded reciprocals are named as those of the plain program's bias corrections. -/
theorem preserves : Cert.preserves_Kernel19_Kernel19Ideal :=
  ⟨IdealRules.named_const.statement _ _ _ _ _ rfl, IdealRules.named_const.statement _ _ _ _ _ rfl⟩

/-- The plain program's run keeps its arguments and ends with every counter at zero. -/
theorem frame_ref : Cert.quiescent_Reference19Ideal := fun m ρ _ =>
  (θ_run Cert.Reference19Ideal.defs _ _).mono (fun r h => ⟨fun c => (h c).2.2.2.2,
      Idealize.ShloMosaic.sem_eq_zero_of_no_sems (by decide) r.2⟩) (Cert.Reference19Ideal.Value.run (F := Ideal) m ρ)

/-- The kernel leaves the plain program's change of the weights, its two moments and the gradient. -/
theorem algebraic : Cert.algebraic_Kernel19Ideal_Reference19Ideal := fun m ρ m' ρ' _ hm => by
  refine ⟨_, _, _, _, Cert.Kernel19Ideal.Value.run_blocks m ρ, (θ_run _ _ _).mono (fun r h c => ?_) (Cert.Reference19Ideal.Value.run m' ρ')⟩
  obtain ⟨h0, h1, h2, h3, hargs⟩ := h c
  obtain ⟨e0, e1, e2, e3⟩ := hm c
  refine ⟨h0.trans ?_, h1.trans ?_, h2.trans ?_, h3.trans ?_, hargs⟩
  · rw [Cert.Reference19Ideal.Read.val_main_v27_eq, e0, e1, e2, e3, final4 m c]
    funext i
    idx_vars i
    exact v27_eq _ _ _ _ i0 i1
  · rw [Cert.Reference19Ideal.Read.val_main_v8_eq, e1, e2, final5 m c]
    funext i
    idx_vars i
    exact v8_eq _ _ i0 i1
  · rw [Cert.Reference19Ideal.Read.val_main_v14_eq, e1, e3, final6 m c]
    funext i
    idx_vars i
    exact v14_eq _ _ i0 i1
  · rw [Cert.Reference19Ideal.Read.val_main_v28_eq, e1, final7 m c]
    funext i
    idx_vars i
    rfl

end Cert.Proof.AdamInCall

end
-- ==== Proof.AdamRepCall.lean ====
/-
  AdamW of the replicated weights, packed in rows: what the kernel leaves, what the plain program computes, and the claims.
-/
module

public import proofs.«01_k».proof.Defs
public import proofs.«01_k».proof.Proof.AdamMath
public import proofs.«01_k».proof.Proof.Gen.Kernel20
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pipeline.ReadBack

@[expose] public section

set_option maxRecDepth 16384

noncomputable section

namespace Cert.Proof.AdamRepCall

open Idealize.ShloMosaic Idealize.ShloMosaic.TcCoe Idealize.SL.Sem
open Idealize.ShloMosaic.Pipeline (Dat)
open Cert.Proof.AdamMath

section kernel

open Cert.Kernel20Ideal Cert.Kernel20Ideal.Gen Cert.Kernel20Ideal.Value

/-- The kernel's two named constants are the reciprocals of the bias corrections. -/
theorem c1_eq : (Named.named κ "adam_c1" 0x3FC48605#32 : Ideal .f32) = ((8388608 / 5463681 : ℝ) : EReal) :=
  IdealRules.named_const.ideal_named_scalar _ _ _ _ rfl

theorem c2_eq : (Named.named κ "adam_c2" 0x42C8E6D3#32 : Ideal .f32) = ((268435456 / 2672307 : ℝ) : EReal) :=
  IdealRules.named_const.ideal_named_scalar _ _ _ _ rfl

variable (m : (ℓ : Loc nD τ sig) → Buf (Elt Ideal) ℓ)

/-- The windows' block indices at a point: the tile of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `q` of tile `t`. -/
def row (t : Fin cfg0.N) (q : Fin 2152) : Fin 2152 := ⟨t.val * 2152 + q.val, by
  have : t.val < 1 := lt_of_lt_of_eq t.isLt (show cfg0.N = 1 from N_0)
  omega⟩

/-- The four blocks of a point. -/
theorem blk (c : Dev nD) (t : Fin cfg0.N) (q : Fin 2152) (j : Fin 128) :
    iblk m c 0 t (ix2 q j) = (m ((c : Thread nD τ).loc main_arg0)) (ix2 (row t q) j)
    ∧ iblk m c 1 t (ix2 q j) = (m ((c : Thread nD τ).loc main_arg1)) (ix2 (row t q) j)
    ∧ iblk m c 2 t (ix2 q j) = (m ((c : Thread nD τ).loc main_arg2)) (ix2 (row t q) j)
    ∧ iblk m c 3 t (ix2 q j) = (m ((c : Thread nD τ).loc main_arg3)) (ix2 (row t q) j) := by
  refine ⟨?_, ?_, ?_, ?_⟩ <;> blk_ext [iblk, V, idx t, row]

/-- What a point stores of the first moment, of the second, and of the weights' change. -/
theorem point5 (c : Dev nD) (t : Fin cfg0.N) (q : Fin 2152) (j : Fin 128) :
    k0_pay1 (F := Ideal) (iblk m c 1 t) (iblk m c 2 t) (ix2 q j)
      = mom1 ((m ((c : Thread nD τ).loc main_arg1)) (ix2 (row t q) j)) ((m ((c : Thread nD τ).loc main_arg2)) (ix2 (row t q) j)) := by
  unfold mom1
  pointwise [k0_pay1]
  rw [(blk m c t q j).2.1, (blk m c t q j).2.2.1]

theorem point6 (c : Dev nD) (t : Fin cfg0.N) (q : Fin 2152) (j : Fin 128) :
    k0_pay2 (F := Ideal) (iblk m c 1 t) (iblk m c 3 t) (ix2 q j)
      = mom2 ((m ((c : Thread nD τ).loc main_arg1)) (ix2 (row t q) j)) ((m ((c : Thread nD τ).loc main_arg3)) (ix2 (row t q) j)) := by
  unfold mom2
  pointwise [k0_pay2]
  rw [(blk m c t q j).2.1, (blk m c t q j).2.2.2]

theorem point4 (c : Dev nD) (t : Fin cfg0.N) (q : Fin 2152) (j : Fin 128) :
    k0_pay3 (F := Ideal) (iblk m c 1 t) (iblk m c 2 t) (iblk m c 3 t) (iblk m c 0 t) (ix2 q j)
      = step ((m ((c : Thread nD τ).loc main_arg0)) (ix2 (row t q) j)) ((m ((c : Thread nD τ).loc main_arg1)) (ix2 (row t q) j))
          ((m ((c : Thread nD τ).loc main_arg2)) (ix2 (row t q) j)) ((m ((c : Thread nD τ).loc main_arg3)) (ix2 (row t q) j)) := by
  unfold step
  rw [div_w1, div_w2, ← point5 m c t q j, ← point6 m c t q j, ← (blk m c t q j).1, ← c1_eq, ← c2_eq]
  pointwise [k0_pay3]

/-- The weights' change and the two moments, element by element. -/
theorem final4 (c : Dev nD) : (dats m 0 c).arrAt 4 cfg0.N
    = fun i => step ((m ((c : Thread nD τ).loc main_arg0)) (ix2 (i 0) (i 1))) ((m ((c : Thread nD τ).loc main_arg1)) (ix2 (i 0) (i 1)))
        ((m ((c : Thread nD τ).loc main_arg2)) (ix2 (i 0) (i 1))) ((m ((c : Thread nD τ).loc main_arg3)) (ix2 (i 0) (i 1))) := by
  refine (dats m 0 c).arrAt_eq_of_covers 4 _ (by decide +kernel) fun t _ y => ?_
  idx_vars y
  have he : ((cfg0.win 4).blk t).view.emb (ix2 y0 y1) = ix2 (row t y0) y1 := by blk_ext [idx t, row]
  rw [he]
  blk_simp
  rw [after0_4]
  frame_out
  exact point4 m c t y0 y1

theorem final5 (c : Dev nD) : (dats m 0 c).arrAt 5 cfg0.N
    = fun i => mom1 ((m ((c : Thread nD τ).loc main_arg1)) (ix2 (i 0) (i 1))) ((m ((c : Thread nD τ).loc main_arg2)) (ix2 (i 0) (i 1))) := by
  refine (dats m 0 c).arrAt_eq_of_covers 5 _ (by decide +kernel) fun t _ y => ?_
  idx_vars y
  have he : ((cfg0.win 5).blk t).view.emb (ix2 y0 y1) = ix2 (row t y0) y1 := by blk_ext [idx t, row]
  rw [he]
  blk_simp
  rw [after0_5]
  frame_out
  exact point5 m c t y0 y1

theorem final6 (c : Dev nD) : (dats m 0 c).arrAt 6 cfg0.N
    = fun i => mom2 ((m ((c : Thread nD τ).loc main_arg1)) (ix2 (i 0) (i 1))) ((m ((c : Thread nD τ).loc main_arg3)) (ix2 (i 0) (i 1))) := by
  refine (dats m 0 c).arrAt_eq_of_covers 6 _ (by decide +kernel) fun t _ y => ?_
  idx_vars y
  have he : ((cfg0.win 6).blk t).view.emb (ix2 y0 y1) = ix2 (row t y0) y1 := by blk_ext [idx t, row]
  rw [he]
  blk_simp
  rw [after0_6]
  frame_out
  exact point6 m c t y0 y1

end kernel

section reference

open Cert.Reference20Ideal Cert.Reference20Ideal.Read

variable (a0 a1 a2 a3 : (⟨S2152x128, .f32⟩ : BufTy).Contents (Elt Ideal))

/-- The plain program's moments and the weights' change. -/
theorem v4_eq (i : Fin 2152) (j : Fin 128) : val_main_v4 (F := Ideal) a1 a2 (ix2 i j) = mom1 (a1 (ix2 i j)) (a2 (ix2 i j)) := by
  unfold mom1
  pointwise [val_main_v4, val_main_v3, val_main_v2, val_main_v1, val_main_v0, val_main_cst, val_main_cst_0]

theorem v10_eq (i : Fin 2152) (j : Fin 128) : val_main_v10 (F := Ideal) a1 a3 (ix2 i j) = mom2 (a1 (ix2 i j)) (a3 (ix2 i j)) := by
  unfold mom2
  pointwise [val_main_v10, val_main_v9, val_main_v8, val_main_v7, val_main_v6, val_main_v5, val_main_cst_1, val_main_cst_2]

theorem v23_eq (i : Fin 2152) (j : Fin 128) : val_main_v23 (F := Ideal) a0 a1 a2 a3 (ix2 i j)
    = step (a0 (ix2 i j)) (a1 (ix2 i j)) (a2 (ix2 i j)) (a3 (ix2 i j)) := by
  unfold step
  rw [← v4_eq, ← v10_eq]
  generalize hq : val_main_v4 (F := Ideal) a1 a2 = q
  generalize hr : val_main_v10 (F := Ideal) a1 a3 = r
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7, hq, hr]

end reference

/-- The kernel's two folded reciprocals are named as those of the plain program's bias corrections. -/
theorem preserves : Cert.preserves_Kernel20_Kernel20Ideal :=
  ⟨IdealRules.named_const.statement _ _ _ _ _ rfl, IdealRules.named_const.statement _ _ _ _ _ rfl⟩

/-- The plain program's run keeps its arguments and ends with every counter at zero. -/
theorem frame_ref : Cert.quiescent_Reference20Ideal := fun m ρ _ =>
  (θ_run Cert.Reference20Ideal.defs _ _).mono (fun r h => ⟨fun c => (h c).2.2.2,
      Idealize.ShloMosaic.sem_eq_zero_of_no_sems (by decide) r.2⟩) (Cert.Reference20Ideal.Value.run (F := Ideal) m ρ)

/-- The kernel leaves the plain program's change of the weights and its two moments. -/
theorem algebraic : Cert.algebraic_Kernel20Ideal_Reference20Ideal := fun m ρ m' ρ' _ hm => by
  refine ⟨_, _, _, Cert.Kernel20Ideal.Value.run_blocks m ρ, (θ_run _ _ _).mono (fun r h c => ?_) (Cert.Reference20Ideal.Value.run m' ρ')⟩
  obtain ⟨h0, h1, h2, hargs⟩ := h c
  obtain ⟨e0, e1, e2, e3⟩ := hm c
  refine ⟨h0.trans ?_, h1.trans ?_, h2.trans ?_, hargs⟩
  · rw [Cert.Reference20Ideal.Read.val_main_v23_eq, e0, e1, e2, e3, final4 m c]
    funext i
    idx_vars i
    exact v23_eq _ _ _ _ i0 i1
  · rw [Cert.Reference20Ideal.Read.val_main_v4_eq, e1, e2, final5 m c]
    funext i
    idx_vars i
    exact v4_eq _ _ i0 i1
  · rw [Cert.Reference20Ideal.Read.val_main_v10_eq, e1, e3, final6 m c]
    funext i
    idx_vars i
    exact v10_eq _ _ i0 i1

end Cert.Proof.AdamRepCall

end
-- ==== Proof.AdamConvCall.lean ====
/-
  AdamW of the convolutions' taps, packed in rows: what the kernel leaves, what the plain program computes, and the claims.
-/
module

public import proofs.«01_k».proof.Defs
public import proofs.«01_k».proof.Proof.AdamMath
public import proofs.«01_k».proof.Proof.Gen.Kernel21
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Pipeline.ReadBack

@[expose] public section

set_option maxRecDepth 16384

noncomputable section

namespace Cert.Proof.AdamConvCall

open Idealize.ShloMosaic Idealize.ShloMosaic.TcCoe Idealize.SL.Sem
open Idealize.ShloMosaic.Pipeline (Dat)
open Cert.Proof.AdamMath

section kernel

open Cert.Kernel21Ideal Cert.Kernel21Ideal.Gen Cert.Kernel21Ideal.Value

/-- The kernel's two named constants are the reciprocals of the bias corrections. -/
theorem c1_eq : (Named.named κ "adam_c1" 0x3FC48605#32 : Ideal .f32) = ((8388608 / 5463681 : ℝ) : EReal) :=
  IdealRules.named_const.ideal_named_scalar _ _ _ _ rfl

theorem c2_eq : (Named.named κ "adam_c2" 0x42C8E6D3#32 : Ideal .f32) = ((268435456 / 2672307 : ℝ) : EReal) :=
  IdealRules.named_const.ideal_named_scalar _ _ _ _ rfl

variable (m : (ℓ : Loc nD τ sig) → Buf (Elt Ideal) ℓ)

/-- The windows' block indices at a point: the tile of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `q` of tile `t`. -/
def row (t : Fin cfg0.N) (q : Fin 96) : Fin 96 := ⟨t.val * 96 + q.val, by
  have : t.val < 1 := lt_of_lt_of_eq t.isLt (show cfg0.N = 1 from N_0)
  omega⟩

/-- The four blocks of a point. -/
theorem blk (c : Dev nD) (t : Fin cfg0.N) (q : Fin 96) (j : Fin 128) :
    iblk m c 0 t (ix2 q j) = (m ((c : Thread nD τ).loc main_arg0)) (ix2 (row t q) j)
    ∧ iblk m c 1 t (ix2 q j) = (m ((c : Thread nD τ).loc main_arg1)) (ix2 (row t q) j)
    ∧ iblk m c 2 t (ix2 q j) = (m ((c : Thread nD τ).loc main_arg2)) (ix2 (row t q) j)
    ∧ iblk m c 3 t (ix2 q j) = (m ((c : Thread nD τ).loc main_arg3)) (ix2 (row t q) j) := by
  refine ⟨?_, ?_, ?_, ?_⟩ <;> blk_ext [iblk, V, idx t, row]

/-- What a point stores of the first moment, of the second, and of the weights' change. -/
theorem point5 (c : Dev nD) (t : Fin cfg0.N) (q : Fin 96) (j : Fin 128) :
    k0_pay1 (F := Ideal) (iblk m c 1 t) (iblk m c 2 t) (ix2 q j)
      = mom1 ((m ((c : Thread nD τ).loc main_arg1)) (ix2 (row t q) j)) ((m ((c : Thread nD τ).loc main_arg2)) (ix2 (row t q) j)) := by
  unfold mom1
  pointwise [k0_pay1]
  rw [(blk m c t q j).2.1, (blk m c t q j).2.2.1]

theorem point6 (c : Dev nD) (t : Fin cfg0.N) (q : Fin 96) (j : Fin 128) :
    k0_pay2 (F := Ideal) (iblk m c 1 t) (iblk m c 3 t) (ix2 q j)
      = mom2 ((m ((c : Thread nD τ).loc main_arg1)) (ix2 (row t q) j)) ((m ((c : Thread nD τ).loc main_arg3)) (ix2 (row t q) j)) := by
  unfold mom2
  pointwise [k0_pay2]
  rw [(blk m c t q j).2.1, (blk m c t q j).2.2.2]

theorem point4 (c : Dev nD) (t : Fin cfg0.N) (q : Fin 96) (j : Fin 128) :
    k0_pay3 (F := Ideal) (iblk m c 1 t) (iblk m c 2 t) (iblk m c 3 t) (iblk m c 0 t) (ix2 q j)
      = step ((m ((c : Thread nD τ).loc main_arg0)) (ix2 (row t q) j)) ((m ((c : Thread nD τ).loc main_arg1)) (ix2 (row t q) j))
          ((m ((c : Thread nD τ).loc main_arg2)) (ix2 (row t q) j)) ((m ((c : Thread nD τ).loc main_arg3)) (ix2 (row t q) j)) := by
  unfold step
  rw [div_w1, div_w2, ← point5 m c t q j, ← point6 m c t q j, ← (blk m c t q j).1, ← c1_eq, ← c2_eq]
  pointwise [k0_pay3]

/-- The weights' change and the two moments, element by element. -/
theorem final4 (c : Dev nD) : (dats m 0 c).arrAt 4 cfg0.N
    = fun i => step ((m ((c : Thread nD τ).loc main_arg0)) (ix2 (i 0) (i 1))) ((m ((c : Thread nD τ).loc main_arg1)) (ix2 (i 0) (i 1)))
        ((m ((c : Thread nD τ).loc main_arg2)) (ix2 (i 0) (i 1))) ((m ((c : Thread nD τ).loc main_arg3)) (ix2 (i 0) (i 1))) := by
  refine (dats m 0 c).arrAt_eq_of_covers 4 _ (by decide +kernel) fun t _ y => ?_
  idx_vars y
  have he : ((cfg0.win 4).blk t).view.emb (ix2 y0 y1) = ix2 (row t y0) y1 := by blk_ext [idx t, row]
  rw [he]
  blk_simp
  rw [after0_4]
  frame_out
  exact point4 m c t y0 y1

theorem final5 (c : Dev nD) : (dats m 0 c).arrAt 5 cfg0.N
    = fun i => mom1 ((m ((c : Thread nD τ).loc main_arg1)) (ix2 (i 0) (i 1))) ((m ((c : Thread nD τ).loc main_arg2)) (ix2 (i 0) (i 1))) := by
  refine (dats m 0 c).arrAt_eq_of_covers 5 _ (by decide +kernel) fun t _ y => ?_
  idx_vars y
  have he : ((cfg0.win 5).blk t).view.emb (ix2 y0 y1) = ix2 (row t y0) y1 := by blk_ext [idx t, row]
  rw [he]
  blk_simp
  rw [after0_5]
  frame_out
  exact point5 m c t y0 y1

theorem final6 (c : Dev nD) : (dats m 0 c).arrAt 6 cfg0.N
    = fun i => mom2 ((m ((c : Thread nD τ).loc main_arg1)) (ix2 (i 0) (i 1))) ((m ((c : Thread nD τ).loc main_arg3)) (ix2 (i 0) (i 1))) := by
  refine (dats m 0 c).arrAt_eq_of_covers 6 _ (by decide +kernel) fun t _ y => ?_
  idx_vars y
  have he : ((cfg0.win 6).blk t).view.emb (ix2 y0 y1) = ix2 (row t y0) y1 := by blk_ext [idx t, row]
  rw [he]
  blk_simp
  rw [after0_6]
  frame_out
  exact point6 m c t y0 y1

end kernel

section reference

open Cert.Reference21Ideal Cert.Reference21Ideal.Read

variable (a0 a1 a2 a3 : (⟨S96x128, .f32⟩ : BufTy).Contents (Elt Ideal))

/-- The plain program's moments and the weights' change. -/
theorem v4_eq (i : Fin 96) (j : Fin 128) : val_main_v4 (F := Ideal) a1 a2 (ix2 i j) = mom1 (a1 (ix2 i j)) (a2 (ix2 i j)) := by
  unfold mom1
  pointwise [val_main_v4, val_main_v3, val_main_v2, val_main_v1, val_main_v0, val_main_cst, val_main_cst_0]

theorem v10_eq (i : Fin 96) (j : Fin 128) : val_main_v10 (F := Ideal) a1 a3 (ix2 i j) = mom2 (a1 (ix2 i j)) (a3 (ix2 i j)) := by
  unfold mom2
  pointwise [val_main_v10, val_main_v9, val_main_v8, val_main_v7, val_main_v6, val_main_v5, val_main_cst_1, val_main_cst_2]

theorem v23_eq (i : Fin 96) (j : Fin 128) : val_main_v23 (F := Ideal) a0 a1 a2 a3 (ix2 i j)
    = step (a0 (ix2 i j)) (a1 (ix2 i j)) (a2 (ix2 i j)) (a3 (ix2 i j)) := by
  unfold step
  rw [← v4_eq, ← v10_eq]
  generalize hq : val_main_v4 (F := Ideal) a1 a2 = q
  generalize hr : val_main_v10 (F := Ideal) a1 a3 = r
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7, hq, hr]

end reference

/-- The kernel's two folded reciprocals are named as those of the plain program's bias corrections. -/
theorem preserves : Cert.preserves_Kernel21_Kernel21Ideal :=
  ⟨IdealRules.named_const.statement _ _ _ _ _ rfl, IdealRules.named_const.statement _ _ _ _ _ rfl⟩

/-- The plain program's run keeps its arguments and ends with every counter at zero. -/
theorem frame_ref : Cert.quiescent_Reference21Ideal := fun m ρ _ =>
  (θ_run Cert.Reference21Ideal.defs _ _).mono (fun r h => ⟨fun c => (h c).2.2.2,
      Idealize.ShloMosaic.sem_eq_zero_of_no_sems (by decide) r.2⟩) (Cert.Reference21Ideal.Value.run (F := Ideal) m ρ)

/-- The kernel leaves the plain program's change of the weights and its two moments. -/
theorem algebraic : Cert.algebraic_Kernel21Ideal_Reference21Ideal := fun m ρ m' ρ' _ hm => by
  refine ⟨_, _, _, Cert.Kernel21Ideal.Value.run_blocks m ρ, (θ_run _ _ _).mono (fun r h c => ?_) (Cert.Reference21Ideal.Value.run m' ρ')⟩
  obtain ⟨h0, h1, h2, hargs⟩ := h c
  obtain ⟨e0, e1, e2, e3⟩ := hm c
  refine ⟨h0.trans ?_, h1.trans ?_, h2.trans ?_, hargs⟩
  · rw [Cert.Reference21Ideal.Read.val_main_v23_eq, e0, e1, e2, e3, final4 m c]
    funext i
    idx_vars i
    exact v23_eq _ _ _ _ i0 i1
  · rw [Cert.Reference21Ideal.Read.val_main_v4_eq, e1, e2, final5 m c]
    funext i
    idx_vars i
    exact v4_eq _ _ i0 i1
  · rw [Cert.Reference21Ideal.Read.val_main_v10_eq, e1, e3, final6 m c]
    funext i
    idx_vars i
    exact v10_eq _ _ i0 i1

end Cert.Proof.AdamConvCall

end
-- ==== Proof.ActBlock.lean ====
/-
  The convolutional gate of the feed-forward, one block: what a trip of a row loop stores, and that every piece the
  twelve loops store is the gate's value at its own index, at the extended reals.
-/
module

public import proofs.«01_k».proof.Proof.Gen.Kernel22Ideal.Frame
public import proofs.«01_k».proof.Proof.Gen.Kernel22Ideal.Loops
public import proofs.«01_k».proof.Proof.MixGate
public import Idealize.ShloMosaic.Lib.Pipeline.FrameBody
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof.Act

open Cert.Kernel22Ideal Cert.Kernel22Ideal.Gen Idealize.ShloMosaic Idealize.ShloMosaic.TcCoe Idealize.SL.Sem
open Cert.Proof.MixGate (th dgelu c0 c01 c301 cHalf cOne)

/-- The three-tap causal convolution: the newest row, the row two before, the row one before. -/
def conv (w0 w1 w2 a0 a1 a2 : EReal) : EReal := w2 * a2 + w0 * a0 + w1 * a1

/-- gelu at `z`, the product with `u`, and its slope times `u`. -/
def gel (z : EReal) : EReal := z * (cHalf + cHalf * th z)

/-- Plane `q`'s pre-activation at row `r`, column `j`: from the taps and the rows with eight rows in front. -/
def zE (T : S2x8x1536.Idx → EReal) (A : S2x520x1536.Idx → EReal) (q : Fin 2) (r : Fin 512) (j : Fin 1536) : EReal :=
  conv (T (ix3 q 0 j)) (T (ix3 q 1 j)) (T (ix3 q 2 j)) (A (ix3 q ⟨r.val + 6, by omega⟩ j))
    (A (ix3 q ⟨r.val + 7, by omega⟩ j)) (A (ix3 q ⟨r.val + 8, by omega⟩ j))

/-- The three results of a block. -/
def gAct (T : S2x8x1536.Idx → EReal) (A : S2x520x1536.Idx → EReal) (y : S512x1536.Idx) : EReal :=
  gel (zE T A 0 (y 0) (y 1)) * zE T A 1 (y 0) (y 1)
def gFg (T : S2x8x1536.Idx → EReal) (A : S2x520x1536.Idx → EReal) (y : S512x1536.Idx) : EReal :=
  zE T A 1 (y 0) (y 1) * dgelu (zE T A 0 (y 0) (y 1))
def gFu (T : S2x8x1536.Idx → EReal) (A : S2x520x1536.Idx → EReal) (y : S512x1536.Idx) : EReal :=
  gel (zE T A 0 (y 0) (y 1))

theorem tap_slices (q : Fin 2) (k : Fin 3) (l : Fin 12) :
    S2x8x1536.Slices ![q.val, k.val, 128 * l.val] S1x1x128 := by
  revert q k l; decide +kernel

/-- Tap `k` of plane `q` in lane block `l`. -/
def tap (T : FVec Ideal S2x8x1536 .f32) (q : Fin 2) (k : Fin 3) (l : Fin 12) : FVec Ideal S1x128 .f32 :=
  shapeCast S1x128 (extractStridedSlice S1x1x128 ![q.val, k.val, 128 * l.val] T (tap_slices q k l))
    shapeCasts_S1x1x128_S1x128

theorem tap_point (T : FVec Ideal S2x8x1536 .f32) (q : Fin 2) (k : Fin 3) (l : Fin 12) (j : Fin 128) :
    tap T q k l (ix2 0 j) = T (ix3 q ⟨k.val, by omega⟩ ⟨128 * l.val + j.val, by omega⟩) := by
  unfold tap
  refine (shapeCast_apply _ _ (ix2 0 j) (ix3 0 0 j) ?_).trans ?_
  · rw [Shape.rowMajor_val_three, Shape.rowMajor_val_two]
    show (0 * 1 + 0) * 128 + j.val = 0 * 128 + j.val
    omega
  · refine extractStridedSlice_apply _ _ _ _ _ fun a => ?_
    match a with
    | ⟨0, _⟩ => show q.val = q.val + 0; omega
    | ⟨1, _⟩ => show k.val = k.val + 0; omega
    | ⟨2, _⟩ => rfl

/-- The pre-activations of a trip and its three stores, from the taps and the two loads. -/
def zg (T : FVec Ideal S2x8x1536 .f32) (l : Fin 12) (a : Vec Ideal S1x136x128 .f32) : FVec Ideal S128x128 .f32 :=
  k0_pay9 (tap T 0 0 l) (tap T 0 1 l) (tap T 0 2 l) a
def zu (T : FVec Ideal S2x8x1536 .f32) (l : Fin 12) (b : Vec Ideal S1x136x128 .f32) : FVec Ideal S128x128 .f32 :=
  k0_pay10 (tap T 1 0 l) (tap T 1 1 l) (tap T 1 2 l) b
def payAct (T : FVec Ideal S2x8x1536 .f32) (l : Fin 12) (a b : Vec Ideal S1x136x128 .f32) : FVec Ideal S128x128 .bf16 :=
  k0_pay90 (zu T l b) (k0_pay14 (tap T 0 0 l) (tap T 0 1 l) (tap T 0 2 l) a)
def payFg (T : FVec Ideal S2x8x1536 .f32) (l : Fin 12) (a b : Vec Ideal S1x136x128 .f32) : FVec Ideal S128x128 .bf16 :=
  k0_pay91 (zg T l a) (zu T l b) (k0_pay11 (tap T 0 0 l) (tap T 0 1 l) (tap T 0 2 l) a)
    (k0_pay12 (tap T 0 0 l) (tap T 0 1 l) (tap T 0 2 l) a) (k0_pay13 (tap T 0 0 l) (tap T 0 1 l) (tap T 0 2 l) a)
def payFu (T : FVec Ideal S2x8x1536 .f32) (l : Fin 12) (a : Vec Ideal S1x136x128 .f32) : FVec Ideal S128x128 .bf16 :=
  k0_pay92 (k0_pay14 (tap T 0 0 l) (tap T 0 1 l) (tap T 0 2 l) a)

theorem zg_point (w0 w1 w2 : FVec Ideal S1x128 .f32) (a : Vec Ideal S1x136x128 .f32) (p j : Fin 128) :
    k0_pay9 w0 w1 w2 a (ix2 p j)
      = conv (w0 (ix2 0 j)) (w1 (ix2 0 j)) (w2 (ix2 0 j)) (a (ix3 0 ⟨6 + p.val, by omega⟩ j))
          (a (ix3 0 ⟨7 + p.val, by omega⟩ j)) (a (ix3 0 ⟨8 + p.val, by omega⟩ j)) := by
  pointwise [k0_pay9, conv]
  have e6 : (8 + p.val + 136 - 2) % 136 = 6 + p.val := by omega
  have e7 : (8 + p.val + 136 - 1) % 136 = 7 + p.val := by omega
  simp only [e6, e7]

/-- The named constants are the mixer's. -/
theorem n0 : (Named.named Cert.KernelIdeal.κ "gelu_c0" 0x3F4C422A#32 : Ideal .f32) = Named.named κ "gelu_c0" 0x3F4C422A#32 :=
  (IdealRules.named_const.ideal_named_scalar _ _ _ _ rfl).trans (IdealRules.named_const.ideal_named_scalar _ _ _ _ rfl).symm
theorem n01 : (Named.named Cert.KernelIdeal.κ "gelu_c0c1" 0x3D122279#32 : Ideal .f32)
    = Named.named κ "gelu_c0c1" 0x3D122279#32 :=
  (IdealRules.named_const.ideal_named_scalar _ _ _ _ rfl).trans (IdealRules.named_const.ideal_named_scalar _ _ _ _ rfl).symm
theorem n301 : (Named.named Cert.KernelIdeal.κ "gelu_3c0c1" 0x3DDB33B6#32 : Ideal .f32)
    = Named.named κ "gelu_3c0c1" 0x3DDB33B6#32 :=
  (IdealRules.named_const.ideal_named_scalar _ _ _ _ rfl).trans (IdealRules.named_const.ideal_named_scalar _ _ _ _ rfl).symm

theorem payAct_point (w0 w1 w2 u0 u1 u2 : FVec Ideal S1x128 .f32) (a b : Vec Ideal S1x136x128 .f32) (p j : Fin 128) :
    k0_pay90 (k0_pay9 u0 u1 u2 b) (k0_pay14 w0 w1 w2 a) (ix2 p j)
      = gel (k0_pay9 w0 w1 w2 a (ix2 p j)) * k0_pay9 u0 u1 u2 b (ix2 p j) := by
  pointwise [k0_pay90, k0_pay14, k0_pay13, k0_pay12, k0_pay11, gel, th, c0, c01, cHalf, n0, n01]

theorem payFu_point (w0 w1 w2 : FVec Ideal S1x128 .f32) (a : Vec Ideal S1x136x128 .f32) (p j : Fin 128) :
    k0_pay92 (k0_pay14 w0 w1 w2 a) (ix2 p j) = gel (k0_pay9 w0 w1 w2 a (ix2 p j)) := by
  pointwise [k0_pay92, k0_pay14, k0_pay13, k0_pay12, k0_pay11, gel, th, c0, c01, cHalf, n0, n01]

theorem payFg_point (w0 w1 w2 u0 u1 u2 : FVec Ideal S1x128 .f32) (a b : Vec Ideal S1x136x128 .f32) (p j : Fin 128) :
    k0_pay91 (k0_pay9 w0 w1 w2 a) (k0_pay9 u0 u1 u2 b) (k0_pay11 w0 w1 w2 a) (k0_pay12 w0 w1 w2 a)
        (k0_pay13 w0 w1 w2 a) (ix2 p j)
      = k0_pay9 u0 u1 u2 b (ix2 p j) * dgelu (k0_pay9 w0 w1 w2 a (ix2 p j)) := by
  pointwise [k0_pay91, k0_pay13, k0_pay12, k0_pay11, dgelu, th, c0, c01, c301, cHalf, cOne, n0, n01, n301]

/-- A load through a rectangle of unit strides reads the contents at the shifted index. -/
theorem load3_at (v : View sig .tc .vmem S2x520x1536 .f32) (f : v.ty.Contents (Elt Ideal)) {off : Fin 3 → ℕ}
    (inb : ∀ a, off a + S1x136x128.size a ≤ S2x520x1536.size a) (p : Fin 136) (j : Fin 128) (q : Fin 2) (P : Fin 520)
    (J : Fin 1536) (h : off = ![q.val, P.val - p.val, J.val - j.val]) (hP : p.val ≤ P.val) (hJ : j.val ≤ J.val) :
    v.readAt (Elt Ideal) (Rect.unit (s := S2x520x1536) off S1x136x128.size inb).toLoadRect f (ix3 0 p j)
      = v.read (Elt Ideal) f (ix3 q P J) := by
  subst h
  show v.read (Elt Ideal) f ((Rect.unit (s := S2x520x1536) _ S1x136x128.size inb).emb (ix3 0 p j)) = _
  congr 1
  funext a
  apply Fin.ext
  match a with
  | ⟨0, _⟩ => show q.val + 1 * 0 = q.val; omega
  | ⟨1, _⟩ => show P.val - p.val + 1 * p.val = P.val; omega
  | ⟨2, _⟩ => show J.val - j.val + 1 * j.val = J.val; omega

theorem zu_point (w0 w1 w2 : FVec Ideal S1x128 .f32) (a : Vec Ideal S1x136x128 .f32) :
    k0_pay10 w0 w1 w2 a = k0_pay9 w0 w1 w2 a := rfl

/-- A list of pieces that all agree with one function. -/
def Fits (G : S512x1536.Idx → EReal) (L : List (View.Piece (Elt Ideal) S512x1536 .bf16)) : Prop :=
  ∀ p ∈ L, ∀ x : p.1.shape.Idx, p.2 x = G (p.1.emb x)

/-- The three lists of a loop agree with the block's three results. -/
def Good (T : S2x8x1536.Idx → EReal) (A : S2x520x1536.Idx → EReal)
    (L : List (View.Piece (Elt Ideal) S512x1536 .bf16) × List (View.Piece (Elt Ideal) S512x1536 .bf16)
      × List (View.Piece (Elt Ideal) S512x1536 .bf16)) : Prop :=
  Fits (gAct T A) L.1 ∧ Fits (gFg T A) L.2.1 ∧ Fits (gFu T A) L.2.2

theorem Fits.append {G : S512x1536.Idx → EReal} {L M : List (View.Piece (Elt Ideal) S512x1536 .bf16)} (h : Fits G L)
    (h' : Fits G M) : Fits G (L ++ M) :=
  fun p hp => (List.mem_append.mp hp).elim (h p) (h' p)

theorem Good.append {T : S2x8x1536.Idx → EReal} {A : S2x520x1536.Idx → EReal}
    {L : List (View.Piece (Elt Ideal) S512x1536 .bf16) × List (View.Piece (Elt Ideal) S512x1536 .bf16)
      × List (View.Piece (Elt Ideal) S512x1536 .bf16)} {M1 M2 M3 : List (View.Piece (Elt Ideal) S512x1536 .bf16)}
    (h : Good T A L) (h' : Good T A (M1, M2, M3)) : Good T A (L.1 ++ M1, L.2.1 ++ M2, L.2.2 ++ M3) :=
  ⟨h.1.append h'.1, h.2.1.append h'.2.1, h.2.2.append h'.2.2⟩

/-- A loop's pieces agree if every trip's do. -/
theorem good_loop {T : S2x8x1536.Idx → EReal} {A : S2x520x1536.Idx → EReal} {n : ℕ} (pb : ℕ → _) (tr : Fin n → _)
    (h0 : pb 0 = ([], [], []))
    (hs : ∀ k : Fin n, pb (k.val + 1) = ((tr k).1 ++ (pb k.val).1, (tr k).2.1 ++ (pb k.val).2.1, (tr k).2.2 ++ (pb k.val).2.2))
    (ht : ∀ k, Good T A (tr k)) : ∀ k, k ≤ n → Good T A (pb k)
  | 0, _ => by
      rw [h0]
      exact ⟨fun p hp => absurd hp List.not_mem_nil, fun p hp => absurd hp List.not_mem_nil,
        fun p hp => absurd hp List.not_mem_nil⟩
  | k + 1, hk => by
      have ih := good_loop pb tr h0 hs ht k (by omega)
      have := ht ⟨k, hk⟩
      rw [hs ⟨k, hk⟩]
      exact ⟨this.1.append ih.1, this.2.1.append ih.2.1, this.2.2.append ih.2.2⟩

/-- One trip: three stores of the same 128 x 128 rectangle agree with the block's results. -/
theorem good_trip (v : View sig .tc .vmem S2x520x1536 .f32) (X : v.ty.Contents (Elt Ideal)) (T : FVec Ideal S2x8x1536 .f32)
    (l : Fin 12) (n : ℕ) {o1 o2 : Fin 3 → ℕ} {o3 : Fin 2 → ℕ} (h1 : o1 = ![0, 128 * n, 128 * l.val])
    (h2 : o2 = ![1, 128 * n, 128 * l.val]) (h3 : o3 = ![128 * n, 128 * l.val])
    (b1 : ∀ a, o1 a + S1x136x128.size a ≤ S2x520x1536.size a) (b2 : ∀ a, o2 a + S1x136x128.size a ≤ S2x520x1536.size a)
    (b3 : ∀ a, o3 a + S128x128.size a ≤ S512x1536.size a) :
    Good T (v.read (Elt Ideal) X)
      ([⟨Rect.unit o3 S128x128.size b3,
          payAct T l (v.readAt (Elt Ideal) (Rect.unit (s := S2x520x1536) o1 S1x136x128.size b1).toLoadRect X)
            (v.readAt (Elt Ideal) (Rect.unit (s := S2x520x1536) o2 S1x136x128.size b2).toLoadRect X)⟩],
       [⟨Rect.unit o3 S128x128.size b3,
          payFg T l (v.readAt (Elt Ideal) (Rect.unit (s := S2x520x1536) o1 S1x136x128.size b1).toLoadRect X)
            (v.readAt (Elt Ideal) (Rect.unit (s := S2x520x1536) o2 S1x136x128.size b2).toLoadRect X)⟩],
       [⟨Rect.unit o3 S128x128.size b3,
          payFu T l (v.readAt (Elt Ideal) (Rect.unit (s := S2x520x1536) o1 S1x136x128.size b1).toLoadRect X)⟩]) := by
  have hn : n < 4 := by
    have := b3 0; rw [h3] at this
    have : 128 * n + 128 ≤ 512 := this
    omega
  have hemb : ∀ p j : Fin 128, (Rect.unit (s := S512x1536) o3 S128x128.size b3).emb (ix2 p j)
      = ix2 ⟨128 * n + p.val, by omega⟩ ⟨128 * l.val + j.val, by omega⟩ := by
    subst h3
    intro p j
    funext a
    apply Fin.ext
    match a with
    | ⟨0, _⟩ => show 128 * n + 1 * p.val = 128 * n + p.val; omega
    | ⟨1, _⟩ => show 128 * l.val + 1 * j.val = 128 * l.val + j.val; omega
  have hz : ∀ (q : Fin 2) (o : Fin 3 → ℕ) (b : ∀ a, o a + S1x136x128.size a ≤ S2x520x1536.size a)
      (h : o = ![q.val, 128 * n, 128 * l.val]) (p j : Fin 128),
      k0_pay9 (tap T q 0 l) (tap T q 1 l) (tap T q 2 l)
          (v.readAt (Elt Ideal) (Rect.unit (s := S2x520x1536) o S1x136x128.size b).toLoadRect X) (ix2 p j)
        = zE T (v.read (Elt Ideal) X) q ⟨128 * n + p.val, by omega⟩ ⟨128 * l.val + j.val, by omega⟩ := by
    intro q o b h p j
    have hl : ∀ (d : ℕ) (hd : d + p.val < 136) (hd' : d ≤ 8), v.readAt (Elt Ideal)
        (Rect.unit (s := S2x520x1536) o S1x136x128.size b).toLoadRect X (ix3 0 ⟨d + p.val, hd⟩ j)
        = v.read (Elt Ideal) X (ix3 q ⟨128 * n + p.val + d, by omega⟩ ⟨128 * l.val + j.val, by omega⟩) := by
      intro d hd hd'
      refine load3_at v X b _ j q _ _ (h.trans ?_) ?_ ?_
      · funext a
        match a with
        | ⟨0, _⟩ => rfl
        | ⟨1, _⟩ => show 128 * n = 128 * n + p.val + d - (d + p.val); omega
        | ⟨2, _⟩ => show 128 * l.val = 128 * l.val + j.val - j.val; omega
      · simp only []; omega
      · simp only []; omega
    rw [zg_point, tap_point, tap_point, tap_point, hl 6 _ (by decide), hl 7 _ (by decide), hl 8 _ (by decide)]
    rfl
  have h2i : ∀ x : S128x128.Idx, ∃ p j : Fin 128, x = ix2 p j := fun x =>
    ⟨x 0, x 1, funext fun a => match a with | ⟨0, _⟩ => rfl | ⟨1, _⟩ => rfl⟩
  have hA : ∀ p j : Fin 128, payAct T l (v.readAt (Elt Ideal) (Rect.unit (s := S2x520x1536) o1 S1x136x128.size b1).toLoadRect X)
      (v.readAt (Elt Ideal) (Rect.unit (s := S2x520x1536) o2 S1x136x128.size b2).toLoadRect X) (ix2 p j)
      = gAct T (v.read (Elt Ideal) X) ((Rect.unit (s := S512x1536) o3 S128x128.size b3).emb (ix2 p j)) := by
    intro p j
    rw [hemb]
    unfold payAct zu
    rw [zu_point, payAct_point, hz 0 _ _ h1, hz 1 _ _ h2]
    rfl
  have hF : ∀ p j : Fin 128, payFg T l (v.readAt (Elt Ideal) (Rect.unit (s := S2x520x1536) o1 S1x136x128.size b1).toLoadRect X)
      (v.readAt (Elt Ideal) (Rect.unit (s := S2x520x1536) o2 S1x136x128.size b2).toLoadRect X) (ix2 p j)
      = gFg T (v.read (Elt Ideal) X) ((Rect.unit (s := S512x1536) o3 S128x128.size b3).emb (ix2 p j)) := by
    intro p j
    rw [hemb]
    unfold payFg zu zg
    rw [zu_point, payFg_point, hz 0 _ _ h1, hz 1 _ _ h2]
    rfl
  have hU : ∀ p j : Fin 128, payFu T l (v.readAt (Elt Ideal) (Rect.unit (s := S2x520x1536) o1 S1x136x128.size b1).toLoadRect X)
      (ix2 p j)
      = gFu T (v.read (Elt Ideal) X) ((Rect.unit (s := S512x1536) o3 S128x128.size b3).emb (ix2 p j)) := by
    intro p j
    rw [hemb]
    unfold payFu
    rw [payFu_point, hz 0 _ _ h1]
    rfl
  refine ⟨?_, ?_, ?_⟩ <;> intro p hp <;> obtain rfl := List.mem_singleton.mp hp <;> intro x <;>
    obtain ⟨p, j, e⟩ := h2i x <;> subst e
  · exact hA p j
  · exact hF p j
  · exact hU p j

end Cert.Proof.Act

end
-- ==== Proof.ActRun.lean ====
/-
  The convolutional gate of the feed-forward, one block: the block's three outputs, element by element, from its blocks of
  the up-projection, of the rows in front and of the taps.
-/
module

public import proofs.«01_k».proof.Proof.Gen.Kernel22Ideal.Frame
public import proofs.«01_k».proof.Proof.Gen.Kernel22Ideal.Loops
public import proofs.«01_k».proof.Proof.ActBlock
public import Idealize.ShloMosaic.Lib.Pipeline.FrameBody
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof.Act

open Cert.Kernel22Ideal Cert.Kernel22Ideal.Gen Idealize.ShloMosaic Idealize.ShloMosaic.TcCoe Idealize.SL.Sem

/-- The rows the loops read: eight rows in front, then the block's own. -/
def rowsOf (c : Dev nD) (i : grid0.Coords) (arg2 : Memref sig .tc .vmem S2x512x1536 .bf16) (harg2 : arg2.IsWhole)
    (arg3 : Memref sig .tc .vmem S2x16x1536 .bf16) (harg3 : arg3.IsWhole) (arg4 : Memref sig .tc .vmem S1x2x8x1536 .f32)
    (harg4 : arg4.IsWhole) (arg5 : Memref sig .tc .vmem S512x1536 .bf16) (harg5 : arg5.IsWhole)
    (arg6 : Memref sig .tc .vmem S512x1536 .bf16) (harg6 : arg6.IsWhole) (arg7 : Memref sig .tc .vmem S512x1536 .bf16)
    (harg7 : arg7.IsWhole) (arg8 : Memref sig .tc .vmem S2x520x1536 .f32) (harg8 : arg8.IsWhole)
    (x0 : Vec Ideal S2x512x1536 .bf16) (x1 : Vec Ideal S2x16x1536 .bf16) (x2 : Vec Ideal S1x2x8x1536 .f32) :
    S2x520x1536.Idx → EReal :=
  arg8.view.read (Elt Ideal) (arg8.view.writes (Elt Ideal) arg8.view.junk
    (kernelRun0_A.sl.HS0_2 (F := Ideal) c i arg2 harg2 arg3 harg3 x0 x1))

/-- The taps the loops read. -/
def tapsOf (arg4 : Memref sig .tc .vmem S1x2x8x1536 .f32) (harg4 : arg4.IsWhole) (x2 : Vec Ideal S1x2x8x1536 .f32) :
    FVec Ideal S2x8x1536 .f32 :=
  k0_pay83 (arg4.view.readAt (Elt Ideal)
    (Rect.unit (s := S1x2x8x1536) ![0, 0, 0, 0] S1x2x8x1536.size inb_S1x2x8x1536_S1x2x8x1536_0_0_0_0).toLoadRect (harg4.unread x2))

set_option maxHeartbeats 4000000 in
/-- Every piece of the twelve loops agrees with the block's results. -/
theorem good_run (c : Dev nD) (i : grid0.Coords) (arg2 : Memref sig .tc .vmem S2x512x1536 .bf16) (harg2 : arg2.IsWhole)
    (arg3 : Memref sig .tc .vmem S2x16x1536 .bf16) (harg3 : arg3.IsWhole) (arg4 : Memref sig .tc .vmem S1x2x8x1536 .f32)
    (harg4 : arg4.IsWhole) (arg5 : Memref sig .tc .vmem S512x1536 .bf16) (harg5 : arg5.IsWhole)
    (arg6 : Memref sig .tc .vmem S512x1536 .bf16) (harg6 : arg6.IsWhole) (arg7 : Memref sig .tc .vmem S512x1536 .bf16)
    (harg7 : arg7.IsWhole) (arg8 : Memref sig .tc .vmem S2x520x1536 .f32) (harg8 : arg8.IsWhole)
    (x0 : Vec Ideal S2x512x1536 .bf16) (x1 : Vec Ideal S2x16x1536 .bf16) (x2 : Vec Ideal S1x2x8x1536 .f32) :
    Good (tapsOf arg4 harg4 x2) (rowsOf c i arg2 harg2 arg3 harg3 arg4 harg4 arg5 harg5 arg6 harg6 arg7 harg7 arg8 harg8 x0 x1 x2)
      ((kernelRun0_A (F := Ideal) c i arg2 harg2 arg3 harg3 arg4 harg4 arg5 harg5 arg6 harg6 arg7 harg7 arg8 harg8 x0 x1 x2).1,
       (kernelRun0_A (F := Ideal) c i arg2 harg2 arg3 harg3 arg4 harg4 arg5 harg5 arg6 harg6 arg7 harg7 arg8 harg8 x0 x1 x2).2.1,
       (kernelRun0_A (F := Ideal) c i arg2 harg2 arg3 harg3 arg4 harg4 arg5 harg5 arg6 harg6 arg7 harg7 arg8 harg8 x0 x1 x2).2.2.1) := by
  unfold kernelRun0_A
  dsimp only
  refine Good.append (good_loop _ _ rfl (fun k => pb_k0_t12_succ ..)
    (fun k => by
      unfold tripL_k0_t12 trip_k0_t12
      exact good_trip _ _ _ 11 k.val (k0_off34_eq k) (k0_off35_eq k) (k0_off36_eq k) _ _ _) _ le_rfl) ?_
  refine Good.append (good_loop _ _ rfl (fun k => pb_k0_t11_succ ..)
    (fun k => by
      unfold tripL_k0_t11 trip_k0_t11
      exact good_trip _ _ _ 10 k.val (k0_off31_eq k) (k0_off32_eq k) (k0_off33_eq k) _ _ _) _ le_rfl) ?_
  refine Good.append (good_loop _ _ rfl (fun k => pb_k0_t10_succ ..)
    (fun k => by
      unfold tripL_k0_t10 trip_k0_t10
      exact good_trip _ _ _ 9 k.val (k0_off28_eq k) (k0_off29_eq k) (k0_off30_eq k) _ _ _) _ le_rfl) ?_
  refine Good.append (good_loop _ _ rfl (fun k => pb_k0_t9_succ ..)
    (fun k => by
      unfold tripL_k0_t9 trip_k0_t9
      exact good_trip _ _ _ 8 k.val (k0_off25_eq k) (k0_off26_eq k) (k0_off27_eq k) _ _ _) _ le_rfl) ?_
  refine Good.append (good_loop _ _ rfl (fun k => pb_k0_t8_succ ..)
    (fun k => by
      unfold tripL_k0_t8 trip_k0_t8
      exact good_trip _ _ _ 7 k.val (k0_off22_eq k) (k0_off23_eq k) (k0_off24_eq k) _ _ _) _ le_rfl) ?_
  refine Good.append (good_loop _ _ rfl (fun k => pb_k0_t7_succ ..)
    (fun k => by
      unfold tripL_k0_t7 trip_k0_t7
      exact good_trip _ _ _ 6 k.val (k0_off19_eq k) (k0_off20_eq k) (k0_off21_eq k) _ _ _) _ le_rfl) ?_
  refine Good.append (good_loop _ _ rfl (fun k => pb_k0_t6_succ ..)
    (fun k => by
      unfold tripL_k0_t6 trip_k0_t6
      exact good_trip _ _ _ 5 k.val (k0_off16_eq k) (k0_off17_eq k) (k0_off18_eq k) _ _ _) _ le_rfl) ?_
  refine Good.append (good_loop _ _ rfl (fun k => pb_k0_t5_succ ..)
    (fun k => by
      unfold tripL_k0_t5 trip_k0_t5
      exact good_trip _ _ _ 4 k.val (k0_off13_eq k) (k0_off14_eq k) (k0_off15_eq k) _ _ _) _ le_rfl) ?_
  refine Good.append (good_loop _ _ rfl (fun k => pb_k0_t4_succ ..)
    (fun k => by
      unfold tripL_k0_t4 trip_k0_t4
      exact good_trip _ _ _ 3 k.val (k0_off10_eq k) (k0_off11_eq k) (k0_off12_eq k) _ _ _) _ le_rfl) ?_
  refine Good.append (good_loop _ _ rfl (fun k => pb_k0_t3_succ ..)
    (fun k => by
      unfold tripL_k0_t3 trip_k0_t3
      exact good_trip _ _ _ 2 k.val (k0_off7_eq k) (k0_off8_eq k) (k0_off9_eq k) _ _ _) _ le_rfl) ?_
  refine Good.append (good_loop _ _ rfl (fun k => pb_k0_t2_succ ..)
    (fun k => by
      unfold tripL_k0_t2 trip_k0_t2
      exact good_trip _ _ _ 1 k.val (k0_off4_eq k) (k0_off5_eq k) (k0_off6_eq k) _ _ _) _ le_rfl) ?_
  exact good_loop _ _ rfl (fun k => pb_k0_t1_succ ..)
    (fun k => by
      unfold tripL_k0_t1 trip_k0_t1
      exact good_trip _ _ _ 0 k.val (k0_off1_eq k) (k0_off2_eq k) (k0_off3_eq k) _ _ _) _ le_rfl

end Cert.Proof.Act

end
-- ==== Proof.ActSeq.lean ====
/-
  The convolutional gate of the feed-forward over the whole sequence: the causal convolution of the two halves of the
  up-projection.
-/
module

public import proofs.«01_k».proof.Proof.ActBlock

@[expose] public section

noncomputable section

namespace Cert.Proof.Act

open Idealize.ShloMosaic

/-- The up-projection of half `q` at `d` tokens before token `s`, zero in front of the sequence. -/
def uAt (a0 : (Shape.mk 3 ![2, 4096, 3072]).Idx → EReal) (q : Fin 2) (d : ℕ) (s : Fin 4096) (j : Fin 3072) : EReal :=
  if h : d ≤ s.val then a0 (ix3 q ⟨s.val - d, by omega⟩ j) else 0

/-- Layer 1's tap `k` of half `q`, channel `j`. -/
def tapAt (a1 : (Shape.mk 3 ![2, 3, 6144]).Idx → EReal) (q : Fin 2) (k : Fin 3) (j : Fin 3072) : EReal :=
  a1 (ix3 1 k ⟨q.val * 3072 + j.val, by omega⟩)

/-- The convolution of half `q` at token `s`, channel `j`. -/
def Z (a0 : (Shape.mk 3 ![2, 4096, 3072]).Idx → EReal) (a1 : (Shape.mk 3 ![2, 3, 6144]).Idx → EReal) (q : Fin 2) (s : Fin 4096)
    (j : Fin 3072) : EReal :=
  conv (tapAt a1 q 0 j) (tapAt a1 q 1 j) (tapAt a1 q 2 j) (uAt a0 q 2 s j) (uAt a0 q 1 s j) (uAt a0 q 0 s j)

end Cert.Proof.Act

end
-- ==== Proof.ActWhole.lean ====
/-
  The convolutional gate of the feed-forward: what the kernel leaves, over the whole sequence.
-/
module

public import proofs.«01_k».proof.Proof.ActRun
public import proofs.«01_k».proof.Proof.ActSeq
public import proofs.«01_k».proof.Proof.Gen.Kernel22Ideal.Value
public import Idealize.ShloMosaic.Lib.KernelVsHost

@[expose] public section

set_option maxRecDepth 16384

noncomputable section

namespace Cert.Proof.Act

open Cert.Kernel22Ideal Cert.Kernel22Ideal.Gen Cert.Kernel22Ideal.Value Idealize.ShloMosaic Idealize.ShloMosaic.TcCoe
  Idealize.SL.Sem
open Idealize.ShloMosaic.Pipeline (Dat)

/-- Loading the whole of a buffer gives its contents. -/
theorem load_whole {s : Shape} {e : EltTy} {arg : Memref sig .tc .vmem s e} (h : arg.IsWhole) (x : Vec Ideal s e)
    {off : Fin s.rank → ℕ} (inb : ∀ a, off a + s.size a ≤ s.size a) :
    arg.view.readAt (Elt Ideal) (Rect.unit (s := s) off s.size inb).toLoadRect (h.unread x) = x := by
  funext y
  show arg.view.read (Elt Ideal) (h.unread x) ((Rect.unit (s := s) off s.size inb).emb y) = x y
  rw [h.read_unread]
  refine congrArg x (funext fun a => Fin.ext ?_)
  show off a + 1 * (y a).val = (y a).val
  have := inb a
  omega

variable (c : Dev nD) (i : grid0.Coords) (arg2 : Memref sig .tc .vmem S2x512x1536 .bf16) (harg2 : arg2.IsWhole)
  (arg3 : Memref sig .tc .vmem S2x16x1536 .bf16) (harg3 : arg3.IsWhole)
  (arg4 : Memref sig .tc .vmem S1x2x8x1536 .f32) (harg4 : arg4.IsWhole)
  (arg5 : Memref sig .tc .vmem S512x1536 .bf16) (harg5 : arg5.IsWhole)
  (arg6 : Memref sig .tc .vmem S512x1536 .bf16) (harg6 : arg6.IsWhole)
  (arg7 : Memref sig .tc .vmem S512x1536 .bf16) (harg7 : arg7.IsWhole)
  (arg8 : Memref sig .tc .vmem S2x520x1536 .f32) (harg8 : arg8.IsWhole)
  (x0 : Vec Ideal S2x512x1536 .bf16) (x1 : Vec Ideal S2x16x1536 .bf16) (x2 : Vec Ideal S1x2x8x1536 .f32)

/-- The comparison of a block's number with zero. -/
theorem first_no (b : Fin 8) (h : b.val ≠ 0) : Scalar.cmpi .eq (BitVec.ofNat 32 b.val) 0#32 = 0#1 := by
  revert b; decide
theorem first_yes (b : Fin 8) (h : b.val = 0) : Scalar.cmpi .eq (BitVec.ofNat 32 b.val) 0#32 = 1#1 := by
  revert b; decide

/-- From row 8 on lie the block's own rows. -/
theorem rows_own (q : Fin 2) (p : Fin 520) (r : Fin 512) (j : Fin 1536) (hp : p.val = 8 + r.val) :
    rowsOf c i arg2 harg2 arg3 harg3 arg4 harg4 arg5 harg5 arg6 harg6 arg7 harg7 arg8 harg8 x0 x1 x2 (ix3 q p j)
      = x0 (ix3 q r j) := by
  unfold rowsOf kernelRun0_A.sl.HS0_2
  refine (View.read_writes_cons_unit_of_mem _ _ _ _ _ _ (ix3 q r j) rfl ?_).trans ?_
  · intro a
    fin_cases a
    · show q.val = 0 + q.val; omega
    · exact hp
    · show j.val = 0 + j.val; omega
  · rw [load_whole]
    pointwise [k0_pay82]

/-- The first eight rows are the last eight of the rows in front, -/
theorem rows_front (q : Fin 2) (p : Fin 520) (r : Fin 16) (j : Fin 1536) (hp : p.val + 8 = r.val) (hi : (i 0).val ≠ 0) :
    rowsOf c i arg2 harg2 arg3 harg3 arg4 harg4 arg5 harg5 arg6 harg6 arg7 harg7 arg8 harg8 x0 x1 x2 (ix3 q p j)
      = x1 (ix3 q r j) := by
  unfold rowsOf kernelRun0_A.sl.HS0_2
  refine (View.read_writes_cons_unit_of_not_mem _ _ _ _ _ _ rfl 1 (Or.inl (show p.val < 8 by omega))).trans ?_
  refine (View.read_writes_cons_unit_of_mem _ _ _ _ _ _ (ix3 q (⟨p.val, by omega⟩ : Fin 8) j) rfl ?_).trans ?_
  · intro a
    fin_cases a
    · show q.val = 0 + q.val; omega
    · show p.val = 0 + p.val; omega
    · show j.val = 0 + j.val; omega
  · rw [load_whole]
    pointwise [k0_pay81, first_no (i 0) hi]
    exact congrArg (fun r => x1 (ix3 q r j)) (Fin.ext (show 8 + p.val = r.val by omega))

/-- and zero in the first block. -/
theorem rows_zero (q : Fin 2) (p : Fin 520) (j : Fin 1536) (hp : p.val < 8) (hi : (i 0).val = 0) :
    rowsOf c i arg2 harg2 arg3 harg3 arg4 harg4 arg5 harg5 arg6 harg6 arg7 harg7 arg8 harg8 x0 x1 x2 (ix3 q p j) = 0 := by
  unfold rowsOf kernelRun0_A.sl.HS0_2
  refine (View.read_writes_cons_unit_of_not_mem _ _ _ _ _ _ rfl 1 (Or.inl (show p.val < 8 by omega))).trans ?_
  refine (View.read_writes_cons_unit_of_mem _ _ _ _ _ _ (ix3 q (⟨p.val, by omega⟩ : Fin 8) j) rfl ?_).trans ?_
  · intro a
    fin_cases a
    · show q.val = 0 + q.val; omega
    · show p.val = 0 + p.val; omega
    · show j.val = 0 + j.val; omega
  · rw [load_whole]
    pointwise [k0_pay81, first_yes (i 0) hi]
    exact mul_zero _

/-- The taps' block. -/
theorem tapsOf_eq (q : Fin 2) (k : Fin 8) (j : Fin 1536) : tapsOf arg4 harg4 x2 (ix3 q k j) = x2 (ix4 0 q k j) := by
  unfold tapsOf
  rw [load_whole]
  pointwise [k0_pay83]

section whole

variable (m : (ℓ : Loc nD τ sig) → Buf (Elt Ideal) ℓ)

theorem lt16 (t : Fin cfg0.N) : t.val < 16 := lt_of_lt_of_eq t.isLt (show cfg0.N = 16 from N_0)

/-- The windows' block indices at a point: the token tile and the half of the channels; eight tokens' rows in front. -/
theorem idx : ∀ t : Fin cfg0.N, win0_0.index t = ![0, t.val / 2, t.val % 2] ∧ win0_1.index t = ![0, 32 * (t.val / 2) - 1, t.val % 2]
    ∧ win0_2.index t = ![1, 0, 0, t.val % 2] ∧ win0_3.index t = ![t.val / 2, t.val % 2]
    ∧ win0_4.index t = ![t.val / 2, t.val % 2] ∧ win0_5.index t = ![t.val / 2, t.val % 2]
    ∧ (grid0.coords t 0).val = t.val / 2 :=
  (by decide +kernel : ∀ t : Fin grid0.N, _)

/-- Token `r` of point `t`'s tile, -/
def tok (t : Fin cfg0.N) (r : Fin 512) : Fin 4096 := ⟨t.val / 2 * 512 + r.val, by have := lt16 t; omega⟩
/-- and channel `j` of its channels. -/
def chan (t : Fin cfg0.N) (j : Fin 1536) : Fin 3072 := ⟨t.val % 2 * 1536 + j.val, by have := lt16 t; omega⟩

/-- The up-projection and the taps as the call is given them. -/
abbrev gU : (Shape.mk 3 ![2, 4096, 3072]).Idx → EReal := m ((c : Thread nD τ).loc main_arg0)
abbrev gW : (Shape.mk 3 ![2, 3, 6144]).Idx → EReal := m ((c : Thread nD τ).loc main_arg1)

theorem blk0 (t : Fin cfg0.N) (q : Fin 2) (r : Fin 512) (j : Fin 1536) :
    iblk m c 0 t (ix3 q r j) = gU c m (ix3 q (tok t r) (chan t j)) := by
  refine Eq.trans ?_ (congrFun (V_main_arg0 m c) _)
  blk_ext [iblk, idx t, tok, chan]
theorem blk1 (t : Fin cfg0.N) (q : Fin 2) (r : Fin 16) (j : Fin 1536) :
    iblk m c 1 t (ix3 q r j) = gU c m (ix3 q ⟨(32 * (t.val / 2) - 1) * 16 + r.val, by have := lt16 t; omega⟩ (chan t j)) := by
  refine Eq.trans ?_ (congrFun (V_main_arg0 m c) _)
  blk_ext [iblk, idx t, chan]
theorem blk2 (t : Fin cfg0.N) (q : Fin 2) (k : Fin 8) (j : Fin 1536) :
    iblk m c 2 t (ix4 0 q k j) = V m c main_v2 (ix4 1 q k (chan t j)) := by
  blk_ext [iblk, idx t, chan]

/-- Reshaping and transposing the taps, and padding them to eight rows, keeps their values. -/
theorem taps_piece (w : FVec Ideal S2x3x6144 .f32) (f : FVec Ideal S_ .f32) (q : Fin 2) (k : Fin 3) (j : Fin 3072) :
    pad S2x2x8x3072 ![0, 0, 0, 0] ![0, 0, 5, 0] ![0, 0, 0, 0]
        (transpose S2x2x3x3072 [0, 2, 1, 3] (shapeCast S2x3x2x3072 w shapeCasts_S2x3x6144_S2x3x2x3072) transposes_S2x3x2x3072_S2x2x3x3072_0_2_1_3) f
        pads_S2x2x3x3072_S2x2x8x3072_000_000_050_000 h_S_ (ix4 1 q ⟨k.val, by omega⟩ j)
      = w (ix3 1 k ⟨q.val * 3072 + j.val, by omega⟩) := by
  rw [pad_apply, dif_pos (by intro a; fin_cases a <;> simp <;> omega)]
  pointwise

theorem V_taps (q : Fin 2) (k : Fin 3) (j : Fin 3072) : V m c main_v2 (ix4 1 q ⟨k.val, by omega⟩ j) = tapAt (gW c m) q k j := by
  refine (congrFun (show V m c main_v2 = ?_ from ?_) _).trans ?_
  rotate_left
  · unfold_abbrev_sides
    simp only [hostOps0, hostOps0_1, List.flatten_cons, List.flatten_nil, List.append_nil, List.cons_append, List.nil_append]
    after_results
  exact taps_piece _ _ q k j

/-- The rows that a point reads are the up-projection's, `d` tokens before its own, and zero in front of the sequence. -/
theorem rows_at (t : Fin cfg0.N) (q : Fin 2) (d : ℕ) (hd : d ≤ 2) (r : Fin 512) (p : Fin 520) (hp : p.val + d = r.val + 8) (j : Fin 1536) :
    rowsOf c (grid0.coords t) arg2 harg2 arg3 harg3 arg4 harg4 arg5 harg5 arg6 harg6 arg7 harg7 arg8 harg8 (iblk m c 0 t) (iblk m c 1 t) x2
      (ix3 q p j) = uAt (gU c m) q d (tok t r) (chan t j) := by
  obtain ⟨-, -, -, -, -, -, hc⟩ := idx t
  have ht := lt16 t
  have hs : (tok t r).val = t.val / 2 * 512 + r.val := rfl
  unfold uAt
  by_cases hr : d ≤ r.val
  · rw [rows_own (r := ⟨r.val - d, by omega⟩) (hp := by show p.val = 8 + (r.val - d); omega), blk0,
      dif_pos (show d ≤ (tok t r).val by omega)]
    congr 2
    refine Fin.ext ?_
    show t.val / 2 * 512 + (r.val - d) = t.val / 2 * 512 + r.val - d
    omega
  · by_cases h0 : t.val / 2 = 0
    · rw [rows_zero (hp := by omega) (hi := by omega), dif_neg (show ¬ d ≤ (tok t r).val by omega)]
    · rw [rows_front (r := ⟨p.val + 8, by omega⟩) (hp := rfl) (hi := by omega), blk1,
        dif_pos (show d ≤ (tok t r).val by omega)]
      congr 2
      refine Fin.ext ?_
      show (32 * (t.val / 2) - 1) * 16 + (p.val + 8) = t.val / 2 * 512 + r.val - d
      omega

/-- The convolution that a point computes. -/
theorem zE_eq (t : Fin cfg0.N) (q : Fin 2) (r : Fin 512) (j : Fin 1536) :
    zE (tapsOf arg4 harg4 (iblk m c 2 t)) (rowsOf c (grid0.coords t) arg2 harg2 arg3 harg3 arg4 harg4 arg5 harg5 arg6 harg6 arg7 harg7 arg8 harg8 (iblk m c 0 t) (iblk m c 1 t) (iblk m c 2 t))
      q r j = Z (gU c m) (gW c m) q (tok t r) (chan t j) := by
  unfold zE Z
  rw [tapsOf_eq, tapsOf_eq, tapsOf_eq, blk2, blk2, blk2]
  rw [rows_at (d := 2) (r := r) (hd := le_rfl) (hp := rfl), rows_at (d := 1) (r := r) (hd := by omega) (hp := rfl), rows_at (d := 0) (r := r) (hd := by omega) (hp := rfl)]
  rw [show V m c main_v2 (ix4 1 q 0 (chan t j)) = _ from V_taps c m q 0 (chan t j), show V m c main_v2 (ix4 1 q 1 (chan t j)) = _ from V_taps c m q 1 (chan t j),
    show V m c main_v2 (ix4 1 q 2 (chan t j)) = _ from V_taps c m q 2 (chan t j)]

/-- The three results: the gated activation, -/
theorem final3 : (dats m 0 c).arrAt 3 cfg0.N
    = fun y => gel (Z (gU c m) (gW c m) 0 (y 0) (y 1)) * Z (gU c m) (gW c m) 1 (y 0) (y 1) := by
  refine (dats m 0 c).arrAt_eq_of_covers 3 _ (by decide +kernel) fun t _ y => ?_
  idx_vars y
  have he : ((cfg0.win 3).blk t).view.emb (ix2 y0 y1) = ix2 (tok t y0) (chan t y1) := by blk_ext [idx t, tok, chan]
  rw [he]
  blk_simp
  rw [after0_3]
  unfold outsAt0
  dsimp only
  unfold out0_A_3
  refine (View.read_writes_apply_of_pieces _ _ _ _ (good_run _ _ _ _ _ _ _ _ _ _ _ _ _ _ _ _ _ _ _).1 _ (cover0_A_3 ..)).trans ?_
  exact congrArg₂ (fun a b => gel a * b) (zE_eq c _ _ _ _ _ _ _ _ _ _ _ _ _ _ m t 0 y0 y1) (zE_eq c _ _ _ _ _ _ _ _ _ _ _ _ _ _ m t 1 y0 y1)

/-- the factor for the gate's gradient, -/
theorem final4 : (dats m 0 c).arrAt 4 cfg0.N
    = fun y => Z (gU c m) (gW c m) 1 (y 0) (y 1) * MixGate.dgelu (Z (gU c m) (gW c m) 0 (y 0) (y 1)) := by
  refine (dats m 0 c).arrAt_eq_of_covers 4 _ (by decide +kernel) fun t _ y => ?_
  idx_vars y
  have he : ((cfg0.win 4).blk t).view.emb (ix2 y0 y1) = ix2 (tok t y0) (chan t y1) := by blk_ext [idx t, tok, chan]
  rw [he]
  blk_simp
  rw [after0_4]
  unfold outsAt0
  dsimp only
  unfold out0_A_4
  refine (View.read_writes_apply_of_pieces _ _ _ _ (good_run _ _ _ _ _ _ _ _ _ _ _ _ _ _ _ _ _ _ _).2.1 _ (cover0_A_4 ..)).trans ?_
  exact congrArg₂ (fun a b => b * MixGate.dgelu a) (zE_eq c _ _ _ _ _ _ _ _ _ _ _ _ _ _ m t 0 y0 y1) (zE_eq c _ _ _ _ _ _ _ _ _ _ _ _ _ _ m t 1 y0 y1)

/-- and the factor for the other half's gradient. -/
theorem final5 : (dats m 0 c).arrAt 5 cfg0.N = fun y => gel (Z (gU c m) (gW c m) 0 (y 0) (y 1)) := by
  refine (dats m 0 c).arrAt_eq_of_covers 5 _ (by decide +kernel) fun t _ y => ?_
  idx_vars y
  have he : ((cfg0.win 5).blk t).view.emb (ix2 y0 y1) = ix2 (tok t y0) (chan t y1) := by blk_ext [idx t, tok, chan]
  rw [he]
  blk_simp
  rw [after0_5]
  unfold outsAt0
  dsimp only
  unfold out0_A_5
  refine (View.read_writes_apply_of_pieces _ _ _ _ (good_run _ _ _ _ _ _ _ _ _ _ _ _ _ _ _ _ _ _ _).2.2 _ (cover0_A_5 ..)).trans ?_
  exact congrArg gel (zE_eq c _ _ _ _ _ _ _ _ _ _ _ _ _ _ m t 0 y0 y1)

end whole

end Cert.Proof.Act

end
-- ==== Proof.ActRef.lean ====
/-
  The plain program's convolutional gate of the feed-forward: its results, element by element.
-/
module

public import proofs.«01_k».proof.Proof.Gen.Reference22Ideal.Read
public import proofs.«01_k».proof.Proof.ActSeq
public import proofs.«01_k».proof.Proof.MixRefGate
public import Idealize.ShloMosaic.Lib.KernelVsHost

@[expose] public section

set_option maxRecDepth 16384

noncomputable section

namespace Cert.Proof.Act

open Idealize.ShloMosaic Cert.Reference22Ideal Cert.Reference22Ideal.Gen Cert.Reference22Ideal.Read
open Cert.Proof.MixGate Cert.Proof.MixRefGate

/-- gelu and its slope as differentiating the plain program along a unit tangent gives them. -/
def gelRef (z : EReal) : EReal := z * (cHalf * (cOne + thr z))
def slopeRef (z : EReal) : EReal :=
  cOne * (cHalf * (cOne + thr z))
    + z * (cHalf * (k0 * (cOne + k1 * (cOne * (k3 * (z * z)))) * ((cOne + thr z) * (cOne - thr z))))

theorem thr_coe (z : ℝ) : thr (z : EReal) = ((Real.tanh (6693141 / 8388608 * (z + 12003091 / 268435456 * (z * z * z))) : ℝ) : EReal) := by
  unfold thr
  rw [k0_eq, k1_eq]
  simp only [← EReal.coe_mul, ← EReal.coe_add, Ideal.tanh_coe]
theorem th_coe (z : ℝ) : th (z : EReal) = ((Real.tanh (6693141 / 8388608 * (z + 12003091 / 268435456 * (z * z * z))) : ℝ) : EReal) := by
  unfold th
  rw [c0_eq, c01_eq]
  simp only [← EReal.coe_mul, ← EReal.coe_add, Ideal.tanh_coe]
  congr 2
  ring

/-- At the infinities the tanh is one and minus one. -/
theorem thr_top : thr ⊤ = 1 := by
  unfold thr
  rw [k0_eq, k1_eq, EReal.top_mul_top, EReal.top_mul_top, EReal.coe_mul_top_of_pos (by norm_num), EReal.top_add_top,
    EReal.coe_mul_top_of_pos (by norm_num)]
  rfl
theorem thr_bot : thr ⊥ = -1 := by
  unfold thr
  rw [k0_eq, k1_eq, EReal.bot_mul_bot, EReal.top_mul_bot, EReal.coe_mul_bot_of_pos (by norm_num), EReal.bot_add,
    EReal.coe_mul_bot_of_pos (by norm_num)]
  rfl
theorem th_top : th ⊤ = 1 := by
  unfold th
  rw [c0_eq, c01_eq, EReal.top_mul_top, EReal.coe_mul_top_of_pos (by norm_num), EReal.coe_add_top, EReal.top_mul_top]
  rfl
theorem th_bot : th ⊥ = -1 := by
  unfold th
  rw [c0_eq, c01_eq, EReal.bot_mul_bot, EReal.coe_mul_top_of_pos (by norm_num), EReal.coe_add_top, EReal.bot_mul_top]
  rfl

/-- The kernel's gelu is the plain program's, at the infinities as well. -/
theorem gel_eq (z : EReal) : gelRef z = gel z := by
  unfold gelRef gel
  induction z using EReal.rec with
  | bot =>
    rw [thr_bot, th_bot, cHalf_eq, cOne_eq, show (-1 : EReal) = ((-1 : ℝ) : EReal) from rfl]
    simp only [← EReal.coe_mul, ← EReal.coe_add]
    congr 2
    norm_num
  | coe z =>
    rw [thr_coe, th_coe, cHalf_eq, cOne_eq]
    simp only [← EReal.coe_mul, ← EReal.coe_add]
    congr 1
    ring
  | top =>
    rw [thr_top, th_top, cHalf_eq, cOne_eq, show (1 : EReal) = ((1 : ℝ) : EReal) from rfl]
    simp only [← EReal.coe_mul, ← EReal.coe_add]
    congr 2
    norm_num

/-- So is its slope: at the infinities the factor 1 - tanh² is zero in both. -/
theorem slope_eq (z : EReal) : slopeRef z = dgelu z := by
  unfold slopeRef dgelu
  induction z using EReal.rec with
  | bot =>
    have e1 : (cOne + -1 : EReal) = 0 := by
      rw [cOne_eq, show (-1 : EReal) = ((-1 : ℝ) : EReal) from rfl, ← EReal.coe_add]; norm_num
    have e2 : (cOne - -1 * -1 : EReal) = 0 := by
      rw [cOne_eq, show (-1 : EReal) = ((-1 : ℝ) : EReal) from rfl, ← EReal.coe_mul, ← EReal.coe_sub]; norm_num
    rw [thr_bot, th_bot, e1, e2]
    simp only [mul_zero, zero_mul, add_zero]
    rw [cHalf_eq, show (-1 : EReal) = ((-1 : ℝ) : EReal) from rfl, ← EReal.coe_mul, ← EReal.coe_add]
    norm_num
  | coe z =>
    rw [thr_coe, th_coe, cHalf_eq, cOne_eq, k0_eq, k1_eq, k3_eq, c0_eq, c301_eq]
    simp only [← EReal.coe_mul, ← EReal.coe_add, ← EReal.coe_sub]
    congr 1
    ring
  | top =>
    have e1 : (cOne - 1 : EReal) = 0 := by
      rw [cOne_eq, show (1 : EReal) = ((1 : ℝ) : EReal) from rfl, ← EReal.coe_sub]; norm_num
    have e2 : (cOne - 1 * 1 : EReal) = 0 := by rw [mul_one]; exact e1
    rw [thr_top, th_top, e1, e2]
    simp only [mul_zero, zero_mul, add_zero, mul_one]
    rw [cHalf_eq, cOne_eq, show (1 : EReal) = ((1 : ℝ) : EReal) from rfl]
    simp only [← EReal.coe_mul, ← EReal.coe_add]
    congr 1
    norm_num

/-- The integer zero as a float. -/
theorem zero_word : (FloatOps.sitofp .f32 0#32 : Ideal .f32) = 0 := by
  show (((0#32 : BitVec 32).toInt : ℝ) : EReal) = 0
  simp

/-- Reading an array padded by two tokens in front. -/
theorem pad_read (u : FVec Ideal S1x4096x3072 .f32) (f : FVec Ideal S_ .f32) (hf : ∀ x, f x = 0) (d : ℕ) (hd : d ≤ 2) (s : Fin 4096)
    (j : Fin 3072) (p : Fin 4098) (hp : p.val + d = s.val + 2) :
    pad S1x4098x3072 ![0, 2, 0] ![0, 0, 0] ![0, 0, 0] u f pads_S1x4096x3072_S1x4098x3072_000_200_000 h_S_ (ix3 0 p j)
      = if h : d ≤ s.val then u (ix3 0 ⟨s.val - d, by omega⟩ j) else 0 := by
  by_cases h : d ≤ s.val
  · rw [dif_pos h]
    refine pad_apply_of_inside _ _ _ _ _ _ _ _ _ ?_
    intro a
    fin_cases a
    · rfl
    · show p.val = 2 + (s.val - d) * 1; omega
    · show j.val = 0 + j.val * 1; omega
  · rw [dif_neg h]
    refine (pad_apply_of_not_inside _ _ _ _ _ _ _ _ 1 ?_).trans (hf _)
    rintro ⟨h1, -⟩
    have h2 : 2 ≤ p.val := h1
    omega

variable (x0 : (⟨S2x4096x3072, .bf16⟩ : BufTy).Contents (Elt Ideal)) (x1 : (⟨S2x3x6144, .f32⟩ : BufTy).Contents (Elt Ideal))

theorem v5_at (d : ℕ) (hd : d ≤ 2) (s : Fin 4096) (j : Fin 3072) (p : Fin 4098) (hp : p.val + d = s.val + 2) :
    val_main_v5 (F := Ideal) x0 (ix3 0 p j) = uAt x0 0 d s j := by
  unfold val_main_v5
  refine (pad_read _ _ ?_ d hd s j p hp).trans ?_
  · intro x
    pointwise [val_main_call0_v0, val_main_c]
    exact zero_word
  · unfold uAt
    refine dite_congr rfl (fun h => ?_) fun _ => rfl
    pointwise [val_main_v1, val_main_v0]

theorem v22_at (d : ℕ) (hd : d ≤ 2) (s : Fin 4096) (j : Fin 3072) (p : Fin 4098) (hp : p.val + d = s.val + 2) :
    val_main_v22 (F := Ideal) x0 (ix3 0 p j) = uAt x0 1 d s j := by
  unfold val_main_v22
  refine (pad_read _ _ ?_ d hd s j p hp).trans ?_
  · intro x
    pointwise [val_main_call1_v0, val_main_c_0]
    exact zero_word
  · unfold uAt
    refine dite_congr rfl (fun h => ?_) fun _ => rfl
    pointwise [val_main_v18, val_main_v17]

/-- The plain program's order of the convolution's terms. -/
theorem conv_order (w0 w1 w2 a0 a1 a2 v0 v1 v2 : EReal) (h0 : v0 = w0) (h1 : v1 = w1) (h2 : v2 = w2) :
    a0 * v0 + a1 * v1 + a2 * v2 = conv w0 w1 w2 a0 a1 a2 := by
  subst h0 h1 h2
  unfold conv
  rw [mul_comm a0, mul_comm a1, mul_comm a2, add_comm (v2 * a2), add_right_comm]

theorem tap_at (q : Fin 2) (k : Fin 3) (j : Fin 3072) (p : Fin 6144) (hp : p.val = q.val * 3072 + j.val) :
    (x1 (ix3 1 k p) : EReal) = tapAt x1 q k j := by
  unfold tapAt
  exact congrArg (fun p => (x1 (ix3 1 k p) : EReal)) (Fin.ext hp)

/-- The two convolutions. -/
theorem v16_eq (s : Fin 4096) (j : Fin 3072) : val_main_v16 (F := Ideal) x0 x1 (ix3 0 s j) = Z x0 x1 0 s j := by
  pointwise [val_main_v16, val_main_v15, val_main_v14, val_main_v13, val_main_v12, val_main_v11, val_main_v10, val_main_v9,
    val_main_v8, val_main_v7, val_main_v6, val_main_v4, val_main_v3, val_main_v2]
  rw [v5_at x0 2 le_rfl s j _ rfl, v5_at x0 1 (by omega) s j _ (by show 1 + s.val + 1 = s.val + 2; omega),
    v5_at x0 0 (by omega) s j _ (by show 2 + s.val + 0 = s.val + 2; omega)]
  exact conv_order _ _ _ _ _ _ _ _ _ (tap_at x1 0 0 j _ (by show j.val = 0 * 3072 + j.val; omega))
    (tap_at x1 0 1 j _ (by show j.val = 0 * 3072 + j.val; omega)) (tap_at x1 0 2 j _ (by show j.val = 0 * 3072 + j.val; omega))

theorem v33_eq (s : Fin 4096) (j : Fin 3072) : val_main_v33 (F := Ideal) x0 x1 (ix3 0 s j) = Z x0 x1 1 s j := by
  pointwise [val_main_v33, val_main_v32, val_main_v31, val_main_v30, val_main_v29, val_main_v28, val_main_v27, val_main_v26,
    val_main_v25, val_main_v24, val_main_v23, val_main_v21, val_main_v20, val_main_v19]
  rw [v22_at x0 2 le_rfl s j _ rfl, v22_at x0 1 (by omega) s j _ (by show 1 + s.val + 1 = s.val + 2; omega),
    v22_at x0 0 (by omega) s j _ (by show 2 + s.val + 0 = s.val + 2; omega)]
  exact conv_order _ _ _ _ _ _ _ _ _ (tap_at x1 1 0 j _ (by show 3072 + j.val = 1 * 3072 + j.val; omega))
    (tap_at x1 1 1 j _ (by show 3072 + j.val = 1 * 3072 + j.val; omega)) (tap_at x1 1 2 j _ (by show 3072 + j.val = 1 * 3072 + j.val; omega))

theorem v51_eq (s : Fin 4096) (j : Fin 3072) : val_main_v51 (F := Ideal) x0 x1 (ix3 0 s j) = thr (Z x0 x1 0 s j) := by
  rw [← v16_eq]
  pointwise [val_main_v51, val_main_v48, val_main_v47, val_main_v45, val_main_v42, val_main_v41, val_main_v36, val_main_v35,
    val_main_cst_2, val_main_cst_4, thr, k0, k1]

/-- gelu of the first. -/
theorem v64_eq (s : Fin 4096) (j : Fin 3072) : val_main_v64 (F := Ideal) x0 x1 (ix3 0 s j) = gel (Z x0 x1 0 s j) := by
  rw [← gel_eq]
  pointwise [val_main_v64, val_main_v61, val_main_v60, val_main_v59, val_main_v58, val_main_cst_8, val_main_cst_9]
  rw [v51_eq, v16_eq]
  pointwise [gelRef, cHalf, cOne]

/-- gelu's slope there. -/
theorem v67_eq (s : Fin 4096) (j : Fin 3072) : val_main_v67 (F := Ideal) x0 x1 (ix3 0 s j) = dgelu (Z x0 x1 0 s j) := by
  rw [← slope_eq]
  pointwise [val_main_v67, val_main_v66, val_main_v65, val_main_v63, val_main_v62, val_main_v61, val_main_v60, val_main_v59, val_main_v58,
    val_main_v57, val_main_v56, val_main_v55, val_main_v54, val_main_v53, val_main_v52, val_main_v50, val_main_v49, val_main_v46,
    val_main_v44, val_main_v43, val_main_v40, val_main_v39, val_main_v38, val_main_v37, val_main_v34, val_main_cst, val_main_cst_1,
    val_main_cst_3, val_main_cst_5, val_main_cst_6, val_main_cst_7, val_main_cst_8, val_main_cst_9, val_main_cst_10]
  rw [v51_eq, v16_eq]
  pointwise [slopeRef, cHalf, cOne, k0, k1, k3]

/-- The three results. -/
theorem v70_eq (s : Fin 4096) (j : Fin 3072) : val_main_v70 (F := Ideal) x0 x1 (ix2 s j) = gel (Z x0 x1 0 s j) * Z x0 x1 1 s j := by
  rw [← v64_eq, ← v33_eq]
  pointwise [val_main_v70, val_main_v69, val_main_v68]
theorem v73_eq (s : Fin 4096) (j : Fin 3072) : val_main_v73 (F := Ideal) x0 x1 (ix2 s j) = Z x0 x1 1 s j * dgelu (Z x0 x1 0 s j) := by
  rw [← v67_eq, ← v33_eq, mul_comm]
  pointwise [val_main_v73, val_main_v72, val_main_v71]
theorem v75_eq (s : Fin 4096) (j : Fin 3072) : val_main_v75 (F := Ideal) x0 x1 (ix2 s j) = gel (Z x0 x1 0 s j) := by
  rw [← v64_eq]
  pointwise [val_main_v75, val_main_v74]

end Cert.Proof.Act

end
-- ==== Proof.ActCall.lean ====
/-
  The convolutional gate of the feed-forward: the claims.
-/
module

public import proofs.«01_k».proof.Defs
public import proofs.«01_k».proof.Proof.Gen.Kernel22
public import proofs.«01_k».proof.Proof.Gen.Kernel22.Frame
public import proofs.«01_k».proof.Proof.Gen.Reference22Ideal.Run
public import proofs.«01_k».proof.Proof.ActWhole
public import proofs.«01_k».proof.Proof.ActRef

@[expose] public section

set_option maxRecDepth 16384

noncomputable section

namespace Cert.Proof.ActCall

open Idealize.ShloMosaic Idealize.ShloMosaic.TcCoe Idealize.SL.Sem
open Cert.Proof.Act

/-- The kernel's gelu constants are named by the plain program's two constants and the products with the first. -/
theorem preserves : Cert.preserves_Kernel22_Kernel22Ideal :=
  ⟨IdealRules.named_const.statement _ _ _ _ _ rfl, IdealRules.named_const.statement _ _ _ _ _ rfl,
    IdealRules.named_const.statement _ _ _ _ _ rfl⟩

/-- The plain program's run keeps its arguments and ends with every counter at zero. -/
theorem frame_ref : Cert.quiescent_Reference22Ideal := fun m ρ _ =>
  (θ_run Cert.Reference22Ideal.defs _ _).mono (fun r h => ⟨fun c => (h c).2.2.2,
      Idealize.ShloMosaic.sem_eq_zero_of_no_sems (by decide) r.2⟩) (Cert.Reference22Ideal.Value.run (F := Ideal) m ρ)

/-- The kernel leaves the plain program's gated activation and its two factors for the gradients. -/
theorem algebraic : Cert.algebraic_Kernel22Ideal_Reference22Ideal := fun m ρ m' ρ' _ hm => by
  refine ⟨_, _, _, Cert.Kernel22Ideal.Value.run_blocks m ρ, (θ_run _ _ _).mono (fun r h c => ?_) (Cert.Reference22Ideal.Value.run m' ρ')⟩
  obtain ⟨h0, h1, h2, hargs⟩ := h c
  obtain ⟨e0, e1⟩ := hm c
  refine ⟨h0.trans ?_, h1.trans ?_, h2.trans ?_, hargs⟩
  · rw [Cert.Reference22Ideal.Read.val_main_v70_eq, e0, e1, final3 c m]
    funext i
    idx_vars i
    exact v70_eq _ _ i0 i1
  · rw [Cert.Reference22Ideal.Read.val_main_v73_eq, e0, e1, final4 c m]
    funext i
    idx_vars i
    exact v73_eq _ _ i0 i1
  · rw [Cert.Reference22Ideal.Read.val_main_v75_eq, e0, e1, final5 c m]
    funext i
    idx_vars i
    exact v75_eq _ _ i0 i1

end Cert.Proof.ActCall

end
-- ==== Proof.FwdRun.lean ====
/-
  The body of the mixer's forward call, run at any grid point: it ends, keeps its inputs, and leaves some contents in its
  outputs and in its scratch buffers.
-/
module

public import proofs.«01_k».proof.Proof.Gen.Kernel23.Frame
public import proofs.«01_k».proof.Proof.Gen.Kernel23.Loops
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.WordCmp

@[expose] public section

set_option maxRecDepth 16384

noncomputable section

namespace Cert.Kernel23.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel23.Gen

variable {F : FTy → Type} [FloatOps F]

local notation "𝕄" => MT nD τ sig Unit (Elt F) ℕ (UR sig nD τ) ℕ

/-- The body's condition: the first grid point. -/
abbrev cond0_0 (i : grid0.Coords) : Prop := (Scalar.cmpi .ne (Scalar.extui (Scalar.cmpi .eq (BitVec.ofNat 32 (i 0).val) 0#32)) 0#32) = 1#1

set_option maxHeartbeats 40000000 in
/-- The body at a grid point, first or later. -/
theorem run (c : Dev nD) (i : grid0.Coords)
    (arg1 : Memref sig .tc .vmem S256x3584 .bf16) (harg1 : arg1.IsWhole)
    (arg2 : Memref sig .tc .vmem S1x16x1024 .f32) (harg2 : arg2.IsWhole)
    (arg3 : Memref sig .tc .vmem S1x8x256x256 .bf16) (harg3 : arg3.IsWhole)
    (arg4 : Memref sig .tc .vmem S256x1536 .bf16) (harg4 : arg4.IsWhole)
    (arg5 : Memref sig .tc .vmem S256x1024 .f32) (harg5 : arg5.IsWhole)
    (arg6 : Memref sig .tc .vmem S8x1024 .f32) (harg6 : arg6.IsWhole)
    (arg7 : Memref sig .tc .vmem S8x512 .f32) (harg7 : arg7.IsWhole)
    (arg8 : Memref sig .tc .vmem S8x1024 .f32) (harg8 : arg8.IsWhole)
    (arg9 : Memref sig .tc .vmem S256x1024 .f32) (harg9 : arg9.IsWhole)
    (arg10 : Memref sig .tc .vmem S256x1024 .f32) (harg10 : arg10.IsWhole)
    (arg11 : Memref sig .tc .vmem S256x1024 .f32) (harg11 : arg11.IsWhole)
    (x1 : Vec F S256x3584 .bf16) (x2 : Vec F S1x16x1024 .f32) (x3 : Vec F S1x8x256x256 .bf16) (E : Set ℕ) (K : PUnit → sProp 𝕄) :
    iprop(owns (c : Thread nD τ) arg1 fullShare x1 ∗ owns (c : Thread nD τ) arg2 fullShare x2 ∗ owns (c : Thread nD τ) arg3 fullShare x3
      ∗ (∃ f, arg4.view.loc (c : Thread nD τ) ↦[arg4.view.set]{fullShare} f)
      ∗ (∃ f, arg5.view.loc (c : Thread nD τ) ↦[arg5.view.set]{fullShare} f)
      ∗ (∃ f, arg6.view.loc (c : Thread nD τ) ↦[arg6.view.set]{fullShare} f)
      ∗ (∃ f, arg7.view.loc (c : Thread nD τ) ↦[arg7.view.set]{fullShare} f)
      ∗ (∃ f, arg8.view.loc (c : Thread nD τ) ↦[arg8.view.set]{fullShare} f)
      ∗ (∃ f, arg9.view.loc (c : Thread nD τ) ↦[arg9.view.set]{fullShare} f)
      ∗ (∃ f, arg10.view.loc (c : Thread nD τ) ↦[arg10.view.set]{fullShare} f)
      ∗ (∃ f, arg11.view.loc (c : Thread nD τ) ↦[arg11.view.set]{fullShare} f)
      ∗ (iprop(owns (c : Thread nD τ) arg1 fullShare x1 ∗ owns (c : Thread nD τ) arg2 fullShare x2 ∗ owns (c : Thread nD τ) arg3 fullShare x3
      ∗ (∃ f, arg4.view.loc (c : Thread nD τ) ↦[arg4.view.set]{fullShare} f)
      ∗ (∃ f, arg5.view.loc (c : Thread nD τ) ↦[arg5.view.set]{fullShare} f)
      ∗ (∃ f, arg6.view.loc (c : Thread nD τ) ↦[arg6.view.set]{fullShare} f)
      ∗ (∃ f, arg7.view.loc (c : Thread nD τ) ↦[arg7.view.set]{fullShare} f)
      ∗ (∃ f, arg8.view.loc (c : Thread nD τ) ↦[arg8.view.set]{fullShare} f)
      ∗ (∃ f, arg9.view.loc (c : Thread nD τ) ↦[arg9.view.set]{fullShare} f)
      ∗ (∃ f, arg10.view.loc (c : Thread nD τ) ↦[arg10.view.set]{fullShare} f)
      ∗ (∃ f, arg11.view.loc (c : Thread nD τ) ↦[arg11.view.set]{fullShare} f)) -∗ K ⟨⟩))
      ⊢ wp frame (wpE (defs₀ (F := F)) Variants.none c none) E (cc0_fwd_mixer_1 i arg1 harg1 arg2 harg2 arg3 harg3 arg4 harg4 arg5 harg5 arg6 harg6 arg7 harg7 arg8 harg8 arg9 harg9 arg10 harg10 arg11 harg11) K := by
  simp only [cc0_fwd_mixer_1_eq_skeleton]; unfold cc0_fwd_mixer_1_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, H4⟩, ⟨%f5, H5⟩, ⟨%f6, H6⟩, ⟨%f7, H7⟩, ⟨%f8, H8⟩, ⟨%f9, H9⟩, ⟨%f10, H10⟩, ⟨%f11, H11⟩, Hk⟩
  obtain rfl := harg1.eq_unread hf1; obtain rfl := harg2.eq_unread hf2; obtain rfl := harg3.eq_unread hf3
  by_cases hc : cond0_0 i
  all_goals
    sl_exec (disch := sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.Kernel23.Fwd

end
-- ==== Proof.FwdFrame.lean ====
/-
  The mixer's forward call ends at every grid point and keeps the arguments: its frame.
-/
module

public import proofs.«01_k».proof.Proof.Gen.Kernel23.Frame
public import proofs.«01_k».proof.Proof.FwdRun
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.WordCmp

@[expose] public section

set_option maxRecDepth 16384

noncomputable section

namespace Cert.Kernel23.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel23.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's current staging memref at point `t`. -/
abbrev ms0_0 (t : Fin cfg0.N) : Memref sig .tc .vmem S256x3584 .bf16 := win0_0.stage (cfg0.slots t 0)
/-- Window 1's current staging memref at point `t`. -/
abbrev ms0_1 (t : Fin cfg0.N) : Memref sig .tc .vmem S1x16x1024 .f32 := win0_1.stage (cfg0.slots t 1)
/-- Window 2's current staging memref at point `t`. -/
abbrev ms0_2 (t : Fin cfg0.N) : Memref sig .tc .vmem S1x8x256x256 .bf16 := win0_2.stage (cfg0.slots t 2)
/-- Window 3's current staging memref at point `t`. -/
abbrev ms0_3 (t : Fin cfg0.N) : Memref sig .tc .vmem S256x1536 .bf16 := win0_3.stage (cfg0.slots t 3)
/-- Window 4's current staging memref at point `t`. -/
abbrev ms0_4 (t : Fin cfg0.N) : Memref sig .tc .vmem S256x1024 .f32 := win0_4.stage (cfg0.slots t 4)

/-- The proof data: every input window holds its block, nothing is said of what the outputs hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Dat.unnamed (cfg := cfg0) 3 t
    | ⟨4, _⟩ => Dat.unnamed (cfg := cfg0) 4 t
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 := iprop((dats m 0 c).Φ t.castSucc ∗ (dats m 0 c).owesAt () t.castSucc
  ∗ (∃ d, owns (c : Thread nD τ) (ms0_0 t) fullShare ((dats m 0 c).before 0 t d))
  ∗ (∃ d, owns (c : Thread nD τ) (ms0_1 t) fullShare ((dats m 0 c).before 1 t d))
  ∗ (∃ d, owns (c : Thread nD τ) (ms0_2 t) fullShare ((dats m 0 c).before 2 t d))
  ∗ (∃ X, owns (c : Thread nD τ) (ms0_3 t) fullShare X)
  ∗ (∃ X, owns (c : Thread nD τ) (ms0_4 t) fullShare X))
/-- and what it returns. -/
def bodyPost (c : Dev nD) (t : Fin cfg0.N) : sProp 𝕄 := iprop((dats m 0 c).Φ t.succ ∗ (dats m 0 c).owesAt () t.succ
  ∗ owns (c : Thread nD τ) (ms0_0 t) fullShare ((dats m 0 c).after 0 t)
  ∗ owns (c : Thread nD τ) (ms0_1 t) fullShare ((dats m 0 c).after 1 t)
  ∗ owns (c : Thread nD τ) (ms0_2 t) fullShare ((dats m 0 c).after 2 t)
  ∗ (∃ X, owns (c : Thread nD τ) (ms0_3 t) fullShare X)
  ∗ (∃ X, owns (c : Thread nD τ) (ms0_4 t) fullShare X))

/-- The windows of which nothing is said: the two outputs. -/
abbrev fgt (w : Fin cfg0.W) : Bool := decide (3 ≤ w.val)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, after0_0, after0_1, after0_2]
  unfold Pipeline.ΦA
  rw [scopedRest0_eq]
  have R := fun K : PUnit → sProp 𝕄 => run (F := F) c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) Set.univ K
  simp only [Memref.view_whole, View.set_whole] at R
  iintro ⟨⟨⟨S0, S1, S2, S3, S4, S5⟩, Hr⟩, Ho, ⟨%d0, H0⟩, ⟨%d1, H1⟩, ⟨%d2, H2⟩, ⟨%d3, H3⟩, ⟨%d4, H4⟩⟩
  iapply (R _)
  isplitl [H0]; · iexact H0
  isplitl [H1]; · iexact H1
  isplitl [H2]; · iexact H2
  isplitl [H3]
  · unfold owns; icases H3 with ⟨%f3, -, H3⟩; iexists _; iexact H3
  isplitl [H4]
  · unfold owns; icases H4 with ⟨%f4, -, H4⟩; iexists _; iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, ⟨%e3, H3⟩, ⟨%e4, H4⟩, S0, S1, S2, S3, S4, S5⟩
  isplitl [S0 S1 S2 S3 S4 S5 Hr]
  · isplitr [Hr]
    · isplitl [S0]; · iexact S0
      isplitl [S1]; · iexact S1
      isplitl [S2]; · iexact S2
      isplitl [S3]; · iexact S3
      isplitl [S4]; · iexact S4
      iexact S5
    · iexact Hr
  isplitl [Ho]; · iexact Ho
  isplitl [H0]; · iexact H0
  isplitl [H1]; · iexact H1
  isplitl [H2]; · iexact H2
  isplitl [H3]
  · unfold owns; iexists _; iexists _; isplitr
    swap; · iexact H3
    ipureintro; rfl
  unfold owns; iexists _; iexists _; isplitr
  swap; · iexact H4
  ipureintro; rfl

/-- The pipeline's body at point `t` is the printed body on its staging memrefs. -/
theorem defs₀_row (t : Fin cfg0.N) :
    defs₀ (F := F) .tc cfg0.body (cfg0.bodyArgs t (cfg0.slots t)) = bodyAt0 t := by
  unfold defs₀; rw [Defs.onTc_tc]

/-- The body obligation, the outputs' contents forgotten. -/
theorem body_obligation (c : Dev nD) :
    Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: every array ends at some contents that it may hold, every other buffer as the region found it, the counters at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: every execution ends, the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main_quiescent m ρ)

end Cert.Kernel23.Fwd

end
-- ==== Proof.FwdBlock.lean ====
/-
  What one grid point of the mixer's forward call leaves in the short convolution's columns of its result, and in the
  eight rows that it hands to the next point.
-/
module

public import proofs.«01_k».proof.Proof.Gen.Kernel23Ideal.Frame
public import proofs.«01_k».proof.Proof.Gen.Kernel23Ideal.Skeleton
public import Idealize.ShloMosaic.Lib.Pipeline.FrameBody
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof.FwdBlock

open Cert.Kernel23Ideal Cert.Kernel23Ideal.Gen Idealize.ShloMosaic Idealize.ShloMosaic.TcCoe Idealize.SL.Sem

section
variable (x1 : Vec Ideal S256x3584 .bf16) (x2 : Vec Ideal S1x16x1024 .f32) (N : Vec Ideal S8x512 .f32)

/-- The products that enter the convolution, the eight rows handed on in front: row `e` of 264. -/
def ent (e : ℕ) (he : e < 264) (j : Fin 512) : EReal :=
  if h : e < 8 then N (ix2 ⟨e, h⟩ j)
  else x1 (ix2 ⟨e - 8, by omega⟩ ⟨2560 + j.val, by omega⟩) * x1 (ix2 ⟨e - 8, by omega⟩ ⟨3072 + j.val, by omega⟩)

/-- The three taps, from the packed parameters. -/
def tap (k : Fin 3) (j : Fin 512) : EReal := x2 (ix3 0 ⟨8 + k.val, by omega⟩ ⟨j.val, by omega⟩)

/-- The result's columns from 1024 on: the gate times the convolution. -/
def GoodY (X : Vec Ideal S256x1536 .bf16) : Prop := ∀ (r : Fin 256) (j : Fin 512), X (ix2 r ⟨1024 + j.val, by omega⟩)
  = x1 (ix2 r ⟨2048 + j.val, by omega⟩) * (tap x2 2 j * ent x1 N (8 + r.val) (by omega) j
    + tap x2 0 j * ent x1 N (6 + r.val) (by omega) j + tap x2 1 j * ent x1 N (7 + r.val) (by omega) j)

/-- The rows handed on: the last eight. -/
def GoodN (X : Vec Ideal S8x512 .f32) : Prop := ∀ (q : Fin 8) (j : Fin 512), X (ix2 q j) = ent x1 N (256 + q.val) (by omega) j

end

/-- A load through a whole rectangle of unit strides reads the contents at the shifted index. -/
theorem load_at {r c r' c' : ℕ} {e : EltTy} (v : View sig .tc .vmem ⟨2, ![r, c]⟩ e) (f : v.ty.Contents (Elt Ideal))
    {off : Fin 2 → ℕ} (inb : ∀ a, off a + (⟨2, ![r', c']⟩ : Shape).size a ≤ (⟨2, ![r, c]⟩ : Shape).size a)
    (p : Fin r') (j : Fin c') (P : Fin r) (J : Fin c) (hP : off 0 + p.val = P.val) (hJ : off 1 + j.val = J.val) :
    v.readAt (Elt Ideal) (Rect.unit (s := ⟨2, ![r, c]⟩) off (⟨2, ![r', c']⟩ : Shape).size inb).toLoadRect f (ix2 p j)
      = v.read (Elt Ideal) f (ix2 P J) := by
  show v.read (Elt Ideal) f ((Rect.unit (s := ⟨2, ![r, c]⟩) off (⟨2, ![r', c']⟩ : Shape).size inb).emb (ix2 p j)) = _
  refine congrArg (v.read (Elt Ideal) f) (funext fun a => Fin.ext ?_)
  fin_cases a
  · show off 0 + 1 * p.val = P.val; omega
  · show off 1 + 1 * j.val = J.val; omega

/-- Reading back inside the last store's rectangle. -/
theorem hit {r c r' c' : ℕ} {e : EltTy} (v : View sig .tc .vmem ⟨2, ![r, c]⟩ e) (f : v.ty.Contents (Elt Ideal))
    {off : Fin 2 → ℕ} (inb : ∀ a, off a + (⟨2, ![r', c']⟩ : Shape).size a ≤ (⟨2, ![r, c]⟩ : Shape).size a)
    (w : Vec Ideal ⟨2, ![r', c']⟩ e) (L : List (View.Piece (Elt Ideal) ⟨2, ![r, c]⟩ e))
    (P : Fin r) (J : Fin c) (p : Fin r') (j : Fin c') (h0 : P.val = off 0 + p.val) (h1 : J.val = off 1 + j.val) :
    v.read (Elt Ideal) (v.writes (Elt Ideal) f (⟨Rect.unit (s := ⟨2, ![r, c]⟩) off (⟨2, ![r', c']⟩ : Shape).size inb, w⟩ :: L)) (ix2 P J)
      = w (ix2 p j) := by
  refine View.read_writes_cons_unit_of_mem v f inb w L (ix2 P J) (ix2 p j) rfl (fun a => ?_)
  fin_cases a
  · exact h0
  · exact h1

/-- A load of a whole view reads its contents. -/
theorem load_all {s : Shape} {e : EltTy} (v : View sig .tc .vmem s e) (f : v.ty.Contents (Elt Ideal))
    {off : Fin s.rank → ℕ} (inb : ∀ a, off a + s.size a ≤ s.size a) :
    v.readAt (Elt Ideal) (Rect.unit (s := s) off s.size inb).toLoadRect f = v.read (Elt Ideal) f := by
  funext y
  show v.read (Elt Ideal) f ((Rect.unit (s := s) off s.size inb).emb y) = _
  refine congrArg (v.read (Elt Ideal) f) (funext fun a => Fin.ext ?_)
  show off a + 1 * (y a).val = (y a).val
  have := inb a
  omega

variable {arg1 : Memref sig .tc .vmem S256x3584 .bf16} (harg1 : arg1.IsWhole) {arg2 : Memref sig .tc .vmem S1x16x1024 .f32}
  (harg2 : arg2.IsWhole) (x1 : Vec Ideal S256x3584 .bf16) (x2 : Vec Ideal S1x16x1024 .f32) (N : Vec Ideal S8x512 .f32)

/-- The loads the short convolution works on. -/
abbrev lA := arg1.view.readAt (Elt Ideal) (Rect.unit (s := S256x3584) ![0, 2048] S256x512.size inb_S256x3584_S256x512_0_2048).toLoadRect (harg1.unread x1)
abbrev lB := arg1.view.readAt (Elt Ideal) (Rect.unit (s := S256x3584) ![0, 2560] S256x512.size inb_S256x3584_S256x512_0_2560).toLoadRect (harg1.unread x1)
abbrev lC := arg1.view.readAt (Elt Ideal) (Rect.unit (s := S256x3584) ![0, 3072] S256x512.size inb_S256x3584_S256x512_0_3072).toLoadRect (harg1.unread x1)
abbrev lW := arg2.view.readAt (Elt Ideal) (Rect.unit (s := S1x16x1024) ![0, 0, 0] S1x16x1024.size inb_S1x16x1024_S1x16x1024_0_0_0).toLoadRect (harg2.unread x2)

theorem load1 (o : ℕ) (ho : o + 512 ≤ 3584) (inb : ∀ a, (![0, o] : Fin 2 → ℕ) a + S256x512.size a ≤ S256x3584.size a)
    (r : Fin 256) (j : Fin 512) :
    arg1.view.readAt (Elt Ideal) (Rect.unit (s := S256x3584) ![0, o] S256x512.size inb).toLoadRect (harg1.unread x1) (ix2 r j)
      = x1 (ix2 r ⟨o + j.val, by omega⟩) := by
  refine (load_at _ _ _ r j r ⟨o + j.val, by omega⟩ ?_ rfl).trans ?_
  · show 0 + r.val = r.val; omega
  · rw [harg1.read_unread]

theorem eW : lW harg2 x2 = x2 := by rw [lW, load_all, harg2.read_unread]

theorem step2 (r : Fin 256) : (8 + r.val + 264 - 2) % 264 = 6 + r.val := by omega
theorem step1 (r : Fin 256) : (8 + r.val + 264 - 1) % 264 = 7 + r.val := by omega

/-- The products of the block's own rows. -/
theorem own (r : Fin 256) (j : Fin 512) :
    k0_pay51 (lB harg1 x1) (lC harg1 x1) (ix2 r j) = x1 (ix2 r ⟨2560 + j.val, by omega⟩) * x1 (ix2 r ⟨3072 + j.val, by omega⟩) := by
  pointwise [k0_pay51]
  exact congrArg₂ (· * ·) (load1 harg1 x1 2560 (by omega) _ r j) (load1 harg1 x1 3072 (by omega) _ r j)

/-- The result block after the body's last store. -/
theorem goodY {arg4 : Memref sig .tc .vmem S256x1536 .bf16} (f : BufTy.Contents (Elt Ideal) arg4.view.ty)
    (n : Vec Ideal S8x512 .f32) (hn : n = N) (L : List (View.Piece (Elt Ideal) S256x1536 .bf16)) :
    GoodY x1 x2 N (arg4.view.read (Elt Ideal) (arg4.view.writes (Elt Ideal) f
      (⟨Rect.unit (s := S256x1536) ![0, 1024] S256x512.size inb_S256x1536_S256x512_0_1024,
        k0_pay53 (k0_pay31 (lW harg2 x2)) (lB harg1 x1) (lC harg1 x1) n (lA harg1 x1)⟩ :: L))) := by
  subst hn
  intro r j
  refine (hit _ _ _ _ _ _ _ r j (by simp) (by simp)).trans ?_
  rw [eW]
  pointwise [k0_pay53, k0_pay31]
  simp only [step1, step2, own]
  refine congrArg₂ (· * ·) (load1 harg1 x1 2048 (by omega) _ r j) ?_
  unfold ent tap
  rw [dif_neg (show ¬8 + r.val < 8 by omega)]
  have he : ∀ h, (⟨8 + r.val - 8, h⟩ : Fin 256) = r := fun h => Fin.ext (by show 8 + r.val - 8 = r.val; omega)
  rw [he]
  rfl

/-- The rows handed on after the body's store. -/
theorem goodN {arg7 : Memref sig .tc .vmem S8x512 .f32} (f : BufTy.Contents (Elt Ideal) arg7.view.ty)
    (L : List (View.Piece (Elt Ideal) S8x512 .f32)) :
    GoodN x1 N (arg7.view.read (Elt Ideal) (arg7.view.writes (Elt Ideal) f
      (⟨Rect.unit (s := S8x512) ![0, 0] S8x512.size inb_S8x512_S8x512_0_0, k0_pay52 (lB harg1 x1) (lC harg1 x1)⟩ :: L))) := by
  intro q j
  refine (hit _ _ _ _ _ _ _ q j (by simp) (by simp)).trans ?_
  pointwise [k0_pay52]
  refine (own harg1 x1 ⟨248 + q.val, by omega⟩ j).trans ?_
  unfold ent
  rw [dif_neg (by omega)]
  have he : ∀ h, (⟨256 + q.val - 8, h⟩ : Fin 256) = ⟨248 + q.val, by omega⟩ := fun h => Fin.ext (by show 256 + q.val - 8 = 248 + q.val; omega)
  rw [he]

/-- Rows filled with zero load as zero. -/
theorem zeros {arg7 : Memref sig .tc .vmem S8x512 .f32} (inb inb' : ∀ a, (![0, 0] : Fin 2 → ℕ) a + S8x512.size a ≤ S8x512.size a) :
    arg7.view.readCov (Val := Elt Ideal) [⟨Rect.unit (s := S8x512) ![0, 0] S8x512.size inb, k0_pay29 (F := Ideal)⟩]
      (Rect.unit (s := S8x512) ![0, 0] S8x512.size inb').toLoadRect = fun _ => 0 := by
  funext y
  idx_vars y
  refine (load_at _ _ _ _ _ y0 y1 (by simp) (by simp)).trans ?_
  refine (hit _ _ _ _ _ _ _ y0 y1 (by simp) (by simp)).trans ?_
  pointwise [k0_pay29]

end Cert.Proof.FwdBlock

end
-- ==== Proof.FwdVal.lean ====
/-
  The body of the mixer's forward call at the extended reals, run at any grid point: what it leaves in the short
  convolution's columns and in the rows handed on.
-/
module

public import proofs.«01_k».proof.Proof.Gen.Kernel23Ideal.Frame
public import proofs.«01_k».proof.Proof.Gen.Kernel23Ideal.Loops
public import proofs.«01_k».proof.Proof.FwdBlock
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.WordCmp

@[expose] public section

set_option maxRecDepth 16384

noncomputable section

namespace Cert.Proof.FwdVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel23Ideal Cert.Kernel23Ideal.Gen Cert.Proof.FwdBlock

local notation "𝕄" => MT nD τ sig Unit (Elt Ideal) ℕ (UR sig nD τ) ℕ

/-- The body's condition: the first grid point. -/
abbrev cond0_0 (i : grid0.Coords) : Prop := (Scalar.cmpi .ne (Scalar.extui (Scalar.cmpi .eq (BitVec.ofNat 32 (i 0).val) 0#32)) 0#32) = 1#1

set_option maxHeartbeats 40000000 in
/-- The body at a grid point. `N` is what the rows handed on held, zero at the first point. -/
theorem val (c : Dev nD) (i : grid0.Coords)
    (arg1 : Memref sig .tc .vmem S256x3584 .bf16) (harg1 : arg1.IsWhole)
    (arg2 : Memref sig .tc .vmem S1x16x1024 .f32) (harg2 : arg2.IsWhole)
    (arg3 : Memref sig .tc .vmem S1x8x256x256 .bf16) (harg3 : arg3.IsWhole)
    (arg4 : Memref sig .tc .vmem S256x1536 .bf16) (harg4 : arg4.IsWhole)
    (arg5 : Memref sig .tc .vmem S256x1024 .f32) (harg5 : arg5.IsWhole)
    (arg6 : Memref sig .tc .vmem S8x1024 .f32) (harg6 : arg6.IsWhole)
    (arg7 : Memref sig .tc .vmem S8x512 .f32) (harg7 : arg7.IsWhole)
    (arg8 : Memref sig .tc .vmem S8x1024 .f32) (harg8 : arg8.IsWhole)
    (arg9 : Memref sig .tc .vmem S256x1024 .f32) (harg9 : arg9.IsWhole)
    (arg10 : Memref sig .tc .vmem S256x1024 .f32) (harg10 : arg10.IsWhole)
    (arg11 : Memref sig .tc .vmem S256x1024 .f32) (harg11 : arg11.IsWhole)
    (x1 : Vec Ideal S256x3584 .bf16) (x2 : Vec Ideal S1x16x1024 .f32) (x3 : Vec Ideal S1x8x256x256 .bf16) (N : Vec Ideal S8x512 .f32)
    (hN : cond0_0 i → N = fun _ => 0) (E : Set ℕ) (K : PUnit → sProp 𝕄) :
    iprop(owns (c : Thread nD τ) arg1 fullShare x1 ∗ owns (c : Thread nD τ) arg2 fullShare x2 ∗ owns (c : Thread nD τ) arg3 fullShare x3
      ∗ (∃ f, arg4.view.loc (c : Thread nD τ) ↦[arg4.view.set]{fullShare} f)
      ∗ (∃ f, arg5.view.loc (c : Thread nD τ) ↦[arg5.view.set]{fullShare} f)
      ∗ (∃ f, arg6.view.loc (c : Thread nD τ) ↦[arg6.view.set]{fullShare} f)
      ∗ (∃ f, ⌜¬cond0_0 i → arg7.view.read (Elt Ideal) f = N⌝ ∗ arg7.view.loc (c : Thread nD τ) ↦[arg7.view.set]{fullShare} f)
      ∗ (∃ f, arg8.view.loc (c : Thread nD τ) ↦[arg8.view.set]{fullShare} f)
      ∗ (∃ f, arg9.view.loc (c : Thread nD τ) ↦[arg9.view.set]{fullShare} f)
      ∗ (∃ f, arg10.view.loc (c : Thread nD τ) ↦[arg10.view.set]{fullShare} f)
      ∗ (∃ f, arg11.view.loc (c : Thread nD τ) ↦[arg11.view.set]{fullShare} f)
      ∗ (iprop(owns (c : Thread nD τ) arg1 fullShare x1 ∗ owns (c : Thread nD τ) arg2 fullShare x2 ∗ owns (c : Thread nD τ) arg3 fullShare x3
      ∗ (∃ f, (arg4.view.loc (c : Thread nD τ) ↦[arg4.view.set]{fullShare} f) ∗ ⌜GoodY x1 x2 N (arg4.view.read (Elt Ideal) f)⌝)
      ∗ (∃ f, arg5.view.loc (c : Thread nD τ) ↦[arg5.view.set]{fullShare} f)
      ∗ (∃ f, arg6.view.loc (c : Thread nD τ) ↦[arg6.view.set]{fullShare} f)
      ∗ (∃ f, (arg7.view.loc (c : Thread nD τ) ↦[arg7.view.set]{fullShare} f) ∗ ⌜GoodN x1 N (arg7.view.read (Elt Ideal) f)⌝)
      ∗ (∃ f, arg8.view.loc (c : Thread nD τ) ↦[arg8.view.set]{fullShare} f)
      ∗ (∃ f, arg9.view.loc (c : Thread nD τ) ↦[arg9.view.set]{fullShare} f)
      ∗ (∃ f, arg10.view.loc (c : Thread nD τ) ↦[arg10.view.set]{fullShare} f)
      ∗ (∃ f, arg11.view.loc (c : Thread nD τ) ↦[arg11.view.set]{fullShare} f)) -∗ K ⟨⟩))
      ⊢ wp frame (wpE (defs₀ (F := Ideal)) Variants.none c none) E (cc0_fwd_mixer_1 i arg1 harg1 arg2 harg2 arg3 harg3 arg4 harg4 arg5 harg5 arg6 harg6 arg7 harg7 arg8 harg8 arg9 harg9 arg10 harg10 arg11 harg11) K := by
  simp only [cc0_fwd_mixer_1_eq_skeleton]; unfold cc0_fwd_mixer_1_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, H4⟩, ⟨%f5, H5⟩, ⟨%f6, H6⟩, ⟨%f7, %hf7, H7⟩, ⟨%f8, H8⟩, ⟨%f9, H9⟩, ⟨%f10, H10⟩, ⟨%f11, H11⟩, Hk⟩
  obtain rfl := harg1.eq_unread hf1; obtain rfl := harg2.eq_unread hf2; obtain rfl := harg3.eq_unread hf3
  by_cases hc : cond0_0 i
  all_goals
    sl_exec (disch := sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitl
      · iexact H4
      · ipureintro
        refine goodY harg1 harg2 x1 x2 N _ _ ?_ _
        first
          | exact (zeros _ _).trans (hN hc).symm
          | exact (load_all _ _ _).trans (hf7 hc)
    isplitl [H5]; · iexists _; iexact H5
    isplitl [H6]; · iexists _; iexact H6
    isplitl [H7]
    · iexists _; isplitl
      · iexact H7
      · ipureintro
        exact goodN harg1 x1 N _ _
    isplitl [H8]; · iexists _; iexact H8
    isplitl [H9]; · iexists _; iexact H9
    isplitl [H10]; · iexists _; iexact H10
    iexists _; iexact H11

end Cert.Proof.FwdVal

end
-- ==== Proof.FwdWhole.lean ====
/-
  What a point of the mixer's forward call reads and leaves in terms of the whole arrays: the block's rows are rows of the
  arrays, the rows handed on are those in front of the block, and in front of the sequence there is zero.
-/
module

public import proofs.«01_k».proof.Proof.FwdBlock
public import proofs.«01_k».proof.Proof.MixWhole

@[expose] public section

set_option maxRecDepth 16384

noncomputable section

namespace Cert.Proof.FwdWhole

open Cert.Kernel23Ideal Cert.Kernel23Ideal.Gen Idealize.ShloMosaic Idealize.ShloMosaic.TcCoe Idealize.SL.Sem
open Cert.Proof.FwdBlock
open Cert.Proof.MixWhole (PP conv prm_piece pad_piece)

variable (m : (ℓ : Loc nD τ sig) → Buf (Elt Ideal) ℓ) (c : Dev nD)

/-- The mixer's input projections as the call finds them. -/
abbrev gZ : FVec Ideal S4096x3584 .bf16 := V m c main_arg0

theorem lt16 (t : Fin cfg0.N) : t.val < 16 := lt_of_lt_of_eq t.isLt (show cfg0.N = 16 from N_0)

/-- The windows' block indices: the grid runs down the sequence. -/
theorem idx : ∀ t : Fin cfg0.N, win0_0.index t = ![t.val, 0] ∧ win0_1.index t = ![1, 0, 0] ∧ win0_3.index t = ![t.val, 0] :=
  (by decide +kernel : ∀ t : Fin grid0.N, _)

/-- Row `r` of the block that point `t` works on. -/
def row (t : Fin cfg0.N) (r : Fin 256) : Fin 4096 := ⟨t.val * 256 + r.val, by have := lt16 t; omega⟩

theorem blk0 (t : Fin cfg0.N) (r : Fin 256) (j : Fin 3584) : iblk m c 0 t (ix2 r j) = gZ m c (ix2 (row t r) j) := by
  blk_ext [iblk, idx t, row]
theorem blk1 (t : Fin cfg0.N) (q : Fin 16) (j : Fin 1024) : iblk m c 1 t (ix3 0 q j) = V m c main_v7 (ix3 1 q j) := by
  blk_ext [iblk, idx t]

/-- The taps as the call finds them. -/
def taps (k : Fin 3) (j : Fin 512) : EReal := (V m c main_v7 : FVec Ideal S2x16x1024 .f32) (ix3 1 ⟨8 + k.val, by omega⟩ ⟨j.val, by omega⟩)

theorem tap_eq (t : Fin cfg0.N) (k : Fin 3) (j : Fin 512) : tap (iblk m c 1 t) k j = taps m c k j := by
  unfold tap taps; exact blk1 m c t _ _

/-- The rows that block `n` is handed: those in front of it. -/
def car (n : ℕ) : Vec Ideal S8x512 .f32 := fun y => PP (gZ m c) (n * 256 + (y 0).val) (y 1)

theorem car_zero : car m c 0 = fun _ => 0 := by
  funext y
  idx_vars y
  show PP (gZ m c) (0 * 256 + y0.val) y1 = 0
  unfold PP
  rw [dif_neg (by omega)]

theorem ent_eq (t : Fin cfg0.N) (e : ℕ) (he : e < 264) (j : Fin 512) :
    ent (iblk m c 0 t) (car m c t.val) e he j = PP (gZ m c) (t.val * 256 + e) j := by
  have ht := lt16 t
  unfold ent
  by_cases h : e < 8
  · rw [dif_pos h]
    rfl
  · rw [dif_neg h]
    unfold PP
    rw [dif_pos (by omega)]
    refine congrArg₂ (· * ·) ((blk0 m c t _ _).trans ?_) ((blk0 m c t _ _).trans ?_)
    · congr 2; refine Fin.ext ?_; show t.val * 256 + (e - 8) = t.val * 256 + e - 8; omega
    · congr 2; refine Fin.ext ?_; show t.val * 256 + (e - 8) = t.val * 256 + e - 8; omega

/-- What point `t` leaves for the next one. -/
theorem car_step (t : Fin cfg0.N) (X : Vec Ideal S8x512 .f32)
    (h : GoodN (iblk m c 0 t) (car m c t.val) X) : X = car m c (t.val + 1) := by
  funext y
  idx_vars y
  rw [h y0 y1, ent_eq]
  show _ = PP _ ((t.val + 1) * 256 + y0.val) y1
  congr 1; omega

/-- The result block that point `t` leaves, at the short convolution's columns. -/
def Left3 (t : Fin cfg0.N) (X : Vec Ideal S256x1536 .bf16) : Prop := ∀ (r : Fin 256) (j : Fin 512),
  X (ix2 r ⟨1024 + j.val, by omega⟩) = gZ m c (ix2 (row t r) ⟨2048 + j.val, by omega⟩) * conv (gZ m c) (taps m c) (row t r).val j

theorem left3 (t : Fin cfg0.N) (X : Vec Ideal S256x1536 .bf16)
    (h : GoodY (iblk m c 0 t) (iblk m c 1 t) (car m c t.val) X) : Left3 m c t X := by
  intro r j
  rw [h r j, blk0]
  unfold conv row
  simp only [ent_eq, tap_eq]
  simp only [show ∀ a, t.val * 256 + (a + r.val) = a + (t.val * 256 + r.val) from fun a => by omega]

/-- The taps are those of the argument. -/
theorem V_prm (k : Fin 3) (j : Fin 512) : taps m c k j = m ((c : Thread nD τ).loc main_arg6) (ix3 1 k j) := by
  unfold taps
  refine (congrFun (show V m c main_v7 = ?_ from ?_) _).trans ?_
  rotate_left
  · unfold_abbrev_sides
    simp only [hostOps0, hostOps0_1, hostOps0_2, List.flatten_cons, List.flatten_nil, List.append_nil, List.cons_append, List.nil_append]
    after_results
  rw [StableHlo.nary4_result]
  refine (prm_piece _ _ _ _ _ k j).trans ?_
  after_results_steps
  refine (show _ = pad S2x3x1024 ![0, 0, 0] ![0, 0, 512] ![0, 0, 0] (m ((c : Thread nD τ).loc main_arg6)) _ pads_S2x3x512_S2x3x1024_000_000_05120 h_S_
    (ix3 1 k ⟨j.val, by omega⟩) from rfl).trans ?_
  exact pad_piece _ _ _ _ k j

end Cert.Proof.FwdWhole

end
-- ==== Proof.FwdLaunch.lean ====
/-
  The launch of the mixer's forward call at the extended reals: what its result array holds in the short convolution's columns.
-/
module

public import proofs.«01_k».proof.Proof.FwdVal
public import proofs.«01_k».proof.Proof.FwdWhole
public import Idealize.ShloMosaic.Lib.Pipeline.ReadBack
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.WordCmp

@[expose] public section

set_option maxRecDepth 16384

noncomputable section

namespace Cert.Proof.FwdLaunch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel23Ideal Cert.Kernel23Ideal.Gen Cert.Proof.FwdBlock Cert.Proof.FwdWhole Cert.Proof.FwdVal

local notation "𝕄" => MT nD τ sig Unit (Elt Ideal) ℕ (UR sig nD τ) ℕ

variable (m : (ℓ : Loc nD τ sig) → Buf (Elt Ideal) ℓ) (ρ : Dev nD → PrngReg)

/-- Window 0's current staging memref at point `t`. -/
abbrev ms0_0 (t : Fin cfg0.N) : Memref sig .tc .vmem S256x3584 .bf16 := win0_0.stage (cfg0.slots t 0)
/-- Window 1's current staging memref at point `t`. -/
abbrev ms0_1 (t : Fin cfg0.N) : Memref sig .tc .vmem S1x16x1024 .f32 := win0_1.stage (cfg0.slots t 1)
/-- Window 2's current staging memref at point `t`. -/
abbrev ms0_2 (t : Fin cfg0.N) : Memref sig .tc .vmem S1x8x256x256 .bf16 := win0_2.stage (cfg0.slots t 2)
/-- Window 3's current staging memref at point `t`. -/
abbrev ms0_3 (t : Fin cfg0.N) : Memref sig .tc .vmem S256x1536 .bf16 := win0_3.stage (cfg0.slots t 3)
/-- Window 4's current staging memref at point `t`. -/
abbrev ms0_4 (t : Fin cfg0.N) : Memref sig .tc .vmem S256x1024 .f32 := win0_4.stage (cfg0.slots t 4)

/-- What a point leaves in the outputs: the short convolution's columns of the result block; of the recurrence's states
    nothing is said. -/
def Rl (c : Dev nD) (w : Fin cfg0.W) (t : Fin cfg0.N) (X : (cfg0.win w).block.Idx → Elt Ideal (cfg0.win w).elt) : Prop :=
  match w, X with
  | ⟨3, _⟩, X => Left3 m c t X
  | _, _ => True

/-- The windows whose contents are described only by what a point leaves: the two outputs. -/
abbrev fgt (w : Fin cfg0.W) : Bool := decide (3 ≤ w.val)

/-- Between points the scratch of rows handed on holds the rows in front of the next block. -/
def Φ (c : Dev nD) (n : Fin (cfg0.N + 1)) : sProp 𝕄 := iprop(((∃ f : Buf (Elt Ideal) ((c : Thread nD τ).loc cc0_scratch0), ((c : Thread nD τ).loc cc0_scratch0) ↦{fullShare} f) ∗ (∃ f : Buf (Elt Ideal) ((c : Thread nD τ).loc cc0_scratch1), (((c : Thread nD τ).loc cc0_scratch1) ↦{fullShare} f) ∗ ⌜n.val ≠ 0 → f = car m c n.val⌝) ∗ (∃ f : Buf (Elt Ideal) ((c : Thread nD τ).loc cc0_scratch2), ((c : Thread nD τ).loc cc0_scratch2) ↦{fullShare} f) ∗ (∃ f : Buf (Elt Ideal) ((c : Thread nD τ).loc cc0_scratch3), ((c : Thread nD τ).loc cc0_scratch3) ↦{fullShare} f) ∗ (∃ f : Buf (Elt Ideal) ((c : Thread nD τ).loc cc0_scratch4), ((c : Thread nD τ).loc cc0_scratch4) ↦{fullShare} f) ∗ (∃ f : Buf (Elt Ideal) ((c : Thread nD τ).loc cc0_scratch5), ((c : Thread nD τ).loc cc0_scratch5) ↦{fullShare} f)) ∗ ∃ r, prngReg c r)

/-- The proof data: every input window holds its block. -/
def rdats (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Dat.unnamed (cfg := cfg0) 3 t
    | ⟨4, _⟩ => Dat.unnamed (cfg := cfg0) 4 t
  Φ := Φ m c
  q _ := fullShare
  owed _ := 0

theorem A_eq (c : Dev nD) (w : Fin cfg0.W) : (rdats m c).A w = V m c (Pipeline.arrRef spec0 w) := by
  dsimp only [rdats]

theorem after0_0 (c : Dev nD) (t : Fin cfg0.N) : (rdats m c).after 0 t = iblk m c 0 t := by dsimp only [rdats]
theorem after0_1 (c : Dev nD) (t : Fin cfg0.N) : (rdats m c).after 1 t = iblk m c 1 t := by dsimp only [rdats]
theorem after0_2 (c : Dev nD) (t : Fin cfg0.N) : (rdats m c).after 2 t = iblk m c 2 t := by dsimp only [rdats]
theorem before0_0 (c : Dev nD) (t : Fin cfg0.N) (d) : (rdats m c).before 0 t d = iblk m c 0 t :=
  before0_0_of m (rdats m c) (A_eq m c 0) (after0_0 m c) t d
theorem before0_1 (c : Dev nD) (t : Fin cfg0.N) (d) : (rdats m c).before 1 t d = iblk m c 1 t :=
  before0_1_of m (rdats m c) (A_eq m c 1) (after0_1 m c) t d
theorem before0_2 (c : Dev nD) (t : Fin cfg0.N) (d) : (rdats m c).before 2 t d = iblk m c 2 t :=
  before0_2_of m (rdats m c) (A_eq m c 2) (after0_2 m c) t d

/-- The body's condition holds at the first grid point only. -/
theorem hcond0_0 : ∀ t : Fin cfg0.N, cond0_0 (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val = 0)

/-- What the body is called with at point `t`, -/
def bodyPre (c : Dev nD) (t : Fin cfg0.N) : sProp 𝕄 := iprop((rdats m c).Φ t.castSucc ∗ (rdats m c).owesAt () t.castSucc
  ∗ (∃ d, owns (c : Thread nD τ) (ms0_0 t) fullShare ((rdats m c).before 0 t d))
  ∗ (∃ d, owns (c : Thread nD τ) (ms0_1 t) fullShare ((rdats m c).before 1 t d))
  ∗ (∃ d, owns (c : Thread nD τ) (ms0_2 t) fullShare ((rdats m c).before 2 t d))
  ∗ (∃ Y, ⌜((rdats m c).toRRel fgt (Rl m c)).Finds 3 t Y⌝ ∗ owns (c : Thread nD τ) (ms0_3 t) fullShare Y)
  ∗ (∃ Y, ⌜((rdats m c).toRRel fgt (Rl m c)).Finds 4 t Y⌝ ∗ owns (c : Thread nD τ) (ms0_4 t) fullShare Y))
/-- and what it returns. -/
def bodyPost (c : Dev nD) (t : Fin cfg0.N) : sProp 𝕄 := iprop((rdats m c).Φ t.succ ∗ (rdats m c).owesAt () t.succ
  ∗ owns (c : Thread nD τ) (ms0_0 t) fullShare ((rdats m c).after 0 t)
  ∗ owns (c : Thread nD τ) (ms0_1 t) fullShare ((rdats m c).after 1 t)
  ∗ owns (c : Thread nD τ) (ms0_2 t) fullShare ((rdats m c).after 2 t)
  ∗ (∃ X, ⌜Rl m c 3 t X⌝ ∗ owns (c : Thread nD τ) (ms0_3 t) fullShare X)
  ∗ (∃ X, ⌜Rl m c 4 t X⌝ ∗ owns (c : Thread nD τ) (ms0_4 t) fullShare X))

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (rdats m c).Φ t.castSucc = Φ m c t.castSucc from rfl, show (rdats m c).Φ t.succ = Φ m c t.succ from rfl,
    show (rdats m c).owesAt () t.succ = (rdats m c).owesAt () t.castSucc from rfl, after0_0, after0_1, after0_2]
  unfold Φ
  have R := fun K : PUnit → sProp 𝕄 => val c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t)
    (car m c t.val) (fun h => by rw [(hcond0_0 t).mp h]; exact car_zero m c) Set.univ K
  simp only [Memref.view_whole, View.set_whole] at R
  iintro ⟨⟨⟨S0, ⟨%f7, S1, %h7⟩, S2, S3, S4, S5⟩, Hr⟩, Ho, ⟨%d0, H0⟩, ⟨%d1, H1⟩, ⟨%d2, H2⟩, ⟨%Y3, %F3, H3⟩, ⟨%Y4, %F4, H4⟩⟩
  iapply (R _)
  isplitl [H0]; · iexact H0
  isplitl [H1]; · iexact H1
  isplitl [H2]; · iexact H2
  isplitl [H3]
  · unfold owns; icases H3 with ⟨%f3, -, H3⟩; iexists _; iexact H3
  isplitl [H4]
  · unfold owns; icases H4 with ⟨%f4, -, H4⟩; iexists _; iexact H4
  isplitl [S0]; · iexact S0
  isplitl [S1]
  · iexists f7; isplitr
    · ipureintro; exact fun h => h7 fun h0 => h ((hcond0_0 t).mpr h0)
    iexact S1
  isplitl [S2]; · iexact S2
  isplitl [S3]; · iexact S3
  isplitl [S4]; · iexact S4
  isplitl [S5]; · iexact S5
  iintro ⟨H0, H1, H2, ⟨%e3, H3, %G3⟩, ⟨%e4, H4⟩, S0, ⟨%g7, S1, %G7⟩, S2, S3, S4, S5⟩
  isplitl [S0 S1 S2 S3 S4 S5 Hr]
  · isplitr [Hr]
    · isplitl [S0]; · iexact S0
      isplitl [S1]
      · iexists g7; isplitl [S1]; · iexact S1
        ipureintro; intro _; exact car_step m c t g7 G7
      isplitl [S2]; · iexact S2
      isplitl [S3]; · iexact S3
      isplitl [S4]; · iexact S4
      iexact S5
    · iexact Hr
  isplitl [Ho]; · iexact Ho
  isplitl [H0]; · iexact H0
  isplitl [H1]; · iexact H1
  isplitl [H2]; · iexact H2
  isplitl [H3]
  · iexists _; isplitr
    swap
    · unfold owns; iexists _; isplitr
      swap; · iexact H3
      ipureintro; rfl
    ipureintro; exact left3 m c t _ G3
  iexists _; isplitr
  swap
  · unfold owns; iexists _; isplitr
    swap; · iexact H4
    ipureintro; rfl
  ipureintro; exact trivial

/-- The pipeline's body at point `t` is the printed body on its staging memrefs. -/
theorem defs₀_row (t : Fin cfg0.N) :
    defs₀ (F := Ideal) .tc cfg0.body (cfg0.bodyArgs t (cfg0.slots t)) = bodyAt0 t := by
  unfold defs₀; rw [Defs.onTc_tc]

/-- The body obligation, the outputs held to `Rl`. -/
theorem body_obligation (c : Dev nD) :
    Pipeline.BodyObligationRel (rdats m c) (defs₀ (F := Ideal)) Variants.none () Set.univ fgt (Rl m c) := fun t => by
  rw [bigSep_W0, bigSep_W0, defs₀_row]
  exact triple_restated (sound_body m c t) rfl .rfl fun _ => .rfl

theorem Φ_in (c : Dev nD) : Pipeline.ΦA spec0 c ⊢ Φ m c 0 := by
  unfold Pipeline.ΦA Φ
  rw [scopedRest0_eq]
  iintro ⟨⟨S0, ⟨%f7, S1⟩, S2, S3, S4, S5⟩, Hr⟩
  isplitr [Hr]
  · isplitl [S0]; · iexact S0
    isplitl [S1]
    · iexists f7; isplitl [S1]; · iexact S1
      ipureintro; intro h; exact absurd rfl h
    isplitl [S2]; · iexact S2
    isplitl [S3]; · iexact S3
    isplitl [S4]; · iexact S4
    iexact S5
  · iexact Hr

theorem Φ_out (c : Dev nD) (n : Fin (cfg0.N + 1)) : Φ m c n ⊢ Pipeline.ΦA spec0 c := by
  unfold Pipeline.ΦA Φ
  rw [scopedRest0_eq]
  iintro ⟨⟨S0, ⟨%f7, S1, -⟩, S2, S3, S4, S5⟩, Hr⟩
  isplitr [Hr]
  · isplitl [S0]; · iexact S0
    isplitl [S1]; · iexists f7; iexact S1
    isplitl [S2]; · iexact S2
    isplitl [S3]; · iexact S3
    isplitl [S4]; · iexact S4
    iexact S5
  · iexact Hr

set_option backward.isDefEq.respectTransparency.types false in
/-- The launch: every array ends at some contents that it may hold, the counters at zero. -/
theorem run : θ_run defs (onTc (τ := τ) (main (F := Ideal))) (s₀ m ρ)
    (fun r => Pipeline.RDat.FramePost cfg0 (fun c => (rdats m c).toRRel fgt (Rl m c)) (V m) r ∧ r.2.sem = fun _ => 0) :=
  Pipeline.RDat.θ_run_frame_track (Q' := _) cfgs (0 : Fin 1) launch0 defs₀ Variants.none (fun c => (rdats m c).toRRel fgt (Rl m c)) m ρ main
    (hbody := fun c => (body_obligation m c).toRRel) (hshare := fun c => (rdats m c).share_full fun _ => rfl)
    (howed := fun _ _ => rfl) (V := V m) (hmain := hmain m Variants.none) (hA := A_eq m)
    (hin := fun c => Φ_in m c) (hout := fun c => Φ_out m c _) (hQ' := fun _ h => h)

end Cert.Proof.FwdLaunch

end
-- ==== Proof.FwdCall.lean ====
/-
  The claims about the mixer's forward call: the frames of its programs and of the plain one, the folded constants, and the
  equality of the short convolution's columns at the extended reals.
-/
module

public import proofs.«01_k».proof.Proof.FwdFrame
public import proofs.«01_k».proof.Proof.FwdLaunch
public import proofs.«01_k».proof.Proof.Gen.Reference23Ideal.Run
public import proofs.«01_k».proof.Proof.Gen.Reference23Ideal.Read
public import proofs.«01_k».proof.Defs
public import Idealize.ShloMosaic.Lib.Pipeline.ValueKit
public import Idealize.ShloMosaic.Lib.KernelVsHost
public import Idealize.ShloMosaic.Lib.WordCmp

@[expose] public section

set_option maxRecDepth 16384

noncomputable section

namespace Cert.Proof.FwdCall

open Idealize.ShloMosaic Idealize.ShloMosaic.TcCoe Idealize.SL.Sem
open Cert.Proof.MixWhole (PP conv)

section Kernel

open Cert.Kernel23Ideal Cert.Kernel23Ideal.Gen Cert.Proof.FwdWhole Cert.Proof.FwdLaunch

variable (m : (ℓ : Loc nD τ sig) → Buf (Elt Ideal) ℓ) (ρ : Dev nD → PrngReg)

/-- The point that writes a row, -/
def ptOf (s : Fin 4096) : Fin cfg0.N := ⟨s.val / 256, lt_of_lt_of_eq (by omega : _ < 16) (show cfg0.N = 16 from N_0).symm⟩
/-- and the row's place in the point's block. -/
def inOf (s : Fin 4096) : Fin 256 := ⟨s.val % 256, by omega⟩

theorem row_ptOf (s : Fin 4096) : row (ptOf s) (inOf s) = s := by
  apply Fin.ext; simp only [row, ptOf, inOf]; omega
theorem ptOf_row (t : Fin cfg0.N) (r : Fin 256) : ptOf (row t r) = t := by
  have := lt16 t
  apply Fin.ext; simp only [row, ptOf]; omega
theorem inOf_row (t : Fin cfg0.N) (r : Fin 256) : inOf (row t r) = r := by
  have := lt16 t
  apply Fin.ext; simp only [row, inOf]; omega

/-- After the launch the result holds the gated convolution in its columns from 1024 on. -/
theorem result (r : PUnit × MemSt nD τ sig (Elt Ideal))
    (h : Pipeline.RDat.FramePost cfg0 (fun c => (rdats m c).toRRel fgt (Rl m c)) (V m) r) (c : Dev nD) (s : Fin 4096) (j : Fin 512) :
    (r.2.mem ((c.tc : Thread nD τ).loc main_v36_0) : FVec Ideal S4096x1536 .bf16) (ix2 s ⟨1024 + j.val, by omega⟩)
      = gZ m c (ix2 s ⟨2048 + j.val, by omega⟩) * conv (gZ m c) (taps m c) s.val j := by
  obtain ⟨after, hL, hA⟩ := h.exists_exact c
  have h3 : r.2.mem ((c.tc : Thread nD τ).loc main_v36_0) = fun i : S4096x1536.Idx => after 3 (ptOf (i 0)) (ix2 (inOf (i 0)) (i 1)) := by
    refine (hA 3).trans ?_
    refine Pipeline.Dat.arrAt_eq_of_covers _ 3 _ (by decide +kernel) fun t _ y => ?_
    idx_vars y
    have he : ((cfg0.win 3).blk t).view.emb (ix2 y0 y1) = ix2 (row t y0) y1 := by
      blk_ext [idx t, row]
    rw [he]
    blk_simp
    show after 3 t (ix2 y0 y1) = after 3 (ptOf (row t y0)) (ix2 (inOf (row t y0)) y1)
    rw [ptOf_row, inOf_row]
  have l3 : ∀ t, Left3 m c t (after 3 t) := fun t =>
    Pipeline.Dat.toRRel_leaves (dat := rdats m c) (fgt := fgt) (Rl := Rl m c) (w := 3) rfl
      (hL 3 t ((by decide +kernel : ∀ t : Fin grid0.N, win0_3.flush t = true) t))
  rw [h3]
  refine (l3 (ptOf s) (inOf s) j).trans ?_
  rw [row_ptOf]

/-- The frame at the extended reals: every execution ends, the argument arrays unchanged and the counters at zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(Pipeline.RDat.FramePost.arr_in h.1 c 0 rfl).trans ((FwdLaunch.A_eq m c 0).trans (Cert.Kernel23Ideal.Gen.V_main_arg0 m c)),
      ((h.1 c).2 Cert.Kernel23Ideal.main_arg1 (Pipeline.mem_restRefs_of Cert.Kernel23Ideal.main_arg1 (by decide) (by decide))).trans (Cert.Kernel23Ideal.Gen.V_main_arg1 m c),
      ((h.1 c).2 Cert.Kernel23Ideal.main_arg2 (Pipeline.mem_restRefs_of Cert.Kernel23Ideal.main_arg2 (by decide) (by decide))).trans (Cert.Kernel23Ideal.Gen.V_main_arg2 m c),
      ((h.1 c).2 Cert.Kernel23Ideal.main_arg3 (Pipeline.mem_restRefs_of Cert.Kernel23Ideal.main_arg3 (by decide) (by decide))).trans (Cert.Kernel23Ideal.Gen.V_main_arg3 m c),
      ((h.1 c).2 Cert.Kernel23Ideal.main_arg4 (Pipeline.mem_restRefs_of Cert.Kernel23Ideal.main_arg4 (by decide) (by decide))).trans (Cert.Kernel23Ideal.Gen.V_main_arg4 m c),
      ((h.1 c).2 Cert.Kernel23Ideal.main_arg5 (Pipeline.mem_restRefs_of Cert.Kernel23Ideal.main_arg5 (by decide) (by decide))).trans (Cert.Kernel23Ideal.Gen.V_main_arg5 m c),
      ((h.1 c).2 Cert.Kernel23Ideal.main_arg6 (Pipeline.mem_restRefs_of Cert.Kernel23Ideal.main_arg6 (by decide) (by decide))).trans (Cert.Kernel23Ideal.Gen.V_main_arg6 m c),
      ((h.1 c).2 Cert.Kernel23Ideal.main_arg7 (Pipeline.mem_restRefs_of Cert.Kernel23Ideal.main_arg7 (by decide) (by decide))).trans (Cert.Kernel23Ideal.Gen.V_main_arg7 m c),
      ((h.1 c).2 Cert.Kernel23Ideal.main_arg8 (Pipeline.mem_restRefs_of Cert.Kernel23Ideal.main_arg8 (by decide) (by decide))).trans (Cert.Kernel23Ideal.Gen.V_main_arg8 m c)⟩, h.2⟩) (FwdLaunch.run m ρ)

end Kernel

section Plain

open Cert.Reference23Ideal Cert.Reference23Ideal.Value Cert.Reference23Ideal.Read

variable (x0 : (⟨S4096x3584, .bf16⟩ : BufTy).Contents (Elt Ideal)) (x6 : (⟨S2x3x512, .f32⟩ : BufTy).Contents (Elt Ideal))

/-- The layer's taps. -/
def tapsOf (k : Fin 3) (j : Fin 512) : EReal := x6 (ix3 1 k j)

/-- The convolution's input with two zero rows in front. -/
theorem v25_eq (e : Fin 4098) (j : Fin 512) : val_main_v25 (F := Ideal) x0 (ix2 e j) = PP x0 (6 + e.val) j := by
  unfold PP
  pointwise [val_main_v25, val_main_v24, val_main_v23, val_main_v7, val_main_v8, val_main_v1, val_main_cst_4]
  by_cases h : e.val < 2
  · rw [dif_pos h, dif_neg (by omega)]
  · rw [dif_neg h, dif_pos (by omega)]
    have h' : (⟨e.val - 2, by omega⟩ : Fin 4096) = ⟨6 + e.val - 8, by omega⟩ := Fin.ext (by show e.val - 2 = 6 + e.val - 8; omega)
    exact congrArg (fun r : Fin 4096 => x0 (ix2 r ⟨2560 + j.val, by omega⟩) * x0 (ix2 r ⟨3072 + j.val, by omega⟩)) h'

theorem v26_eq (s : Fin 4096) (j : Fin 512) : val_main_v26 (F := Ideal) x0 (ix2 s j) = PP x0 (6 + s.val) j := by
  pointwise [val_main_v26]
  exact (v25_eq x0 _ j).trans (by congr 1)

theorem v32_eq (s : Fin 4096) (j : Fin 512) : val_main_v32 (F := Ideal) x0 (ix2 s j) = PP x0 (7 + s.val) j := by
  pointwise [val_main_v32]
  exact (v25_eq x0 _ j).trans (by congr 1; show 6 + (1 + s.val) = _; omega)

theorem v39_eq (s : Fin 4096) (j : Fin 512) : val_main_v39 (F := Ideal) x0 (ix2 s j) = PP x0 (8 + s.val) j := by
  pointwise [val_main_v39]
  exact (v25_eq x0 _ j).trans (by congr 1; show 6 + (2 + s.val) = _; omega)

theorem v30_eq (s : Fin 4096) (j : Fin 512) : val_main_v30 (F := Ideal) x6 (ix2 s j) = tapsOf x6 0 j := by
  pointwise [val_main_v30, val_main_v29, val_main_v28, val_main_v27, val_main_v3, val_main_v2, tapsOf]

theorem v36_eq (s : Fin 4096) (j : Fin 512) : val_main_v36 (F := Ideal) x6 (ix2 s j) = tapsOf x6 1 j := by
  pointwise [val_main_v36, val_main_v35, val_main_v34, val_main_v33, val_main_v3, val_main_v2, tapsOf]

theorem v43_eq (s : Fin 4096) (j : Fin 512) : val_main_v43 (F := Ideal) x6 (ix2 s j) = tapsOf x6 2 j := by
  pointwise [val_main_v43, val_main_v42, val_main_v41, val_main_v40, val_main_v3, val_main_v2, tapsOf]

/-- The convolution's output. -/
theorem v45_eq (s : Fin 4096) (j : Fin 512) : val_main_v45 (F := Ideal) x0 x6 (ix2 s j) = conv x0 (tapsOf x6) s.val j := by
  pointwise [val_main_v45, val_main_v38, val_main_v31, val_main_v37, val_main_v44]
  rw [v26_eq, v32_eq, v39_eq, v30_eq, v36_eq, v43_eq]
  unfold conv
  rw [mul_comm (tapsOf x6 2 j), mul_comm (tapsOf x6 0 j), mul_comm (tapsOf x6 1 j)]
  exact (add_comm _ _).trans (add_assoc _ _ _).symm

/-- The plain result's columns from 1024 on. -/
theorem v48_eq (s : Fin 4096) (j : Fin 512) : val_main_v48 (F := Ideal) x0 x6 (ix2 s ⟨1024 + j.val, by omega⟩)
    = x0 (ix2 s ⟨2048 + j.val, by omega⟩) * conv x0 (tapsOf x6) s.val j := by
  rw [← v45_eq]
  pointwise [val_main_v48, val_main_v47, val_main_v46, val_main_v6, val_main_v1]

/-- The plain program's run keeps its arguments and ends with every counter at zero. -/
theorem frame_ref : Cert.quiescent_Reference23Ideal := fun m ρ _ =>
  (θ_run Cert.Reference23Ideal.defs _ _).mono (fun r h => ⟨fun c => (h c).2.2,
      Idealize.ShloMosaic.sem_eq_zero_of_no_sems (by decide) r.2⟩) (Cert.Reference23Ideal.Value.run (F := Ideal) m ρ)

end Plain

/-- The kernel's folded constants are named as the products of the plain program's two. -/
theorem preserves : Cert.preserves_Kernel23_Kernel23Ideal :=
  ⟨IdealRules.named_const.statement _ _ _ _ _ rfl, IdealRules.named_const.statement _ _ _ _ _ rfl⟩

section Mask

open Cert.On_short_conv Idealize.ShloMosaic.WordCmp

/-- The side conditions of the mask's operations. -/
theorem facts : Cert.On_short_conv.Facts where
  bcast_S_S4096x1536 := by decide
  bcast_S_S4096x1024 := by decide

variable [Facts]
variable (x0 : FVec Ideal S4096x3584 .bf16) (x1 : FVec Ideal S2x4x1024 .f32) (x2 x3 x4 x5 : FVec Ideal S2x1024 .f32)
  (x6 : FVec Ideal S2x3x512 .f32) (x7 x8 : FVec Ideal S2x16x64x64 .f32)

/-- The mask is set at the short convolution's columns only, -/
theorem cols_on (s : Fin 4096) (j : Fin 1536) (h : (fn (F := Ideal) x0 x1 x2 x3 x4 x5 x6 x7 x8).1 (ix2 s j) = 1#1) : 1024 ≤ j.val := by
  revert h
  pointwise [fn]
  intro h
  rw [cmpi_sge_eq, ofBool_decide_eq_one_iff, toInt_ofNat_of_lt (w := 32) (a := j.val) (by omega)] at h
  have e1 : (1024#32 : BitVec 32).toInt = 1024 := by decide
  omega

/-- and of the recurrence's states nothing is claimed. -/
theorem h_none (i : S4096x1024.Idx) (h : (fn (F := Ideal) x0 x1 x2 x3 x4 x5 x6 x7 x8).2 i = 1#1) : False := by
  revert h
  pointwise [fn]
  exact fun h => absurd h (by decide)

end Mask

/-- The kernel leaves the plain program's values in the short convolution's columns, for every input. -/
theorem algebraic : Cert.algebraic_Kernel23Ideal_Reference23Ideal_on_short_conv (hOn_short_conv := facts) :=
    fun m ρ m' ρ' _ hm => by
  letI := facts
  refine ⟨fun c => Cert.Reference23Ideal.Value.res_main_v48 m' c,
    fun c => m ((c.tc : Thread Cert.Kernel23Ideal.nD Cert.Kernel23Ideal.τ).loc Cert.Kernel23Ideal.main_v36_1),
    (θ_run _ _ _).mono (fun r h c => ?_) (FwdLaunch.run m ρ),
    (θ_run _ _ _).mono (fun r h c => ?_) (Cert.Reference23Ideal.Value.run m' ρ')⟩
  · have G := result m r h.1 c
    have ew : FwdWhole.taps m c = tapsOf (m ((c.tc : Thread Cert.Kernel23Ideal.nD Cert.Kernel23Ideal.τ).loc Cert.Kernel23Ideal.main_arg6)) := by
      funext k j
      exact FwdWhole.V_prm m c k j
    unfold FwdWhole.gZ at G
    rw [ew, Cert.Kernel23Ideal.Gen.V_main_arg0] at G
    obtain ⟨e0, e1, e2, e3, e4, e5, e6, e7, e8⟩ := hm c
    refine ⟨fun i hi => ?_, fun i hi => (h_none _ _ _ _ _ _ _ _ _ i hi).elim,
      (Pipeline.RDat.FramePost.arr_in h.1 c 0 rfl).trans ((FwdLaunch.A_eq m c 0).trans (Cert.Kernel23Ideal.Gen.V_main_arg0 m c)),
      ((h.1 c).2 Cert.Kernel23Ideal.main_arg1 (Pipeline.mem_restRefs_of Cert.Kernel23Ideal.main_arg1 (by decide) (by decide))).trans (Cert.Kernel23Ideal.Gen.V_main_arg1 m c),
      ((h.1 c).2 Cert.Kernel23Ideal.main_arg2 (Pipeline.mem_restRefs_of Cert.Kernel23Ideal.main_arg2 (by decide) (by decide))).trans (Cert.Kernel23Ideal.Gen.V_main_arg2 m c),
      ((h.1 c).2 Cert.Kernel23Ideal.main_arg3 (Pipeline.mem_restRefs_of Cert.Kernel23Ideal.main_arg3 (by decide) (by decide))).trans (Cert.Kernel23Ideal.Gen.V_main_arg3 m c),
      ((h.1 c).2 Cert.Kernel23Ideal.main_arg4 (Pipeline.mem_restRefs_of Cert.Kernel23Ideal.main_arg4 (by decide) (by decide))).trans (Cert.Kernel23Ideal.Gen.V_main_arg4 m c),
      ((h.1 c).2 Cert.Kernel23Ideal.main_arg5 (Pipeline.mem_restRefs_of Cert.Kernel23Ideal.main_arg5 (by decide) (by decide))).trans (Cert.Kernel23Ideal.Gen.V_main_arg5 m c),
      ((h.1 c).2 Cert.Kernel23Ideal.main_arg6 (Pipeline.mem_restRefs_of Cert.Kernel23Ideal.main_arg6 (by decide) (by decide))).trans (Cert.Kernel23Ideal.Gen.V_main_arg6 m c),
      ((h.1 c).2 Cert.Kernel23Ideal.main_arg7 (Pipeline.mem_restRefs_of Cert.Kernel23Ideal.main_arg7 (by decide) (by decide))).trans (Cert.Kernel23Ideal.Gen.V_main_arg7 m c),
      ((h.1 c).2 Cert.Kernel23Ideal.main_arg8 (Pipeline.mem_restRefs_of Cert.Kernel23Ideal.main_arg8 (by decide) (by decide))).trans (Cert.Kernel23Ideal.Gen.V_main_arg8 m c)⟩
    beta_reduce
    rw [Cert.Reference23Ideal.Read.val_main_v48_eq, e0, e6]
    idx_vars i
    have hj := cols_on _ _ _ _ _ _ _ _ _ i0 i1 hi
    obtain ⟨j, hl⟩ := i1
    obtain ⟨k, rfl⟩ : ∃ k : ℕ, j = 1024 + k := ⟨j - 1024, by simp only [] at hj; omega⟩
    have hk : k < 512 := by omega
    exact (G i0 ⟨k, hk⟩).trans (v48_eq _ _ i0 ⟨k, hk⟩).symm
  · obtain ⟨h0, h1, hargs⟩ := h c
    exact ⟨fun i _ => congrFun h0 i, fun i hi => (h_none _ _ _ _ _ _ _ _ _ i hi).elim, hargs⟩

end Cert.Proof.FwdCall

end
-- ==== Proof.lean ====
/- The assembly of the claims: each conjunct is proved in the modules under Proof/. -/
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Loops
public import proofs.«01_k».proof.Proof.Gen.Kernel.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.NormClaims
public import proofs.«01_k».proof.Proof.MixKFrame
public import proofs.«01_k».proof.Proof.MixClaims
public import proofs.«01_k».proof.Proof.WupCall
public import proofs.«01_k».proof.Proof.UpCall
public import proofs.«01_k».proof.Proof.DactCall
public import proofs.«01_k».proof.Proof.WdownCall
public import proofs.«01_k».proof.Proof.LossCall
public import proofs.«01_k».proof.Proof.WoutCall
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.DymixCall
public import proofs.«01_k».proof.Proof.OutCall
public import proofs.«01_k».proof.Proof.InCall
public import proofs.«01_k».proof.Proof.WinCall
public import proofs.«01_k».proof.Proof.BwdInCall
public import proofs.«01_k».proof.Proof.DownCall
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.AdamUpCall
public import proofs.«01_k».proof.Proof.AdamDownCall
public import proofs.«01_k».proof.Proof.AdamOutCall
public import proofs.«01_k».proof.Proof.AdamInCall
public import proofs.«01_k».proof.Proof.AdamRepCall
public import proofs.«01_k».proof.Proof.AdamConvCall
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.ActCall
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Loops
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Loops
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Reference23Ideal.Read
public import proofs.«01_k».proof.Proof.FwdCall
public import Idealize.ShloMosaic.Adequacy
public import Idealize.ShloMosaic.Init

@[expose] public section

noncomputable section

namespace Cert.Proof

open Idealize.ShloMosaic Idealize.SL.Sem

/-- The five claims of every call: the kernels and the plain programs leave nothing running, idealizing keeps the kernels'
    text, and each kernel's results are the plain program's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  MixMask.facts, FwdCall.facts,
  fun m ρ _ => Cert.Kernel.Mix.frame m ρ, fun m ρ _ => Cert.KernelIdeal.Mix.frame m ρ, MixClaims.frame_ref,
  fun m ρ _ => Cert.Kernel2.Gen.frame m ρ, fun m ρ _ => Cert.Kernel2Ideal.Gen.frame m ρ, NormClaims.frame_ref,
  fun m ρ _ => Cert.Kernel3.Gen.frame m ρ, fun m ρ _ => Cert.Kernel3Ideal.Gen.frame m ρ, WupCall.frame_ref,
  fun m ρ _ => Cert.Kernel4.Gen.frame m ρ, fun m ρ _ => Cert.Kernel4Ideal.Gen.frame m ρ, UpCall.frame_ref,
  fun m ρ _ => Cert.Kernel5.Gen.frame m ρ, fun m ρ _ => Cert.Kernel5Ideal.Gen.frame m ρ, DactCall.frame_ref,
  fun m ρ _ => Cert.Kernel6.Gen.frame m ρ, fun m ρ _ => Cert.Kernel6Ideal.Gen.frame m ρ, WdownCall.frame_ref,
  fun m ρ _ => Cert.Kernel7.Gen.frame m ρ, fun m ρ _ => Cert.Kernel7Ideal.Gen.frame m ρ, LossCall.frame_ref,
  fun m ρ _ => Cert.Kernel8.Gen.frame m ρ, fun m ρ _ => Cert.Kernel8Ideal.Gen.frame m ρ, WoutCall.frame_ref,
  fun m ρ _ => Cert.Kernel9.Gen.frame m ρ, fun m ρ _ => Cert.Kernel9Ideal.Gen.frame m ρ, DymixCall.frame_ref,
  fun m ρ _ => Cert.Kernel10.Gen.frame m ρ, fun m ρ _ => Cert.Kernel10Ideal.Gen.frame m ρ, OutCall.frame_ref,
  fun m ρ _ => Cert.Kernel12.Gen.frame m ρ, fun m ρ _ => Cert.Kernel12Ideal.Gen.frame m ρ, InCall.frame_ref,
  fun m ρ _ => Cert.Kernel13.Gen.frame m ρ, fun m ρ _ => Cert.Kernel13Ideal.Gen.frame m ρ, WinCall.frame_ref,
  fun m ρ _ => Cert.Kernel14.Gen.frame m ρ, fun m ρ _ => Cert.Kernel14Ideal.Gen.frame m ρ, BwdInCall.frame_ref,
  fun m ρ _ => Cert.Kernel15.Gen.frame m ρ, fun m ρ _ => Cert.Kernel15Ideal.Gen.frame m ρ, DownCall.frame_ref,
  fun m ρ _ => Cert.Kernel16.Gen.frame m ρ, fun m ρ _ => Cert.Kernel16Ideal.Gen.frame m ρ, AdamUpCall.frame_ref,
  fun m ρ _ => Cert.Kernel17.Gen.frame m ρ, fun m ρ _ => Cert.Kernel17Ideal.Gen.frame m ρ, AdamDownCall.frame_ref,
  fun m ρ _ => Cert.Kernel18.Gen.frame m ρ, fun m ρ _ => Cert.Kernel18Ideal.Gen.frame m ρ, AdamOutCall.frame_ref,
  fun m ρ _ => Cert.Kernel19.Gen.frame m ρ, fun m ρ _ => Cert.Kernel19Ideal.Gen.frame m ρ, AdamInCall.frame_ref,
  fun m ρ _ => Cert.Kernel20.Gen.frame m ρ, fun m ρ _ => Cert.Kernel20Ideal.Gen.frame m ρ, AdamRepCall.frame_ref,
  fun m ρ _ => Cert.Kernel21.Gen.frame m ρ, fun m ρ _ => Cert.Kernel21Ideal.Gen.frame m ρ, AdamConvCall.frame_ref,
  fun m ρ _ => Cert.Kernel22.Gen.frame m ρ, fun m ρ _ => Cert.Kernel22Ideal.Gen.frame m ρ, ActCall.frame_ref,
  fun m ρ _ => Cert.Kernel23.Fwd.frame m ρ, fun m ρ _ => FwdCall.frame_ideal m ρ, FwdCall.frame_ref,
  MixClaims.preserves, MixClaims.algebraic,
  trivial, NormClaims.algebraic,
  trivial, WupCall.algebraic,
  trivial, UpCall.algebraic,
  trivial, DactCall.algebraic,
  trivial, WdownCall.algebraic,
  trivial, LossCall.algebraic,
  trivial, WoutCall.algebraic,
  trivial, DymixCall.algebraic,
  trivial, OutCall.algebraic,
  trivial, InCall.algebraic,
  trivial, WinCall.algebraic,
  trivial, BwdInCall.algebraic,
  trivial, DownCall.algebraic,
  AdamUpCall.preserves, AdamUpCall.algebraic,
  AdamDownCall.preserves, AdamDownCall.algebraic,
  AdamOutCall.preserves, AdamOutCall.algebraic,
  AdamInCall.preserves, AdamInCall.algebraic,
  AdamRepCall.preserves, AdamRepCall.algebraic,
  AdamConvCall.preserves, AdamConvCall.algebraic,
  ActCall.preserves, ActCall.algebraic,
  FwdCall.preserves, FwdCall.algebraic⟩

end Cert.Proof

end
